-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojReferenceIdeal (m : (ℓ : Loc Cert.InprojReferenceIdeal.nD Cert.InprojReferenceIdeal.τ Cert.InprojReferenceIdeal.sig) → Buf (Elt Ideal) ℓ) : Prop :=
  True

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojIdeal_router_finite [hPre_router_finite : Cert.Pre_router_finite.Facts] (m : (ℓ : Loc Cert.OutprojIdeal.nD Cert.OutprojIdeal.τ Cert.OutprojIdeal.sig) → Buf (Elt Ideal) ℓ) : Prop :=
  ∀ c : Dev Cert.OutprojIdeal.nD,
    (Cert.Pre_router_finite.fn (F := Ideal) (m ((c.tc : Thread Cert.OutprojIdeal.nD Cert.OutprojIdeal.τ).loc Cert.OutprojIdeal.main_arg0)) (m ((c.tc : Thread Cert.OutprojIdeal.nD Cert.OutprojIdeal.τ).loc Cert.OutprojIdeal.main_arg1)) (m ((c.tc : Thread Cert.OutprojIdeal.nD Cert.OutprojIdeal.τ).loc Cert.OutprojIdeal.main_arg2)) (m ((c.tc : Thread Cert.OutprojIdeal.nD Cert.OutprojIdeal.τ).loc Cert.OutprojIdeal.main_arg3)) (m ((c.tc : Thread Cert.OutprojIdeal.nD Cert.OutprojIdeal.τ).loc Cert.OutprojIdeal.main_arg4)) (m ((c.tc : Thread Cert.OutprojIdeal.nD Cert.OutprojIdeal.τ).loc Cert.OutprojIdeal.main_arg5)) (m ((c.tc : Thread Cert.OutprojIdeal.nD Cert.OutprojIdeal.τ).loc Cert.OutprojIdeal.main_arg6))) = (fun _ => 1#1)

def Pre_OutprojReferenceIdeal (m : (ℓ : Loc Cert.OutprojReferenceIdeal.nD Cert.OutprojReferenceIdeal.τ Cert.OutprojReferenceIdeal.sig) → Buf (Elt Ideal) ℓ) : Prop :=
  True

def Pre_OutprojReferenceIdeal_router_finite [hPre_router_finite : Cert.Pre_router_finite.Facts] (m : (ℓ : Loc Cert.OutprojReferenceIdeal.nD Cert.OutprojReferenceIdeal.τ Cert.OutprojReferenceIdeal.sig) → Buf (Elt Ideal) ℓ) : Prop :=
  ∀ c : Dev Cert.OutprojReferenceIdeal.nD,
    (Cert.Pre_router_finite.fn (F := Ideal) (m ((c.tc : Thread Cert.OutprojReferenceIdeal.nD Cert.OutprojReferenceIdeal.τ).loc Cert.OutprojReferenceIdeal.main_arg0)) (m ((c.tc : Thread Cert.OutprojReferenceIdeal.nD Cert.OutprojReferenceIdeal.τ).loc Cert.OutprojReferenceIdeal.main_arg1)) (m ((c.tc : Thread Cert.OutprojReferenceIdeal.nD Cert.OutprojReferenceIdeal.τ).loc Cert.OutprojReferenceIdeal.main_arg2)) (m ((c.tc : Thread Cert.OutprojReferenceIdeal.nD Cert.OutprojReferenceIdeal.τ).loc Cert.OutprojReferenceIdeal.main_arg3)) (m ((c.tc : Thread Cert.OutprojReferenceIdeal.nD Cert.OutprojReferenceIdeal.τ).loc Cert.OutprojReferenceIdeal.main_arg4)) (m ((c.tc : Thread Cert.OutprojReferenceIdeal.nD Cert.OutprojReferenceIdeal.τ).loc Cert.OutprojReferenceIdeal.main_arg5)) (m ((c.tc : Thread Cert.OutprojReferenceIdeal.nD Cert.OutprojReferenceIdeal.τ).loc Cert.OutprojReferenceIdeal.main_arg6))) = (fun _ => 1#1)

def Pre_Na (m : (ℓ : Loc Cert.Na.nD Cert.Na.τ Cert.Na.sig) → Buf (Elt Bits) ℓ) : Prop :=
  True

def Pre_NaIdeal (m : (ℓ : Loc Cert.NaIdeal.nD Cert.NaIdeal.τ Cert.NaIdeal.sig) → Buf (Elt Ideal) ℓ) : Prop :=
  True

def Pre_NaIdeal_scores_finite [hPre_scores_finite : Cert.Pre_scores_finite.Facts] (m : (ℓ : Loc Cert.NaIdeal.nD Cert.NaIdeal.τ Cert.NaIdeal.sig) → Buf (Elt Ideal) ℓ) : Prop :=
  ∀ c : Dev Cert.NaIdeal.nD,
    (Cert.Pre_scores_finite.fn (F := Ideal) (m ((c.tc : Thread Cert.NaIdeal.nD Cert.NaIdeal.τ).loc Cert.NaIdeal.main_arg0)) (m ((c.tc : Thread Cert.NaIdeal.nD Cert.NaIdeal.τ).loc Cert.NaIdeal.main_arg1)) (m ((c.tc : Thread Cert.NaIdeal.nD Cert.NaIdeal.τ).loc Cert.NaIdeal.main_arg2)) (m ((c.tc : Thread Cert.NaIdeal.nD Cert.NaIdeal.τ).loc Cert.NaIdeal.main_arg3))) = (fun _ => 1#1)

def Pre_NaReferenceIdeal (m : (ℓ : Loc Cert.NaReferenceIdeal.nD Cert.NaReferenceIdeal.τ Cert.NaReferenceIdeal.sig) → Buf (Elt Ideal) ℓ) : Prop :=
  True

def Pre_NaReferenceIdeal_scores_finite [hPre_scores_finite : Cert.Pre_scores_finite.Facts] (m : (ℓ : Loc Cert.NaReferenceIdeal.nD Cert.NaReferenceIdeal.τ Cert.NaReferenceIdeal.sig) → Buf (Elt Ideal) ℓ) : Prop :=
  ∀ c : Dev Cert.NaReferenceIdeal.nD,
    (Cert.Pre_scores_finite.fn (F := Ideal) (m ((c.tc : Thread Cert.NaReferenceIdeal.nD Cert.NaReferenceIdeal.τ).loc Cert.NaReferenceIdeal.main_arg0)) (m ((c.tc : Thread Cert.NaReferenceIdeal.nD Cert.NaReferenceIdeal.τ).loc Cert.NaReferenceIdeal.main_arg1)) (m ((c.tc : Thread Cert.NaReferenceIdeal.nD Cert.NaReferenceIdeal.τ).loc Cert.NaReferenceIdeal.main_arg2)) (m ((c.tc : Thread Cert.NaReferenceIdeal.nD Cert.NaReferenceIdeal.τ).loc Cert.NaReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ r.2.sem = fun _ => 0)

def quiescent_InprojReferenceIdeal [hInprojReferenceIdeal : Cert.InprojReferenceIdeal.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2)
      ∧ r.2.mem ((c.tc : Thread Cert.InprojReferenceIdeal.nD Cert.InprojReferenceIdeal.τ).loc Cert.InprojReferenceIdeal.main_arg3) = m ((c.tc : Thread Cert.InprojReferenceIdeal.nD Cert.InprojReferenceIdeal.τ).loc Cert.InprojReferenceIdeal.main_arg3)
      ∧ r.2.mem ((c.tc : Thread Cert.InprojReferenceIdeal.nD Cert.InprojReferenceIdeal.τ).loc Cert.InprojReferenceIdeal.main_arg4) = m ((c.tc : Thread Cert.InprojReferenceIdeal.nD Cert.InprojReferenceIdeal.τ).loc Cert.InprojReferenceIdeal.main_arg4))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3)
      ∧ r.2.mem ((c.tc : Thread Cert.Outproj.nD Cert.Outproj.τ).loc Cert.Outproj.main_arg4) = m ((c.tc : Thread Cert.Outproj.nD Cert.Outproj.τ).loc Cert.Outproj.main_arg4)
      ∧ r.2.mem ((c.tc : Thread Cert.Outproj.nD Cert.Outproj.τ).loc Cert.Outproj.main_arg5) = m ((c.tc : Thread Cert.Outproj.nD Cert.Outproj.τ).loc Cert.Outproj.main_arg5)
      ∧ r.2.mem ((c.tc : Thread Cert.Outproj.nD Cert.Outproj.τ).loc Cert.Outproj.main_arg6) = m ((c.tc : Thread Cert.Outproj.nD Cert.Outproj.τ).loc Cert.Outproj.main_arg6))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
      ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
      ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
      ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6))
      ∧ r.2.sem = fun _ => 0)

def quiescent_OutprojIdeal_pre_router_finite [hOutprojIdeal : Cert.OutprojIdeal.Facts] [hPre_router_finite : Cert.Pre_router_finite.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal_router_finite m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
      ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
      ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
      ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6))
      ∧ r.2.sem = fun _ => 0)

def quiescent_OutprojReferenceIdeal [hOutprojReferenceIdeal : Cert.OutprojReferenceIdeal.Facts] : Prop :=
  ∀ (m : (ℓ : Loc Cert.OutprojReferenceIdeal.nD Cert.OutprojReferenceIdeal.τ Cert.OutprojReferenceIdeal.sig) → Buf (Elt Ideal) ℓ) (g : Dev Cert.OutprojReferenceIdeal.nD → PrngReg), Pre_OutprojReferenceIdeal m →
    θ_run (Cert.OutprojReferenceIdeal.defs (F := Ideal)) (onTc (τ := Cert.OutprojReferenceIdeal.τ) (Cert.OutprojReferenceIdeal.main (F := Ideal))) ⟨m, fun _ => 0, g⟩ (fun r => (∀ c : Dev Cert.OutprojReferenceIdeal.nD,
      r.2.mem ((c.tc : Thread Cert.OutprojReferenceIdeal.nD Cert.OutprojReferenceIdeal.τ).loc Cert.OutprojReferenceIdeal.main_arg0) = m ((c.tc : Thread Cert.OutprojReferenceIdeal.nD Cert.OutprojReferenceIdeal.τ).loc Cert.OutprojReferenceIdeal.main_arg0)
      ∧ r.2.mem ((c.tc : Thread Cert.OutprojReferenceIdeal.nD Cert.OutprojReferenceIdeal.τ).loc Cert.OutprojReferenceIdeal.main_arg1) = m ((c.tc : Thread Cert.OutprojReferenceIdeal.nD Cert.OutprojReferenceIdeal.τ).loc Cert.OutprojReferenceIdeal.main_arg1)
      ∧ r.2.mem ((c.tc : Thread Cert.OutprojReferenceIdeal.nD Cert.OutprojReferenceIdeal.τ).loc Cert.OutprojReferenceIdeal.main_arg2) = m ((c.tc : Thread Cert.OutprojReferenceIdeal.nD Cert.OutprojReferenceIdeal.τ).loc Cert.OutprojReferenceIdeal.main_arg2)
      ∧ r.2.mem ((c.tc : Thread Cert.OutprojReferenceIdeal.nD Cert.OutprojReferenceIdeal.τ).loc Cert.OutprojReferenceIdeal.main_arg3) = m ((c.tc : Thread Cert.OutprojReferenceIdeal.nD Cert.OutprojReferenceIdeal.τ).loc Cert.OutprojReferenceIdeal.main_arg3)
      ∧ r.2.mem ((c.tc : Thread Cert.OutprojReferenceIdeal.nD Cert.OutprojReferenceIdeal.τ).loc Cert.OutprojReferenceIdeal.main_arg4) = m ((c.tc : Thread Cert.OutprojReferenceIdeal.nD Cert.OutprojReferenceIdeal.τ).loc Cert.OutprojReferenceIdeal.main_arg4)
      ∧ r.2.mem ((c.tc : Thread Cert.OutprojReferenceIdeal.nD Cert.OutprojReferenceIdeal.τ).loc Cert.OutprojReferenceIdeal.main_arg5) = m ((c.tc : Thread Cert.OutprojReferenceIdeal.nD Cert.OutprojReferenceIdeal.τ).loc Cert.OutprojReferenceIdeal.main_arg5)
      ∧ r.2.mem ((c.tc : Thread Cert.OutprojReferenceIdeal.nD Cert.OutprojReferenceIdeal.τ).loc Cert.OutprojReferenceIdeal.main_arg6) = m ((c.tc : Thread Cert.OutprojReferenceIdeal.nD Cert.OutprojReferenceIdeal.τ).loc Cert.OutprojReferenceIdeal.main_arg6))
      ∧ r.2.sem = fun _ => 0)

def quiescent_OutprojReferenceIdeal_pre_router_finite [hOutprojReferenceIdeal : Cert.OutprojReferenceIdeal.Facts] [hPre_router_finite : Cert.Pre_router_finite.Facts] : Prop :=
  ∀ (m : (ℓ : Loc Cert.OutprojReferenceIdeal.nD Cert.OutprojReferenceIdeal.τ Cert.OutprojReferenceIdeal.sig) → Buf (Elt Ideal) ℓ) (g : Dev Cert.OutprojReferenceIdeal.nD → PrngReg), Pre_OutprojReferenceIdeal_router_finite m →
    θ_run (Cert.OutprojReferenceIdeal.defs (F := Ideal)) (onTc (τ := Cert.OutprojReferenceIdeal.τ) (Cert.OutprojReferenceIdeal.main (F := Ideal))) ⟨m, fun _ => 0, g⟩ (fun r => (∀ c : Dev Cert.OutprojReferenceIdeal.nD,
      r.2.mem ((c.tc : Thread Cert.OutprojReferenceIdeal.nD Cert.OutprojReferenceIdeal.τ).loc Cert.OutprojReferenceIdeal.main_arg0) = m ((c.tc : Thread Cert.OutprojReferenceIdeal.nD Cert.OutprojReferenceIdeal.τ).loc Cert.OutprojReferenceIdeal.main_arg0)
      ∧ r.2.mem ((c.tc : Thread Cert.OutprojReferenceIdeal.nD Cert.OutprojReferenceIdeal.τ).loc Cert.OutprojReferenceIdeal.main_arg1) = m ((c.tc : Thread Cert.OutprojReferenceIdeal.nD Cert.OutprojReferenceIdeal.τ).loc Cert.OutprojReferenceIdeal.main_arg1)
      ∧ r.2.mem ((c.tc : Thread Cert.OutprojReferenceIdeal.nD Cert.OutprojReferenceIdeal.τ).loc Cert.OutprojReferenceIdeal.main_arg2) = m ((c.tc : Thread Cert.OutprojReferenceIdeal.nD Cert.OutprojReferenceIdeal.τ).loc Cert.OutprojReferenceIdeal.main_arg2)
      ∧ r.2.mem ((c.tc : Thread Cert.OutprojReferenceIdeal.nD Cert.OutprojReferenceIdeal.τ).loc Cert.OutprojReferenceIdeal.main_arg3) = m ((c.tc : Thread Cert.OutprojReferenceIdeal.nD Cert.OutprojReferenceIdeal.τ).loc Cert.OutprojReferenceIdeal.main_arg3)
      ∧ r.2.mem ((c.tc : Thread Cert.OutprojReferenceIdeal.nD Cert.OutprojReferenceIdeal.τ).loc Cert.OutprojReferenceIdeal.main_arg4) = m ((c.tc : Thread Cert.OutprojReferenceIdeal.nD Cert.OutprojReferenceIdeal.τ).loc Cert.OutprojReferenceIdeal.main_arg4)
      ∧ r.2.mem ((c.tc : Thread Cert.OutprojReferenceIdeal.nD Cert.OutprojReferenceIdeal.τ).loc Cert.OutprojReferenceIdeal.main_arg5) = m ((c.tc : Thread Cert.OutprojReferenceIdeal.nD Cert.OutprojReferenceIdeal.τ).loc Cert.OutprojReferenceIdeal.main_arg5)
      ∧ r.2.mem ((c.tc : Thread Cert.OutprojReferenceIdeal.nD Cert.OutprojReferenceIdeal.τ).loc Cert.OutprojReferenceIdeal.main_arg6) = m ((c.tc : Thread Cert.OutprojReferenceIdeal.nD Cert.OutprojReferenceIdeal.τ).loc Cert.OutprojReferenceIdeal.main_arg6))
      ∧ r.2.sem = fun _ => 0)

def quiescent_Na [hNa : Cert.Na.Facts] : Prop :=
  ∀ (m : (ℓ : Loc Cert.Na.nD Cert.Na.τ Cert.Na.sig) → Buf (Elt Bits) ℓ) (g : Dev Cert.Na.nD → PrngReg), Pre_Na m →
    θ_run (Cert.Na.defs (F := Bits)) (onTc (τ := Cert.Na.τ) (Cert.Na.main (F := Bits))) ⟨m, fun _ => 0, g⟩ (fun r => (∀ c : Dev Cert.Na.nD,
      r.2.mem ((c.tc : Thread Cert.Na.nD Cert.Na.τ).loc Cert.Na.main_arg0) = m ((c.tc : Thread Cert.Na.nD Cert.Na.τ).loc Cert.Na.main_arg0)
      ∧ r.2.mem ((c.tc : Thread Cert.Na.nD Cert.Na.τ).loc Cert.Na.main_arg1) = m ((c.tc : Thread Cert.Na.nD Cert.Na.τ).loc Cert.Na.main_arg1)
      ∧ r.2.mem ((c.tc : Thread Cert.Na.nD Cert.Na.τ).loc Cert.Na.main_arg2) = m ((c.tc : Thread Cert.Na.nD Cert.Na.τ).loc Cert.Na.main_arg2)
      ∧ r.2.mem ((c.tc : Thread Cert.Na.nD Cert.Na.τ).loc Cert.Na.main_arg3) = m ((c.tc : Thread Cert.Na.nD Cert.Na.τ).loc Cert.Na.main_arg3))
      ∧ r.2.sem = fun _ => 0)

def quiescent_NaIdeal [hNaIdeal : Cert.NaIdeal.Facts] : Prop :=
  ∀ (m : (ℓ : Loc Cert.NaIdeal.nD Cert.NaIdeal.τ Cert.NaIdeal.sig) → Buf (Elt Ideal) ℓ) (g : Dev Cert.NaIdeal.nD → PrngReg), Pre_NaIdeal m →
    θ_run (Cert.NaIdeal.defs (F := Ideal)) (onTc (τ := Cert.NaIdeal.τ) (Cert.NaIdeal.main (F := Ideal))) ⟨m, fun _ => 0, g⟩ (fun r => (∀ c : Dev Cert.NaIdeal.nD,
      r.2.mem ((c.tc : Thread Cert.NaIdeal.nD Cert.NaIdeal.τ).loc Cert.NaIdeal.main_arg0) = m ((c.tc : Thread Cert.NaIdeal.nD Cert.NaIdeal.τ).loc Cert.NaIdeal.main_arg0)
      ∧ r.2.mem ((c.tc : Thread Cert.NaIdeal.nD Cert.NaIdeal.τ).loc Cert.NaIdeal.main_arg1) = m ((c.tc : Thread Cert.NaIdeal.nD Cert.NaIdeal.τ).loc Cert.NaIdeal.main_arg1)
      ∧ r.2.mem ((c.tc : Thread Cert.NaIdeal.nD Cert.NaIdeal.τ).loc Cert.NaIdeal.main_arg2) = m ((c.tc : Thread Cert.NaIdeal.nD Cert.NaIdeal.τ).loc Cert.NaIdeal.main_arg2)
      ∧ r.2.mem ((c.tc : Thread Cert.NaIdeal.nD Cert.NaIdeal.τ).loc Cert.NaIdeal.main_arg3) = m ((c.tc : Thread Cert.NaIdeal.nD Cert.NaIdeal.τ).loc Cert.NaIdeal.main_arg3))
      ∧ r.2.sem = fun _ => 0)

def quiescent_NaIdeal_pre_scores_finite [hNaIdeal : Cert.NaIdeal.Facts] [hPre_scores_finite : Cert.Pre_scores_finite.Facts] : Prop :=
  ∀ (m : (ℓ : Loc Cert.NaIdeal.nD Cert.NaIdeal.τ Cert.NaIdeal.sig) → Buf (Elt Ideal) ℓ) (g : Dev Cert.NaIdeal.nD → PrngReg), Pre_NaIdeal_scores_finite m →
    θ_run (Cert.NaIdeal.defs (F := Ideal)) (onTc (τ := Cert.NaIdeal.τ) (Cert.NaIdeal.main (F := Ideal))) ⟨m, fun _ => 0, g⟩ (fun r => (∀ c : Dev Cert.NaIdeal.nD,
      r.2.mem ((c.tc : Thread Cert.NaIdeal.nD Cert.NaIdeal.τ).loc Cert.NaIdeal.main_arg0) = m ((c.tc : Thread Cert.NaIdeal.nD Cert.NaIdeal.τ).loc Cert.NaIdeal.main_arg0)
      ∧ r.2.mem ((c.tc : Thread Cert.NaIdeal.nD Cert.NaIdeal.τ).loc Cert.NaIdeal.main_arg1) = m ((c.tc : Thread Cert.NaIdeal.nD Cert.NaIdeal.τ).loc Cert.NaIdeal.main_arg1)
      ∧ r.2.mem ((c.tc : Thread Cert.NaIdeal.nD Cert.NaIdeal.τ).loc Cert.NaIdeal.main_arg2) = m ((c.tc : Thread Cert.NaIdeal.nD Cert.NaIdeal.τ).loc Cert.NaIdeal.main_arg2)
      ∧ r.2.mem ((c.tc : Thread Cert.NaIdeal.nD Cert.NaIdeal.τ).loc Cert.NaIdeal.main_arg3) = m ((c.tc : Thread Cert.NaIdeal.nD Cert.NaIdeal.τ).loc Cert.NaIdeal.main_arg3))
      ∧ r.2.sem = fun _ => 0)

def quiescent_NaReferenceIdeal [hNaReferenceIdeal : Cert.NaReferenceIdeal.Facts] : Prop :=
  ∀ (m : (ℓ : Loc Cert.NaReferenceIdeal.nD Cert.NaReferenceIdeal.τ Cert.NaReferenceIdeal.sig) → Buf (Elt Ideal) ℓ) (g : Dev Cert.NaReferenceIdeal.nD → PrngReg), Pre_NaReferenceIdeal m →
    θ_run (Cert.NaReferenceIdeal.defs (F := Ideal)) (onTc (τ := Cert.NaReferenceIdeal.τ) (Cert.NaReferenceIdeal.main (F := Ideal))) ⟨m, fun _ => 0, g⟩ (fun r => (∀ c : Dev Cert.NaReferenceIdeal.nD,
      r.2.mem ((c.tc : Thread Cert.NaReferenceIdeal.nD Cert.NaReferenceIdeal.τ).loc Cert.NaReferenceIdeal.main_arg0) = m ((c.tc : Thread Cert.NaReferenceIdeal.nD Cert.NaReferenceIdeal.τ).loc Cert.NaReferenceIdeal.main_arg0)
      ∧ r.2.mem ((c.tc : Thread Cert.NaReferenceIdeal.nD Cert.NaReferenceIdeal.τ).loc Cert.NaReferenceIdeal.main_arg1) = m ((c.tc : Thread Cert.NaReferenceIdeal.nD Cert.NaReferenceIdeal.τ).loc Cert.NaReferenceIdeal.main_arg1)
      ∧ r.2.mem ((c.tc : Thread Cert.NaReferenceIdeal.nD Cert.NaReferenceIdeal.τ).loc Cert.NaReferenceIdeal.main_arg2) = m ((c.tc : Thread Cert.NaReferenceIdeal.nD Cert.NaReferenceIdeal.τ).loc Cert.NaReferenceIdeal.main_arg2)
      ∧ r.2.mem ((c.tc : Thread Cert.NaReferenceIdeal.nD Cert.NaReferenceIdeal.τ).loc Cert.NaReferenceIdeal.main_arg3) = m ((c.tc : Thread Cert.NaReferenceIdeal.nD Cert.NaReferenceIdeal.τ).loc Cert.NaReferenceIdeal.main_arg3))
      ∧ r.2.sem = fun _ => 0)

def quiescent_NaReferenceIdeal_pre_scores_finite [hNaReferenceIdeal : Cert.NaReferenceIdeal.Facts] [hPre_scores_finite : Cert.Pre_scores_finite.Facts] : Prop :=
  ∀ (m : (ℓ : Loc Cert.NaReferenceIdeal.nD Cert.NaReferenceIdeal.τ Cert.NaReferenceIdeal.sig) → Buf (Elt Ideal) ℓ) (g : Dev Cert.NaReferenceIdeal.nD → PrngReg), Pre_NaReferenceIdeal_scores_finite m →
    θ_run (Cert.NaReferenceIdeal.defs (F := Ideal)) (onTc (τ := Cert.NaReferenceIdeal.τ) (Cert.NaReferenceIdeal.main (F := Ideal))) ⟨m, fun _ => 0, g⟩ (fun r => (∀ c : Dev Cert.NaReferenceIdeal.nD,
      r.2.mem ((c.tc : Thread Cert.NaReferenceIdeal.nD Cert.NaReferenceIdeal.τ).loc Cert.NaReferenceIdeal.main_arg0) = m ((c.tc : Thread Cert.NaReferenceIdeal.nD Cert.NaReferenceIdeal.τ).loc Cert.NaReferenceIdeal.main_arg0)
      ∧ r.2.mem ((c.tc : Thread Cert.NaReferenceIdeal.nD Cert.NaReferenceIdeal.τ).loc Cert.NaReferenceIdeal.main_arg1) = m ((c.tc : Thread Cert.NaReferenceIdeal.nD Cert.NaReferenceIdeal.τ).loc Cert.NaReferenceIdeal.main_arg1)
      ∧ r.2.mem ((c.tc : Thread Cert.NaReferenceIdeal.nD Cert.NaReferenceIdeal.τ).loc Cert.NaReferenceIdeal.main_arg2) = m ((c.tc : Thread Cert.NaReferenceIdeal.nD Cert.NaReferenceIdeal.τ).loc Cert.NaReferenceIdeal.main_arg2)
      ∧ r.2.mem ((c.tc : Thread Cert.NaReferenceIdeal.nD Cert.NaReferenceIdeal.τ).loc Cert.NaReferenceIdeal.main_arg3) = m ((c.tc : Thread Cert.NaReferenceIdeal.nD Cert.NaReferenceIdeal.τ).loc Cert.NaReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v9) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3))

def preserves_Inproj_InprojIdeal : Prop :=
  True

def algebraic_InprojIdeal_InprojReferenceIdeal [hInprojIdeal : Cert.InprojIdeal.Facts] [hInprojReferenceIdeal : Cert.InprojReferenceIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojReferenceIdeal.nD Cert.InprojReferenceIdeal.τ Cert.InprojReferenceIdeal.sig) → Buf (Elt Ideal) ℓ) (g' : Dev Cert.InprojReferenceIdeal.nD → PrngReg), Pre_InprojIdeal m →
    (∀ c : Dev Cert.InprojIdeal.nD,
      m' ((c.tc : Thread Cert.InprojReferenceIdeal.nD Cert.InprojReferenceIdeal.τ).loc Cert.InprojReferenceIdeal.main_arg0) = m ((c.tc : Thread Cert.InprojIdeal.nD Cert.InprojIdeal.τ).loc Cert.InprojIdeal.main_arg0)
      ∧ m' ((c.tc : Thread Cert.InprojReferenceIdeal.nD Cert.InprojReferenceIdeal.τ).loc Cert.InprojReferenceIdeal.main_arg1) = m ((c.tc : Thread Cert.InprojIdeal.nD Cert.InprojIdeal.τ).loc Cert.InprojIdeal.main_arg1)
      ∧ m' ((c.tc : Thread Cert.InprojReferenceIdeal.nD Cert.InprojReferenceIdeal.τ).loc Cert.InprojReferenceIdeal.main_arg2) = m ((c.tc : Thread Cert.InprojIdeal.nD Cert.InprojIdeal.τ).loc Cert.InprojIdeal.main_arg2)
      ∧ m' ((c.tc : Thread Cert.InprojReferenceIdeal.nD Cert.InprojReferenceIdeal.τ).loc Cert.InprojReferenceIdeal.main_arg3) = m ((c.tc : Thread Cert.InprojIdeal.nD Cert.InprojIdeal.τ).loc Cert.InprojIdeal.main_arg3)
      ∧ m' ((c.tc : Thread Cert.InprojReferenceIdeal.nD Cert.InprojReferenceIdeal.τ).loc Cert.InprojReferenceIdeal.main_arg4) = m ((c.tc : Thread Cert.InprojIdeal.nD Cert.InprojIdeal.τ).loc Cert.InprojIdeal.main_arg4)) →
    ∃ (v0 : (c : Dev Cert.InprojIdeal.nD) → Buf (Elt Ideal) ((c.tc : Thread Cert.InprojIdeal.nD Cert.InprojIdeal.τ).loc Cert.InprojIdeal.main_v4)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v4) = v0 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ θ_run (Cert.InprojReferenceIdeal.defs (F := Ideal)) (onTc (τ := Cert.InprojReferenceIdeal.τ) (Cert.InprojReferenceIdeal.main (F := Ideal))) ⟨m', fun _ => 0, g'⟩ (fun r => ∀ c : Dev Cert.InprojReferenceIdeal.nD,
          r.2.mem ((c.tc : Thread Cert.InprojReferenceIdeal.nD Cert.InprojReferenceIdeal.τ).loc Cert.InprojReferenceIdeal.main_v66) = v0 c
          ∧ r.2.mem ((c.tc : Thread Cert.InprojReferenceIdeal.nD Cert.InprojReferenceIdeal.τ).loc Cert.InprojReferenceIdeal.main_arg0) = m' ((c.tc : Thread Cert.InprojReferenceIdeal.nD Cert.InprojReferenceIdeal.τ).loc Cert.InprojReferenceIdeal.main_arg0)
          ∧ r.2.mem ((c.tc : Thread Cert.InprojReferenceIdeal.nD Cert.InprojReferenceIdeal.τ).loc Cert.InprojReferenceIdeal.main_arg1) = m' ((c.tc : Thread Cert.InprojReferenceIdeal.nD Cert.InprojReferenceIdeal.τ).loc Cert.InprojReferenceIdeal.main_arg1)
          ∧ r.2.mem ((c.tc : Thread Cert.InprojReferenceIdeal.nD Cert.InprojReferenceIdeal.τ).loc Cert.InprojReferenceIdeal.main_arg2) = m' ((c.tc : Thread Cert.InprojReferenceIdeal.nD Cert.InprojReferenceIdeal.τ).loc Cert.InprojReferenceIdeal.main_arg2)
          ∧ r.2.mem ((c.tc : Thread Cert.InprojReferenceIdeal.nD Cert.InprojReferenceIdeal.τ).loc Cert.InprojReferenceIdeal.main_arg3) = m' ((c.tc : Thread Cert.InprojReferenceIdeal.nD Cert.InprojReferenceIdeal.τ).loc Cert.InprojReferenceIdeal.main_arg3)
          ∧ r.2.mem ((c.tc : Thread Cert.InprojReferenceIdeal.nD Cert.InprojReferenceIdeal.τ).loc Cert.InprojReferenceIdeal.main_arg4) = m' ((c.tc : Thread Cert.InprojReferenceIdeal.nD Cert.InprojReferenceIdeal.τ).loc Cert.InprojReferenceIdeal.main_arg4))

def preserves_Outproj_OutprojIdeal : Prop :=
  IdealRules.named_const.Statement Cert.OutprojIdeal.κ "mask" .f32 0xF149F2CA#32 ⊥

def algebraic_OutprojIdeal_OutprojReferenceIdeal_pre_router_finite [hOutprojIdeal : Cert.OutprojIdeal.Facts] [hOutprojReferenceIdeal : Cert.OutprojReferenceIdeal.Facts] [hPre_router_finite : Cert.Pre_router_finite.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojReferenceIdeal.nD Cert.OutprojReferenceIdeal.τ Cert.OutprojReferenceIdeal.sig) → Buf (Elt Ideal) ℓ) (g' : Dev Cert.OutprojReferenceIdeal.nD → PrngReg), Pre_OutprojIdeal_router_finite m →
    (∀ c : Dev Cert.OutprojIdeal.nD,
      m' ((c.tc : Thread Cert.OutprojReferenceIdeal.nD Cert.OutprojReferenceIdeal.τ).loc Cert.OutprojReferenceIdeal.main_arg0) = m ((c.tc : Thread Cert.OutprojIdeal.nD Cert.OutprojIdeal.τ).loc Cert.OutprojIdeal.main_arg0)
      ∧ m' ((c.tc : Thread Cert.OutprojReferenceIdeal.nD Cert.OutprojReferenceIdeal.τ).loc Cert.OutprojReferenceIdeal.main_arg1) = m ((c.tc : Thread Cert.OutprojIdeal.nD Cert.OutprojIdeal.τ).loc Cert.OutprojIdeal.main_arg1)
      ∧ m' ((c.tc : Thread Cert.OutprojReferenceIdeal.nD Cert.OutprojReferenceIdeal.τ).loc Cert.OutprojReferenceIdeal.main_arg2) = m ((c.tc : Thread Cert.OutprojIdeal.nD Cert.OutprojIdeal.τ).loc Cert.OutprojIdeal.main_arg2)
      ∧ m' ((c.tc : Thread Cert.OutprojReferenceIdeal.nD Cert.OutprojReferenceIdeal.τ).loc Cert.OutprojReferenceIdeal.main_arg3) = m ((c.tc : Thread Cert.OutprojIdeal.nD Cert.OutprojIdeal.τ).loc Cert.OutprojIdeal.main_arg3)
      ∧ m' ((c.tc : Thread Cert.OutprojReferenceIdeal.nD Cert.OutprojReferenceIdeal.τ).loc Cert.OutprojReferenceIdeal.main_arg4) = m ((c.tc : Thread Cert.OutprojIdeal.nD Cert.OutprojIdeal.τ).loc Cert.OutprojIdeal.main_arg4)
      ∧ m' ((c.tc : Thread Cert.OutprojReferenceIdeal.nD Cert.OutprojReferenceIdeal.τ).loc Cert.OutprojReferenceIdeal.main_arg5) = m ((c.tc : Thread Cert.OutprojIdeal.nD Cert.OutprojIdeal.τ).loc Cert.OutprojIdeal.main_arg5)
      ∧ m' ((c.tc : Thread Cert.OutprojReferenceIdeal.nD Cert.OutprojReferenceIdeal.τ).loc Cert.OutprojReferenceIdeal.main_arg6) = m ((c.tc : Thread Cert.OutprojIdeal.nD Cert.OutprojIdeal.τ).loc Cert.OutprojIdeal.main_arg6)) →
    ∃ (v0 : (c : Dev Cert.OutprojIdeal.nD) → Buf (Elt Ideal) ((c.tc : Thread Cert.OutprojIdeal.nD Cert.OutprojIdeal.τ).loc Cert.OutprojIdeal.main_v0_0)) (v1 : (c : Dev Cert.OutprojIdeal.nD) → Buf (Elt Ideal) ((c.tc : Thread Cert.OutprojIdeal.nD Cert.OutprojIdeal.τ).loc Cert.OutprojIdeal.main_v0_1)) (v2 : (c : Dev Cert.OutprojIdeal.nD) → Buf (Elt Ideal) ((c.tc : Thread Cert.OutprojIdeal.nD Cert.OutprojIdeal.τ).loc Cert.OutprojIdeal.main_v0_2)) (v3 : (c : Dev Cert.OutprojIdeal.nD) → Buf (Elt Ideal) ((c.tc : Thread Cert.OutprojIdeal.nD Cert.OutprojIdeal.τ).loc Cert.OutprojIdeal.main_v0_3)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v0_0) = v0 c
          ∧ r.2.mem ((c.tc : Thread Cert.OutprojIdeal.nD Cert.OutprojIdeal.τ).loc Cert.OutprojIdeal.main_v0_1) = v1 c
          ∧ r.2.mem ((c.tc : Thread Cert.OutprojIdeal.nD Cert.OutprojIdeal.τ).loc Cert.OutprojIdeal.main_v0_2) = v2 c
          ∧ r.2.mem ((c.tc : Thread Cert.OutprojIdeal.nD Cert.OutprojIdeal.τ).loc Cert.OutprojIdeal.main_v0_3) = v3 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
          ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
          ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
          ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6))
      ∧ θ_run (Cert.OutprojReferenceIdeal.defs (F := Ideal)) (onTc (τ := Cert.OutprojReferenceIdeal.τ) (Cert.OutprojReferenceIdeal.main (F := Ideal))) ⟨m', fun _ => 0, g'⟩ (fun r => ∀ c : Dev Cert.OutprojReferenceIdeal.nD,
          r.2.mem ((c.tc : Thread Cert.OutprojReferenceIdeal.nD Cert.OutprojReferenceIdeal.τ).loc Cert.OutprojReferenceIdeal.main_v7) = v0 c
          ∧ r.2.mem ((c.tc : Thread Cert.OutprojReferenceIdeal.nD Cert.OutprojReferenceIdeal.τ).loc Cert.OutprojReferenceIdeal.main_v34) = v1 c
          ∧ r.2.mem ((c.tc : Thread Cert.OutprojReferenceIdeal.nD Cert.OutprojReferenceIdeal.τ).loc Cert.OutprojReferenceIdeal.main_v35) = v2 c
          ∧ r.2.mem ((c.tc : Thread Cert.OutprojReferenceIdeal.nD Cert.OutprojReferenceIdeal.τ).loc Cert.OutprojReferenceIdeal.main_v36) = v3 c
          ∧ r.2.mem ((c.tc : Thread Cert.OutprojReferenceIdeal.nD Cert.OutprojReferenceIdeal.τ).loc Cert.OutprojReferenceIdeal.main_arg0) = m' ((c.tc : Thread Cert.OutprojReferenceIdeal.nD Cert.OutprojReferenceIdeal.τ).loc Cert.OutprojReferenceIdeal.main_arg0)
          ∧ r.2.mem ((c.tc : Thread Cert.OutprojReferenceIdeal.nD Cert.OutprojReferenceIdeal.τ).loc Cert.OutprojReferenceIdeal.main_arg1) = m' ((c.tc : Thread Cert.OutprojReferenceIdeal.nD Cert.OutprojReferenceIdeal.τ).loc Cert.OutprojReferenceIdeal.main_arg1)
          ∧ r.2.mem ((c.tc : Thread Cert.OutprojReferenceIdeal.nD Cert.OutprojReferenceIdeal.τ).loc Cert.OutprojReferenceIdeal.main_arg2) = m' ((c.tc : Thread Cert.OutprojReferenceIdeal.nD Cert.OutprojReferenceIdeal.τ).loc Cert.OutprojReferenceIdeal.main_arg2)
          ∧ r.2.mem ((c.tc : Thread Cert.OutprojReferenceIdeal.nD Cert.OutprojReferenceIdeal.τ).loc Cert.OutprojReferenceIdeal.main_arg3) = m' ((c.tc : Thread Cert.OutprojReferenceIdeal.nD Cert.OutprojReferenceIdeal.τ).loc Cert.OutprojReferenceIdeal.main_arg3)
          ∧ r.2.mem ((c.tc : Thread Cert.OutprojReferenceIdeal.nD Cert.OutprojReferenceIdeal.τ).loc Cert.OutprojReferenceIdeal.main_arg4) = m' ((c.tc : Thread Cert.OutprojReferenceIdeal.nD Cert.OutprojReferenceIdeal.τ).loc Cert.OutprojReferenceIdeal.main_arg4)
          ∧ r.2.mem ((c.tc : Thread Cert.OutprojReferenceIdeal.nD Cert.OutprojReferenceIdeal.τ).loc Cert.OutprojReferenceIdeal.main_arg5) = m' ((c.tc : Thread Cert.OutprojReferenceIdeal.nD Cert.OutprojReferenceIdeal.τ).loc Cert.OutprojReferenceIdeal.main_arg5)
          ∧ r.2.mem ((c.tc : Thread Cert.OutprojReferenceIdeal.nD Cert.OutprojReferenceIdeal.τ).loc Cert.OutprojReferenceIdeal.main_arg6) = m' ((c.tc : Thread Cert.OutprojReferenceIdeal.nD Cert.OutprojReferenceIdeal.τ).loc Cert.OutprojReferenceIdeal.main_arg6))

def preserves_Na_NaIdeal : Prop :=
  True

def algebraic_NaIdeal_NaReferenceIdeal_pre_scores_finite [hNaIdeal : Cert.NaIdeal.Facts] [hNaReferenceIdeal : Cert.NaReferenceIdeal.Facts] [hPre_scores_finite : Cert.Pre_scores_finite.Facts] : Prop :=
  ∀ (m : (ℓ : Loc Cert.NaIdeal.nD Cert.NaIdeal.τ Cert.NaIdeal.sig) → Buf (Elt Ideal) ℓ) (g : Dev Cert.NaIdeal.nD → PrngReg)
    (m' : (ℓ : Loc Cert.NaReferenceIdeal.nD Cert.NaReferenceIdeal.τ Cert.NaReferenceIdeal.sig) → Buf (Elt Ideal) ℓ) (g' : Dev Cert.NaReferenceIdeal.nD → PrngReg), Pre_NaIdeal_scores_finite m →
    (∀ c : Dev Cert.NaIdeal.nD,
      m' ((c.tc : Thread Cert.NaReferenceIdeal.nD Cert.NaReferenceIdeal.τ).loc Cert.NaReferenceIdeal.main_arg0) = m ((c.tc : Thread Cert.NaIdeal.nD Cert.NaIdeal.τ).loc Cert.NaIdeal.main_arg0)
      ∧ m' ((c.tc : Thread Cert.NaReferenceIdeal.nD Cert.NaReferenceIdeal.τ).loc Cert.NaReferenceIdeal.main_arg1) = m ((c.tc : Thread Cert.NaIdeal.nD Cert.NaIdeal.τ).loc Cert.NaIdeal.main_arg1)
      ∧ m' ((c.tc : Thread Cert.NaReferenceIdeal.nD Cert.NaReferenceIdeal.τ).loc Cert.NaReferenceIdeal.main_arg2) = m ((c.tc : Thread Cert.NaIdeal.nD Cert.NaIdeal.τ).loc Cert.NaIdeal.main_arg2)
      ∧ m' ((c.tc : Thread Cert.NaReferenceIdeal.nD Cert.NaReferenceIdeal.τ).loc Cert.NaReferenceIdeal.main_arg3) = m ((c.tc : Thread Cert.NaIdeal.nD Cert.NaIdeal.τ).loc Cert.NaIdeal.main_arg3)) →
    ∃ (v0 : (c : Dev Cert.NaIdeal.nD) → Buf (Elt Ideal) ((c.tc : Thread Cert.NaIdeal.nD Cert.NaIdeal.τ).loc Cert.NaIdeal.main_v0)),
      θ_run (Cert.NaIdeal.defs (F := Ideal)) (onTc (τ := Cert.NaIdeal.τ) (Cert.NaIdeal.main (F := Ideal))) ⟨m, fun _ => 0, g⟩ (fun r => ∀ c : Dev Cert.NaIdeal.nD,
          r.2.mem ((c.tc : Thread Cert.NaIdeal.nD Cert.NaIdeal.τ).loc Cert.NaIdeal.main_v0) = v0 c
          ∧ r.2.mem ((c.tc : Thread Cert.NaIdeal.nD Cert.NaIdeal.τ).loc Cert.NaIdeal.main_arg0) = m ((c.tc : Thread Cert.NaIdeal.nD Cert.NaIdeal.τ).loc Cert.NaIdeal.main_arg0)
          ∧ r.2.mem ((c.tc : Thread Cert.NaIdeal.nD Cert.NaIdeal.τ).loc Cert.NaIdeal.main_arg1) = m ((c.tc : Thread Cert.NaIdeal.nD Cert.NaIdeal.τ).loc Cert.NaIdeal.main_arg1)
          ∧ r.2.mem ((c.tc : Thread Cert.NaIdeal.nD Cert.NaIdeal.τ).loc Cert.NaIdeal.main_arg2) = m ((c.tc : Thread Cert.NaIdeal.nD Cert.NaIdeal.τ).loc Cert.NaIdeal.main_arg2)
          ∧ r.2.mem ((c.tc : Thread Cert.NaIdeal.nD Cert.NaIdeal.τ).loc Cert.NaIdeal.main_arg3) = m ((c.tc : Thread Cert.NaIdeal.nD Cert.NaIdeal.τ).loc Cert.NaIdeal.main_arg3))
      ∧ θ_run (Cert.NaReferenceIdeal.defs (F := Ideal)) (onTc (τ := Cert.NaReferenceIdeal.τ) (Cert.NaReferenceIdeal.main (F := Ideal))) ⟨m', fun _ => 0, g'⟩ (fun r => ∀ c : Dev Cert.NaReferenceIdeal.nD,
          r.2.mem ((c.tc : Thread Cert.NaReferenceIdeal.nD Cert.NaReferenceIdeal.τ).loc Cert.NaReferenceIdeal.main_v63) = v0 c
          ∧ r.2.mem ((c.tc : Thread Cert.NaReferenceIdeal.nD Cert.NaReferenceIdeal.τ).loc Cert.NaReferenceIdeal.main_arg0) = m' ((c.tc : Thread Cert.NaReferenceIdeal.nD Cert.NaReferenceIdeal.τ).loc Cert.NaReferenceIdeal.main_arg0)
          ∧ r.2.mem ((c.tc : Thread Cert.NaReferenceIdeal.nD Cert.NaReferenceIdeal.τ).loc Cert.NaReferenceIdeal.main_arg1) = m' ((c.tc : Thread Cert.NaReferenceIdeal.nD Cert.NaReferenceIdeal.τ).loc Cert.NaReferenceIdeal.main_arg1)
          ∧ r.2.mem ((c.tc : Thread Cert.NaReferenceIdeal.nD Cert.NaReferenceIdeal.τ).loc Cert.NaReferenceIdeal.main_arg2) = m' ((c.tc : Thread Cert.NaReferenceIdeal.nD Cert.NaReferenceIdeal.τ).loc Cert.NaReferenceIdeal.main_arg2)
          ∧ r.2.mem ((c.tc : Thread Cert.NaReferenceIdeal.nD Cert.NaReferenceIdeal.τ).loc Cert.NaReferenceIdeal.main_arg3) = m' ((c.tc : Thread Cert.NaReferenceIdeal.nD Cert.NaReferenceIdeal.τ).loc Cert.NaReferenceIdeal.main_arg3))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hInproj : Cert.Inproj.Facts) (hInprojIdeal : Cert.InprojIdeal.Facts) (hInprojReferenceIdeal : Cert.InprojReferenceIdeal.Facts) (hOutproj : Cert.Outproj.Facts) (hOutprojIdeal : Cert.OutprojIdeal.Facts) (hOutprojReferenceIdeal : Cert.OutprojReferenceIdeal.Facts) (hNa : Cert.Na.Facts) (hNaIdeal : Cert.NaIdeal.Facts) (hNaReferenceIdeal : Cert.NaReferenceIdeal.Facts) (hPre_finite : Cert.Pre_finite.Facts) (hPre_router_finite : Cert.Pre_router_finite.Facts) (hPre_scores_finite : Cert.Pre_scores_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Inproj (hInproj := hInproj)
    ∧ quiescent_InprojIdeal (hInprojIdeal := hInprojIdeal)
    ∧ quiescent_InprojReferenceIdeal (hInprojReferenceIdeal := hInprojReferenceIdeal)
    ∧ quiescent_Outproj (hOutproj := hOutproj)
    ∧ quiescent_OutprojIdeal (hOutprojIdeal := hOutprojIdeal)
    ∧ quiescent_OutprojIdeal_pre_router_finite (hOutprojIdeal := hOutprojIdeal) (hPre_router_finite := hPre_router_finite)
    ∧ quiescent_OutprojReferenceIdeal (hOutprojReferenceIdeal := hOutprojReferenceIdeal)
    ∧ quiescent_OutprojReferenceIdeal_pre_router_finite (hOutprojReferenceIdeal := hOutprojReferenceIdeal) (hPre_router_finite := hPre_router_finite)
    ∧ quiescent_Na (hNa := hNa)
    ∧ quiescent_NaIdeal (hNaIdeal := hNaIdeal)
    ∧ quiescent_NaIdeal_pre_scores_finite (hNaIdeal := hNaIdeal) (hPre_scores_finite := hPre_scores_finite)
    ∧ quiescent_NaReferenceIdeal (hNaReferenceIdeal := hNaReferenceIdeal)
    ∧ quiescent_NaReferenceIdeal_pre_scores_finite (hNaReferenceIdeal := hNaReferenceIdeal) (hPre_scores_finite := hPre_scores_finite)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnReferenceIdeal (hFfnIdeal := hFfnIdeal) (hFfnReferenceIdeal := hFfnReferenceIdeal)
    ∧ preserves_Inproj_InprojIdeal
    ∧ algebraic_InprojIdeal_InprojReferenceIdeal (hInprojIdeal := hInprojIdeal) (hInprojReferenceIdeal := hInprojReferenceIdeal)
    ∧ preserves_Outproj_OutprojIdeal
    ∧ algebraic_OutprojIdeal_OutprojReferenceIdeal_pre_router_finite (hOutprojIdeal := hOutprojIdeal) (hOutprojReferenceIdeal := hOutprojReferenceIdeal) (hPre_router_finite := hPre_router_finite)
    ∧ preserves_Na_NaIdeal
    ∧ algebraic_NaIdeal_NaReferenceIdeal_pre_scores_finite (hNaIdeal := hNaIdeal) (hNaReferenceIdeal := hNaReferenceIdeal) (hPre_scores_finite := hPre_scores_finite)
-- ==== Pre_finite.lean ====
abbrev S8x8192x3072 : Shape := ⟨3, ![8, 8192, 3072]⟩
abbrev S16x3072 : Shape := ⟨2, ![16, 3072]⟩
abbrev S1x64 : Shape := ⟨2, ![1, 64]⟩
abbrev S1x128 : Shape := ⟨2, ![1, 128]⟩
abbrev S8x8192x1536 : Shape := ⟨3, ![8, 8192, 1536]⟩
abbrev S_ : Shape := ⟨0, ![]⟩
abbrev S16x1024 : Shape := ⟨2, ![16, 1024]⟩

class Facts : Prop where
  slices_S8x8192x3072_S8x8192x1536_0_0_1536 : S8x8192x3072.Slices ![0, 0, 1536] S8x8192x1536
  bitsLt_bf16_f32 : FTy.bits .bf16 < FTy.bits .f32
  bcast_S_S8x8192x1536 : S_.BroadcastsInDim S8x8192x1536 (![] : Fin 0 → Fin S8x8192x1536.rank)
  reducesTo_S8x8192x1536_S_d0_1_2 : S8x8192x1536.ReducesTo [0, 1, 2] S_
  h_S_ : 0 < S_.numel
  slices_S16x3072_S16x1024_0_2048 : S16x3072.Slices ![0, 2048] S16x1024
  bcast_S_S16x1024 : S_.BroadcastsInDim S16x1024 (![] : Fin 0 → Fin S16x1024.rank)
  reducesTo_S16x1024_S_d0_1 : S16x1024.ReducesTo [0, 1] S_
  bcast_S_S1x64 : S_.BroadcastsInDim S1x64 (![] : Fin 0 → Fin S1x64.rank)
  reducesTo_S1x64_S_d0_1 : S1x64.ReducesTo [0, 1] S_

variable [Facts]

def fn_part1 {F : FTy → Type} [FloatOps F] (main_arg3 : FVec F S1x64 .f32) (main_arg4 : FVec F S1x64 .f32) (main_arg5 : FVec F S1x64 .f32) (main_v17 : IVec S_ 1) : IVec S_ 1 :=
  let main_v18 : FVec F S1x64 .f32 := Host.absf main_arg3
  let main_cst_4 : FVec F S_ .f32 := constant S_ .f32 0x7F800000#32
  let main_v19 : FVec F S1x64 .f32 := broadcastInDim S1x64 ![] bcast_S_S1x64 main_cst_4
  let main_v20 : IVec S1x64 1 := cmpf .olt main_v18 main_v19
  let main_c_5 : IVec S_ 1 := constantI S_ 1 1#1
  let main_v21 : IVec S_ 1 := (fun x v => Host.reduce IntOp.andi x v reducesTo_S1x64_S_d0_1 h_S_) main_v20 main_c_5
  let main_v22 : IVec S_ 1 := andi main_v17 main_v21
  let main_v23 : FVec F S1x64 .f32 := Host.absf main_arg4
  let main_cst_6 : FVec F S_ .f32 := constant S_ .f32 0x7F800000#32
  let main_v24 : FVec F S1x64 .f32 := broadcastInDim S1x64 ![] bcast_S_S1x64 main_cst_6
  let main_v25 : IVec S1x64 1 := cmpf .olt main_v23 main_v24
  let main_c_7 : IVec S_ 1 := constantI S_ 1 1#1
  let main_v26 : IVec S_ 1 := (fun x v => Host.reduce IntOp.andi x v reducesTo_S1x64_S_d0_1 h_S_) main_v25 main_c_7
  let main_v27 : IVec S_ 1 := andi main_v22 main_v26
  let main_v28 : FVec F S1x64 .f32 := Host.absf main_arg5
  let main_cst_8 : FVec F S_ .f32 := constant S_ .f32 0x7F800000#32
  let main_v29 : FVec F S1x64 .f32 := broadcastInDim S1x64 ![] bcast_S_S1x64 main_cst_8
  let main_v30 : IVec S1x64 1 := cmpf .olt main_v28 main_v29
  let main_c_9 : IVec S_ 1 := constantI S_ 1 1#1
  let main_v31 : IVec S_ 1 := (fun x v => Host.reduce IntOp.andi x v reducesTo_S1x64_S_d0_1 h_S_) main_v30 main_c_9
  let main_v32 : IVec S_ 1 := andi main_v27 main_v31
  main_v32

def fn {F : FTy → Type} [FloatOps F] (main_arg0 : FVec F S8x8192x3072 .bf16) (main_arg1 : FVec F S16x3072 .bf16) (main_arg2 : FVec F S1x64 .f32) (main_arg3 : FVec F S1x64 .f32) (main_arg4 : FVec F S1x64 .f32) (main_arg5 : FVec F S1x64 .f32) (main_arg6 : FVec F S1x128 .f32) : IVec S_ 1 :=
  let main_v0 : FVec F S8x8192x1536 .bf16 := (extractStridedSlice S8x8192x1536 ![0, 0, 1536] · slices_S8x8192x3072_S8x8192x1536_0_0_1536) main_arg0
  let main_v1 : FVec F S8x8192x1536 .f32 := (extf .f32 · bitsLt_bf16_f32) main_v0
  let main_v2 : FVec F S8x8192x1536 .f32 := Host.absf main_v1
  let main_cst : FVec F S_ .f32 := constant S_ .f32 0x7F800000#32
  let main_v3 : FVec F S8x8192x1536 .f32 := broadcastInDim S8x8192x1536 ![] bcast_S_S8x8192x1536 main_cst
  let main_v4 : IVec S8x8192x1536 1 := cmpf .olt main_v2 main_v3
  let main_c : IVec S_ 1 := constantI S_ 1 1#1
  let main_v5 : IVec S_ 1 := (fun x v => Host.reduce IntOp.andi x v reducesTo_S8x8192x1536_S_d0_1_2 h_S_) main_v4 main_c
  let main_v6 : FVec F S16x1024 .bf16 := (extractStridedSlice S16x1024 ![0, 2048] · slices_S16x3072_S16x1024_0_2048) main_arg1
  let main_v7 : FVec F S16x1024 .f32 := (extf .f32 · bitsLt_bf16_f32) main_v6
  let main_v8 : FVec F S16x1024 .f32 := Host.absf main_v7
  let main_cst_0 : FVec F S_ .f32 := constant S_ .f32 0x7F800000#32
  let main_v9 : FVec F S16x1024 .f32 := broadcastInDim S16x1024 ![] bcast_S_S16x1024 main_cst_0
  let main_v10 : IVec S16x1024 1 := cmpf .olt main_v8 main_v9
  let main_c_1 : IVec S_ 1 := constantI S_ 1 1#1
  let main_v11 : IVec S_ 1 := (fun x v => Host.reduce IntOp.andi x v reducesTo_S16x1024_S_d0_1 h_S_) main_v10 main_c_1
  let main_v12 : IVec S_ 1 := andi main_v5 main_v11
  let main_v13 : FVec F S1x64 .f32 := Host.absf main_arg2
  let main_cst_2 : FVec F S_ .f32 := constant S_ .f32 0x7F800000#32
  let main_v14 : FVec F S1x64 .f32 := broadcastInDim S1x64 ![] bcast_S_S1x64 main_cst_2
  let main_v15 : IVec S1x64 1 := cmpf .olt main_v13 main_v14
  let main_c_3 : IVec S_ 1 := constantI S_ 1 1#1
  let main_v16 : IVec S_ 1 := (fun x v => Host.reduce IntOp.andi x v reducesTo_S1x64_S_d0_1 h_S_) main_v15 main_c_3
  let main_v17 : IVec S_ 1 := andi main_v12 main_v16
  fn_part1 (F := F) main_arg3 main_arg4 main_arg5 main_v17
-- ==== Pre_router_finite.lean ====
abbrev S65536x1024 : Shape := ⟨2, ![65536, 1024]⟩
abbrev S65536x512 : Shape := ⟨2, ![65536, 512]⟩
abbrev S1024x1024 : Shape := ⟨2, ![1024, 1024]⟩
abbrev S1x1024 : Shape := ⟨2, ![1, 1024]⟩
abbrev S128x1024 : Shape := ⟨2, ![128, 1024]⟩
abbrev S_ : Shape := ⟨0, ![]⟩
abbrev S16x1024 : Shape := ⟨2, ![16, 1024]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  slices_S128x1024_S16x1024_0_0 : S128x1024.Slices ![0, 0] S16x1024
  bitsLt_bf16_f32 : FTy.bits .bf16 < FTy.bits .f32
  bcast_S_S16x1024 : S_.BroadcastsInDim S16x1024 (![] : Fin 0 → Fin S16x1024.rank)
  reducesTo_S16x1024_S_d0_1 : S16x1024.ReducesTo [0, 1] S_

variable [Facts]

def fn {F : FTy → Type} [FloatOps F] (main_arg0 : FVec F S65536x1024 .f32) (main_arg1 : FVec F S65536x512 .bf16) (main_arg2 : FVec F S65536x512 .bf16) (main_arg3 : FVec F S1024x1024 .bf16) (main_arg4 : FVec F S1x1024 .f32) (main_arg5 : FVec F S128x1024 .bf16) (main_arg6 : FVec F S128x1024 .bf16) : IVec S_ 1 :=
  let main_v0 : FVec F S1x1024 .f32 := Host.absf main_arg4
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_v4 : FVec F S16x1024 .bf16 := (extractStridedSlice S16x1024 ![0, 0] · slices_S128x1024_S16x1024_0_0) main_arg5
  let main_v5 : FVec F S16x1024 .f32 := (extf .f32 · bitsLt_bf16_f32) main_v4
  let main_v6 : FVec F S16x1024 .f32 := Host.absf main_v5
  let main_cst_0 : FVec F S_ .f32 := constant S_ .f32 0x7F800000#32
  let main_v7 : FVec F S16x1024 .f32 := broadcastInDim S16x1024 ![] bcast_S_S16x1024 main_cst_0
  let main_v8 : IVec S16x1024 1 := cmpf .olt main_v6 main_v7
  let main_c_1 : IVec S_ 1 := constantI S_ 1 1#1
  let main_v9 : IVec S_ 1 := (fun x v => Host.reduce IntOp.andi x v reducesTo_S16x1024_S_d0_1 h_S_) main_v8 main_c_1
  let main_v10 : IVec S_ 1 := andi main_v3 main_v9
  let main_v11 : FVec F S16x1024 .bf16 := (extractStridedSlice S16x1024 ![0, 0] · slices_S128x1024_S16x1024_0_0) main_arg6
  let main_v12 : FVec F S16x1024 .f32 := (extf .f32 · bitsLt_bf16_f32) main_v11
  let main_v13 : FVec F S16x1024 .f32 := Host.absf main_v12
  let main_cst_2 : FVec F S_ .f32 := constant S_ .f32 0x7F800000#32
  let main_v14 : FVec F S16x1024 .f32 := broadcastInDim S16x1024 ![] bcast_S_S16x1024 main_cst_2
  let main_v15 : IVec S16x1024 1 := cmpf .olt main_v13 main_v14
  let main_c_3 : IVec S_ 1 := constantI S_ 1 1#1
  let main_v16 : IVec S_ 1 := (fun x v => Host.reduce IntOp.andi x v reducesTo_S16x1024_S_d0_1 h_S_) main_v15 main_c_3
  let main_v17 : IVec S_ 1 := andi main_v10 main_v16
  main_v17
-- ==== Pre_scores_finite.lean ====
abbrev S8x8192x3072 : Shape := ⟨3, ![8, 8192, 3072]⟩
abbrev S16x3072 : Shape := ⟨2, ![16, 3072]⟩
abbrev S8x8x64x512 : Shape := ⟨4, ![8, 8, 64, 512]⟩
abbrev S4x128x16 : Shape := ⟨3, ![4, 128, 16]⟩
abbrev S8x8192x1024 : Shape := ⟨3, ![8, 8192, 1024]⟩
abbrev S_ : Shape := ⟨0, ![]⟩
abbrev S16x512 : Shape := ⟨2, ![16, 512]⟩

class Facts : Prop where
  slices_S8x8192x3072_S8x8192x1024_0_0_0 : S8x8192x3072.Slices ![0, 0, 0] S8x8192x1024
  bitsLt_bf16_f32 : FTy.bits .bf16 < FTy.bits .f32
  bcast_S_S8x8192x1024 : S_.BroadcastsInDim S8x8192x1024 (![] : Fin 0 → Fin S8x8192x1024.rank)
  reducesTo_S8x8192x1024_S_d0_1_2 : S8x8192x1024.ReducesTo [0, 1, 2] S_
  h_S_ : 0 < S_.numel
  slices_S16x3072_S16x512_0_512 : S16x3072.Slices ![0, 512] S16x512
  bcast_S_S16x512 : S_.BroadcastsInDim S16x512 (![] : Fin 0 → Fin S16x512.rank)
  reducesTo_S16x512_S_d0_1 : S16x512.ReducesTo [0, 1] S_
  bcast_S_S8x8x64x512 : S_.BroadcastsInDim S8x8x64x512 (![] : Fin 0 → Fin S8x8x64x512.rank)
  reducesTo_S8x8x64x512_S_d0_1_2_3 : S8x8x64x512.ReducesTo [0, 1, 2, 3] S_
  bcast_S_S4x128x16 : S_.BroadcastsInDim S4x128x16 (![] : Fin 0 → Fin S4x128x16.rank)
  reducesTo_S4x128x16_S_d0_1_2 : S4x128x16.ReducesTo [0, 1, 2] S_

variable [Facts]

def fn_part1 {F : FTy → Type} [FloatOps F] (main_v16 : IVec S_ 1) (main_v17 : FVec F S4x128x16 .f32) : IVec S_ 1 :=
  let main_cst_4 : FVec F S_ .f32 := constant S_ .f32 0x7F800000#32
  let main_v18 : FVec F S4x128x16 .f32 := broadcastInDim S4x128x16 ![] bcast_S_S4x128x16 main_cst_4
  let main_v19 : IVec S4x128x16 1 := cmpf .olt main_v17 main_v18
  let main_c_5 : IVec S_ 1 := constantI S_ 1 1#1
  let main_v20 : IVec S_ 1 := (fun x v => Host.reduce IntOp.andi x v reducesTo_S4x128x16_S_d0_1_2 h_S_) main_v19 main_c_5
  let main_v21 : IVec S_ 1 := andi main_v16 main_v20
  main_v21

def fn {F : FTy → Type} [FloatOps F] (main_arg0 : FVec F S8x8192x3072 .bf16) (main_arg1 : FVec F S16x3072 .bf16) (main_arg2 : FVec F S8x8x64x512 .f32) (main_arg3 : FVec F S4x128x16 .f32) : IVec S_ 1 :=
  let main_v0 : FVec F S8x8192x1024 .bf16 := (extractStridedSlice S8x8192x1024 ![0, 0, 0] · slices_S8x8192x3072_S8x8192x1024_0_0_0) main_arg0
  let main_v1 : FVec F S8x8192x1024 .f32 := (extf .f32 · bitsLt_bf16_f32) main_v0
  let main_v2 : FVec F S8x8192x1024 .f32 := Host.absf main_v1
  let main_cst : FVec F S_ .f32 := constant S_ .f32 0x7F800000#32
  let main_v3 : FVec F S8x8192x1024 .f32 := broadcastInDim S8x8192x1024 ![] bcast_S_S8x8192x1024 main_cst
  let main_v4 : IVec S8x8192x1024 1 := cmpf .olt main_v2 main_v3
  let main_c : IVec S_ 1 := constantI S_ 1 1#1
  let main_v5 : IVec S_ 1 := (fun x v => Host.reduce IntOp.andi x v reducesTo_S8x8192x1024_S_d0_1_2 h_S_) main_v4 main_c
  let main_v6 : FVec F S16x512 .bf16 := (extractStridedSlice S16x512 ![0, 512] · slices_S16x3072_S16x512_0_512) main_arg1
  let main_v7 : FVec F S16x512 .f32 := (extf .f32 · bitsLt_bf16_f32) main_v6
  let main_v8 : FVec F S16x512 .f32 := Host.absf main_v7
  let main_cst_0 : FVec F S_ .f32 := constant S_ .f32 0x7F800000#32
  let main_v9 : FVec F S16x512 .f32 := broadcastInDim S16x512 ![] bcast_S_S16x512 main_cst_0
  let main_v10 : IVec S16x512 1 := cmpf .olt main_v8 main_v9
  let main_c_1 : IVec S_ 1 := constantI S_ 1 1#1
  let main_v11 : IVec S_ 1 := (fun x v => Host.reduce IntOp.andi x v reducesTo_S16x512_S_d0_1 h_S_) main_v10 main_c_1
  let main_v12 : IVec S_ 1 := andi main_v5 main_v11
  let main_cst_2 : FVec F S_ .f32 := constant S_ .f32 0x7F800000#32
  let main_v13 : FVec F S8x8x64x512 .f32 := broadcastInDim S8x8x64x512 ![] bcast_S_S8x8x64x512 main_cst_2
  let main_v14 : IVec S8x8x64x512 1 := cmpf .olt main_arg2 main_v13
  let main_c_3 : IVec S_ 1 := constantI S_ 1 1#1
  let main_v15 : IVec S_ 1 := (fun x v => Host.reduce IntOp.andi x v reducesTo_S8x8x64x512_S_d0_1_2_3 h_S_) main_v14 main_c_3
  let main_v16 : IVec S_ 1 := andi main_v12 main_v15
  let main_v17 : FVec F S4x128x16 .f32 := Host.absf main_arg3
  fn_part1 (F := F) main_v16 main_v17
-- ==== Kernel.lean ====
abbrev S8x8192x3072 : Shape := ⟨3, ![8, 8192, 3072]⟩
abbrev S16x3072 : Shape := ⟨2, ![16, 3072]⟩
abbrev S1x64 : Shape := ⟨2, ![1, 64]⟩
abbrev S1x128 : Shape := ⟨2, ![1, 128]⟩
abbrev S8x8192x512 : Shape := ⟨3, ![8, 8192, 512]⟩
abbrev S1x512x128 : Shape := ⟨3, ![1, 512, 128]⟩
abbrev S1x1024x128 : Shape := ⟨3, ![1, 1024, 128]⟩
abbrev S16x128 : Shape := ⟨2, ![16, 128]⟩
abbrev S1024x128 : Shape := ⟨2, ![1024, 128]⟩
abbrev S1024x1 : Shape := ⟨2, ![1024, 1]⟩
abbrev S512x128 : Shape := ⟨2, ![512, 128]⟩
abbrev S1024x16 : Shape := ⟨2, ![1024, 16]⟩
abbrev S1024 : Shape := ⟨1, ![1024]⟩
abbrev S1024x1024 : Shape := ⟨2, ![1024, 1024]⟩
abbrev S1 : Shape := ⟨1, ![1]⟩
abbrev S1x1 : Shape := ⟨2, ![1, 1]⟩
abbrev S512 : Shape := ⟨1, ![512]⟩
abbrev S512x1 : Shape := ⟨2, ![512, 1]⟩

abbrev nBuf : Space → Nat
  | .hbm => 8
  | .vmem => 21
  | .smem => 0
  | _ => 0

abbrev bufTy : (tb : Table) → Fin (tcTables nBuf tb) → BufTy
  | .hbm, ⟨0, _⟩ => ⟨S8x8192x3072, .bf16⟩
  | .hbm, ⟨1, _⟩ => ⟨S16x3072, .bf16⟩
  | .hbm, ⟨2, _⟩ => ⟨S1x64, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x128, .f32⟩
  | .hbm, ⟨7, _⟩ => ⟨S8x8192x512, .bf16⟩
  | .local _ .vmem, ⟨0, _⟩ => ⟨S1x512x128, .bf16⟩
  | .local _ .vmem, ⟨1, _⟩ => ⟨S1x512x128, .bf16⟩
  | .local _ .vmem, ⟨2, _⟩ => ⟨S1x1024x128, .bf16⟩
  | .local _ .vmem, ⟨3, _⟩ => ⟨S1x1024x128, .bf16⟩
  | .local _ .vmem, ⟨4, _⟩ => ⟨S1x1024x128, .bf16⟩
  | .local _ .vmem, ⟨5, _⟩ => ⟨S1x1024x128, .bf16⟩
  | .local _ .vmem, ⟨6, _⟩ => ⟨S16x128, .bf16⟩
  | .local _ .vmem, ⟨7, _⟩ => ⟨S16x128, .bf16⟩
  | .local _ .vmem, ⟨8, _⟩ => ⟨S16x128, .bf16⟩
  | .local _ .vmem, ⟨9, _⟩ => ⟨S16x128, .bf16⟩
  | .local _ .vmem, ⟨10, _⟩ => ⟨S1x64, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S1x128, .f32⟩
  | .local _ .vmem, ⟨15, _⟩ => ⟨S1x512x128, .bf16⟩
  | .local _ .vmem, ⟨16, _⟩ => ⟨S1x512x128, .bf16⟩
  | .local _ .vmem, ⟨17, _⟩ => ⟨S1024x128, .bf16⟩
  | .local _ .vmem, ⟨18, _⟩ => ⟨S1024x1, .f32⟩
  | .local _ .vmem, ⟨19, _⟩ => ⟨S1024x1, .f32⟩
  | .local _ .vmem, ⟨20, _⟩ => ⟨S1024x128, .f32⟩
  | _, _ => ⟨S8x8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨4, ![8, 4, 16, 8], ![false, false, false, false]⟩

def k0_cond2 (i : grid0.Coords) : BitVec 1 :=
  let arg3 : BitVec 32 := BitVec.ofNat 32 (i 3).val
  let c7_i32 : BitVec 32 := 7#32
  let v38 : BitVec 1 := Scalar.cmpi .eq arg3 c7_i32
  let v39 : BitVec 32 := Scalar.extui v38
  let c0_i32_23 : BitVec 32 := 0#32
  let v40 : BitVec 1 := Scalar.cmpi .ne v39 c0_i32_23
  v40

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c12_i32 : BitVec 32 := 12#32
  let v0 : BitVec 32 := Scalar.addi c12_i32 arg1
  let c0_i32 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c16_i32 : BitVec 32 := 16#32
  let v0 : BitVec 32 := Scalar.addi c16_i32 arg1
  let c0_i32 : BitVec 32 := 0#32
  ![arg0.toNat, arg3.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c20_i32 : BitVec 32 := 20#32
  let v0 : BitVec 32 := Scalar.addi c20_i32 arg1
  let c0_i32 : BitVec 32 := 0#32
  ![arg0.toNat, arg3.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c16_i32 : BitVec 32 := 16#32
  let v0 : BitVec 32 := Scalar.addi c16_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c20_i32 : BitVec 32 := 20#32
  let v0 : BitVec 32 := Scalar.addi c20_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, false]

abbrev stage0_1 : Fin 2 → Memref sig .tc .vmem S1x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, true]

abbrev stage0_2 : Fin 2 → Memref sig .tc .vmem S1x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, true]

abbrev stage0_3 : Fin 2 → Memref sig .tc .vmem S16x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false, false]

abbrev stage0_4 : Fin 2 → Memref sig .tc .vmem S16x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false, false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false, false]

abbrev stage0_10 : Fin 2 → Memref sig .tc .vmem S1x512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true, false]
-- ==== ReferenceIdeal.lean ====
abbrev S8x8192x3072 : Shape := ⟨3, ![8, 8192, 3072]⟩
abbrev S16x3072 : Shape := ⟨2, ![16, 3072]⟩
abbrev S1x64 : Shape := ⟨2, ![1, 64]⟩
abbrev S1x128 : Shape := ⟨2, ![1, 128]⟩
abbrev S1x16x3072 : Shape := ⟨3, ![1, 16, 3072]⟩
abbrev S8x16x3072 : Shape := ⟨3, ![8, 16, 3072]⟩
abbrev S8x8208x3072 : Shape := ⟨3, ![8, 8208, 3072]⟩
abbrev S8x8192x512 : Shape := ⟨3, ![8, 8192, 512]⟩
abbrev S8x8192x4x2x2x32 : Shape := ⟨6, ![8, 8192, 4, 2, 2, 32]⟩
abbrev S8x8192x4x2x64 : Shape := ⟨5, ![8, 8192, 4, 2, 64]⟩
abbrev S8x8208x512 : Shape := ⟨3, ![8, 8208, 512]⟩
abbrev S8x8208x4x2x2x32 : Shape := ⟨6, ![8, 8208, 4, 2, 2, 32]⟩
abbrev S8x8208x4x2x64 : Shape := ⟨5, ![8, 8208, 4, 2, 64]⟩
abbrev S8x8208x4x128 : Shape := ⟨4, ![8, 8208, 4, 128]⟩
abbrev S_ : Shape := ⟨0, ![]⟩
abbrev S8x4x2x8192x8208 : Shape := ⟨5, ![8, 4, 2, 8192, 8208]⟩
abbrev S8x4x2x8192 : Shape := ⟨4, ![8, 4, 2, 8192]⟩
abbrev S8x4x2x8192x1 : Shape := ⟨5, ![8, 4, 2, 8192, 1]⟩
abbrev S8x4x1x8192x8208 : Shape := ⟨5, ![8, 4, 1, 8192, 8208]⟩
abbrev S8x4x8192x8208 : Shape := ⟨4, ![8, 4, 8192, 8208]⟩
abbrev S8x4x128x8192 : Shape := ⟨4, ![8, 4, 128, 8192]⟩
abbrev S8x8192x4x128 : Shape := ⟨4, ![8, 8192, 4, 128]⟩
abbrev S8x8192x4 : Shape := ⟨3, ![8, 8192, 4]⟩
abbrev S8x8192x4x1 : Shape := ⟨4, ![8, 8192, 4, 1]⟩
abbrev S128 : Shape := ⟨1, ![128]⟩
abbrev S1x1x1x128 : Shape := ⟨4, ![1, 1, 1, 128]⟩

abbrev nBuf : Space → Nat
  | .hbm => 79
  | .vmem => 0
  | .smem => 0
  | _ => 0

abbrev bufTy : (tb : Table) → Fin (tcTables nBuf tb) → BufTy
  | .hbm, ⟨0, _⟩ => ⟨S8x8192x3072, .bf16⟩
  | .hbm, ⟨1, _⟩ => ⟨S16x3072, .bf16⟩
  | .hbm, ⟨2, _⟩ => ⟨S1x64, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x128, .f32⟩
  | .hbm, ⟨7, _⟩ => ⟨S8x8192x3072, .f32⟩
  | .hbm, ⟨8, _⟩ => ⟨S16x3072, .f32⟩
  | .hbm, ⟨9, _⟩ => ⟨S1x16x3072, .f32⟩
  | .hbm, ⟨10, _⟩ => ⟨S8x16x3072, .f32⟩
  | .hbm, ⟨11, _⟩ => ⟨S8x8208x3072, .f32⟩
  | .hbm, ⟨12, _⟩ => ⟨S8x8192x512, .f32⟩
  | .hbm, ⟨13, _⟩ => ⟨S8x8192x4x2x2x32, .f32⟩
  | .hbm, ⟨14, _⟩ => ⟨S8x8192x4x2x2x32, .f32⟩
  | .hbm, ⟨15, _⟩ => ⟨S8x8192x4x2x64, .f32⟩
  | .hbm, ⟨16, _⟩ => ⟨S8x8208x512, .f32⟩
  | .hbm, ⟨17, _⟩ => ⟨S8x8208x4x2x2x32, .f32⟩
  | .hbm, ⟨18, _⟩ => ⟨S8x8208x4x2x2x32, .f32⟩
  | .hbm, ⟨19, _⟩ => ⟨S8x8208x4x2x64, .f32⟩
  | .hbm, ⟨20, _⟩ => ⟨S8x8208x512, .f32⟩
  | .hbm, ⟨21, _⟩ => ⟨S8x8208x4x128, .f32⟩
  | .hbm, ⟨22, _⟩ => ⟨S1x64, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S1x64, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S8x4x2x8192x8208, .f32⟩
  | .hbm, ⟨34, _⟩ => ⟨S_, .f32⟩
  | .hbm, ⟨35, _⟩ => ⟨S8x4x2x8192, .f32⟩
  | .hbm, ⟨36, _⟩ => ⟨S_, .f32⟩
  | .hbm, ⟨37, _⟩ => ⟨S8x4x2x8192, .f32⟩
  | .hbm, ⟨38, _⟩ => ⟨S8x4x2x8192, .f32⟩
  | .hbm, ⟨39, _⟩ => ⟨S8x4x2x8192x1, .f32⟩
  | .hbm, ⟨40, _⟩ => ⟨S8x4x2x8192x8208, .f32⟩
  | .hbm, ⟨41, _⟩ => ⟨S8x4x2x8192x8208, .f32⟩
  | .hbm, ⟨42, _⟩ => ⟨S8x4x2x8192x8208, .f32⟩
  | .hbm, ⟨43, _⟩ => ⟨S_, .f32⟩
  | .hbm, ⟨44, _⟩ => ⟨S8x4x2x8192, .f32⟩
  | .hbm, ⟨45, _⟩ => ⟨S8x4x2x8192x1, .f32⟩
  | .hbm, ⟨46, _⟩ => ⟨S8x4x2x8192x8208, .f32⟩
  | .hbm, ⟨47, _⟩ => ⟨S8x4x2x8192x8208, .f32⟩
  | .hbm, ⟨48, _⟩ => ⟨S8x4x1x8192x8208, .f32⟩
  | .hbm, ⟨49, _⟩ => ⟨S8x4x8192x8208, .f32⟩
  | .hbm, ⟨50, _⟩ => ⟨S8x4x1x8192x8208, .f32⟩
  | .hbm, ⟨51, _⟩ => ⟨S8x4x8192x8208, .f32⟩
  | .hbm, ⟨52, _⟩ => ⟨S8x4x8192x8208, .f32⟩
  | .hbm, ⟨53, _⟩ => ⟨S8x4x8192x8208, .f32⟩
  | .hbm, ⟨54, _⟩ => ⟨S8x4x8192x8208, .f32⟩
  | .hbm, ⟨55, _⟩ => ⟨S8x4x128x8192, .f32⟩
  | .hbm, ⟨56, _⟩ => ⟨S8x8192x4x128, .f32⟩
  | .hbm, ⟨57, _⟩ => ⟨S8x8192x4x128, .f32⟩
  | .hbm, ⟨58, _⟩ => ⟨S_, .f32⟩
  | .hbm, ⟨59, _⟩ => ⟨S8x8192x4, .f32⟩
  | .hbm, ⟨60, _⟩ => ⟨S8x8192x4x1, .f32⟩
  | .hbm, ⟨61, _⟩ => ⟨S_, .f32⟩
  | .hbm, ⟨62, _⟩ => ⟨S8x8192x4x1, .f32⟩
  | .hbm, ⟨63, _⟩ => ⟨S8x8192x4x1, .f32⟩
  | .hbm, ⟨64, _⟩ => ⟨S_, .f32⟩
  | .hbm, ⟨65, _⟩ => ⟨S8x8192x4x1, .f32⟩
  | .hbm, ⟨66, _⟩ => ⟨S8x8192x4x1, .f32⟩
  | .hbm, ⟨67, _⟩ => ⟨S8x8192x4x1, .f32⟩
  | .hbm, ⟨68, _⟩ => ⟨S8x8192x4x128, .f32⟩
  | .hbm, ⟨69, _⟩ => ⟨S8x8192x4x128, .f32⟩
  | .hbm, ⟨70, _⟩ => ⟨S128, .f32⟩
  | .hbm, ⟨71, _⟩ => ⟨S1x1x1x128, .f32⟩
  | .hbm, ⟨72, _⟩ => ⟨S8x8192x4x128, .f32⟩
  | .hbm, ⟨73, _⟩ => ⟨S8x8192x4x128, .f32⟩
  | .hbm, ⟨74, _⟩ => ⟨S_, .f32⟩
  | .hbm, ⟨75, _⟩ => ⟨S8x8192x4x128, .f32⟩
  | .hbm, ⟨76, _⟩ => ⟨S8x8192x4x128, .f32⟩
  | .hbm, ⟨77, _⟩ => ⟨S8x8192x512, .f32⟩
  | .hbm, ⟨78, _⟩ => ⟨S8x8192x512, .bf16⟩
  | _, _ => ⟨S8x8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_5 : Ref sig .tc := ⟨.hbm, 58, rfl⟩
abbrev main_v45 : Ref sig .tc := ⟨.hbm, 59, rfl⟩
abbrev main_v46 : Ref sig .tc := ⟨.hbm, 60, rfl⟩
abbrev main_cst_6 : Ref sig .tc := ⟨.hbm, 61, rfl⟩
abbrev main_v47 : Ref sig .tc := ⟨.hbm, 62, rfl⟩
abbrev main_v48 : Ref sig .tc := ⟨.hbm, 63, rfl⟩
abbrev main_cst_7 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_8 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩

abbrev nD : Nat := 1
abbrev τ : Topo := Topo.v7x

variable {F : FTy → Type} [FloatOps F]
-- ==== Ffn.lean ====
abbrev S16x8448x1024 : Shape := ⟨3, ![16, 8448, 1024]⟩
abbrev S16x1024x2048 : Shape := ⟨3, ![16, 1024, 2048]⟩
abbrev S16x2048x1024 : Shape := ⟨3, ![16, 2048, 1024]⟩
abbrev S1x768x1024 : Shape := ⟨3, ![1, 768, 1024]⟩
abbrev S1x1024x2048 : Shape := ⟨3, ![1, 1024, 2048]⟩
abbrev S1x2048x1024 : Shape := ⟨3, ![1, 2048, 1024]⟩
abbrev S768x1024 : Shape := ⟨2, ![768, 1024]⟩
abbrev S1x1024x512 : Shape := ⟨3, ![1, 1024, 512]⟩
abbrev S1024x512 : Shape := ⟨2, ![1024, 512]⟩
abbrev S768x512 : Shape := ⟨2, ![768, 512]⟩
abbrev S1x512x1024 : Shape := ⟨3, ![1, 512, 1024]⟩
abbrev S512x1024 : Shape := ⟨2, ![512, 1024]⟩

abbrev nBuf : Space → Nat
  | .hbm => 5
  | .vmem => 10
  | .smem => 0
  | _ => 0

abbrev bufTy : (tb : Table) → Fin (tcTables nBuf tb) → BufTy
  | .hbm, ⟨0, _⟩ => ⟨S16x8448x1024, .bf16⟩
  | .hbm, ⟨1, _⟩ => ⟨S16x1024x2048, .bf16⟩
  | .hbm, ⟨2, _⟩ => ⟨S16x1024x2048, .bf16⟩
  | .hbm, ⟨3, _⟩ => ⟨S16x2048x1024, .bf16⟩
  | .hbm, ⟨4, _⟩ => ⟨S16x8448x1024, .bf16⟩
  | .local _ .vmem, ⟨0, _⟩ => ⟨S1x768x1024, .bf16⟩
  | .local _ .vmem, ⟨1, _⟩ => ⟨S1x768x1024, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1x1024x2048, .bf16⟩
  | .local _ .vmem, ⟨5, _⟩ => ⟨S1x1024x2048, .bf16⟩
  | .local _ .vmem, ⟨6, _⟩ => ⟨S1x2048x1024, .bf16⟩
  | .local _ .vmem, ⟨7, _⟩ => ⟨S1x2048x1024, .bf16⟩
  | .local _ .vmem, ⟨8, _⟩ => ⟨S1x768x1024, .bf16⟩
  | .local _ .vmem, ⟨9, _⟩ => ⟨S1x768x1024, .bf16⟩
  | _, _ => ⟨S16x8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 11], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x768x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FfnReferenceIdeal.lean ====
abbrev S16x8448x1024 : Shape := ⟨3, ![16, 8448, 1024]⟩
abbrev S16x1024x2048 : Shape := ⟨3, ![16, 1024, 2048]⟩
abbrev S16x2048x1024 : Shape := ⟨3, ![16, 2048, 1024]⟩
abbrev S16x8448x2048 : Shape := ⟨3, ![16, 8448, 2048]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S16x8448x1024, .bf16⟩
  | .hbm, ⟨1, _⟩ => ⟨S16x1024x2048, .bf16⟩
  | .hbm, ⟨2, _⟩ => ⟨S16x1024x2048, .bf16⟩
  | .hbm, ⟨3, _⟩ => ⟨S16x2048x1024, .bf16⟩
  | .hbm, ⟨4, _⟩ => ⟨S16x8448x1024, .f32⟩
  | .hbm, ⟨5, _⟩ => ⟨S16x1024x2048, .f32⟩
  | .hbm, ⟨6, _⟩ => ⟨S16x1024x2048, .f32⟩
  | .hbm, ⟨7, _⟩ => ⟨S16x2048x1024, .f32⟩
  | .hbm, ⟨8, _⟩ => ⟨S16x8448x2048, .f32⟩
  | .hbm, ⟨9, _⟩ => ⟨S16x8448x2048, .f32⟩
  | .hbm, ⟨10, _⟩ => ⟨S16x8448x2048, .f32⟩
  | .hbm, ⟨11, _⟩ => ⟨S16x8448x2048, .f32⟩
  | .hbm, ⟨12, _⟩ => ⟨S_, .f32⟩
  | .hbm, ⟨13, _⟩ => ⟨S16x8448x2048, .f32⟩
  | .hbm, ⟨14, _⟩ => ⟨S16x8448x2048, .f32⟩
  | .hbm, ⟨15, _⟩ => ⟨S_, .f32⟩
  | .hbm, ⟨16, _⟩ => ⟨S16x8448x2048, .f32⟩
  | .hbm, ⟨17, _⟩ => ⟨S16x8448x2048, .f32⟩
  | .hbm, ⟨18, _⟩ => ⟨S16x8448x2048, .f32⟩
  | .hbm, ⟨19, _⟩ => ⟨S16x8448x2048, .f32⟩
  | .hbm, ⟨20, _⟩ => ⟨S16x8448x1024, .f32⟩
  | .hbm, ⟨21, _⟩ => ⟨S16x8448x1024, .bf16⟩
  | _, _ => ⟨S16x8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩

abbrev nD : Nat := 1
abbrev τ : Topo := Topo.v7x

variable {F : FTy → Type} [FloatOps F]
-- ==== Inproj.lean ====
abbrev S65536x1024 : Shape := ⟨2, ![65536, 1024]⟩
abbrev S1x1024 : Shape := ⟨2, ![1, 1024]⟩
abbrev S1024x3072 : Shape := ⟨2, ![1024, 3072]⟩
abbrev S8192x32 : Shape := ⟨2, ![8192, 32]⟩
abbrev S8192x128 : Shape := ⟨2, ![8192, 128]⟩
abbrev S65536x3072 : Shape := ⟨2, ![65536, 3072]⟩
abbrev S512x1024 : Shape := ⟨2, ![512, 1024]⟩
abbrev S512x128 : Shape := ⟨2, ![512, 128]⟩
abbrev S512x3072 : Shape := ⟨2, ![512, 3072]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 10
  | .vmem => 10
  | .smem => 0
  | _ => 0

abbrev bufTy : (tb : Table) → Fin (tcTables nBuf tb) → BufTy
  | .hbm, ⟨0, _⟩ => ⟨S65536x1024, .f32⟩
  | .hbm, ⟨1, _⟩ => ⟨S1x1024, .f32⟩
  | .hbm, ⟨2, _⟩ => ⟨S1024x3072, .bf16⟩
  | .hbm, ⟨3, _⟩ => ⟨S8192x32, .f32⟩
  | .hbm, ⟨4, _⟩ => ⟨S8192x32, .f32⟩
  | .hbm, ⟨5, _⟩ => ⟨S8192x128, .f32⟩
  | .hbm, ⟨6, _⟩ => ⟨S8192x32, .f32⟩
  | .hbm, ⟨7, _⟩ => ⟨S8192x32, .f32⟩
  | .hbm, ⟨8, _⟩ => ⟨S8192x128, .f32⟩
  | .hbm, ⟨9, _⟩ => ⟨S65536x3072, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x3072, .bf16⟩
  | .local _ .vmem, ⟨9, _⟩ => ⟨S512x3072, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== InprojReferenceIdeal.lean ====
abbrev S65536x1024 : Shape := ⟨2, ![65536, 1024]⟩
abbrev S1x1024 : Shape := ⟨2, ![1, 1024]⟩
abbrev S1024x3072 : Shape := ⟨2, ![1024, 3072]⟩
abbrev S8192x32 : Shape := ⟨2, ![8192, 32]⟩
abbrev S_ : Shape := ⟨0, ![]⟩
abbrev S65536 : Shape := ⟨1, ![65536]⟩
abbrev S65536x1 : Shape := ⟨2, ![65536, 1]⟩
abbrev S65536x3072 : Shape := ⟨2, ![65536, 3072]⟩
abbrev S65536x512 : Shape := ⟨2, ![65536, 512]⟩
abbrev S8x8192x4x2x2x32 : Shape := ⟨6, ![8, 8192, 4, 2, 2, 32]⟩
abbrev S8x8192x4x1x2x32 : Shape := ⟨6, ![8, 8192, 4, 1, 2, 32]⟩
abbrev S8x8192x4x2x32 : Shape := ⟨5, ![8, 8192, 4, 2, 32]⟩
abbrev S1x8192x1x1x32 : Shape := ⟨5, ![1, 8192, 1, 1, 32]⟩

abbrev nBuf : Space → Nat
  | .hbm => 77
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1x1024, .f32⟩
  | .hbm, ⟨2, _⟩ => ⟨S1024x3072, .bf16⟩
  | .hbm, ⟨3, _⟩ => ⟨S8192x32, .f32⟩
  | .hbm, ⟨4, _⟩ => ⟨S8192x32, .f32⟩
  | .hbm, ⟨5, _⟩ => ⟨S65536x1024, .f32⟩
  | .hbm, ⟨6, _⟩ => ⟨S_, .f32⟩
  | .hbm, ⟨7, _⟩ => ⟨S65536, .f32⟩
  | .hbm, ⟨8, _⟩ => ⟨S65536x1, .f32⟩
  | .hbm, ⟨9, _⟩ => ⟨S_, .f32⟩
  | .hbm, ⟨10, _⟩ => ⟨S65536x1, .f32⟩
  | .hbm, ⟨11, _⟩ => ⟨S65536x1, .f32⟩
  | .hbm, ⟨12, _⟩ => ⟨S_, .f32⟩
  | .hbm, ⟨13, _⟩ => ⟨S65536x1, .f32⟩
  | .hbm, ⟨14, _⟩ => ⟨S65536x1, .f32⟩
  | .hbm, ⟨15, _⟩ => ⟨S65536x1, .f32⟩
  | .hbm, ⟨16, _⟩ => ⟨S65536x1024, .f32⟩
  | .hbm, ⟨17, _⟩ => ⟨S65536x1024, .f32⟩
  | .hbm, ⟨18, _⟩ => ⟨S65536x1024, .f32⟩
  | .hbm, ⟨19, _⟩ => ⟨S65536x1024, .f32⟩
  | .hbm, ⟨20, _⟩ => ⟨S1024x3072, .f32⟩
  | .hbm, ⟨21, _⟩ => ⟨S65536x3072, .f32⟩
  | .hbm, ⟨22, _⟩ => ⟨S65536x512, .f32⟩
  | .hbm, ⟨23, _⟩ => ⟨S65536x1024, .f32⟩
  | .hbm, ⟨24, _⟩ => ⟨S65536x512, .f32⟩
  | .hbm, ⟨25, _⟩ => ⟨S65536x512, .f32⟩
  | .hbm, ⟨26, _⟩ => ⟨S65536x512, .f32⟩
  | .hbm, ⟨27, _⟩ => ⟨S8x8192x4x2x2x32, .f32⟩
  | .hbm, ⟨28, _⟩ => ⟨S8x8192x4x1x2x32, .f32⟩
  | .hbm, ⟨29, _⟩ => ⟨S8x8192x4x2x32, .f32⟩
  | .hbm, ⟨30, _⟩ => ⟨S8x8192x4x1x2x32, .f32⟩
  | .hbm, ⟨31, _⟩ => ⟨S8x8192x4x2x32, .f32⟩
  | .hbm, ⟨32, _⟩ => ⟨S1x8192x1x1x32, .f32⟩
  | .hbm, ⟨33, _⟩ => ⟨S1x8192x1x1x32, .f32⟩
  | .hbm, ⟨34, _⟩ => ⟨S8x8192x4x2x32, .f32⟩
  | .hbm, ⟨35, _⟩ => ⟨S8x8192x4x2x32, .f32⟩
  | .hbm, ⟨36, _⟩ => ⟨S8x8192x4x2x32, .f32⟩
  | .hbm, ⟨37, _⟩ => ⟨S8x8192x4x2x32, .f32⟩
  | .hbm, ⟨38, _⟩ => ⟨S8x8192x4x2x32, .f32⟩
  | .hbm, ⟨39, _⟩ => ⟨S8x8192x4x2x32, .f32⟩
  | .hbm, ⟨40, _⟩ => ⟨S8x8192x4x2x32, .f32⟩
  | .hbm, ⟨41, _⟩ => ⟨S8x8192x4x2x32, .f32⟩
  | .hbm, ⟨42, _⟩ => ⟨S8x8192x4x2x32, .f32⟩
  | .hbm, ⟨43, _⟩ => ⟨S8x8192x4x2x32, .f32⟩
  | .hbm, ⟨44, _⟩ => ⟨S8x8192x4x1x2x32, .f32⟩
  | .hbm, ⟨45, _⟩ => ⟨S8x8192x4x1x2x32, .f32⟩
  | .hbm, ⟨46, _⟩ => ⟨S8x8192x4x2x2x32, .f32⟩
  | .hbm, ⟨47, _⟩ => ⟨S65536x512, .f32⟩
  | .hbm, ⟨48, _⟩ => ⟨S8x8192x4x2x2x32, .f32⟩
  | .hbm, ⟨49, _⟩ => ⟨S8x8192x4x1x2x32, .f32⟩
  | .hbm, ⟨50, _⟩ => ⟨S8x8192x4x2x32, .f32⟩
  | .hbm, ⟨51, _⟩ => ⟨S8x8192x4x1x2x32, .f32⟩
  | .hbm, ⟨52, _⟩ => ⟨S8x8192x4x2x32, .f32⟩
  | .hbm, ⟨53, _⟩ => ⟨S1x8192x1x1x32, .f32⟩
  | .hbm, ⟨54, _⟩ => ⟨S1x8192x1x1x32, .f32⟩
  | .hbm, ⟨55, _⟩ => ⟨S8x8192x4x2x32, .f32⟩
  | .hbm, ⟨56, _⟩ => ⟨S8x8192x4x2x32, .f32⟩
  | .hbm, ⟨57, _⟩ => ⟨S8x8192x4x2x32, .f32⟩
  | .hbm, ⟨58, _⟩ => ⟨S8x8192x4x2x32, .f32⟩
  | .hbm, ⟨59, _⟩ => ⟨S8x8192x4x2x32, .f32⟩
  | .hbm, ⟨60, _⟩ => ⟨S8x8192x4x2x32, .f32⟩
  | .hbm, ⟨61, _⟩ => ⟨S8x8192x4x2x32, .f32⟩
  | .hbm, ⟨62, _⟩ => ⟨S8x8192x4x2x32, .f32⟩
  | .hbm, ⟨63, _⟩ => ⟨S8x8192x4x2x32, .f32⟩
  | .hbm, ⟨64, _⟩ => ⟨S8x8192x4x2x32, .f32⟩
  | .hbm, ⟨65, _⟩ => ⟨S8x8192x4x1x2x32, .f32⟩
  | .hbm, ⟨66, _⟩ => ⟨S8x8192x4x1x2x32, .f32⟩
  | .hbm, ⟨67, _⟩ => ⟨S8x8192x4x2x2x32, .f32⟩
  | .hbm, ⟨68, _⟩ => ⟨S65536x512, .f32⟩
  | .hbm, ⟨69, _⟩ => ⟨S_, .f32⟩
  | .hbm, ⟨70, _⟩ => ⟨S65536x512, .f32⟩
  | .hbm, ⟨71, _⟩ => ⟨S65536x512, .f32⟩
  | .hbm, ⟨72, _⟩ => ⟨S_, .f32⟩
  | .hbm, ⟨73, _⟩ => ⟨S65536x512, .f32⟩
  | .hbm, ⟨74, _⟩ => ⟨S65536x512, .f32⟩
  | .hbm, ⟨75, _⟩ => ⟨S65536x3072, .f32⟩
  | .hbm, ⟨76, _⟩ => ⟨S65536x3072, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_cst_2 : Ref sig .tc := ⟨.hbm, 69, rfl⟩
abbrev main_v61 : Ref sig .tc := ⟨.hbm, 70, rfl⟩
abbrev main_v62 : Ref sig .tc := ⟨.hbm, 71, rfl⟩
abbrev main_cst_3 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩

abbrev nD : Nat := 1
abbrev τ : Topo := Topo.v7x

variable {F : FTy → Type} [FloatOps F]
-- ==== Outproj.lean ====
abbrev S65536x1024 : Shape := ⟨2, ![65536, 1024]⟩
abbrev S65536x512 : Shape := ⟨2, ![65536, 512]⟩
abbrev S1024x1024 : Shape := ⟨2, ![1024, 1024]⟩
abbrev S1x1024 : Shape := ⟨2, ![1, 1024]⟩
abbrev S128x1024 : Shape := ⟨2, ![128, 1024]⟩
abbrev S16x65536 : Shape := ⟨2, ![16, 65536]⟩
abbrev S65536x128 : Shape := ⟨2, ![65536, 128]⟩
abbrev S512x1024 : Shape := ⟨2, ![512, 1024]⟩
abbrev S512x512 : Shape := ⟨2, ![512, 512]⟩
abbrev S16x512 : Shape := ⟨2, ![16, 512]⟩
abbrev S512x128 : Shape := ⟨2, ![512, 128]⟩
abbrev S512 : Shape := ⟨1, ![512]⟩
abbrev S512x1 : Shape := ⟨2, ![512, 1]⟩
abbrev S128x512 : Shape := ⟨2, ![128, 512]⟩
abbrev S1x512 : Shape := ⟨2, ![1, 512]⟩

abbrev nBuf : Space → Nat
  | .hbm => 11
  | .vmem => 18
  | .smem => 0
  | _ => 0

abbrev bufTy : (tb : Table) → Fin (tcTables nBuf tb) → BufTy
  | .hbm, ⟨0, _⟩ => ⟨S65536x1024, .f32⟩
  | .hbm, ⟨1, _⟩ => ⟨S65536x512, .bf16⟩
  | .hbm, ⟨2, _⟩ => ⟨S65536x512, .bf16⟩
  | .hbm, ⟨3, _⟩ => ⟨S1024x1024, .bf16⟩
  | .hbm, ⟨4, _⟩ => ⟨S1x1024, .f32⟩
  | .hbm, ⟨5, _⟩ => ⟨S128x1024, .bf16⟩
  | .hbm, ⟨6, _⟩ => ⟨S128x1024, .bf16⟩
  | .hbm, ⟨7, _⟩ => ⟨S65536x1024, .f32⟩
  | .hbm, ⟨8, _⟩ => ⟨S65536x1024, .bf16⟩
  | .hbm, ⟨9, _⟩ => ⟨S16x65536, .f32⟩
  | .hbm, ⟨10, _⟩ => ⟨S65536x128, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S1x1024, .f32⟩
  | .local _ .vmem, ⟨8, _⟩ => ⟨S128x1024, .bf16⟩
  | .local _ .vmem, ⟨9, _⟩ => ⟨S128x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S16x512, .f32⟩
  | .local _ .vmem, ⟨15, _⟩ => ⟨S16x512, .f32⟩
  | .local _ .vmem, ⟨16, _⟩ => ⟨S512x128, .f32⟩
  | .local _ .vmem, ⟨17, _⟩ => ⟨S512x128, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== OutprojIdeal.lean ====
variable {F : FTy → Type} [FloatOps F] [Named F]
def κ : String → Option EReal := fun
  | "mask" => some ⊥
  | _ => none
-- ==== OutprojReferenceIdeal.lean ====
abbrev S65536x1024 : Shape := ⟨2, ![65536, 1024]⟩
abbrev S65536x512 : Shape := ⟨2, ![65536, 512]⟩
abbrev S1024x1024 : Shape := ⟨2, ![1024, 1024]⟩
abbrev S1x1024 : Shape := ⟨2, ![1, 1024]⟩
abbrev S128x1024 : Shape := ⟨2, ![128, 1024]⟩
abbrev S_ : Shape := ⟨0, ![]⟩
abbrev S65536 : Shape := ⟨1, ![65536]⟩
abbrev S65536x1 : Shape := ⟨2, ![65536, 1]⟩
abbrev S16x1024 : Shape := ⟨2, ![16, 1024]⟩
abbrev S65536x16 : Shape := ⟨2, ![65536, 16]⟩
abbrev S16x65536 : Shape := ⟨2, ![16, 65536]⟩
abbrev S65536x128 : Shape := ⟨2, ![65536, 128]⟩

abbrev nBuf : Space → Nat
  | .hbm => 52
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x512, .bf16⟩
  | .hbm, ⟨2, _⟩ => ⟨S65536x512, .bf16⟩
  | .hbm, ⟨3, _⟩ => ⟨S1024x1024, .bf16⟩
  | .hbm, ⟨4, _⟩ => ⟨S1x1024, .f32⟩
  | .hbm, ⟨5, _⟩ => ⟨S128x1024, .bf16⟩
  | .hbm, ⟨6, _⟩ => ⟨S128x1024, .bf16⟩
  | .hbm, ⟨7, _⟩ => ⟨S65536x512, .f32⟩
  | .hbm, ⟨8, _⟩ => ⟨S65536x512, .f32⟩
  | .hbm, ⟨9, _⟩ => ⟨S1024x1024, .f32⟩
  | .hbm, ⟨10, _⟩ => ⟨S128x1024, .f32⟩
  | .hbm, ⟨11, _⟩ => ⟨S128x1024, .f32⟩
  | .hbm, ⟨12, _⟩ => ⟨S65536x1024, .f32⟩
  | .hbm, ⟨13, _⟩ => ⟨S65536x1024, .f32⟩
  | .hbm, ⟨14, _⟩ => ⟨S65536x1024, .f32⟩
  | .hbm, ⟨15, _⟩ => ⟨S65536x1024, .f32⟩
  | .hbm, ⟨16, _⟩ => ⟨S_, .f32⟩
  | .hbm, ⟨17, _⟩ => ⟨S65536, .f32⟩
  | .hbm, ⟨18, _⟩ => ⟨S65536x1, .f32⟩
  | .hbm, ⟨19, _⟩ => ⟨S_, .f32⟩
  | .hbm, ⟨20, _⟩ => ⟨S65536x1, .f32⟩
  | .hbm, ⟨21, _⟩ => ⟨S65536x1, .f32⟩
  | .hbm, ⟨22, _⟩ => ⟨S_, .f32⟩
  | .hbm, ⟨23, _⟩ => ⟨S65536x1, .f32⟩
  | .hbm, ⟨24, _⟩ => ⟨S65536x1, .f32⟩
  | .hbm, ⟨25, _⟩ => ⟨S65536x1, .f32⟩
  | .hbm, ⟨26, _⟩ => ⟨S65536x1024, .f32⟩
  | .hbm, ⟨27, _⟩ => ⟨S65536x1024, .f32⟩
  | .hbm, ⟨28, _⟩ => ⟨S65536x1024, .f32⟩
  | .hbm, ⟨29, _⟩ => ⟨S65536x1024, .f32⟩
  | .hbm, ⟨30, _⟩ => ⟨S128x1024, .f32⟩
  | .hbm, ⟨31, _⟩ => ⟨S16x1024, .f32⟩
  | .hbm, ⟨32, _⟩ => ⟨S65536x16, .f32⟩
  | .hbm, ⟨33, _⟩ => ⟨S_, .f32⟩
  | .hbm, ⟨34, _⟩ => ⟨S65536, .f32⟩
  | .hbm, ⟨35, _⟩ => ⟨S_, .f32⟩
  | .hbm, ⟨36, _⟩ => ⟨S65536, .f32⟩
  | .hbm, ⟨37, _⟩ => ⟨S65536, .f32⟩
  | .hbm, ⟨38, _⟩ => ⟨S65536x1, .f32⟩
  | .hbm, ⟨39, _⟩ => ⟨S65536x16, .f32⟩
  | .hbm, ⟨40, _⟩ => ⟨S65536x16, .f32⟩
  | .hbm, ⟨41, _⟩ => ⟨S65536x16, .f32⟩
  | .hbm, ⟨42, _⟩ => ⟨S_, .f32⟩
  | .hbm, ⟨43, _⟩ => ⟨S65536, .f32⟩
  | .hbm, ⟨44, _⟩ => ⟨S65536x1, .f32⟩
  | .hbm, ⟨45, _⟩ => ⟨S65536x16, .f32⟩
  | .hbm, ⟨46, _⟩ => ⟨S65536x16, .f32⟩
  | .hbm, ⟨47, _⟩ => ⟨S65536x1024, .bf16⟩
  | .hbm, ⟨48, _⟩ => ⟨S16x65536, .f32⟩
  | .hbm, ⟨49, _⟩ => ⟨S_, .i32⟩
  | .hbm, ⟨50, _⟩ => ⟨S_, .f32⟩
  | .hbm, ⟨51, _⟩ => ⟨S65536x128, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_c : Ref sig .tc := ⟨.hbm, 49, rfl⟩
abbrev main_call0_v0 : Ref sig .tc := ⟨.hbm, 50, rfl⟩
abbrev main_v36 : Ref sig .tc := ⟨.hbm, 51, rfl⟩

abbrev nD : Nat := 1
abbrev τ : Topo := Topo.v7x

variable {F : FTy → Type} [FloatOps F]
-- ==== Na.lean ====
abbrev S8x8192x3072 : Shape := ⟨3, ![8, 8192, 3072]⟩
abbrev S16x3072 : Shape := ⟨2, ![16, 3072]⟩
abbrev S8x8x64x512 : Shape := ⟨4, ![8, 8, 64, 512]⟩
abbrev S4x128x16 : Shape := ⟨3, ![4, 128, 16]⟩
abbrev S8x8192x512 : Shape := ⟨3, ![8, 8192, 512]⟩
abbrev S1x512x128 : Shape := ⟨3, ![1, 512, 128]⟩
abbrev S16x128 : Shape := ⟨2, ![16, 128]⟩
abbrev S2x8x64x512 : Shape := ⟨4, ![2, 8, 64, 512]⟩
abbrev S1x128x16 : Shape := ⟨3, ![1, 128, 16]⟩
abbrev S1536x128 : Shape := ⟨2, ![1536, 128]⟩
abbrev S512x128 : Shape := ⟨2, ![512, 128]⟩
abbrev S128x16 : Shape := ⟨2, ![128, 16]⟩
abbrev S1x64x128 : Shape := ⟨3, ![1, 64, 128]⟩
abbrev S64x128 : Shape := ⟨2, ![64, 128]⟩
abbrev S128x128 : Shape := ⟨2, ![128, 128]⟩
abbrev S1x1x64x512 : Shape := ⟨4, ![1, 1, 64, 512]⟩
abbrev S64x512 : Shape := ⟨2, ![64, 512]⟩
abbrev S128x512 : Shape := ⟨2, ![128, 512]⟩
abbrev S128 : Shape := ⟨1, ![128]⟩
abbrev S128x1 : Shape := ⟨2, ![128, 1]⟩

abbrev nBuf : Space → Nat
  | .hbm => 5
  | .vmem => 26
  | .smem => 0
  | _ => 0

abbrev bufTy : (tb : Table) → Fin (tcTables nBuf tb) → BufTy
  | .hbm, ⟨0, _⟩ => ⟨S8x8192x3072, .bf16⟩
  | .hbm, ⟨1, _⟩ => ⟨S16x3072, .bf16⟩
  | .hbm, ⟨2, _⟩ => ⟨S8x8x64x512, .f32⟩
  | .hbm, ⟨3, _⟩ => ⟨S4x128x16, .f32⟩
  | .hbm, ⟨4, _⟩ => ⟨S8x8192x512, .bf16⟩
  | .local _ .vmem, ⟨0, _⟩ => ⟨S1x512x128, .bf16⟩
  | .local _ .vmem, ⟨1, _⟩ => ⟨S1x512x128, .bf16⟩
  | .local _ .vmem, ⟨2, _⟩ => ⟨S1x512x128, .bf16⟩
  | .local _ .vmem, ⟨3, _⟩ => ⟨S1x512x128, .bf16⟩
  | .local _ .vmem, ⟨4, _⟩ => ⟨S1x512x128, .bf16⟩
  | .local _ .vmem, ⟨5, _⟩ => ⟨S1x512x128, .bf16⟩
  | .local _ .vmem, ⟨6, _⟩ => ⟨S1x512x128, .bf16⟩
  | .local _ .vmem, ⟨7, _⟩ => ⟨S1x512x128, .bf16⟩
  | .local _ .vmem, ⟨8, _⟩ => ⟨S1x512x128, .bf16⟩
  | .local _ .vmem, ⟨9, _⟩ => ⟨S1x512x128, .bf16⟩
  | .local _ .vmem, ⟨10, _⟩ => ⟨S1x512x128, .bf16⟩
  | .local _ .vmem, ⟨11, _⟩ => ⟨S1x512x128, .bf16⟩
  | .local _ .vmem, ⟨12, _⟩ => ⟨S1x512x128, .bf16⟩
  | .local _ .vmem, ⟨13, _⟩ => ⟨S1x512x128, .bf16⟩
  | .local _ .vmem, ⟨14, _⟩ => ⟨S16x128, .bf16⟩
  | .local _ .vmem, ⟨15, _⟩ => ⟨S16x128, .bf16⟩
  | .local _ .vmem, ⟨16, _⟩ => ⟨S16x128, .bf16⟩
  | .local _ .vmem, ⟨17, _⟩ => ⟨S16x128, .bf16⟩
  | .local _ .vmem, ⟨18, _⟩ => ⟨S2x8x64x512, .f32⟩
  | .local _ .vmem, ⟨19, _⟩ => ⟨S2x8x64x512, .f32⟩
  | .local _ .vmem, ⟨20, _⟩ => ⟨S1x128x16, .f32⟩
  | .local _ .vmem, ⟨21, _⟩ => ⟨S1x128x16, .f32⟩
  | .local _ .vmem, ⟨22, _⟩ => ⟨S1x512x128, .bf16⟩
  | .local _ .vmem, ⟨23, _⟩ => ⟨S1x512x128, .bf16⟩
  | .local _ .vmem, ⟨24, _⟩ => ⟨S1536x128, .bf16⟩
  | .local _ .vmem, ⟨25, _⟩ => ⟨S1536x128, .bf16⟩
  | _, _ => ⟨S8x8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨3, ![4, 8, 16], ![false, false, false]⟩

def k0_mult1 (i : grid0.Coords) : BitVec 32 :=
  let c120_i32 : BitVec 32 := 120#32
  let c0_i32_34 : BitVec 32 := 0#32
  let arg2 : BitVec 32 := BitVec.ofNat 32 (i 2).val
  let c8_i32 : BitVec 32 := 8#32
  let v34 : BitVec 32 := Scalar.muli arg2 c8_i32
  let c0_i32 : BitVec 32 := 0#32
  let v35 : BitVec 32 := Scalar.addi v34 c0_i32
  let c4_i32 : BitVec 32 := 4#32
  let v36 : BitVec 32 := Scalar.subi v35 c4_i32
  let v37 : BitVec 32 := Scalar.maxsi c0_i32_34 v36
  let v38 : BitVec 32 := Scalar.minsi c120_i32 v37
  let c1_i32 : BitVec 32 := 1#32
  let v40 : BitVec 32 := Scalar.subi arg2 c1_i32
  let c8_i32_35 : BitVec 32 := 8#32
  let v41 : BitVec 32 := Scalar.muli v40 c8_i32_35
  let v42 : BitVec 32 := Scalar.subi v38 v41
  let c64_i32 : BitVec 32 := 64#32
  let v43 : BitVec 32 := Scalar.muli v42 c64_i32
  v43
def k0_off1 (i : grid0.Coords) (c0_i32 : BitVec 32) : Fin 2 → Nat :=
  let c120_i32 : BitVec 32 := 120#32
  let c0_i32_34 : BitVec 32 := 0#32
  let arg2 : BitVec 32 := BitVec.ofNat 32 (i 2).val
  let c8_i32 : BitVec 32 := 8#32
  let v34 : BitVec 32 := Scalar.muli arg2 c8_i32
  let v35 : BitVec 32 := Scalar.addi v34 c0_i32
  let c4_i32 : BitVec 32 := 4#32
  let v36 : BitVec 32 := Scalar.subi v35 c4_i32
  let v37 : BitVec 32 := Scalar.maxsi c0_i32_34 v36
  let v38 : BitVec 32 := Scalar.minsi c120_i32 v37
  let c1_i32 : BitVec 32 := 1#32
  let v40 : BitVec 32 := Scalar.subi arg2 c1_i32
  let c8_i32_35 : BitVec 32 := 8#32
  let v41 : BitVec 32 := Scalar.muli v40 c8_i32_35
  let v42 : BitVec 32 := Scalar.subi v38 v41
  let c64_i32 : BitVec 32 := 64#32
  let v43 : BitVec 32 := Scalar.muli v42 c64_i32
  let v44 : BitVec 32 := v43
  let v56 : Index := Scalar.indexCast v44
  let c0_41 : Index := 0#32
  ![v56.toNat, 0]
def k0_off2 (i : grid0.Coords) (c0_i32 : BitVec 32) : Fin 4 → Nat :=
  let c0_43 : Index := 0#32
  let arg2 : BitVec 32 := BitVec.ofNat 32 (i 2).val
  let c8_i32 : BitVec 32 := 8#32
  let v34 : BitVec 32 := Scalar.muli arg2 c8_i32
  let v35 : BitVec 32 := Scalar.addi v34 c0_i32
  let c120_i32 : BitVec 32 := 120#32
  let c0_i32_34 : BitVec 32 := 0#32
  let c4_i32 : BitVec 32 := 4#32
  let v36 : BitVec 32 := Scalar.subi v35 c4_i32
  let v37 : BitVec 32 := Scalar.maxsi c0_i32_34 v36
  let v38 : BitVec 32 := Scalar.minsi c120_i32 v37
  let v39 : BitVec 32 := Scalar.subi v35 v38
  let v60 : Index := Scalar.indexCast v39
  let c0_44 : Index := 0#32
  let c0_45 : Index := 0#32
  ![0, v60.toNat, 0, 0]
def k0_off3 (i : grid0.Coords) (c0_i32 : BitVec 32) : Fin 4 → Nat :=
  let c1 : Index := 1#32
  let arg2 : BitVec 32 := BitVec.ofNat 32 (i 2).val
  let c8_i32 : BitVec 32 := 8#32
  let v34 : BitVec 32 := Scalar.muli arg2 c8_i32
  let v35 : BitVec 32 := Scalar.addi v34 c0_i32
  let c120_i32 : BitVec 32 := 120#32
  let c0_i32_34 : BitVec 32 := 0#32
  let c4_i32 : BitVec 32 := 4#32
  let v36 : BitVec 32 := Scalar.subi v35 c4_i32
  let v37 : BitVec 32 := Scalar.maxsi c0_i32_34 v36
  let v38 : BitVec 32 := Scalar.minsi c120_i32 v37
  let v39 : BitVec 32 := Scalar.subi v35 v38
  let v63 : Index := Scalar.indexCast v39
  let c0_46 : Index := 0#32
  let c0_47 : Index := 0#32
  ![1, v63.toNat, 0, 0]
def k0_mult2 (i : grid0.Coords) : BitVec 32 :=
  let c120_i32_64 : BitVec 32 := 120#32
  let c0_i32_63 : BitVec 32 := 0#32
  let arg2 : BitVec 32 := BitVec.ofNat 32 (i 2).val
  let c8_i32_60 : BitVec 32 := 8#32
  let v104 : BitVec 32 := Scalar.muli arg2 c8_i32_60
  let c1_i32_61 : BitVec 32 := 1#32
  let v105 : BitVec 32 := Scalar.addi v104 c1_i32_61
  let c4_i32_62 : BitVec 32 := 4#32
  let v106 : BitVec 32 := Scalar.subi v105 c4_i32_62
  let v107 : BitVec 32 := Scalar.maxsi c0_i32_63 v106
  let v108 : BitVec 32 := Scalar.minsi c120_i32_64 v107
  let c1_i32_65 : BitVec 32 := 1#32
  let v110 : BitVec 32 := Scalar.subi arg2 c1_i32_65
  let c8_i32_66 : BitVec 32 := 8#32
  let v111 : BitVec 32 := Scalar.muli v110 c8_i32_66
  let v112 : BitVec 32 := Scalar.subi v108 v111
  let c64_i32_67 : BitVec 32 := 64#32
  let v113 : BitVec 32 := Scalar.muli v112 c64_i32_67
  v113
def k0_mult3 (i : grid0.Coords) : BitVec 32 :=
  let c120_i32_96 : BitVec 32 := 120#32
  let c0_i32_95 : BitVec 32 := 0#32
  let arg2 : BitVec 32 := BitVec.ofNat 32 (i 2).val
  let c8_i32_93 : BitVec 32 := 8#32
  let v174 : BitVec 32 := Scalar.muli arg2 c8_i32_93
  let c2_i32 : BitVec 32 := 2#32
  let v175 : BitVec 32 := Scalar.addi v174 c2_i32
  let c4_i32_94 : BitVec 32 := 4#32
  let v176 : BitVec 32 := Scalar.subi v175 c4_i32_94
  let v177 : BitVec 32 := Scalar.maxsi c0_i32_95 v176
  let v178 : BitVec 32 := Scalar.minsi c120_i32_96 v177
  let c1_i32_97 : BitVec 32 := 1#32
  let v180 : BitVec 32 := Scalar.subi arg2 c1_i32_97
  let c8_i32_98 : BitVec 32 := 8#32
  let v181 : BitVec 32 := Scalar.muli v180 c8_i32_98
  let v182 : BitVec 32 := Scalar.subi v178 v181
  let c64_i32_99 : BitVec 32 := 64#32
  let v183 : BitVec 32 := Scalar.muli v182 c64_i32_99
  v183
def k0_mult4 (i : grid0.Coords) : BitVec 32 :=
  let c120_i32_128 : BitVec 32 := 120#32
  let c0_i32_127 : BitVec 32 := 0#32
  let arg2 : BitVec 32 := BitVec.ofNat 32 (i 2).val
  let c8_i32_125 : BitVec 32 := 8#32
  let v244 : BitVec 32 := Scalar.muli arg2 c8_i32_125
  let c3_i32 : BitVec 32 := 3#32
  let v245 : BitVec 32 := Scalar.addi v244 c3_i32
  let c4_i32_126 : BitVec 32 := 4#32
  let v246 : BitVec 32 := Scalar.subi v245 c4_i32_126
  let v247 : BitVec 32 := Scalar.maxsi c0_i32_127 v246
  let v248 : BitVec 32 := Scalar.minsi c120_i32_128 v247
  let c1_i32_129 : BitVec 32 := 1#32
  let v250 : BitVec 32 := Scalar.subi arg2 c1_i32_129
  let c8_i32_130 : BitVec 32 := 8#32
  let v251 : BitVec 32 := Scalar.muli v250 c8_i32_130
  let v252 : BitVec 32 := Scalar.subi v248 v251
  let c64_i32_131 : BitVec 32 := 64#32
  let v253 : BitVec 32 := Scalar.muli v252 c64_i32_131
  v253
def k0_mult5 (i : grid0.Coords) : BitVec 32 :=
  let c120_i32_161 : BitVec 32 := 120#32
  let c0_i32_160 : BitVec 32 := 0#32
  let arg2 : BitVec 32 := BitVec.ofNat 32 (i 2).val
  let c8_i32_157 : BitVec 32 := 8#32
  let v314 : BitVec 32 := Scalar.muli arg2 c8_i32_157
  let c4_i32_158 : BitVec 32 := 4#32
  let v315 : BitVec 32 := Scalar.addi v314 c4_i32_158
  let c4_i32_159 : BitVec 32 := 4#32
  let v316 : BitVec 32 := Scalar.subi v315 c4_i32_159
  let v317 : BitVec 32 := Scalar.maxsi c0_i32_160 v316
  let v318 : BitVec 32 := Scalar.minsi c120_i32_161 v317
  let c1_i32_162 : BitVec 32 := 1#32
  let v320 : BitVec 32 := Scalar.subi arg2 c1_i32_162
  let c8_i32_163 : BitVec 32 := 8#32
  let v321 : BitVec 32 := Scalar.muli v320 c8_i32_163
  let v322 : BitVec 32 := Scalar.subi v318 v321
  let c64_i32_164 : BitVec 32 := 64#32
  let v323 : BitVec 32 := Scalar.muli v322 c64_i32_164
  v323
def k0_mult6 (i : grid0.Coords) : BitVec 32 :=
  let c120_i32_193 : BitVec 32 := 120#32
  let c0_i32_192 : BitVec 32 := 0#32
  let arg2 : BitVec 32 := BitVec.ofNat 32 (i 2).val
  let c8_i32_190 : BitVec 32 := 8#32
  let v384 : BitVec 32 := Scalar.muli arg2 c8_i32_190
  let c5_i32 : BitVec 32 := 5#32
  let v385 : BitVec 32 := Scalar.addi v384 c5_i32
  let c4_i32_191 : BitVec 32 := 4#32
  let v386 : BitVec 32 := Scalar.subi v385 c4_i32_191
  let v387 : BitVec 32 := Scalar.maxsi c0_i32_192 v386
  let v388 : BitVec 32 := Scalar.minsi c120_i32_193 v387
  let c1_i32_194 : BitVec 32 := 1#32
  let v390 : BitVec 32 := Scalar.subi arg2 c1_i32_194
  let c8_i32_195 : BitVec 32 := 8#32
  let v391 : BitVec 32 := Scalar.muli v390 c8_i32_195
  let v392 : BitVec 32 := Scalar.subi v388 v391
  let c64_i32_196 : BitVec 32 := 64#32
  let v393 : BitVec 32 := Scalar.muli v392 c64_i32_196
  v393
def k0_mult7 (i : grid0.Coords) : BitVec 32 :=
  let c120_i32_225 : BitVec 32 := 120#32
  let c0_i32_224 : BitVec 32 := 0#32
  let arg2 : BitVec 32 := BitVec.ofNat 32 (i 2).val
  let c8_i32_222 : BitVec 32 := 8#32
  let v454 : BitVec 32 := Scalar.muli arg2 c8_i32_222
  let c6_i32 : BitVec 32 := 6#32
  let v455 : BitVec 32 := Scalar.addi v454 c6_i32
  let c4_i32_223 : BitVec 32 := 4#32
  let v456 : BitVec 32 := Scalar.subi v455 c4_i32_223
  let v457 : BitVec 32 := Scalar.maxsi c0_i32_224 v456
  let v458 : BitVec 32 := Scalar.minsi c120_i32_225 v457
  let c1_i32_226 : BitVec 32 := 1#32
  let v460 : BitVec 32 := Scalar.subi arg2 c1_i32_226
  let c8_i32_227 : BitVec 32 := 8#32
  let v461 : BitVec 32 := Scalar.muli v460 c8_i32_227
  let v462 : BitVec 32 := Scalar.subi v458 v461
  let c64_i32_228 : BitVec 32 := 64#32
  let v463 : BitVec 32 := Scalar.muli v462 c64_i32_228
  v463
def k0_mult8 (i : grid0.Coords) : BitVec 32 :=
  let c120_i32_257 : BitVec 32 := 120#32
  let c0_i32_256 : BitVec 32 := 0#32
  let arg2 : BitVec 32 := BitVec.ofNat 32 (i 2).val
  let c8_i32_254 : BitVec 32 := 8#32
  let v524 : BitVec 32 := Scalar.muli arg2 c8_i32_254
  let c7_i32 : BitVec 32 := 7#32
  let v525 : BitVec 32 := Scalar.addi v524 c7_i32
  let c4_i32_255 : BitVec 32 := 4#32
  let v526 : BitVec 32 := Scalar.subi v525 c4_i32_255
  let v527 : BitVec 32 := Scalar.maxsi c0_i32_256 v526
  let v528 : BitVec 32 := Scalar.minsi c120_i32_257 v527
  let c1_i32_258 : BitVec 32 := 1#32
  let v530 : BitVec 32 := Scalar.subi arg2 c1_i32_258
  let c8_i32_259 : BitVec 32 := 8#32
  let v531 : BitVec 32 := Scalar.muli v530 c8_i32_259
  let v532 : BitVec 32 := Scalar.subi v528 v531
  let c64_i32_260 : BitVec 32 := 64#32
  let v533 : BitVec 32 := Scalar.muli v532 c64_i32_260
  v533
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg1.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c_m1_i32 : BitVec 32 := 4294967295#32
  let v0 : BitVec 32 := Scalar.addi arg2 c_m1_i32
  let c0_i32 : BitVec 32 := 0#32
  let c15_i32 : BitVec 32 := 15#32
  let v1 : BitVec 32 := Scalar.maxsi c0_i32 v0
  let v2 : BitVec 32 := Scalar.minsi c15_i32 v1
  let c4_i32 : BitVec 32 := 4#32
  let v3 : BitVec 32 := Scalar.addi c4_i32 arg0
  let c0_i32_0 : BitVec 32 := 0#32
  ![arg1.toNat, v2.toNat, v3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c15_i32 : BitVec 32 := 15#32
  let v1 : BitVec 32 := Scalar.maxsi c0_i32_0 v0
  let v2 : BitVec 32 := Scalar.minsi c15_i32 v1
  let c4_i32 : BitVec 32 := 4#32
  let v3 : BitVec 32 := Scalar.addi c4_i32 arg0
  let c0_i32_1 : BitVec 32 := 0#32
  ![arg1.toNat, v2.toNat, v3.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c0_i32 : BitVec 32 := 0#32
  let c15_i32 : BitVec 32 := 15#32
  let v1 : BitVec 32 := Scalar.maxsi c0_i32 v0
  let v2 : BitVec 32 := Scalar.minsi c15_i32 v1
  let c4_i32 : BitVec 32 := 4#32
  let v3 : BitVec 32 := Scalar.addi c4_i32 arg0
  let c0_i32_0 : BitVec 32 := 0#32
  ![arg1.toNat, v2.toNat, v3.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c_m1_i32 : BitVec 32 := 4294967295#32
  let v0 : BitVec 32 := Scalar.addi arg2 c_m1_i32
  let c0_i32 : BitVec 32 := 0#32
  let c15_i32 : BitVec 32 := 15#32
  let v1 : BitVec 32 := Scalar.maxsi c0_i32 v0
  let v2 : BitVec 32 := Scalar.minsi c15_i32 v1
  let c8_i32 : BitVec 32 := 8#32
  let v3 : BitVec 32 := Scalar.addi c8_i32 arg0
  let c0_i32_0 : BitVec 32 := 0#32
  ![arg1.toNat, v2.toNat, v3.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c15_i32 : BitVec 32 := 15#32
  let v1 : BitVec 32 := Scalar.maxsi c0_i32_0 v0
  let v2 : BitVec 32 := Scalar.minsi c15_i32 v1
  let c8_i32 : BitVec 32 := 8#32
  let v3 : BitVec 32 := Scalar.addi c8_i32 arg0
  let c0_i32_1 : BitVec 32 := 0#32
  ![arg1.toNat, v2.toNat, v3.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c0_i32 : BitVec 32 := 0#32
  let c15_i32 : BitVec 32 := 15#32
  let v1 : BitVec 32 := Scalar.maxsi c0_i32 v0
  let v2 : BitVec 32 := Scalar.minsi c15_i32 v1
  let c8_i32 : BitVec 32 := 8#32
  let v3 : BitVec 32 := Scalar.addi c8_i32 arg0
  let c0_i32_0 : BitVec 32 := 0#32
  ![arg1.toNat, v2.toNat, v3.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S16x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S16x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 2 → Memref sig .tc .vmem S2x8x64x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]

abbrev stage0_10 : Fin 2 → Memref sig .tc .vmem S1x128x16 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false, false]

abbrev stage0_11 : Fin 2 → Memref sig .tc .vmem S1x512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]
-- ==== NaReferenceIdeal.lean ====
abbrev S8x8192x3072 : Shape := ⟨3, ![8, 8192, 3072]⟩
abbrev S16x3072 : Shape := ⟨2, ![16, 3072]⟩
abbrev S8x8x64x512 : Shape := ⟨4, ![8, 8, 64, 512]⟩
abbrev S4x128x16 : Shape := ⟨3, ![4, 128, 16]⟩
abbrev S8x8192x512 : Shape := ⟨3, ![8, 8192, 512]⟩
abbrev S8x128x64x8x64 : Shape := ⟨5, ![8, 128, 64, 8, 64]⟩
abbrev S8x8192x1024 : Shape := ⟨3, ![8, 8192, 1024]⟩
abbrev S8x128x64x1024 : Shape := ⟨4, ![8, 128, 64, 1024]⟩
abbrev S8x121x64x1024 : Shape := ⟨4, ![8, 121, 64, 1024]⟩
abbrev S8x121x512x1024 : Shape := ⟨4, ![8, 121, 512, 1024]⟩
abbrev S8x1x512x1024 : Shape := ⟨4, ![8, 1, 512, 1024]⟩
abbrev S8x4x512x1024 : Shape := ⟨4, ![8, 4, 512, 1024]⟩
abbrev S8x3x512x1024 : Shape := ⟨4, ![8, 3, 512, 1024]⟩
abbrev S8x128x512x1024 : Shape := ⟨4, ![8, 128, 512, 1024]⟩
abbrev S16x512 : Shape := ⟨2, ![16, 512]⟩
abbrev S16x8x64 : Shape := ⟨3, ![16, 8, 64]⟩
abbrev S8x128x512x512 : Shape := ⟨4, ![8, 128, 512, 512]⟩
abbrev S8x128x512x8x64 : Shape := ⟨5, ![8, 128, 512, 8, 64]⟩
abbrev S8x1x64x512 : Shape := ⟨4, ![8, 1, 64, 512]⟩
abbrev S8x121x64x512 : Shape := ⟨4, ![8, 121, 64, 512]⟩
abbrev S8x4x64x512 : Shape := ⟨4, ![8, 4, 64, 512]⟩
abbrev S8x3x64x512 : Shape := ⟨4, ![8, 3, 64, 512]⟩
abbrev S8x128x64x512 : Shape := ⟨4, ![8, 128, 64, 512]⟩
abbrev S8x64x16 : Shape := ⟨3, ![8, 64, 16]⟩
abbrev S8x8x128x64x512 : Shape := ⟨5, ![8, 8, 128, 64, 512]⟩
abbrev S1x8x128x64x512 : Shape := ⟨5, ![1, 8, 128, 64, 512]⟩
abbrev S8x16x8x128x64 : Shape := ⟨5, ![8, 16, 8, 128, 64]⟩
abbrev S8x8x128x64x16 : Shape := ⟨5, ![8, 8, 128, 64, 16]⟩
abbrev S1x8x1x64x16 : Shape := ⟨5, ![1, 8, 1, 64, 16]⟩
abbrev S8x8x128x64x528 : Shape := ⟨5, ![8, 8, 128, 64, 528]⟩
abbrev S_ : Shape := ⟨0, ![]⟩
abbrev S8x8x128x64 : Shape := ⟨4, ![8, 8, 128, 64]⟩
abbrev S8x8x128x64x1 : Shape := ⟨5, ![8, 8, 128, 64, 1]⟩
abbrev S8x128x8x64x64 : Shape := ⟨5, ![8, 128, 8, 64, 64]⟩
abbrev S8x64x8x128x64 : Shape := ⟨5, ![8, 64, 8, 128, 64]⟩

abbrev nBuf : Space → Nat
  | .hbm => 71
  | .vmem => 0
  | .smem => 0
  | _ => 0

abbrev bufTy : (tb : Table) → Fin (tcTables nBuf tb) → BufTy
  | .hbm, ⟨0, _⟩ => ⟨S8x8192x3072, .bf16⟩
  | .hbm, ⟨1, _⟩ => ⟨S16x3072, .bf16⟩
  | .hbm, ⟨2, _⟩ => ⟨S8x8x64x512, .f32⟩
  | .hbm, ⟨3, _⟩ => ⟨S4x128x16, .f32⟩
  | .hbm, ⟨4, _⟩ => ⟨S8x8192x3072, .f32⟩
  | .hbm, ⟨5, _⟩ => ⟨S16x3072, .f32⟩
  | .hbm, ⟨6, _⟩ => ⟨S8x8192x512, .f32⟩
  | .hbm, ⟨7, _⟩ => ⟨S8x128x64x8x64, .f32⟩
  | .hbm, ⟨8, _⟩ => ⟨S8x8192x1024, .f32⟩
  | .hbm, ⟨9, _⟩ => ⟨S8x128x64x1024, .f32⟩
  | .hbm, ⟨10, _⟩ => ⟨S8x121x64x1024, .f32⟩
  | .hbm, ⟨11, _⟩ => ⟨S8x121x64x1024, .f32⟩
  | .hbm, ⟨12, _⟩ => ⟨S8x121x64x1024, .f32⟩
  | .hbm, ⟨13, _⟩ => ⟨S8x121x64x1024, .f32⟩
  | .hbm, ⟨14, _⟩ => ⟨S8x121x64x1024, .f32⟩
  | .hbm, ⟨15, _⟩ => ⟨S8x121x64x1024, .f32⟩
  | .hbm, ⟨16, _⟩ => ⟨S8x121x64x1024, .f32⟩
  | .hbm, ⟨17, _⟩ => ⟨S8x121x64x1024, .f32⟩
  | .hbm, ⟨18, _⟩ => ⟨S8x121x512x1024, .f32⟩
  | .hbm, ⟨19, _⟩ => ⟨S8x1x512x1024, .f32⟩
  | .hbm, ⟨20, _⟩ => ⟨S8x4x512x1024, .f32⟩
  | .hbm, ⟨21, _⟩ => ⟨S8x1x512x1024, .f32⟩
  | .hbm, ⟨22, _⟩ => ⟨S8x3x512x1024, .f32⟩
  | .hbm, ⟨23, _⟩ => ⟨S8x128x512x1024, .f32⟩
  | .hbm, ⟨24, _⟩ => ⟨S16x512, .f32⟩
  | .hbm, ⟨25, _⟩ => ⟨S16x8x64, .f32⟩
  | .hbm, ⟨26, _⟩ => ⟨S16x512, .f32⟩
  | .hbm, ⟨27, _⟩ => ⟨S16x8x64, .f32⟩
  | .hbm, ⟨28, _⟩ => ⟨S8x128x512x512, .f32⟩
  | .hbm, ⟨29, _⟩ => ⟨S8x128x512x8x64, .f32⟩
  | .hbm, ⟨30, _⟩ => ⟨S8x128x512x512, .f32⟩
  | .hbm, ⟨31, _⟩ => ⟨S8x128x512x8x64, .f32⟩
  | .hbm, ⟨32, _⟩ => ⟨S8x1x64x512, .f32⟩
  | .hbm, ⟨33, _⟩ => ⟨S8x121x64x512, .f32⟩
  | .hbm, ⟨34, _⟩ => ⟨S8x4x64x512, .f32⟩
  | .hbm, ⟨35, _⟩ => ⟨S8x3x64x512, .f32⟩
  | .hbm, ⟨36, _⟩ => ⟨S8x128x64x512, .f32⟩
  | .hbm, ⟨37, _⟩ => ⟨S8x64x16, .f32⟩
  | .hbm, ⟨38, _⟩ => ⟨S8x8x128x64x512, .f32⟩
  | .hbm, ⟨39, _⟩ => ⟨S1x8x128x64x512, .f32⟩
  | .hbm, ⟨40, _⟩ => ⟨S8x8x128x64x512, .f32⟩
  | .hbm, ⟨41, _⟩ => ⟨S8x8x128x64x512, .f32⟩
  | .hbm, ⟨42, _⟩ => ⟨S8x16x8x128x64, .f32⟩
  | .hbm, ⟨43, _⟩ => ⟨S8x8x128x64x16, .f32⟩
  | .hbm, ⟨44, _⟩ => ⟨S1x8x1x64x16, .f32⟩
  | .hbm, ⟨45, _⟩ => ⟨S8x8x128x64x16, .f32⟩
  | .hbm, ⟨46, _⟩ => ⟨S8x8x128x64x16, .f32⟩
  | .hbm, ⟨47, _⟩ => ⟨S8x8x128x64x528, .f32⟩
  | .hbm, ⟨48, _⟩ => ⟨S_, .f32⟩
  | .hbm, ⟨49, _⟩ => ⟨S8x8x128x64, .f32⟩
  | .hbm, ⟨50, _⟩ => ⟨S_, .f32⟩
  | .hbm, ⟨51, _⟩ => ⟨S8x8x128x64, .f32⟩
  | .hbm, ⟨52, _⟩ => ⟨S8x8x128x64, .f32⟩
  | .hbm, ⟨53, _⟩ => ⟨S8x8x128x64x1, .f32⟩
  | .hbm, ⟨54, _⟩ => ⟨S8x8x128x64x528, .f32⟩
  | .hbm, ⟨55, _⟩ => ⟨S8x8x128x64x528, .f32⟩
  | .hbm, ⟨56, _⟩ => ⟨S8x8x128x64x528, .f32⟩
  | .hbm, ⟨57, _⟩ => ⟨S_, .f32⟩
  | .hbm, ⟨58, _⟩ => ⟨S8x8x128x64, .f32⟩
  | .hbm, ⟨59, _⟩ => ⟨S8x8x128x64x1, .f32⟩
  | .hbm, ⟨60, _⟩ => ⟨S8x8x128x64x528, .f32⟩
  | .hbm, ⟨61, _⟩ => ⟨S8x8x128x64x528, .f32⟩
  | .hbm, ⟨62, _⟩ => ⟨S8x8x128x64x512, .f32⟩
  | .hbm, ⟨63, _⟩ => ⟨S8x8x128x64x16, .f32⟩
  | .hbm, ⟨64, _⟩ => ⟨S8x128x8x64x64, .f32⟩
  | .hbm, ⟨65, _⟩ => ⟨S8x128x64x8x64, .f32⟩
  | .hbm, ⟨66, _⟩ => ⟨S8x64x8x128x64, .f32⟩
  | .hbm, ⟨67, _⟩ => ⟨S8x128x64x8x64, .f32⟩
  | .hbm, ⟨68, _⟩ => ⟨S8x128x64x8x64, .f32⟩
  | .hbm, ⟨69, _⟩ => ⟨S8x8192x512, .f32⟩
  | .hbm, ⟨70, _⟩ => ⟨S8x8192x512, .bf16⟩
  | _, _ => ⟨S8x8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_cst : Ref sig .tc := ⟨.hbm, 48, rfl⟩
abbrev main_v44 : Ref sig .tc := ⟨.hbm, 49, rfl⟩
abbrev main_cst_0 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_cst_1 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩

abbrev nD : Nat := 1
abbrev τ : Topo := Topo.v7x

variable {F : FTy → Type} [FloatOps F]
-- ==== Proof.AttnCases.lean ====
/-
  What one grid point of the attention leaves behind, in terms of what the point before left. The kernel carries four
  buffers: the two masked copies of the queries, the running row maxima, the running totals and the running weighted
  totals. The first of eight points fills all four from the sixteen meta keys and then takes its block of keys; the
  others take their block; the last also writes the output.
-/
module

public import proofs.«01_k».proof.Proof.Gen.KernelIdeal.Frame
public import Idealize.ShloMosaic.Lib.Pipeline.Value
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.Proof.AttnCases

open Cert.KernelIdeal Cert.KernelIdeal.Gen

variable {F : FTy → Type} [FloatOps F]
variable (m : (ℓ : Loc nD τ sig) → Buf (Elt F) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- What the carried buffers hold after point `n`: queries, maxima, totals, weighted totals. -/
abbrev qq (c : Dev nD) (n : ℕ) (h : n < cfg0.N) := (outsAt0 m c n h).2.1
abbrev mx (c : Dev nD) (n : ℕ) (h : n < cfg0.N) := (outsAt0 m c n h).2.2.1
abbrev tot (c : Dev nD) (n : ℕ) (h : n < cfg0.N) := (outsAt0 m c n h).2.2.2.1
abbrev acc (c : Dev nD) (n : ℕ) (h : n < cfg0.N) := (outsAt0 m c n h).2.2.2.2

/-- The maxima, totals and weighted totals that the sixteen meta keys alone give. -/
abbrev mx0 (c : Dev nD) (t : Fin cfg0.N) : Vec F S1024x1 .f32 := k0_pay9 (iblk m c 0 t) (iblk m c 3 t)
abbrev tot0 (c : Dev nD) (t : Fin cfg0.N) : Vec F S1024x1 .f32 := k0_pay10 (iblk m c 0 t) (iblk m c 3 t)
abbrev acc0 (c : Dev nD) (t : Fin cfg0.N) : Vec F S1024x128 .f32 := k0_pay13 (k0_pay11 (iblk m c 0 t) (iblk m c 3 t) (iblk m c 4 t))
abbrev qq0 (c : Dev nD) (t : Fin cfg0.N) : Vec F S1024x128 .bf16 := k0_pay5 (iblk m c 0 t)

/-- After a first point the queries' buffer holds the two masked copies of its query block. -/
theorem qq_A (c : Dev nD) (t : Fin cfg0.N) (h0 : t.val % 8 = 0) (h1 : ¬t.val % 8 = 7) :
    qq m c t.val t.isLt = qq0 m c t := by
  unfold qq; rw [outsAt0_A m c t h0 h1]; dsimp only
  unfold sout0_A_0
  rw [View.read_writes_eq_canon _ _ _ (fun y => scover0_A_0 _ _ _ _ _ _ _ _ _ _ _ _ _ _ _ _ _ _ _ _ _ _ _ _ _ _ _ _ _ _ _ _ _ _ _ _ _ _ _ _ _ _ _ _ y)]
  unfold kernelRun0_A; dsimp only; sl_unfold_words
  rw [View.canon_unit_zero hz2]
  simp only [View.readAt_eq_ld, (hs0_0 t).read_unread, View.ld_unit_zero (S := S1x512x128) hz3]

/-- After a first point the maxima are those of the meta keys raised by the point's block. -/
theorem mx_A (c : Dev nD) (t : Fin cfg0.N) (h0 : t.val % 8 = 0) (h1 : ¬t.val % 8 = 7) :
    mx m c t.val t.isLt = k0_pay2 (k0_pay15 (qq0 m c t) (iblk m c 1 t) (mx0 m c t)) := by
  unfold mx; rw [outsAt0_A m c t h0 h1]; dsimp only
  unfold sout0_A_1
  rw [View.read_writes_eq_canon _ _ _ (fun y => scover0_A_1 _ _ _ _ _ _ _ _ _ _ _ _ _ _ _ _ _ _ _ _ _ _ _ _ _ _ _ _ _ _ _ _ _ _ _ _ _ _ _ _ _ _ _ _ y)]
  unfold kernelRun0_A; dsimp only; sl_unfold_words
  rw [View.canon_cons_unit_zero (S := S1024x1) hz2, View.readCov_unit_zero (S := S1024x1) _ hz2, View.readCov_unit_zero (S := S1024x128) _ hz2]
  simp only [View.readAt_eq_ld, (hs0_0 t).read_unread, (hs0_1 t).read_unread, (hs0_3 t).read_unread, View.ld_unit_zero (S := S1x512x128) hz3, View.ld_unit_zero (S := S1x1024x128) hz3, View.ld_unit_zero (S := S16x128) hz2]

theorem tot_A (c : Dev nD) (t : Fin cfg0.N) (h0 : t.val % 8 = 0) (h1 : ¬t.val % 8 = 7) :
    tot m c t.val t.isLt = k0_pay18 (qq0 m c t) (iblk m c 1 t) (mx0 m c t) (tot0 m c t) := by
  unfold tot; rw [outsAt0_A m c t h0 h1]; dsimp only
  unfold sout0_A_2
  rw [View.read_writes_eq_canon _ _ _ (fun y => scover0_A_2 _ _ _ _ _ _ _ _ _ _ _ _ _ _ _ _ _ _ _ _ _ _ _ _ _ _ _ _ _ _ _ _ _ _ _ _ _ _ _ _ _ _ _ _ y)]
  unfold kernelRun0_A; dsimp only; sl_unfold_words
  rw [View.canon_cons_unit_zero (S := S1024x1) hz2]
  simp only [View.readCov_unit_zero (S := S1024x1) _ hz2, View.readCov_unit_zero (S := S1024x128) _ hz2, View.readAt_eq_ld, (hs0_0 t).read_unread, (hs0_1 t).read_unread, (hs0_3 t).read_unread, View.ld_unit_zero (S := S1x512x128) hz3, View.ld_unit_zero (S := S1x1024x128) hz3, View.ld_unit_zero (S := S16x128) hz2]

theorem acc_A (c : Dev nD) (t : Fin cfg0.N) (h0 : t.val % 8 = 0) (h1 : ¬t.val % 8 = 7) :
    acc m c t.val t.isLt = k0_pay1 (k0_pay19 (qq0 m c t) (iblk m c 1 t) (mx0 m c t) (acc0 m c t) (iblk m c 2 t)) := by
  unfold acc; rw [outsAt0_A m c t h0 h1]; dsimp only
  unfold sout0_A_3
  rw [View.read_writes_eq_canon _ _ _ (fun y => scover0_A_3 _ _ _ _ _ _ _ _ _ _ _ _ _ _ _ _ _ _ _ _ _ _ _ _ _ _ _ _ _ _ _ _ _ _ _ _ _ _ _ _ _ _ _ _ y)]
  unfold kernelRun0_A; dsimp only; sl_unfold_words
  rw [View.canon_cons_unit_zero (S := S1024x128) hz2]
  simp only [View.readCov_unit_zero (S := S1024x1) _ hz2, View.readCov_unit_zero (S := S1024x128) _ hz2, View.readAt_eq_ld, (hs0_0 t).read_unread, (hs0_1 t).read_unread, (hs0_2 t).read_unread, (hs0_3 t).read_unread, (hs0_4 t).read_unread, View.ld_unit_zero (S := S1x512x128) hz3, View.ld_unit_zero (S := S1x1024x128) hz3, View.ld_unit_zero (S := S16x128) hz2]

/-- The point before. -/
abbrev lt' (t : Fin cfg0.N) : t.val - 1 < cfg0.N := Nat.lt_of_le_of_lt (Nat.sub_le _ _) t.isLt

/-- A middle point keeps the queries. -/
theorem qq_B (c : Dev nD) (t : Fin cfg0.N) (h0 : ¬t.val % 8 = 0) (h1 : ¬t.val % 8 = 7) :
    qq m c t.val t.isLt = qq m c (t.val - 1) (lt' t) := by
  unfold qq; rw [outsAt0_B m c t h0 h1]; rfl

theorem mx_B (c : Dev nD) (t : Fin cfg0.N) (h0 : ¬t.val % 8 = 0) (h1 : ¬t.val % 8 = 7) :
    mx m c t.val t.isLt = k0_pay2 (k0_pay15 (qq m c (t.val - 1) (lt' t)) (iblk m c 1 t) (mx m c (t.val - 1) (lt' t))) := by
  unfold mx; rw [outsAt0_B m c t h0 h1]; dsimp only
  unfold sout0_B_1
  rw [View.read_writes_eq_canon _ _ _ (fun y => scover0_B_1 _ _ _ _ _ _ _ _ _ _ _ _ _ _ _ _ _ _ _ _ _ _ _ _ _ _ _ _ _ _ _ _ _ _ _ _ _ _ _ _ _ _ _ _ _ _ _ _ y)]
  unfold kernelRun0_B; dsimp only; sl_unfold_words
  rw [View.canon_unit_zero hz2]
  simp only [View.readAt_eq_ld, (hs0_1 t).read_unread, (Memref.isWhole_whole _).read_unread, View.ld_unit_zero (S := S1x1024x128) hz3, View.ld_unit_zero (S := S1024x128) hz2, View.ld_unit_zero (S := S1024x1) hz2]

theorem tot_B (c : Dev nD) (t : Fin cfg0.N) (h0 : ¬t.val % 8 = 0) (h1 : ¬t.val % 8 = 7) :
    tot m c t.val t.isLt = k0_pay18 (qq m c (t.val - 1) (lt' t)) (iblk m c 1 t) (mx m c (t.val - 1) (lt' t)) (tot m c (t.val - 1) (lt' t)) := by
  unfold tot; rw [outsAt0_B m c t h0 h1]; dsimp only
  unfold sout0_B_2
  rw [View.read_writes_eq_canon _ _ _ (fun y => scover0_B_2 _ _ _ _ _ _ _ _ _ _ _ _ _ _ _ _ _ _ _ _ _ _ _ _ _ _ _ _ _ _ _ _ _ _ _ _ _ _ _ _ _ _ _ _ _ _ _ _ y)]
  unfold kernelRun0_B; dsimp only; sl_unfold_words
  rw [View.canon_unit_zero hz2]
  simp only [View.readAt_eq_ld, (hs0_1 t).read_unread, (Memref.isWhole_whole _).read_unread, View.ld_unit_zero (S := S1x1024x128) hz3, View.ld_unit_zero (S := S1024x128) hz2, View.ld_unit_zero (S := S1024x1) hz2]

theorem acc_B (c : Dev nD) (t : Fin cfg0.N) (h0 : ¬t.val % 8 = 0) (h1 : ¬t.val % 8 = 7) :
    acc m c t.val t.isLt = k0_pay1 (k0_pay19 (qq m c (t.val - 1) (lt' t)) (iblk m c 1 t) (mx m c (t.val - 1) (lt' t)) (acc m c (t.val - 1) (lt' t)) (iblk m c 2 t)) := by
  unfold acc; rw [outsAt0_B m c t h0 h1]; dsimp only
  unfold sout0_B_3
  rw [View.read_writes_eq_canon _ _ _ (fun y => scover0_B_3 _ _ _ _ _ _ _ _ _ _ _ _ _ _ _ _ _ _ _ _ _ _ _ _ _ _ _ _ _ _ _ _ _ _ _ _ _ _ _ _ _ _ _ _ _ _ _ _ y)]
  unfold kernelRun0_B; dsimp only; sl_unfold_words
  rw [View.canon_unit_zero hz2]
  simp only [View.readAt_eq_ld, (hs0_1 t).read_unread, (hs0_2 t).read_unread, (Memref.isWhole_whole _).read_unread, View.ld_unit_zero (S := S1x1024x128) hz3, View.ld_unit_zero (S := S1024x128) hz2, View.ld_unit_zero (S := S1024x1) hz2]

/-- A last point writes the output from the totals and weighted totals that its own block of keys completes. -/
theorem out_C (c : Dev nD) (t : Fin cfg0.N) (h0 : ¬t.val % 8 = 0) (h1 : t.val % 8 = 7) :
    (outsAt0 m c t.val t.isLt).1
      = k0_pay3 (k0_pay12 (iblk m c 5 t) (iblk m c 6 t) (iblk m c 7 t) (iblk m c 8 t)
          (k0_pay1 (k0_pay19 (qq m c (t.val - 1) (lt' t)) (iblk m c 1 t) (mx m c (t.val - 1) (lt' t)) (acc m c (t.val - 1) (lt' t)) (iblk m c 2 t)))
          (k0_pay18 (qq m c (t.val - 1) (lt' t)) (iblk m c 1 t) (mx m c (t.val - 1) (lt' t)) (tot m c (t.val - 1) (lt' t)))
          (iblk m c 9 t)) := by
  rw [outsAt0_C m c t h0 h1]; dsimp only
  unfold out0_C_10
  rw [View.read_writes_eq_canon _ _ _ (fun y => cover0_C_10 _ _ _ _ _ _ _ _ _ _ _ _ _ _ _ _ _ _ _ _ _ _ _ _ _ _ _ _ _ _ _ _ _ _ _ _ _ _ _ _ _ _ _ _ _ _ _ _ y)]
  unfold kernelRun0_C; dsimp only; sl_unfold_words
  rw [View.canon_unit_zero hz3]
  simp only [View.readCov_unit_zero (S := S1024x1) _ hz2, View.readCov_unit_zero (S := S1024x128) _ hz2, View.readAt_eq_ld, (hs0_1 t).read_unread, (hs0_2 t).read_unread, (hs0_5 t).read_unread, (hs0_6 t).read_unread, (hs0_7 t).read_unread, (hs0_8 t).read_unread, (hs0_9 t).read_unread, (Memref.isWhole_whole _).read_unread, View.ld_unit_zero (S := S1x1024x128) hz3, View.ld_unit_zero (S := S1024x128) hz2, View.ld_unit_zero (S := S1024x1) hz2, View.ld_unit_zero (S := S1x64) hz2, View.ld_unit_zero (S := S1x128) hz2]

end Cert.Proof.AttnCases

end
-- ==== Proof.AttnMath.lean ====
/-
  The mathematics of the running softmax, on real numbers inside the extended reals. Scores `s n` and values `v n` are
  real and counted by natural numbers; after the first `a` keys the kernel holds some real shift `M`, the total
  `Σ_{n<a} exp (s n − M)` and the weighted total `Σ_{n<a} exp (s n − M) · v n`. Changing the shift and adding a block of
  keys keeps that form (`step`, `step_one`), and the quotient of the two totals does not depend on the shift (`ratio`).
-/
module

public import Idealize.ShloMosaic.PureOps.Ideal
public import Mathlib.Data.EReal.Basic
public import Mathlib.Algebra.BigOperators.Intervals

@[expose] public section

noncomputable section

namespace Cert.Proof.AttnMath

open Idealize.ShloMosaic
open scoped BigOperators

/-- A sum of reals, as an extended real. -/
theorem coe_sum {ι : Type*} (S : Finset ι) (f : ι → ℝ) : ((∑ i ∈ S, f i : ℝ) : EReal) = ∑ i ∈ S, (f i : EReal) := by
  classical
  induction S using Finset.induction_on with
  | empty => simp
  | insert i S hi ih => rw [Finset.sum_insert hi, Finset.sum_insert hi, EReal.coe_add, ih]

/-- The maximum of finitely many (at least one) reals, folded from `⊥`, is a real. -/
theorem fold_max_real {T : ℕ} (hT : 0 < T) (S : Fin T → EReal) (s : Fin T → ℝ) (hS : ∀ k, S k = s k) :
    ∃ M : ℝ, Finset.univ.fold max (⊥ : EReal) S = M := by
  have hne : (Finset.univ : Finset (Fin T)).Nonempty := ⟨⟨0, hT⟩, Finset.mem_univ _⟩
  obtain ⟨k, -, hk⟩ := Finset.exists_mem_eq_sup (Finset.univ : Finset (Fin T)) hne S
  exact ⟨s k, (show Finset.univ.fold max (⊥ : EReal) S = Finset.univ.sup S from rfl).trans (hk.trans (hS k))⟩

/-- The larger of two reals is a real. -/
theorem max_real (x y : ℝ) : ∃ M : ℝ, max (x : EReal) (y : EReal) = M := ⟨max x y, (EReal.coe_strictMono.monotone.map_max (a := x) (b := y)).symm⟩

/-- An exponential of a difference of reals. -/
theorem exp_sub (x y : ℝ) : Ideal.exp ((x : EReal) - (y : EReal)) = (Real.exp (x - y) : EReal) := by
  rw [← EReal.coe_sub, Ideal.exp_coe]

/-- The weighted total after one more block of `T` keys and a change of shift from `M` to `M'`. -/
theorem step (s v : ℕ → ℝ) (a T : ℕ) (M M' : ℝ) (S V : Fin T → EReal) (hS : ∀ k, S k = s (a + k.val)) (hV : ∀ k, V k = v (a + k.val)) :
    Ideal.exp ((M : EReal) - (M' : EReal)) * ((∑ n ∈ Finset.range a, Real.exp (s n - M) * v n : ℝ) : EReal)
        + ∑ k : Fin T, Ideal.exp (S k - (M' : EReal)) * V k
      = ((∑ n ∈ Finset.range (a + T), Real.exp (s n - M') * v n : ℝ) : EReal) := by
  simp only [hS, hV, exp_sub]
  rw [Finset.sum_range_add, EReal.coe_add, ← EReal.coe_mul, Finset.mul_sum]
  congr 1
  · congr 1
    refine Finset.sum_congr rfl fun n _ => ?_
    rw [← mul_assoc, ← Real.exp_add]
    congr 2; ring
  · rw [Finset.sum_range (f := fun x => Real.exp (s (a + x) - M') * v (a + x)), coe_sum]
    exact Finset.sum_congr rfl fun k _ => (EReal.coe_mul _ _).symm

/-- The total after one more block: the same with every value one. -/
theorem step_one (s : ℕ → ℝ) (a T : ℕ) (M M' : ℝ) (S : Fin T → EReal) (hS : ∀ k, S k = s (a + k.val)) :
    Ideal.exp ((M : EReal) - (M' : EReal)) * ((∑ n ∈ Finset.range a, Real.exp (s n - M) : ℝ) : EReal)
        + ∑ k : Fin T, Ideal.exp (S k - (M' : EReal))
      = ((∑ n ∈ Finset.range (a + T), Real.exp (s n - M') : ℝ) : EReal) := by
  have h := step s (fun _ => 1) a T M M' S (fun _ => 1) hS (fun _ => by simp)
  simpa only [mul_one] using h

/-- The first block: from nothing. -/
theorem start (s v : ℕ → ℝ) (T : ℕ) (M' : ℝ) (S V : Fin T → EReal) (hS : ∀ k, S k = s k.val) (hV : ∀ k, V k = v k.val) :
    ∑ k : Fin T, Ideal.exp (S k - (M' : EReal)) * V k = ((∑ n ∈ Finset.range T, Real.exp (s n - M') * v n : ℝ) : EReal) := by
  have h := step s v 0 T M' M' S V (fun k => by rw [hS, Nat.zero_add]) (fun k => by rw [hV, Nat.zero_add])
  simpa using h

theorem start_one (s : ℕ → ℝ) (T : ℕ) (M' : ℝ) (S : Fin T → EReal) (hS : ∀ k, S k = s k.val) :
    ∑ k : Fin T, Ideal.exp (S k - (M' : EReal)) = ((∑ n ∈ Finset.range T, Real.exp (s n - M') : ℝ) : EReal) := by
  have h := start s (fun _ => 1) T M' S (fun _ => 1) hS (fun _ => by simp)
  simpa only [mul_one] using h

/-- A quotient of reals by a positive real. -/
theorem div_real (x y : ℝ) (hy : 0 < y) : Ideal.div (x : EReal) (y : EReal) = ((x / y : ℝ) : EReal) := by
  rw [Ideal.div_coe hy.ne', ← EReal.coe_mul]
  congr 1; ring

/-- A total of exponentials over at least one key is positive. -/
theorem total_pos (s : ℕ → ℝ) (N : ℕ) (hN : 0 < N) (M : ℝ) : 0 < ∑ n ∈ Finset.range N, Real.exp (s n - M) :=
  Finset.sum_pos (fun _ _ => Real.exp_pos _) ⟨0, Finset.mem_range.mpr hN⟩

/-- The softmax weight of key `n` among the first `N`. -/
def wt (s : ℕ → ℝ) (N n : ℕ) : ℝ := Real.exp (s n) / ∑ k ∈ Finset.range N, Real.exp (s k)

/-- The softmax weight does not depend on the shift. -/
theorem wt_shift (s : ℕ → ℝ) (N n : ℕ) (M : ℝ) : Real.exp (s n - M) / ∑ k ∈ Finset.range N, Real.exp (s k - M) = wt s N n := by
  unfold wt
  simp only [Real.exp_sub]
  rw [← Finset.sum_div, div_div_div_cancel_right₀ (Real.exp_ne_zero M)]

/-- The quotient of the two totals: the values weighted by softmax. -/
theorem ratio (s v : ℕ → ℝ) (N : ℕ) (hN : 0 < N) (M : ℝ) :
    Ideal.div ((∑ n ∈ Finset.range N, Real.exp (s n - M) * v n : ℝ) : EReal) ((∑ n ∈ Finset.range N, Real.exp (s n - M) : ℝ) : EReal)
      = ((∑ n ∈ Finset.range N, wt s N n * v n : ℝ) : EReal) := by
  rw [div_real _ _ (total_pos s N hN M), Finset.sum_div]
  congr 1
  refine Finset.sum_congr rfl fun n _ => ?_
  rw [← wt_shift s N n M]; ring

/-- One softmax weight, as the quotient the reference takes. -/
theorem weight (s : ℕ → ℝ) (N n : ℕ) (hN : 0 < N) (M : ℝ) :
    Ideal.div (Real.exp (s n - M) : EReal) ((∑ k ∈ Finset.range N, Real.exp (s k - M) : ℝ) : EReal) = (wt s N n : EReal) := by
  rw [div_real _ _ (total_pos s N hN M), wt_shift]

/-- Two softmaxes' weighted values subtracted are the values weighted by the difference of the weights. -/
theorem diff (s0 s1 v : ℕ → ℝ) (N : ℕ) (lam : ℝ) :
    ((∑ n ∈ Finset.range N, wt s0 N n * v n : ℝ) : EReal) - (lam : EReal) * ((∑ n ∈ Finset.range N, wt s1 N n * v n : ℝ) : EReal)
      = ∑ n : Fin N, (v n.val : EReal) * ((wt s0 N n.val : EReal) - (lam : EReal) * (wt s1 N n.val : EReal)) := by
  rw [← EReal.coe_mul, ← EReal.coe_sub, Finset.mul_sum, ← Finset.sum_sub_distrib, Finset.sum_range, coe_sum]
  refine Finset.sum_congr rfl fun n _ => ?_
  rw [← EReal.coe_mul, ← EReal.coe_sub, ← EReal.coe_mul]
  congr 1; ring

end Cert.Proof.AttnMath

end
-- ==== Proof.AttnStep.lean ====
/-
  The attention kernel's vector operations, read at one row and one column.
-/
module

public import proofs.«01_k».proof.Proof.Gen.KernelIdeal.Skeleton
public import Idealize.ShloMosaic.Lib.Pointwise
public import Idealize.ShloMosaic.Lib.ReduceAll
public import Idealize.ShloMosaic.PureOps.Ideal

@[expose] public section

set_option maxRecDepth 16384

noncomputable section

namespace Cert.Proof.AttnStep

open Cert.KernelIdeal Cert.KernelIdeal.Gen Idealize.ShloMosaic
open scoped BigOperators

/-- The pattern the row maxima start from is `−∞`. -/
theorem negInf : Ideal.ofBits FTy.f32 0xFF800000#32 = ⊥ := by
  simp [Ideal.ofBits, Ideal.ieee]

/-- The score of query row `r` against row `n` of a block of keys. -/
def sc {N : ℕ} (Q : (⟨2, ![1024, 128]⟩ : Shape).Idx → EReal) (K : (⟨2, ![N, 128]⟩ : Shape).Idx → EReal) (r : Fin 1024) (n : Fin N) : EReal :=
  ∑ d : Fin 128, Q (ix2 r d) * K (ix2 n d)

/-- A block of keys as a matrix. -/
def mat (K : S1x1024x128.Idx → EReal) : S1024x128.Idx → EReal := fun i => K (ix3 0 (i 0) (i 1))

theorem pay14_apply (Q : Vec Ideal S1024x128 .bf16) (K : Vec Ideal S1x1024x128 .bf16) (r n : Fin 1024) :
    k0_pay14 Q K (ix2 r n) = sc Q (mat K) r n := by
  pointwise [k0_pay14, sc, mat]

/-- The maximum of a row of scores, as the kernel takes it. -/
theorem rowmax_apply (S : FVec Ideal S1024x1024 .f32) (r : Fin 1024) :
    shapeCast S1024x1 (multiReduction .maximumf [1] S1024 S 0xFF800000#32 reduces_S1024x1024_S1024 (.inl rfl) rfl) shapeCasts_S1024_S1024x1 (ix2 r 0)
      = Finset.univ.fold max ⊥ fun n => S (ix2 r n) := by
  pointwise []
  rw [negInf]

theorem pay15_apply (Q : Vec Ideal S1024x128 .bf16) (K : Vec Ideal S1x1024x128 .bf16) (M : Vec Ideal S1024x1 .f32) (r : Fin 1024) :
    k0_pay15 Q K M (ix2 r 0) = max (M (ix2 r 0)) (Finset.univ.fold max ⊥ (sc Q (mat K) r)) :=
  (congrArg (max (M (ix2 r 0))) (rowmax_apply (k0_pay14 Q K) r)).trans
    (congrArg (fun f => max (M (ix2 r 0)) (Finset.univ.fold max ⊥ f)) (funext fun n => pay14_apply Q K r n))

theorem pay18_apply (Q : Vec Ideal S1024x128 .bf16) (K : Vec Ideal S1x1024x128 .bf16) (M L : Vec Ideal S1024x1 .f32) (r : Fin 1024) :
    k0_pay18 Q K M L (ix2 r 0)
      = Ideal.exp (M (ix2 r 0) - k0_pay15 Q K M (ix2 r 0)) * L (ix2 r 0) + ∑ n : Fin 1024, Ideal.exp (sc Q (mat K) r n - k0_pay15 Q K M (ix2 r 0)) := by
  pointwise [k0_pay18, k0_pay16, k0_pay17, pay14_apply]

theorem pay19_apply (Q : Vec Ideal S1024x128 .bf16) (K : Vec Ideal S1x1024x128 .bf16) (M : Vec Ideal S1024x1 .f32) (A : Vec Ideal S1024x128 .f32)
    (V : Vec Ideal S1x1024x128 .bf16) (r : Fin 1024) (e : Fin 128) :
    k0_pay19 Q K M A V (ix2 r e)
      = Ideal.exp (M (ix2 r 0) - k0_pay15 Q K M (ix2 r 0)) * A (ix2 r e)
        + ∑ n : Fin 1024, Ideal.exp (sc Q (mat K) r n - k0_pay15 Q K M (ix2 r 0)) * V (ix3 0 n e) := by
  pointwise [k0_pay19, k0_pay16, k0_pay17, pay14_apply]

theorem pay6_apply (q : Vec Ideal S1x512x128 .bf16) (K : Vec Ideal S16x128 .bf16) (r : Fin 1024) (n : Fin 16) :
    k0_pay6 q K (ix2 r n) = sc (k0_pay4 q) K r n := by
  pointwise [k0_pay6, sc]

theorem pay9_apply (q : Vec Ideal S1x512x128 .bf16) (K : Vec Ideal S16x128 .bf16) (r : Fin 1024) :
    k0_pay9 q K (ix2 r 0) = Finset.univ.fold max ⊥ (sc (k0_pay4 q) K r) := by
  pointwise [k0_pay9, k0_pay7, pay6_apply]
  rw [negInf]

theorem pay10_apply (q : Vec Ideal S1x512x128 .bf16) (K : Vec Ideal S16x128 .bf16) (r : Fin 1024) :
    k0_pay10 q K (ix2 r 0) = ∑ n : Fin 16, Ideal.exp (sc (k0_pay4 q) K r n - k0_pay9 q K (ix2 r 0)) := by
  pointwise [k0_pay10, k0_pay8, k0_pay9, pay6_apply]

theorem pay11_apply (q : Vec Ideal S1x512x128 .bf16) (K V : Vec Ideal S16x128 .bf16) (r : Fin 1024) (e : Fin 128) :
    k0_pay13 (k0_pay11 q K V) (ix2 r e) = ∑ n : Fin 16, Ideal.exp (sc (k0_pay4 q) K r n - k0_pay9 q K (ix2 r 0)) * V (ix2 n e) := by
  pointwise [k0_pay13, k0_pay11, k0_pay8, k0_pay9, pay6_apply]

/-- The bit the kernel tests of a column: whether its 32-wide stripe is even. -/
theorem stripe_bit : ∀ d : Fin 128,
    IntOp.cmpi .eq (IntOp.andi (IntOp.shrsi ArithUnit.vector (BitVec.ofNat 32 d.val) 5#32) 1#32) 0#32 = if (d.val / 32) % 2 = 0 then 1#1 else 0#1 := by
  decide +kernel

/-- The row of the query block that stored row `r` copies. -/
def src (r : Fin 1024) : Fin 512 := ⟨r.val % 512, Nat.mod_lt _ (by norm_num)⟩

/-- The stored queries at row `r` and column `d`: rows below 512 keep the even stripes of the query block, the others the odd. -/
theorem pay4_apply (q : Vec Ideal S1x512x128 .bf16) (r : Fin 1024) (d : Fin 128) :
    k0_pay4 q (ix2 r d) = if (d.val / 32) % 2 = r.val / 512 then q (ix3 0 (src r) d) else 0 := by
  pointwise [k0_pay4]
  rw [stripe_bit d]
  have hr := r.isLt
  by_cases h : r.val < 512
  · have e : src r = ⟨r.val, h⟩ := Fin.ext (Nat.mod_eq_of_lt h)
    have e0 : r.val / 512 = 0 := Nat.div_eq_of_lt h
    rw [dif_pos h, e, e0]
    by_cases hd : d.val / 32 % 2 = 0
    · rw [if_pos hd, if_pos hd]; rfl
    · rw [if_neg hd, if_neg hd]; rfl
  · have e : src r = ⟨r.val - 512, by omega⟩ := Fin.ext (by show r.val % 512 = r.val - 512; omega)
    have e0 : r.val / 512 = 1 := by omega
    rw [dif_neg h, e, e0]
    by_cases hd : d.val / 32 % 2 = 0
    · have hd' : ¬ d.val / 32 % 2 = 1 := fun h' => by rw [hd] at h'; exact absurd h' (by decide)
      rw [if_pos hd]
      exact (if_neg hd').symm
    · have hd' : d.val / 32 % 2 = 1 := Or.resolve_left (Nat.mod_two_eq_zero_or_one _) hd
      rw [if_neg hd]
      exact (if_pos hd').symm

theorem pay5_eq (q : Vec Ideal S1x512x128 .bf16) : k0_pay5 q = k0_pay4 q := shapeCast_self _ _
theorem pay1_eq (A : FVec Ideal S1024x128 .f32) : k0_pay1 A = A := shapeCast_self _ _
theorem pay2_eq (A : FVec Ideal S1024x1 .f32) : k0_pay2 A = A := shapeCast_self _ _

end Cert.Proof.AttnStep

end
-- ==== Proof.AttnInv.lean ====
/-
  The kernel's running softmax keeps its form: one block of keys takes the maxima, totals and weighted totals over the
  first `a` keys to those over the first `a + 1024`, whatever the real row maximum is.
-/
module

public import proofs.«01_k».proof.Proof.AttnMath
public import proofs.«01_k».proof.Proof.AttnStep

@[expose] public section

set_option maxRecDepth 16384

noncomputable section

namespace Cert.Proof.AttnInv

open Cert.KernelIdeal Cert.KernelIdeal.Gen Idealize.ShloMosaic
open Cert.Proof.AttnStep (sc mat)
open scoped BigOperators

/-- One row's state over the first `a` keys, with scores `s` and values `v`: for some real shift, the total of the
    exponentials and, for each column, their total weighted by the values. -/
def Good (s : ℕ → ℝ) (v : Fin 128 → ℕ → ℝ) (a : ℕ) (M L : EReal) (A : Fin 128 → EReal) : Prop :=
  ∃ x : ℝ, M = x ∧ L = ((∑ n ∈ Finset.range a, Real.exp (s n - x) : ℝ) : EReal)
    ∧ ∀ e, A e = ((∑ n ∈ Finset.range a, Real.exp (s n - x) * v e n : ℝ) : EReal)

/-- One block of 1024 keys. -/
theorem good_step (s : ℕ → ℝ) (v : Fin 128 → ℕ → ℝ) (a : ℕ) (Q : Vec Ideal S1024x128 .bf16) (K V : Vec Ideal S1x1024x128 .bf16)
    (M L : Vec Ideal S1024x1 .f32) (A : Vec Ideal S1024x128 .f32) (r : Fin 1024)
    (hS : ∀ n : Fin 1024, sc Q (mat K) r n = s (a + n.val)) (hV : ∀ (n : Fin 1024) (e : Fin 128), V (ix3 0 n e) = v e (a + n.val))
    (h : Good s v a (M (ix2 r 0)) (L (ix2 r 0)) fun e => A (ix2 r e)) :
    Good s v (a + 1024) (k0_pay15 Q K M (ix2 r 0)) (k0_pay18 Q K M L (ix2 r 0)) fun e => k0_pay19 Q K M A V (ix2 r e) := by
  obtain ⟨x, hM, hL, hA⟩ := h
  obtain ⟨y, hy⟩ := AttnMath.fold_max_real (by norm_num) (sc Q (mat K) r) (fun n : Fin 1024 => s (a + n.val)) hS
  obtain ⟨z, hz⟩ := AttnMath.max_real x y
  have h15 : k0_pay15 Q K M (ix2 r 0) = z := by rw [AttnStep.pay15_apply, hM, hy, hz]
  refine ⟨z, h15, ?_, fun e => ?_⟩
  · rw [AttnStep.pay18_apply, h15, hM, hL]
    exact AttnMath.step_one s a 1024 x z _ hS
  · show k0_pay19 Q K M A V (ix2 r e) = _
    rw [AttnStep.pay19_apply, h15, hM, show A (ix2 r e) = _ from hA e]
    exact AttnMath.step s (v e) a 1024 x z _ _ hS fun n => hV n e

/-- The sixteen meta keys. -/
theorem good_start (s : ℕ → ℝ) (v : Fin 128 → ℕ → ℝ) (q : Vec Ideal S1x512x128 .bf16) (K V : Vec Ideal S16x128 .bf16) (r : Fin 1024)
    (hS : ∀ n : Fin 16, sc (k0_pay4 q) K r n = s n.val) (hV : ∀ (n : Fin 16) (e : Fin 128), V (ix2 n e) = v e n.val) :
    Good s v 16 (k0_pay9 q K (ix2 r 0)) (k0_pay10 q K (ix2 r 0)) fun e => k0_pay13 (k0_pay11 q K V) (ix2 r e) := by
  obtain ⟨y, hy⟩ := AttnMath.fold_max_real (by norm_num) (sc (k0_pay4 q) K r) (fun n : Fin 16 => s n.val) hS
  have h9 : k0_pay9 q K (ix2 r 0) = y := by rw [AttnStep.pay9_apply, hy]
  refine ⟨y, h9, ?_, fun e => ?_⟩
  · rw [AttnStep.pay10_apply, h9]
    exact AttnMath.start_one s 16 y _ hS
  · show k0_pay13 (k0_pay11 q K V) (ix2 r e) = _
    rw [AttnStep.pay11_apply, h9]
    exact AttnMath.start s (v e) 16 y _ _ hS fun n => hV n e

/-- The quotient of the two totals: the values weighted by softmax. -/
theorem good_div (s : ℕ → ℝ) (v : Fin 128 → ℕ → ℝ) (a : ℕ) (ha : 0 < a) (M L : EReal) (A : Fin 128 → EReal) (h : Good s v a M L A) (e : Fin 128) :
    Ideal.div (A e) L = ((∑ n ∈ Finset.range a, AttnMath.wt s a n * v e n : ℝ) : EReal) := by
  obtain ⟨x, -, hL, hA⟩ := h
  rw [hL, hA e]
  exact AttnMath.ratio s (v e) a ha x

end Cert.Proof.AttnInv

end
-- ==== Proof.AttnBlocks.lean ====
/-
  Where the attention's blocks lie in the arrays. Grid point `t` belongs to batch `t / 512`, head `t / 128 % 4`, query
  block `t / 8 % 16` and key block `t % 8`; head `h` reads columns `1536 + 128 h …` (queries), `2048 + 128 h …` (keys)
  and `2560 + 128 h …` (values).
-/
module

public import proofs.«01_k».proof.Proof.Gen.KernelIdeal.Frame
public import Idealize.ShloMosaic.Lib.Pointwise

@[expose] public section

set_option maxRecDepth 16384

noncomputable section

namespace Cert.Proof.AttnBlocks

open Cert.KernelIdeal Cert.KernelIdeal.Gen Idealize.ShloMosaic Idealize.ShloMosaic.TcCoe Idealize.SL.Sem

variable (m : (ℓ : Loc nD τ sig) → Buf (Elt Ideal) ℓ)

theorem idx0 : ∀ t : Fin cfg0.N, win0_0.index t 0 = t.val / 512 ∧ win0_0.index t 1 = t.val / 8 % 16 ∧ win0_0.index t 2 = 12 + t.val / 128 % 4 :=
  (by decide +kernel : ∀ t : Fin grid0.N, win0_0.index t 0 = t.val / 512 ∧ win0_0.index t 1 = t.val / 8 % 16 ∧ win0_0.index t 2 = 12 + t.val / 128 % 4)
theorem idx1 : ∀ t : Fin cfg0.N, win0_1.index t 0 = t.val / 512 ∧ win0_1.index t 1 = t.val % 8 ∧ win0_1.index t 2 = 16 + t.val / 128 % 4 :=
  (by decide +kernel : ∀ t : Fin grid0.N, win0_1.index t 0 = t.val / 512 ∧ win0_1.index t 1 = t.val % 8 ∧ win0_1.index t 2 = 16 + t.val / 128 % 4)
theorem idx2 : ∀ t : Fin cfg0.N, win0_2.index t 0 = t.val / 512 ∧ win0_2.index t 1 = t.val % 8 ∧ win0_2.index t 2 = 20 + t.val / 128 % 4 :=
  (by decide +kernel : ∀ t : Fin grid0.N, win0_2.index t 0 = t.val / 512 ∧ win0_2.index t 1 = t.val % 8 ∧ win0_2.index t 2 = 20 + t.val / 128 % 4)
theorem idx3 : ∀ t : Fin cfg0.N, win0_3.index t 0 = 0 ∧ win0_3.index t 1 = 16 + t.val / 128 % 4 :=
  (by decide +kernel : ∀ t : Fin grid0.N, win0_3.index t 0 = 0 ∧ win0_3.index t 1 = 16 + t.val / 128 % 4)
theorem idx4 : ∀ t : Fin cfg0.N, win0_4.index t 0 = 0 ∧ win0_4.index t 1 = 20 + t.val / 128 % 4 :=
  (by decide +kernel : ∀ t : Fin grid0.N, win0_4.index t 0 = 0 ∧ win0_4.index t 1 = 20 + t.val / 128 % 4)
theorem idx5 : ∀ t : Fin cfg0.N, win0_5.index t 0 = 0 ∧ win0_5.index t 1 = 0 :=
  (by decide +kernel : ∀ t : Fin grid0.N, win0_5.index t 0 = 0 ∧ win0_5.index t 1 = 0)
theorem idx6 : ∀ t : Fin cfg0.N, win0_6.index t 0 = 0 ∧ win0_6.index t 1 = 0 :=
  (by decide +kernel : ∀ t : Fin grid0.N, win0_6.index t 0 = 0 ∧ win0_6.index t 1 = 0)
theorem idx7 : ∀ t : Fin cfg0.N, win0_7.index t 0 = 0 ∧ win0_7.index t 1 = 0 :=
  (by decide +kernel : ∀ t : Fin grid0.N, win0_7.index t 0 = 0 ∧ win0_7.index t 1 = 0)
theorem idx8 : ∀ t : Fin cfg0.N, win0_8.index t 0 = 0 ∧ win0_8.index t 1 = 0 :=
  (by decide +kernel : ∀ t : Fin grid0.N, win0_8.index t 0 = 0 ∧ win0_8.index t 1 = 0)
theorem idx9 : ∀ t : Fin cfg0.N, win0_9.index t 0 = 0 ∧ win0_9.index t 1 = 0 :=
  (by decide +kernel : ∀ t : Fin grid0.N, win0_9.index t 0 = 0 ∧ win0_9.index t 1 = 0)
theorem idx10 : ∀ t : Fin cfg0.N, win0_10.index t 0 = t.val / 512 ∧ win0_10.index t 1 = t.val / 8 % 16 ∧ win0_10.index t 2 = t.val / 128 % 4 :=
  (by decide +kernel : ∀ t : Fin grid0.N, win0_10.index t 0 = t.val / 512 ∧ win0_10.index t 1 = t.val / 8 % 16 ∧ win0_10.index t 2 = t.val / 128 % 4)

theorem lt_N (t : Fin cfg0.N) : t.val < 4096 := by have h : t.val < grid0.N := t.isLt; rw [N_0] at h; exact h

/-- The batch, the head, the row of query `r` of the block, the row of key `n` of the block, and a column of the head. -/
def bat (t : Fin cfg0.N) : Fin 8 := ⟨t.val / 512, by have := lt_N t; omega⟩
def head (t : Fin cfg0.N) : Fin 4 := ⟨t.val / 128 % 4, by omega⟩
def qrow (t : Fin cfg0.N) (r : Fin 512) : Fin 8192 := ⟨t.val / 8 % 16 * 512 + r.val, by have := r.isLt; omega⟩
def krow (t : Fin cfg0.N) (n : Fin 1024) : Fin 8192 := ⟨t.val % 8 * 1024 + n.val, by have := n.isLt; omega⟩
def qcol (h : Fin 4) (d : Fin 128) : Fin 3072 := ⟨1536 + 128 * h.val + d.val, by have := h.isLt; have := d.isLt; omega⟩
def kcol (h : Fin 4) (d : Fin 128) : Fin 3072 := ⟨2048 + 128 * h.val + d.val, by have := h.isLt; have := d.isLt; omega⟩
def vcol (h : Fin 4) (d : Fin 128) : Fin 3072 := ⟨2560 + 128 * h.val + d.val, by have := h.isLt; have := d.isLt; omega⟩
def ocol (h : Fin 4) (d : Fin 128) : Fin 512 := ⟨128 * h.val + d.val, by have := h.isLt; have := d.isLt; omega⟩

theorem blk0 (c : Dev nD) (t : Fin cfg0.N) (r : Fin 512) (d : Fin 128) :
    iblk m c 0 t (ix3 0 r d) = m ((c : Thread nD τ).loc main_arg0) (ix3 (bat t) (qrow t r) (qcol (head t) d)) := by
  show m ((c : Thread nD τ).loc main_arg0) ((win0_0.blk t).view.emb (ix3 0 r d)) = _
  refine congrArg _ (funext fun a => Fin.ext ?_)
  obtain ⟨e0, e1, e2⟩ := idx0 t
  match a with
  | ⟨0, _⟩ => show win0_0.index t 0 * 1 + 1 * 0 = t.val / 512; rw [e0]; omega
  | ⟨1, _⟩ => show win0_0.index t 1 * 512 + 1 * r.val = t.val / 8 % 16 * 512 + r.val; rw [e1]; omega
  | ⟨2, _⟩ => show win0_0.index t 2 * 128 + 1 * d.val = 1536 + 128 * (t.val / 128 % 4) + d.val; rw [e2]; omega

theorem blk1 (c : Dev nD) (t : Fin cfg0.N) (n : Fin 1024) (d : Fin 128) :
    iblk m c 1 t (ix3 0 n d) = m ((c : Thread nD τ).loc main_arg0) (ix3 (bat t) (krow t n) (kcol (head t) d)) := by
  show m ((c : Thread nD τ).loc main_arg0) ((win0_1.blk t).view.emb (ix3 0 n d)) = _
  refine congrArg _ (funext fun a => Fin.ext ?_)
  obtain ⟨e0, e1, e2⟩ := idx1 t
  match a with
  | ⟨0, _⟩ => show win0_1.index t 0 * 1 + 1 * 0 = t.val / 512; rw [e0]; omega
  | ⟨1, _⟩ => show win0_1.index t 1 * 1024 + 1 * n.val = t.val % 8 * 1024 + n.val; rw [e1]; omega
  | ⟨2, _⟩ => show win0_1.index t 2 * 128 + 1 * d.val = 2048 + 128 * (t.val / 128 % 4) + d.val; rw [e2]; omega

theorem blk2 (c : Dev nD) (t : Fin cfg0.N) (n : Fin 1024) (d : Fin 128) :
    iblk m c 2 t (ix3 0 n d) = m ((c : Thread nD τ).loc main_arg0) (ix3 (bat t) (krow t n) (vcol (head t) d)) := by
  show m ((c : Thread nD τ).loc main_arg0) ((win0_2.blk t).view.emb (ix3 0 n d)) = _
  refine congrArg _ (funext fun a => Fin.ext ?_)
  obtain ⟨e0, e1, e2⟩ := idx2 t
  match a with
  | ⟨0, _⟩ => show win0_2.index t 0 * 1 + 1 * 0 = t.val / 512; rw [e0]; omega
  | ⟨1, _⟩ => show win0_2.index t 1 * 1024 + 1 * n.val = t.val % 8 * 1024 + n.val; rw [e1]; omega
  | ⟨2, _⟩ => show win0_2.index t 2 * 128 + 1 * d.val = 2560 + 128 * (t.val / 128 % 4) + d.val; rw [e2]; omega

theorem blk3 (c : Dev nD) (t : Fin cfg0.N) (n : Fin 16) (d : Fin 128) :
    iblk m c 3 t (ix2 n d) = m ((c : Thread nD τ).loc main_arg1) (ix2 n (kcol (head t) d)) := by
  show m ((c : Thread nD τ).loc main_arg1) ((win0_3.blk t).view.emb (ix2 n d)) = _
  refine congrArg _ (funext fun a => Fin.ext ?_)
  obtain ⟨e0, e1⟩ := idx3 t
  match a with
  | ⟨0, _⟩ => show win0_3.index t 0 * 16 + 1 * n.val = n.val; rw [e0]; omega
  | ⟨1, _⟩ => show win0_3.index t 1 * 128 + 1 * d.val = 2048 + 128 * (t.val / 128 % 4) + d.val; rw [e1]; omega

theorem blk4 (c : Dev nD) (t : Fin cfg0.N) (n : Fin 16) (d : Fin 128) :
    iblk m c 4 t (ix2 n d) = m ((c : Thread nD τ).loc main_arg1) (ix2 n (vcol (head t) d)) := by
  show m ((c : Thread nD τ).loc main_arg1) ((win0_4.blk t).view.emb (ix2 n d)) = _
  refine congrArg _ (funext fun a => Fin.ext ?_)
  obtain ⟨e0, e1⟩ := idx4 t
  match a with
  | ⟨0, _⟩ => show win0_4.index t 0 * 16 + 1 * n.val = n.val; rw [e0]; omega
  | ⟨1, _⟩ => show win0_4.index t 1 * 128 + 1 * d.val = 2560 + 128 * (t.val / 128 % 4) + d.val; rw [e1]; omega

/-! The four learnt vectors and the weights come whole. -/

theorem blk5 (c : Dev nD) (t : Fin cfg0.N) : iblk m c 5 t = m ((c : Thread nD τ).loc main_arg2) := by
  funext y
  show m ((c : Thread nD τ).loc main_arg2) ((win0_5.blk t).view.emb y) = _
  refine congrArg _ (funext fun a => Fin.ext ?_)
  obtain ⟨e0, e1⟩ := idx5 t
  match a with
  | ⟨0, _⟩ => show win0_5.index t 0 * 1 + 1 * (y 0).val = (y 0).val; rw [e0]; omega
  | ⟨1, _⟩ => show win0_5.index t 1 * 64 + 1 * (y 1).val = (y 1).val; rw [e1]; omega

theorem blk6 (c : Dev nD) (t : Fin cfg0.N) : iblk m c 6 t = m ((c : Thread nD τ).loc main_arg3) := by
  funext y
  show m ((c : Thread nD τ).loc main_arg3) ((win0_6.blk t).view.emb y) = _
  refine congrArg _ (funext fun a => Fin.ext ?_)
  obtain ⟨e0, e1⟩ := idx6 t
  match a with
  | ⟨0, _⟩ => show win0_6.index t 0 * 1 + 1 * (y 0).val = (y 0).val; rw [e0]; omega
  | ⟨1, _⟩ => show win0_6.index t 1 * 64 + 1 * (y 1).val = (y 1).val; rw [e1]; omega

theorem blk7 (c : Dev nD) (t : Fin cfg0.N) : iblk m c 7 t = m ((c : Thread nD τ).loc main_arg4) := by
  funext y
  show m ((c : Thread nD τ).loc main_arg4) ((win0_7.blk t).view.emb y) = _
  refine congrArg _ (funext fun a => Fin.ext ?_)
  obtain ⟨e0, e1⟩ := idx7 t
  match a with
  | ⟨0, _⟩ => show win0_7.index t 0 * 1 + 1 * (y 0).val = (y 0).val; rw [e0]; omega
  | ⟨1, _⟩ => show win0_7.index t 1 * 64 + 1 * (y 1).val = (y 1).val; rw [e1]; omega

theorem blk8 (c : Dev nD) (t : Fin cfg0.N) : iblk m c 8 t = m ((c : Thread nD τ).loc main_arg5) := by
  funext y
  show m ((c : Thread nD τ).loc main_arg5) ((win0_8.blk t).view.emb y) = _
  refine congrArg _ (funext fun a => Fin.ext ?_)
  obtain ⟨e0, e1⟩ := idx8 t
  match a with
  | ⟨0, _⟩ => show win0_8.index t 0 * 1 + 1 * (y 0).val = (y 0).val; rw [e0]; omega
  | ⟨1, _⟩ => show win0_8.index t 1 * 64 + 1 * (y 1).val = (y 1).val; rw [e1]; omega

theorem blk9 (c : Dev nD) (t : Fin cfg0.N) : iblk m c 9 t = m ((c : Thread nD τ).loc main_arg6) := by
  funext y
  show m ((c : Thread nD τ).loc main_arg6) ((win0_9.blk t).view.emb y) = _
  refine congrArg _ (funext fun a => Fin.ext ?_)
  obtain ⟨e0, e1⟩ := idx9 t
  match a with
  | ⟨0, _⟩ => show win0_9.index t 0 * 1 + 1 * (y 0).val = (y 0).val; rw [e0]; omega
  | ⟨1, _⟩ => show win0_9.index t 1 * 128 + 1 * (y 1).val = (y 1).val; rw [e1]; omega

/-- Where the output block's index lies in the result array. -/
theorem emb10 (t : Fin cfg0.N) (r : Fin 512) (e : Fin 128) :
    (win0_10.blk t).view.emb (ix3 0 r e) = ix3 (bat t) (qrow t r) (ocol (head t) e) := by
  refine funext fun a => Fin.ext ?_
  obtain ⟨e0, e1, e2⟩ := idx10 t
  match a with
  | ⟨0, _⟩ => show win0_10.index t 0 * 1 + 1 * 0 = t.val / 512; rw [e0]; omega
  | ⟨1, _⟩ => show win0_10.index t 1 * 512 + 1 * r.val = t.val / 8 % 16 * 512 + r.val; rw [e1]; omega
  | ⟨2, _⟩ => show win0_10.index t 2 * 128 + 1 * e.val = 128 * (t.val / 128 % 4) + e.val; rw [e2]; omega

end Cert.Proof.AttnBlocks

end
-- ==== Proof.AttnOut.lean ====
/-
  What the last point of a query block writes: the two softmax averages subtracted, normalised and scaled.
-/
module

public import proofs.«01_k».proof.Proof.Gen.KernelIdeal.Skeleton
public import Idealize.ShloMosaic.Lib.Pointwise
public import Idealize.ShloMosaic.PureOps.Ideal

@[expose] public section

set_option maxRecDepth 16384

noncomputable section

namespace Cert.Proof.AttnOut

open Cert.KernelIdeal Cert.KernelIdeal.Gen Idealize.ShloMosaic
open scoped BigOperators

/-- The weight of the second attention map, from the four learnt vectors. -/
def lam (a b c d : S1x64.Idx → EReal) : EReal :=
  Ideal.exp (∑ k : Fin 64, a (ix2 0 k) * b (ix2 0 k)) - Ideal.exp (∑ k : Fin 64, c (ix2 0 k) * d (ix2 0 k)) + Ideal.ofBits .f32 0x3E4CCCCD#32

/-- A row divided by its root mean square, times the learnt weights, times the fixed factor. -/
def normed (x : Fin 128 → EReal) (w : S1x128.Idx → EReal) (e : Fin 128) : EReal :=
  x e * Ideal.rsqrt (Ideal.div (∑ k : Fin 128, x k * x k) (Ideal.ofBits .f32 0x43000000#32) + Ideal.ofBits .f32 0x3727C5AC#32)
    * w (ix2 0 e) * Ideal.ofBits .f32 0x3F4CCCCD#32

/-- Query row `r` under the first and under the second attention map, as rows of the kernel's stacked buffers. -/
def lo (r : Fin 512) : Fin 1024 := ⟨r.val, by have := r.isLt; omega⟩
def hi (r : Fin 512) : Fin 1024 := ⟨512 + r.val, by have := r.isLt; omega⟩

/-- The difference of the two averages at row `r`, column `e`. -/
def dif (l : EReal) (A : S1024x128.Idx → EReal) (L : S1024x1.Idx → EReal) (r : Fin 512) (e : Fin 128) : EReal :=
  Ideal.div (A (ix2 (lo r) e)) (L (ix2 (lo r) 0)) - l * Ideal.div (A (ix2 (hi r) e)) (L (ix2 (hi r) 0))

theorem out_apply (a b c d : Vec Ideal S1x64 .f32) (A : Vec Ideal S1024x128 .f32) (L : Vec Ideal S1024x1 .f32) (w : Vec Ideal S1x128 .f32)
    (r : Fin 512) (e : Fin 128) :
    k0_pay3 (k0_pay12 a b c d A L w) (ix3 0 r e) = normed (dif (lam a b c d) A L r) w e := by
  pointwise [k0_pay3, k0_pay12, normed, dif, lam, lo, hi]

end Cert.Proof.AttnOut

end
-- ==== Proof.AttnScores.lean ====
/-
  The attention's scores and values as functions of the projected tokens and the meta tokens, the keys counted from
  the first meta key on: key `n < 16` is a meta token, key `16 + n` is token `n` of the batch.
-/
module

public import proofs.«01_k».proof.Proof.AttnMath
public import proofs.«01_k».proof.Proof.AttnBlocks
public import proofs.«01_k».proof.Proof.AttnOut

@[expose] public section

set_option maxRecDepth 16384

noncomputable section

namespace Cert.Proof.AttnScores

open Cert.KernelIdeal Cert.KernelIdeal.Gen Idealize.ShloMosaic
open Cert.Proof.AttnBlocks (qcol kcol vcol)
open Cert.Proof.AttnOut (normed lam)
open scoped BigOperators

variable (P : S8x8192x3072.Idx → EReal) (T : S16x3072.Idx → EReal)

/-- Column `c` of key token `n` of batch `b`. -/
def kv (b : Fin 8) (n : ℕ) (c : Fin 3072) : EReal :=
  if h : n < 16 then T (ix2 ⟨n, h⟩ c) else if h' : n - 16 < 8192 then P (ix3 b ⟨n - 16, h'⟩ c) else 0

theorem kv_meta (b : Fin 8) (n : Fin 16) (c : Fin 3072) : kv P T b n.val c = T (ix2 n c) := by
  unfold kv; rw [dif_pos n.isLt]

theorem kv_tok (b : Fin 8) (n : ℕ) (k : Fin 8192) (hk : n = 16 + k.val) (c : Fin 3072) : kv P T b n c = P (ix3 b k c) := by
  subst hk
  have h : ¬ 16 + k.val < 16 := by omega
  have h' : 16 + k.val - 16 < 8192 := by have := k.isLt; omega
  unfold kv
  rw [dif_neg h, dif_pos h']
  exact congrArg (fun j => P (ix3 b j c)) (Fin.ext (by show 16 + k.val - 16 = k.val; omega))

/-- The score of query `i` against key `n` in head `h` under attention map `u`: over the columns whose 32-wide stripe has parity `u`. -/
def score (b : Fin 8) (h : Fin 4) (u : ℕ) (i : Fin 8192) (n : ℕ) : EReal :=
  ∑ d : Fin 128, (if (d.val / 32) % 2 = u then P (ix3 b i (qcol h d)) else 0) * kv P T b n (kcol h d)

/-- Every element the attention reads is finite. -/
structure Reals : Prop where
  tok : ∀ (b : Fin 8) (i : Fin 8192) (c : Fin 3072), 1536 ≤ c.val → ∃ x : ℝ, P (ix3 b i c) = x
  metaTok : ∀ (n : Fin 16) (c : Fin 3072), 2048 ≤ c.val → ∃ x : ℝ, T (ix2 n c) = x

/-- A sum of reals is a real. -/
theorem sum_real {ι : Type*} (S : Finset ι) (f : ι → EReal) (h : ∀ i, ∃ x : ℝ, f i = x) : ∃ x : ℝ, ∑ i ∈ S, f i = x := by
  choose g hg using h
  exact ⟨∑ i ∈ S, g i, by rw [AttnMath.coe_sum]; exact Finset.sum_congr rfl fun i _ => hg i⟩

theorem kv_real (H : Reals P T) (b : Fin 8) (n : ℕ) (c : Fin 3072) (hc : 2048 ≤ c.val) : ∃ x : ℝ, kv P T b n c = x := by
  unfold kv
  split
  · exact H.metaTok _ _ hc
  · split
    · exact H.tok _ _ _ (by omega)
    · exact ⟨0, rfl⟩

theorem score_real (H : Reals P T) (b : Fin 8) (h : Fin 4) (u : ℕ) (i : Fin 8192) (n : ℕ) : ∃ x : ℝ, score P T b h u i n = x := by
  refine sum_real _ _ fun d => ?_
  obtain ⟨y, hy⟩ := kv_real P T H b n (kcol h d) (by show 2048 ≤ 2048 + 128 * h.val + d.val; omega)
  have hx : ∃ x : ℝ, (if (d.val / 32) % 2 = u then P (ix3 b i (qcol h d)) else 0) = (x : EReal) := by
    split
    · exact H.tok _ _ _ (by show 1536 ≤ 1536 + 128 * h.val + d.val; omega)
    · exact ⟨0, rfl⟩
  obtain ⟨x, hx⟩ := hx
  exact ⟨x * y, by rw [hx, hy, EReal.coe_mul]⟩

/-- The scores and the values as reals. -/
def sR (b : Fin 8) (h : Fin 4) (u : ℕ) (i : Fin 8192) (n : ℕ) : ℝ := (score P T b h u i n).toReal
def vR (b : Fin 8) (h : Fin 4) (e : Fin 128) (n : ℕ) : ℝ := (kv P T b n (vcol h e)).toReal

theorem score_eq (H : Reals P T) (b : Fin 8) (h : Fin 4) (u : ℕ) (i : Fin 8192) (n : ℕ) : score P T b h u i n = sR P T b h u i n := by
  obtain ⟨x, hx⟩ := score_real P T H b h u i n
  unfold sR; rw [hx, EReal.toReal_coe]

theorem val_eq (H : Reals P T) (b : Fin 8) (h : Fin 4) (e : Fin 128) (n : ℕ) : kv P T b n (vcol h e) = vR P T b h e n := by
  obtain ⟨x, hx⟩ := kv_real P T H b n (vcol h e) (by show 2048 ≤ 2560 + 128 * h.val + e.val; omega)
  unfold vR; rw [hx, EReal.toReal_coe]

/-- The values averaged by one attention map's softmax over all 8208 keys. -/
def avg (b : Fin 8) (h : Fin 4) (u : ℕ) (i : Fin 8192) (e : Fin 128) : EReal :=
  ((∑ n ∈ Finset.range 8208, AttnMath.wt (sR P T b h u i) 8208 n * vR P T b h e n : ℝ) : EReal)

/-- The attention's result at batch `b`, query `i`, head `h`, column `e` of the head. -/
def attnAt (a1 b1 a2 b2 : S1x64.Idx → EReal) (w : S1x128.Idx → EReal) (b : Fin 8) (i : Fin 8192) (h : Fin 4) (e : Fin 128) : EReal :=
  normed (fun e => avg P T b h 0 i e - lam a1 b1 a2 b2 * avg P T b h 1 i e) w e

end Cert.Proof.AttnScores

end
-- ==== Proof.AttnState.lean ====
/-
  What the attention kernel carries from point to point, and what it writes. After key block `j` of a query block every
  row's buffers are the running softmax over the first `16 + 1024 (j + 1)` keys; after the eighth, over all 8208.
-/
module

public import proofs.«01_k».proof.Proof.AttnCases
public import proofs.«01_k».proof.Proof.AttnInv
public import proofs.«01_k».proof.Proof.AttnScores

@[expose] public section

set_option maxRecDepth 16384

noncomputable section

namespace Cert.Proof.AttnState

open Cert.KernelIdeal Cert.KernelIdeal.Gen Idealize.ShloMosaic Idealize.ShloMosaic.TcCoe Idealize.SL.Sem
open Cert.Proof.AttnBlocks Cert.Proof.AttnScores Cert.Proof.AttnCases
open Cert.Proof.AttnInv (Good good_step good_start good_div)
open Cert.Proof.AttnStep (sc mat src)
open Cert.Proof.AttnOut (lo hi dif lam normed)
open scoped BigOperators

variable (m : (ℓ : Loc nD τ sig) → Buf (Elt Ideal) ℓ)

/-- The projected tokens and the meta tokens of device `c`. -/
abbrev tok (c : Dev nD) : S8x8192x3072.Idx → EReal := m ((c : Thread nD τ).loc main_arg0)
abbrev met (c : Dev nD) : S16x3072.Idx → EReal := m ((c : Thread nD τ).loc main_arg1)

/-- The queries of point `t`'s stacked rows: row `r` masked to the stripes of parity `r / 512`. -/
def qAt (c : Dev nD) (t : Fin cfg0.N) (r : Fin 1024) (d : Fin 128) : EReal :=
  if (d.val / 32) % 2 = r.val / 512 then tok m c (ix3 (bat t) (qrow t (src r)) (qcol (head t) d)) else 0

theorem qAt_eq (c : Dev nD) (t : Fin cfg0.N) (r : Fin 1024) (d : Fin 128) : k0_pay4 (iblk m c 0 t) (ix2 r d) = qAt m c t r d := by
  rw [AttnStep.pay4_apply, blk0]; rfl

/-- A row's scores and values at point `t`. -/
abbrev sAt (c : Dev nD) (t : Fin cfg0.N) (r : Fin 1024) : ℕ → ℝ := sR (tok m c) (met m c) (bat t) (head t) (r.val / 512) (qrow t (src r))
abbrev vAt (c : Dev nD) (t : Fin cfg0.N) : Fin 128 → ℕ → ℝ := vR (tok m c) (met m c) (bat t) (head t)

variable {m} in
/-- The scores of point `t`'s key block. -/
theorem blk_score {c : Dev nD} (H : Reals (tok m c) (met m c)) (t : Fin cfg0.N) (Q : Vec Ideal S1024x128 .bf16) (r : Fin 1024)
    (hQ : ∀ d, Q (ix2 r d) = qAt m c t r d) (n : Fin 1024) :
    sc Q (mat (iblk m c 1 t)) r n = sAt m c t r (16 + 1024 * (t.val % 8) + n.val) := by
  rw [← score_eq _ _ H]
  unfold sc score
  refine Finset.sum_congr rfl fun d _ => ?_
  rw [hQ, kv_tok (tok m c) (met m c) (bat t) _ (krow t n) (by show _ = 16 + (t.val % 8 * 1024 + n.val); omega)]
  exact congrArg _ (blk1 m c t n d)

variable {m} in
theorem blk_val {c : Dev nD} (H : Reals (tok m c) (met m c)) (t : Fin cfg0.N) (n : Fin 1024) (e : Fin 128) :
    (iblk m c 2 t (ix3 0 n e) : EReal) = ((vAt m c t e (16 + 1024 * (t.val % 8) + n.val) : ℝ) : EReal) := by
  rw [← val_eq _ _ H, kv_tok (tok m c) (met m c) (bat t) _ (krow t n) (by show _ = 16 + (t.val % 8 * 1024 + n.val); omega)]
  exact blk2 m c t n e

variable {m} in
/-- The scores and values of the meta keys. -/
theorem meta_score {c : Dev nD} (H : Reals (tok m c) (met m c)) (t : Fin cfg0.N) (r : Fin 1024) (n : Fin 16) :
    sc (k0_pay4 (iblk m c 0 t)) (iblk m c 3 t) r n = sAt m c t r n.val := by
  rw [← score_eq _ _ H]
  unfold sc score
  refine Finset.sum_congr rfl fun d _ => ?_
  rw [qAt_eq, kv_meta]
  exact congrArg _ (blk3 m c t n d)

variable {m} in
theorem meta_val {c : Dev nD} (H : Reals (tok m c) (met m c)) (t : Fin cfg0.N) (n : Fin 16) (e : Fin 128) :
    (iblk m c 4 t (ix2 n e) : EReal) = ((vAt m c t e n.val : ℝ) : EReal) := by
  rw [← val_eq _ _ H, kv_meta]
  exact blk4 m c t n e

/-- What point `t` leaves in the carried buffers. -/
def Holds (c : Dev nD) (t : Fin cfg0.N) : Prop :=
  (∀ r d, qq m c t.val t.isLt (ix2 r d) = qAt m c t r d)
    ∧ ∀ r, Good (sAt m c t r) (vAt m c t) (16 + 1024 * (t.val % 8) + 1024) (mx m c t.val t.isLt (ix2 r 0)) (tot m c t.val t.isLt (ix2 r 0))
        fun e => acc m c t.val t.isLt (ix2 r e)

/-- The point before `t` works on the same queries. -/
theorem pred_at (c : Dev nD) (t t' : Fin cfg0.N) (h0 : ¬t.val % 8 = 0) (ht : t'.val = t.val - 1) :
    bat t' = bat t ∧ head t' = head t ∧ (∀ r, qrow t' r = qrow t r) ∧ t'.val % 8 + 1 = t.val % 8 := by
  refine ⟨Fin.ext ?_, Fin.ext ?_, fun r => Fin.ext ?_, by omega⟩
  · show t'.val / 512 = t.val / 512; omega
  · show t'.val / 128 % 4 = t.val / 128 % 4; omega
  · show t'.val / 8 % 16 * 512 + r.val = t.val / 8 % 16 * 512 + r.val; omega

variable {m} in
/-- What the point before left, said of point `t`'s own queries. -/
theorem holds_pred {c : Dev nD} (t t' : Fin cfg0.N) (h0 : ¬t.val % 8 = 0) (ht : t'.val = t.val - 1) (h : Holds m c t') :
    (∀ r d, qq m c t'.val t'.isLt (ix2 r d) = qAt m c t r d)
    ∧ ∀ r, Good (sAt m c t r) (vAt m c t) (16 + 1024 * (t.val % 8)) (mx m c t'.val t'.isLt (ix2 r 0)) (tot m c t'.val t'.isLt (ix2 r 0))
        fun e => acc m c t'.val t'.isLt (ix2 r e) := by
  obtain ⟨hb, hh, hq, hj⟩ := pred_at c t t' h0 ht
  have e : 16 + 1024 * (t'.val % 8) + 1024 = 16 + 1024 * (t.val % 8) := by omega
  obtain ⟨h1, h2⟩ := h
  refine ⟨fun r d => ?_, fun r => ?_⟩
  · rw [h1]; unfold qAt; rw [hb, hh, hq]
  · have := h2 r
    rw [e] at this
    unfold sAt vAt at this ⊢
    rw [hb, hh, hq] at this
    exact this

/-- A first point: the meta keys, then its block. -/
theorem holds_A (c : Dev nD) (H : Reals (tok m c) (met m c)) (t : Fin cfg0.N) (h0 : t.val % 8 = 0) : Holds m c t := by
  have h1 : ¬t.val % 8 = 7 := by omega
  have hQ : ∀ r d, qq0 m c t (ix2 r d) = qAt m c t r d := fun r d => by
    rw [show qq0 m c t = k0_pay4 (iblk m c 0 t) from AttnStep.pay5_eq _]; exact qAt_eq m c t r d
  refine ⟨fun r d => by rw [qq_A m c t h0 h1]; exact hQ r d, fun r => ?_⟩
  rw [mx_A m c t h0 h1, tot_A m c t h0 h1, acc_A m c t h0 h1, AttnStep.pay1_eq, AttnStep.pay2_eq]
  have hs := good_start (sAt m c t r) (vAt m c t) (iblk m c 0 t) (iblk m c 3 t) (iblk m c 4 t) r (meta_score H t r) (meta_val H t)
  refine good_step _ _ _ _ _ _ _ _ _ r (blk_score H t _ r (hQ r)) (blk_val H t) ?_
  rw [h0]
  exact hs

/-- A middle point: its block after what the point before left. -/
theorem holds_B (c : Dev nD) (H : Reals (tok m c) (met m c)) (t t' : Fin cfg0.N) (h0 : ¬t.val % 8 = 0) (h1 : ¬t.val % 8 = 7) (ht : t'.val = t.val - 1)
    (h : Holds m c t') : Holds m c t := by
  obtain rfl : t' = ⟨t.val - 1, lt' t⟩ := Fin.ext ht
  obtain ⟨hQ, hG⟩ := holds_pred t _ h0 ht h
  refine ⟨fun r d => by rw [qq_B m c t h0 h1]; exact hQ r d, fun r => ?_⟩
  rw [mx_B m c t h0 h1, tot_B m c t h0 h1, acc_B m c t h0 h1, AttnStep.pay1_eq, AttnStep.pay2_eq]
  exact good_step _ _ _ _ _ _ _ _ _ r (blk_score H t _ r (hQ r)) (blk_val H t) (hG r)

/-- Every point but the last of its query block leaves the running softmax over the keys so far. -/
theorem holds (c : Dev nD) (H : Reals (tok m c) (met m c)) : ∀ (n : ℕ) (hn : n < cfg0.N), n % 8 ≠ 7 → Holds m c ⟨n, hn⟩
  | 0, hn, _ => holds_A m c H ⟨0, hn⟩ rfl
  | n + 1, hn, h7 => by
    by_cases h0 : (n + 1) % 8 = 0
    · exact holds_A m c H ⟨n + 1, hn⟩ h0
    · exact holds_B m c H ⟨n + 1, hn⟩ ⟨n, Nat.lt_of_succ_lt hn⟩ h0 h7 rfl (holds c H n _ (by omega))

/-- The result array as one function of device `c`'s arguments. -/
def G (c : Dev nD) : S8x8192x512.Idx → EReal := fun i =>
  attnAt (tok m c) (met m c) (m ((c : Thread nD τ).loc main_arg2)) (m ((c : Thread nD τ).loc main_arg3)) (m ((c : Thread nD τ).loc main_arg4))
    (m ((c : Thread nD τ).loc main_arg5)) (m ((c : Thread nD τ).loc main_arg6)) (i 0) (i 1)
    ⟨(i 2).val / 128, by have h : (i 2).val < 512 := (i 2).isLt; omega⟩ ⟨(i 2).val % 128, Nat.mod_lt _ (by norm_num)⟩

/-- What the last point of a query block writes, at one row and column: the attention of that query. -/
theorem out_eq (c : Dev nD) (H : Reals (tok m c) (met m c)) (t : Fin cfg0.N) (h1 : t.val % 8 = 7) (r : Fin 512) (e : Fin 128) :
    (outsAt0 m c t.val t.isLt).1 (ix3 0 r e)
      = attnAt (tok m c) (met m c) (m ((c : Thread nD τ).loc main_arg2)) (m ((c : Thread nD τ).loc main_arg3)) (m ((c : Thread nD τ).loc main_arg4))
          (m ((c : Thread nD τ).loc main_arg5)) (m ((c : Thread nD τ).loc main_arg6)) (bat t) (qrow t r) (head t) e := by
  have h0 : ¬t.val % 8 = 0 := by omega
  obtain ⟨hQ, hG⟩ := holds_pred t ⟨t.val - 1, lt' t⟩ h0 rfl (holds m c H (t.val - 1) (lt' t) (by omega))
  have hN : 16 + 1024 * (t.val % 8) + 1024 = 8208 := by omega
  have step := fun R => good_step _ _ _ _ (iblk m c 1 t) (iblk m c 2 t) _ _ _ R (blk_score H t _ R (hQ R)) (blk_val H t) (hG R)
  rw [out_C m c t h0 h1, AttnOut.out_apply, blk5, blk6, blk7, blk8, blk9, AttnStep.pay1_eq]
  unfold attnAt
  refine congrArg (fun x => normed x _ e) (funext fun e' => ?_)
  have sl : src (lo r) = r := Fin.ext (by show r.val % 512 = r.val; have := r.isLt; omega)
  have sh : src (hi r) = r := Fin.ext (by show (512 + r.val) % 512 = r.val; have := r.isLt; omega)
  have ul : (lo r).val / 512 = 0 := by show r.val / 512 = 0; have := r.isLt; omega
  have uh : (hi r).val / 512 = 1 := by show (512 + r.val) / 512 = 1; have := r.isLt; omega
  have dl := good_div _ _ _ (by omega) _ _ _ (step (lo r)) e'
  have dh := good_div _ _ _ (by omega) _ _ _ (step (hi r)) e'
  unfold dif avg
  rw [hN] at dl dh
  unfold sAt vAt at dl dh
  rw [sl, ul] at dl
  rw [sh, uh] at dh
  exact congrArg₂ (fun x y => x - lam _ _ _ _ * y) dl dh

end Cert.Proof.AttnState

end
-- ==== Proof.AttnArray.lean ====
/-
  The attention call, the whole array: the last point of every query block writes its block, and the blocks tile the
  result, so the result array holds one function of the arguments.
-/
module

public import proofs.«01_k».proof.Proof.AttnState
public import proofs.«01_k».proof.Proof.Gen.KernelIdeal.Value

@[expose] public section

set_option maxRecDepth 16384

noncomputable section

namespace Cert.Proof.AttnArray

open Cert.KernelIdeal Cert.KernelIdeal.Gen Idealize.ShloMosaic Idealize.ShloMosaic.TcCoe Idealize.SL.Sem
open Idealize.ShloMosaic.Pipeline (Dat)
open Cert.Proof.AttnBlocks Cert.Proof.AttnScores Cert.Proof.AttnState

variable (m : (ℓ : Loc nD τ sig) → Buf (Elt Ideal) ℓ) (ρ : Dev nD → PrngReg)

/-- The result function at a head's column. -/
theorem G_at (c : Dev nD) (b : Fin 8) (i : Fin 8192) (h : Fin 4) (e : Fin 128) :
    G m c (ix3 b i (ocol h e)) = attnAt (tok m c) (met m c) (m ((c : Thread nD τ).loc main_arg2)) (m ((c : Thread nD τ).loc main_arg3))
      (m ((c : Thread nD τ).loc main_arg4)) (m ((c : Thread nD τ).loc main_arg5)) (m ((c : Thread nD τ).loc main_arg6)) b i h e := by
  have h1 : (⟨(ocol h e).val / 128, by have := (ocol h e).isLt; omega⟩ : Fin 4) = h :=
    Fin.ext (by show (128 * h.val + e.val) / 128 = h.val; have := e.isLt; omega)
  have h2 : (⟨(ocol h e).val % 128, Nat.mod_lt _ (by norm_num)⟩ : Fin 128) = e :=
    Fin.ext (by show (128 * h.val + e.val) % 128 = e.val; have := e.isLt; omega)
  show attnAt _ _ _ _ _ _ _ b i ⟨(ocol h e).val / 128, _⟩ ⟨(ocol h e).val % 128, _⟩ = _
  rw [h1, h2]

/-- What a last point writes back is its block of `G`. -/
theorem flushed_eq (c : Dev nD) (H : Reals (tok m c) (met m c)) (t : Fin cfg0.N) (h7 : t.val % 8 = 7) :
    (dats m 0 c).flushed 10 t = (win0_10.blk t).view.read (Elt Ideal) (G m c) := by
  rw [Cert.KernelIdeal.Value.flushed10]
  have key : ∀ (r : Fin 512) (e : Fin 128),
      (outsAt0 m c t.val t.isLt).1 (ix3 0 r e) = G m c ((win0_10.blk t).view.emb (ix3 0 r e)) := by
    intro r e
    rw [emb10, G_at, out_eq m c H t h7]
  funext y
  show (outsAt0 m c t.val t.isLt).1 y = G m c ((win0_10.blk t).view.emb y)
  rw [show y = ix3 0 (y 1) (y 2) from by
    have h : (y 0).val < 1 := (y 0).isLt
    funext a
    match a with
    | ⟨0, _⟩ => exact Fin.ext (by show (y 0).val = 0; omega)
    | ⟨1, _⟩ => rfl
    | ⟨2, _⟩ => rfl]
  exact key _ _

/-- The blocks tile the result. -/
theorem cover (i : S8x8192x512.Idx) : ∃ t : Fin cfg0.N, (cfg0.win 10).flush t = true ∧ i ∈ ((cfg0.win 10).blk t).view.set := by
  have h0 : (i 0).val < 8 := (i 0).isLt
  have h1 : (i 1).val < 8192 := (i 1).isLt
  have h2 : (i 2).val < 512 := (i 2).isLt
  have hN : cfg0.N = 4096 := N_0
  refine ⟨⟨(i 0).val * 512 + (i 2).val / 128 * 128 + (i 1).val / 512 * 8 + 7, by omega⟩, (flush0_10 _).mpr (by dsimp only; omega), ?_⟩
  generalize ht : (⟨(i 0).val * 512 + (i 2).val / 128 * 128 + (i 1).val / 512 * 8 + 7, _⟩ : Fin cfg0.N) = t
  have hv : t.val = (i 0).val * 512 + (i 2).val / 128 * 128 + (i 1).val / 512 * 8 + 7 := by rw [← ht]
  obtain ⟨e0, e1, e2⟩ := idx10 t
  show i ∈ ((View.whole main_v0).slice (win0_10.rect t)).set
  rw [View.set_slice_whole, Rect.mem_set_unit]
  intro a
  match a with
  | ⟨0, _⟩ => show win0_10.index t 0 * 1 ≤ (i 0).val ∧ (i 0).val < win0_10.index t 0 * 1 + 1; rw [e0]; omega
  | ⟨1, _⟩ => show win0_10.index t 1 * 512 ≤ (i 1).val ∧ (i 1).val < win0_10.index t 1 * 512 + 512; rw [e1]; omega
  | ⟨2, _⟩ => show win0_10.index t 2 * 128 ≤ (i 2).val ∧ (i 2).val < win0_10.index t 2 * 128 + 128; rw [e2]; omega

/-- So the result array ends holding `G`, -/
theorem final (c : Dev nD) (H : Reals (tok m c) (met m c)) : (dats m 0 c).arrAt 10 cfg0.N = G m c :=
  (dats m 0 c).arrAt_eq_of_cover 10 (G m c) (fun t hf => flushed_eq m c H t ((flush0_10 t).mp hf)) cover

/-- and every run ends with the result array at `G`, the arguments unchanged. -/
theorem run (H : ∀ c, Reals (tok m c) (met m c)) : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (final m c (H c)), (h c).2⟩) (Cert.KernelIdeal.Value.run_blocks m ρ)

end Cert.Proof.AttnArray

end
-- ==== Proof.AttnRef.lean ====
/-
  The attention's reference, read at an index, stage by stage.
-/
module

public import proofs.«01_k».proof.Proof.Gen.ReferenceIdeal.Run
public import proofs.«01_k».proof.Proof.AttnMath
public import Idealize.ShloMosaic.Lib.Pointwise
public import Idealize.ShloMosaic.PureOps.Ideal

@[expose] public section

set_option maxRecDepth 16384

noncomputable section

namespace Cert.Proof.AttnRef

open Cert.ReferenceIdeal Cert.ReferenceIdeal.Gen Idealize.ShloMosaic
open scoped BigOperators

/-- The meta tokens in front of every batch's tokens. -/
def catT (P : FVec Ideal S8x8192x3072 .bf16) (T : FVec Ideal S16x3072 .bf16) : FVec Ideal S8x8208x3072 .f32 :=
  concatenate S8x8208x3072 1 [⟨S8x16x3072, broadcastInDim S8x16x3072 ![0, 1, 2] bcast_S1x16x3072_S8x16x3072_0_1_2
      (broadcastInDim S1x16x3072 ![1, 2] bcast_S16x3072_S1x16x3072_1_2 (extf .f32 T bitsLt_bf16_f32))⟩,
    ⟨S8x8192x3072, extf .f32 P bitsLt_bf16_f32⟩] concatenates_S8x16x3072_S8x8192x3072_S8x8208x3072_d1

/-- The queries, the keys and the values, laid out by head and attention map. -/
def qT (P : FVec Ideal S8x8192x3072 .bf16) : FVec Ideal S8x8192x4x2x64 .f32 :=
  shapeCast _ (transpose S8x8192x4x2x2x32 [0, 1, 2, 4, 3, 5]
    (shapeCast S8x8192x4x2x2x32 (extractStridedSlice S8x8192x512 ![0, 0, 1536] (extf .f32 P bitsLt_bf16_f32) slices_S8x8192x3072_S8x8192x512_0_0_1536) shapeCasts_S8x8192x512_S8x8192x4x2x2x32)
    transposes_S8x8192x4x2x2x32_S8x8192x4x2x2x32_0_1_2_4_3_5) shapeCasts_S8x8192x4x2x2x32_S8x8192x4x2x64
def kT (C : FVec Ideal S8x8208x3072 .f32) : FVec Ideal S8x8208x4x2x64 .f32 :=
  shapeCast _ (transpose S8x8208x4x2x2x32 [0, 1, 2, 4, 3, 5]
    (shapeCast S8x8208x4x2x2x32 (extractStridedSlice S8x8208x512 ![0, 0, 2048] C slices_S8x8208x3072_S8x8208x512_0_0_2048) shapeCasts_S8x8208x512_S8x8208x4x2x2x32)
    transposes_S8x8208x4x2x2x32_S8x8208x4x2x2x32_0_1_2_4_3_5) shapeCasts_S8x8208x4x2x2x32_S8x8208x4x2x64
def vT (C : FVec Ideal S8x8208x3072 .f32) : FVec Ideal S8x8208x4x128 .f32 :=
  shapeCast _ (extractStridedSlice S8x8208x512 ![0, 0, 2560] C slices_S8x8208x3072_S8x8208x512_0_0_2560) shapeCasts_S8x8208x512_S8x8208x4x128

/-- The scores, their softmax over the keys, the weight of the second map, the difference of the maps, the values it averages. -/
def scT (q : FVec Ideal S8x8192x4x2x64 .f32) (k : FVec Ideal S8x8208x4x2x64 .f32) : FVec Ideal S8x4x2x8192x8208 .f32 :=
  Host.dotGeneral dot_S8x8192x4x2x64_S8x8208x4x2x64_S8x4x2x8192x8208_4_4_1_1_023_023 none q k
def maxT (s : FVec Ideal S8x4x2x8192x8208 .f32) : FVec Ideal S8x4x2x8192 .f32 :=
  maximumf (broadcastInDim S8x4x2x8192 ![] bcast_S_S8x4x2x8192 (constant S_ .f32 0xFF800000#32))
    (Host.reduce FloatOps.maximumf s (constant S_ .f32 0xFF800000#32) reducesTo_S8x4x2x8192x8208_S8x4x2x8192_d4 h_S_)
def expT (s : FVec Ideal S8x4x2x8192x8208 .f32) : FVec Ideal S8x4x2x8192x8208 .f32 :=
  Host.exp (subf s (broadcastInDim S8x4x2x8192x8208 ![0, 1, 2, 3, 4] bcast_S8x4x2x8192x1_S8x4x2x8192x8208_0_1_2_3_4
    (broadcastInDim S8x4x2x8192x1 ![0, 1, 2, 3] bcast_S8x4x2x8192_S8x4x2x8192x1_0_1_2_3 (maxT s))))
def smT (s : FVec Ideal S8x4x2x8192x8208 .f32) : FVec Ideal S8x4x2x8192x8208 .f32 :=
  Host.divf (expT s) (broadcastInDim S8x4x2x8192x8208 ![0, 1, 2, 3, 4] bcast_S8x4x2x8192x1_S8x4x2x8192x8208_0_1_2_3_4
    (broadcastInDim S8x4x2x8192x1 ![0, 1, 2, 3] bcast_S8x4x2x8192_S8x4x2x8192x1_0_1_2_3
      (Host.reduceAdd (expT s) (constant S_ .f32 0x00000000#32) reducesTo_S8x4x2x8192x8208_S8x4x2x8192_d4 h_S_)))
def lamT (a b c d : FVec Ideal S1x64 .f32) : FVec Ideal S_ .f32 :=
  addf (subf (Host.exp (Host.reduceAdd (mulf a b) (constant S_ .f32 0x00000000#32) reducesTo_S1x64_S_d0_1 h_S_))
    (Host.exp (Host.reduceAdd (mulf c d) (constant S_ .f32 0x00000000#32) reducesTo_S1x64_S_d0_1 h_S_))) (constant S_ .f32 0x3E4CCCCD#32)
def mapT (p : FVec Ideal S8x4x2x8192x8208 .f32) (l : FVec Ideal S_ .f32) : FVec Ideal S8x4x8192x8208 .f32 :=
  subf (shapeCast _ (extractStridedSlice S8x4x1x8192x8208 ![0, 0, 0, 0, 0] p slices_S8x4x2x8192x8208_S8x4x1x8192x8208_0_0_0_0_0) shapeCasts_S8x4x1x8192x8208_S8x4x8192x8208)
    (mulf (broadcastInDim S8x4x8192x8208 ![] bcast_S_S8x4x8192x8208 l)
      (shapeCast _ (extractStridedSlice S8x4x1x8192x8208 ![0, 0, 1, 0, 0] p slices_S8x4x2x8192x8208_S8x4x1x8192x8208_0_0_1_0_0) shapeCasts_S8x4x1x8192x8208_S8x4x8192x8208))
def oT (v : FVec Ideal S8x8208x4x128 .f32) (a : FVec Ideal S8x4x8192x8208 .f32) : FVec Ideal S8x8192x4x128 .f32 :=
  transpose S8x8192x4x128 [0, 3, 1, 2] (Host.dotGeneral dot_S8x8208x4x128_S8x4x8192x8208_S8x4x128x8192_1_3_3_2_02_01 none v a) transposes_S8x4x128x8192_S8x8192x4x128_0_3_1_2

/-- The normalised rows, scaled, the heads side by side. -/
def finT (o : FVec Ideal S8x8192x4x128 .f32) (w : FVec Ideal S1x128 .f32) : FVec Ideal S8x8192x512 .bf16 :=
  truncf .bf16 (shapeCast _ (mulf (mulf (mulf o (broadcastInDim S8x8192x4x128 ![0, 1, 2, 3] bcast_S8x8192x4x1_S8x8192x4x128_0_1_2_3
      (Host.rsqrt (addf (Host.divf (broadcastInDim S8x8192x4x1 ![0, 1, 2] bcast_S8x8192x4_S8x8192x4x1_0_1_2
          (Host.reduceAdd (mulf o o) (constant S_ .f32 0x00000000#32) reducesTo_S8x8192x4x128_S8x8192x4_d3 h_S_))
          (broadcastInDim S8x8192x4x1 ![] bcast_S_S8x8192x4x1 (constant S_ .f32 0x43000000#32)))
        (broadcastInDim S8x8192x4x1 ![] bcast_S_S8x8192x4x1 (constant S_ .f32 0x3727C5AC#32))))))
      (broadcastInDim S8x8192x4x128 ![0, 1, 2, 3] bcast_S1x1x1x128_S8x8192x4x128_0_1_2_3 (broadcastInDim S1x1x1x128 ![3] bcast_S128_S1x1x1x128_3 (shapeCast _ w shapeCasts_S1x128_S128))))
      (broadcastInDim S8x8192x4x128 ![] bcast_S_S8x8192x4x128 (constant S_ .f32 0x3F4CCCCD#32))) shapeCasts_S8x8192x4x128_S8x8192x512) bitsLt_bf16_f32

/-- The reference's result is these stages composed. -/
theorem res_eq (m : (ℓ : Loc nD τ sig) → Buf (Elt Ideal) ℓ) (c : Dev nD) :
    Cert.ReferenceIdeal.Value.res_main_v61 m c
      = finT (oT (vT (catT (m ((c.tc : Thread nD τ).loc main_arg0)) (m ((c.tc : Thread nD τ).loc main_arg1))))
          (mapT (smT (scT (qT (m ((c.tc : Thread nD τ).loc main_arg0))) (kT (catT (m ((c.tc : Thread nD τ).loc main_arg0)) (m ((c.tc : Thread nD τ).loc main_arg1))))))
            (lamT (m ((c.tc : Thread nD τ).loc main_arg2)) (m ((c.tc : Thread nD τ).loc main_arg3)) (m ((c.tc : Thread nD τ).loc main_arg4)) (m ((c.tc : Thread nD τ).loc main_arg5)))))
          (m ((c.tc : Thread nD τ).loc main_arg6)) := rfl

theorem catT_apply (P : FVec Ideal S8x8192x3072 .bf16) (T : FVec Ideal S16x3072 .bf16) (b : Fin 8) (n : Fin 8208) (c : Fin 3072) :
    catT P T (ix3 b n c) = if h : n.val < 16 then T (ix2 ⟨n.val, h⟩ c) else P (ix3 b ⟨n.val - 16, by have := n.isLt; omega⟩ c) := by
  pointwise [catT]

theorem qT_apply (P : FVec Ideal S8x8192x3072 .bf16) (b : Fin 8) (i : Fin 8192) (h : Fin 4) (u : Fin 2) (d : Fin 64) :
    qT P (ix5 b i h u d) = P (ix3 b i ⟨1536 + (h.val * 128 + d.val / 32 * 64 + u.val * 32 + d.val % 32), by have := h.isLt; have := u.isLt; have := d.isLt; omega⟩) := by
  pointwise [qT]
theorem kT_apply (C : FVec Ideal S8x8208x3072 .f32) (b : Fin 8) (n : Fin 8208) (h : Fin 4) (u : Fin 2) (d : Fin 64) :
    kT C (ix5 b n h u d) = C (ix3 b n ⟨2048 + (h.val * 128 + d.val / 32 * 64 + u.val * 32 + d.val % 32), by have := h.isLt; have := u.isLt; have := d.isLt; omega⟩) := by
  pointwise [kT]
theorem vT_apply (C : FVec Ideal S8x8208x3072 .f32) (b : Fin 8) (n : Fin 8208) (h : Fin 4) (e : Fin 128) :
    vT C (ix4 b n h e) = C (ix3 b n ⟨2560 + (h.val * 128 + e.val), by have := h.isLt; have := e.isLt; omega⟩) := by
  pointwise [vT]
theorem scT_apply (q : FVec Ideal S8x8192x4x2x64 .f32) (k : FVec Ideal S8x8208x4x2x64 .f32) (b : Fin 8) (h : Fin 4) (u : Fin 2) (i : Fin 8192) (n : Fin 8208) :
    scT q k (ix5 b h u i n) = ∑ d : Fin 64, q (ix5 b i h u d) * k (ix5 b n h u d) := by
  pointwise [scT]
theorem lamT_apply (a b c d : FVec Ideal S1x64 .f32) (i : S_.Idx) :
    lamT a b c d i = Ideal.exp (∑ k : Fin 64, a (ix2 0 k) * b (ix2 0 k)) - Ideal.exp (∑ k : Fin 64, c (ix2 0 k) * d (ix2 0 k)) + Ideal.ofBits .f32 0x3E4CCCCD#32 := by
  pointwise [lamT]
  simp only [Fin.sum_univ_one]
theorem expT_apply (s : FVec Ideal S8x4x2x8192x8208 .f32) (b : Fin 8) (h : Fin 4) (u : Fin 2) (i : Fin 8192) (n : Fin 8208) :
    expT s (ix5 b h u i n) = Ideal.exp (s (ix5 b h u i n) - maxT s (ix4 b h u i)) := by
  pointwise [expT]
/-- The maximum along the last axis, from `⊥`, of a row of reals is a real: for any sizes. -/
theorem hostMax_real {n0 n1 n2 n3 n4 : ℕ} {u : Shape} (x : FVec Ideal ⟨5, ![n0, n1, n2, n3, n4]⟩ .f32) (init : FVec Ideal u .f32)
    (hR : (⟨5, ![n0, n1, n2, n3, n4]⟩ : Shape).ReducesTo [4] ⟨4, ![n0, n1, n2, n3]⟩) (hu : 0 < u.numel) (hi : init (Shape.Idx.first hu) = (⊥ : EReal))
    (a : Fin n0) (b : Fin n1) (c : Fin n2) (d : Fin n3) (z : FVec Ideal ⟨4, ![n0, n1, n2, n3]⟩ .f32) (hz : z (ix4 a b c d) = (⊥ : EReal)) (h4 : 0 < n4) (r : Fin n4 → ℝ) (hr : ∀ k, x (ix5 a b c d k) = r k) :
    ∃ M : ℝ, maximumf z (Host.reduce FloatOps.maximumf x init hR hu) (ix4 a b c d) = M := by
  obtain ⟨M, hM⟩ := AttnMath.fold_max_real h4 (fun k => x (ix5 a b c d k)) r hr
  refine ⟨M, ?_⟩
  show max (z (ix4 a b c d)) (Host.reduce max x init hR hu (ix4 a b c d)) = _
  rw [hz, Host.reduce_eq_fold, hR.fold_fiber_r5_a4, hi]
  exact (max_eq_right bot_le).trans hM

/-- A row's maximum, when the row is real, is a real. -/
theorem maxT_real (s : FVec Ideal S8x4x2x8192x8208 .f32) (b : Fin 8) (h : Fin 4) (u : Fin 2) (i : Fin 8192) (r : Fin 8208 → ℝ)
    (hr : ∀ n, s (ix5 b h u i n) = r n) : ∃ M : ℝ, maxT s (ix4 b h u i) = M := by
  have hN : Ideal.ofBits FTy.f32 0xFF800000#32 = (⊥ : EReal) := by simp [Ideal.ofBits, Ideal.ieee]
  have hz : broadcastInDim S8x4x2x8192 ![] bcast_S_S8x4x2x8192 (constant (F := Ideal) S_ .f32 0xFF800000#32) (ix4 b h u i) = (⊥ : EReal) := by
    pointwise
    exact hN
  unfold maxT
  exact hostMax_real s _ _ h_S_ hN b h u i _ hz (by norm_num) r hr

theorem smT_apply (s : FVec Ideal S8x4x2x8192x8208 .f32) (b : Fin 8) (h : Fin 4) (u : Fin 2) (i : Fin 8192) (n : Fin 8208) :
    smT s (ix5 b h u i n) = Ideal.div (expT s (ix5 b h u i n)) (∑ k : Fin 8208, expT s (ix5 b h u i k)) := by
  pointwise [smT]
theorem mapT_apply (p : FVec Ideal S8x4x2x8192x8208 .f32) (l : FVec Ideal S_ .f32) (b : Fin 8) (h : Fin 4) (i : Fin 8192) (n : Fin 8208) :
    mapT p l (ix4 b h i n) = p (ix5 b h 0 i n) - l ix0 * p (ix5 b h 1 i n) := by
  pointwise [mapT]
theorem oT_apply (v : FVec Ideal S8x8208x4x128 .f32) (a : FVec Ideal S8x4x8192x8208 .f32) (b : Fin 8) (i : Fin 8192) (h : Fin 4) (e : Fin 128) :
    oT v a (ix4 b i h e) = ∑ n : Fin 8208, v (ix4 b n h e) * a (ix4 b h i n) := by
  pointwise [oT]
theorem finT_apply (o : FVec Ideal S8x8192x4x128 .f32) (w : FVec Ideal S1x128 .f32) (b : Fin 8) (i : Fin 8192) (h : Fin 4) (e : Fin 128) :
    finT o w (ix3 b i ⟨128 * h.val + e.val, by have := h.isLt; have := e.isLt; omega⟩)
      = o (ix4 b i h e) * Ideal.rsqrt (Ideal.div (∑ k : Fin 128, o (ix4 b i h k) * o (ix4 b i h k)) (Ideal.ofBits .f32 0x43000000#32) + Ideal.ofBits .f32 0x3727C5AC#32)
        * w (ix2 0 e) * Ideal.ofBits .f32 0x3F4CCCCD#32 := by
  pointwise [finT]

end Cert.Proof.AttnRef

end
-- ==== Proof.AttnEq.lean ====
/-
  The attention's reference at an index is the function the kernel's result array holds, for real arguments.
-/
module

public import proofs.«01_k».proof.Proof.AttnRef
public import proofs.«01_k».proof.Proof.AttnScores

@[expose] public section

set_option maxRecDepth 16384

noncomputable section

namespace Cert.Proof.AttnEq

open Cert.ReferenceIdeal Cert.ReferenceIdeal.Gen Idealize.ShloMosaic
open Cert.Proof.AttnRef
open Cert.Proof.AttnBlocks (qcol kcol vcol ocol)
open Cert.Proof.AttnScores (kv score Reals sR vR score_eq val_eq avg attnAt)
open Cert.Proof.AttnOut (lam normed)
open scoped BigOperators

/-- Column `d` of the 64 that attention map `u` reads of a head's 128. -/
def strip (u : Fin 2) (d : Fin 64) : Fin 128 := ⟨d.val / 32 * 64 + u.val * 32 + d.val % 32, by have := u.isLt; have := d.isLt; omega⟩

/-- A sum over 128 columns masked to the stripes of one map is the sum over that map's 64 columns. -/
theorem stripes (u : Fin 2) (f g : Fin 128 → EReal) :
    ∑ d : Fin 128, (if (d.val / 32) % 2 = u.val then f d else 0) * g d = ∑ d : Fin 64, f (strip u d) * g (strip u d) := by
  have hL : ∀ j : Fin 4, (∑ t : Fin 32, (if ((j.val * 32 + t.val) / 32) % 2 = u.val then f ⟨j.val * 32 + t.val, by have := j.isLt; have := t.isLt; omega⟩ else 0)
        * g ⟨j.val * 32 + t.val, by have := j.isLt; have := t.isLt; omega⟩)
      = if j.val % 2 = u.val then ∑ t : Fin 32, f ⟨j.val * 32 + t.val, by have := j.isLt; have := t.isLt; omega⟩
          * g ⟨j.val * 32 + t.val, by have := j.isLt; have := t.isLt; omega⟩ else 0 := by
    intro j
    have hd : ∀ t : Fin 32, (j.val * 32 + t.val) / 32 = j.val := fun t => by have := t.isLt; omega
    split
    · next h => exact Finset.sum_congr rfl fun t _ => by rw [hd, if_pos h]
    · next h => exact Finset.sum_eq_zero fun t _ => by rw [hd, if_neg h, zero_mul]
  have hR : ∀ j : Fin 2, ∀ t : Fin 32, strip u ⟨j.val * 32 + t.val, by have := j.isLt; have := t.isLt; omega⟩
      = ⟨(2 * j.val + u.val) * 32 + t.val, by have := j.isLt; have := u.isLt; have := t.isLt; omega⟩ := fun j t =>
    Fin.ext (by show (j.val * 32 + t.val) / 32 * 64 + u.val * 32 + (j.val * 32 + t.val) % 32 = (2 * j.val + u.val) * 32 + t.val
                have := t.isLt; omega)
  rw [Fin.sum_univ_tiles 4 32 rfl, Fin.sum_univ_tiles 2 32 rfl]
  simp only [hR]
  rw [Finset.sum_congr rfl fun j _ => hL j, Fin.sum_univ_four, Fin.sum_univ_two]
  match u with
  | ⟨0, _⟩ => simp
  | ⟨1, _⟩ => simp

variable (P : FVec Ideal S8x8192x3072 .bf16) (T : FVec Ideal S16x3072 .bf16)

theorem cat_eq (b : Fin 8) (n : Fin 8208) (c : Fin 3072) : catT P T (ix3 b n c) = kv P T b n.val c := by
  rw [catT_apply]
  unfold kv
  by_cases h : n.val < 16
  · rw [dif_pos h, dif_pos h]
  · rw [dif_neg h, dif_neg h, dif_pos (by have := n.isLt; omega)]

theorem scores (b : Fin 8) (h : Fin 4) (u : Fin 2) (i : Fin 8192) (n : Fin 8208) :
    scT (qT P) (kT (catT P T)) (ix5 b h u i n) = score P T b h u.val i n.val := by
  unfold score
  rw [scT_apply, stripes u (fun d => P (ix3 b i (qcol h d))) (fun d => kv P T b n.val (kcol h d))]
  refine Finset.sum_congr rfl fun d _ => ?_
  rw [qT_apply, kT_apply, cat_eq]
  congr 1
  · exact congrArg (fun c => P (ix3 b i c)) (Fin.ext (by
      show 1536 + (h.val * 128 + d.val / 32 * 64 + u.val * 32 + d.val % 32) = 1536 + 128 * h.val + (d.val / 32 * 64 + u.val * 32 + d.val % 32); omega))
  · exact congrArg (fun c => kv P T b n.val c) (Fin.ext (by
      show 2048 + (h.val * 128 + d.val / 32 * 64 + u.val * 32 + d.val % 32) = 2048 + 128 * h.val + (d.val / 32 * 64 + u.val * 32 + d.val % 32); omega))

theorem vals (b : Fin 8) (n : Fin 8208) (h : Fin 4) (e : Fin 128) : vT (catT P T) (ix4 b n h e) = kv P T b n.val (vcol h e) := by
  rw [vT_apply, cat_eq]
  exact congrArg (fun c => kv P T b n.val c) (Fin.ext (by show 2560 + (h.val * 128 + e.val) = 2560 + 128 * h.val + e.val; omega))

/-- A row's softmax, of real scores, is the row of softmax weights. -/
theorem soft (s : FVec Ideal S8x4x2x8192x8208 .f32) (b : Fin 8) (h : Fin 4) (u : Fin 2) (i : Fin 8192) (r : ℕ → ℝ)
    (hr : ∀ n : Fin 8208, s (ix5 b h u i n) = r n.val) (n : Fin 8208) : smT s (ix5 b h u i n) = AttnMath.wt r 8208 n.val := by
  obtain ⟨M, hM⟩ := maxT_real s b h u i (fun n => r n.val) hr
  have hE : ∀ k : Fin 8208, expT s (ix5 b h u i k) = (Real.exp (r k.val - M) : EReal) := fun k => by
    rw [expT_apply, hr, hM, AttnMath.exp_sub]
  rw [smT_apply, hE, Finset.sum_congr rfl fun k _ => hE k, ← AttnMath.coe_sum, ← Finset.sum_range (fun k => Real.exp (r k - M))]
  exact AttnMath.weight r 8208 n.val (by norm_num) M

/-- The values averaged by the difference of the two maps are the difference of the averages. -/
theorem out_eq (H : Reals P T) (l : FVec Ideal S_ .f32) (lr : ℝ) (hl : l ix0 = lr) (b : Fin 8) (i : Fin 8192) (h : Fin 4) (e : Fin 128) :
    oT (vT (catT P T)) (mapT (smT (scT (qT P) (kT (catT P T)))) l) (ix4 b i h e) = avg P T b h 0 i e - (lr : EReal) * avg P T b h 1 i e := by
  have hs : ∀ (u : Fin 2) (n : Fin 8208), smT (scT (qT P) (kT (catT P T))) (ix5 b h u i n) = AttnMath.wt (sR P T b h u.val i) 8208 n.val := fun u n =>
    soft _ b h u i (sR P T b h u.val i) (fun k => (scores P T b h u i k).trans (score_eq P T H b h u.val i k.val)) n
  unfold avg
  rw [AttnMath.diff, oT_apply]
  refine Finset.sum_congr rfl fun n _ => ?_
  rw [mapT_apply, vals, val_eq P T H, hs 0 n, hs 1 n, hl]
  rfl

/-- The reference at an index. -/
theorem ref_at (H : Reals P T) (a1 b1 a2 b2 : FVec Ideal S1x64 .f32) (w : FVec Ideal S1x128 .f32) (lr : ℝ) (hl : lam a1 b1 a2 b2 = lr)
    (b : Fin 8) (i : Fin 8192) (h : Fin 4) (e : Fin 128) :
    finT (oT (vT (catT P T)) (mapT (smT (scT (qT P) (kT (catT P T)))) (lamT a1 b1 a2 b2))) w (ix3 b i (ocol h e))
      = attnAt P T a1 b1 a2 b2 w b i h e := by
  have hl' : lamT a1 b1 a2 b2 ix0 = lr := (lamT_apply _ _ _ _ _).trans hl
  have ho : ∀ k : Fin 128, oT (vT (catT P T)) (mapT (smT (scT (qT P) (kT (catT P T)))) (lamT a1 b1 a2 b2)) (ix4 b i h k)
      = avg P T b h 0 i k - lam a1 b1 a2 b2 * avg P T b h 1 i k := fun k => by
    rw [out_eq P T H _ lr hl', hl]
  refine (finT_apply _ _ b i h e).trans ?_
  unfold attnAt normed
  rw [ho e, Finset.sum_congr rfl fun k _ => by rw [ho k]]

end Cert.Proof.AttnEq

end
-- ==== Proof.AttnFinite.lean ====
/-
  What the precondition says: every element the attention reads is a real.
-/
module

public import proofs.«01_k».proof.Defs
public import proofs.«01_k».proof.Proof.AttnState
public import proofs.«01_k».proof.Proof.Gen.Pre_finite
public import Idealize.ShloMosaic.Lib.ReduceAll
public import Idealize.ShloMosaic.Lib.Pointwise

@[expose] public section

set_option maxRecDepth 16384

noncomputable section

namespace Cert.Proof.AttnFinite

open Idealize.ShloMosaic Idealize.ShloMosaic.TcCoe
open Cert.Proof.AttnScores (Reals sum_real)
open Cert.Proof.AttnState (tok met)
open Cert.Proof.AttnOut (lam)
open scoped BigOperators

instance : Subsingleton Cert.Pre_finite.S_.Idx := ⟨fun _ _ => funext fun a => a.elim0⟩

theorem both (x y : BitVec 1) (h : x &&& y = 1#1) : x = 1#1 ∧ y = 1#1 := by revert h; revert x y; decide

/-- An extended real whose absolute value is below `⊤` is a real. -/
theorem real_of_lt (x : EReal) (h : Ideal.cmp .olt (max x (-x)) (Ideal.ofBits .f32 0x7F800000#32) = 1#1) : ∃ r : ℝ, x = r := by
  have hT : Ideal.ofBits FTy.f32 0x7F800000#32 = (⊤ : EReal) := by simp [Ideal.ofBits, Ideal.ieee]
  rw [hT] at h
  induction x using EReal.rec with
  | bot => simp [Ideal.cmp] at h
  | top => simp [Ideal.cmp] at h
  | coe r => exact ⟨r, rfl⟩

section
open Cert.Pre_finite Cert.Pre_finite.Gen
variable (a0 : FVec Ideal S8x8192x3072 .bf16) (a1 : FVec Ideal S16x3072 .bf16) (a2 a3 a4 a5 : FVec Ideal S1x64 .f32) (a6 : FVec Ideal S1x128 .f32)

/-- One of the precondition's tests: every element's absolute value below infinity. -/
theorem all_real {s : Shape} {axes : List (Fin s.rank)} (x : FVec Ideal s .f32) (hb : S_.BroadcastsInDim s (![] : Fin 0 → Fin s.rank))
    (hr : s.ReducesTo axes S_)
    (h : Host.reduce IntOp.andi (cmpf .olt (Host.absf x) (broadcastInDim s ![] hb (constant S_ .f32 0x7F800000#32))) (constantI S_ 1 1#1) hr h_S_ ix0 = 1#1)
    (i : s.Idx) : ∃ r : ℝ, x i = r :=
  real_of_lt (x i) (Host.reduce_andi_all _ _ hr h_S_ ix0 h i)

theorem decode (h : fn (F := Ideal) a0 a1 a2 a3 a4 a5 a6 = fun _ => 1#1) :
    (∀ i, ∃ r : ℝ, extractStridedSlice S8x8192x1536 ![0, 0, 1536] a0 slices_S8x8192x3072_S8x8192x1536_0_0_1536 i = (r : EReal))
    ∧ (∀ i, ∃ r : ℝ, extractStridedSlice S16x1024 ![0, 2048] a1 slices_S16x3072_S16x1024_0_2048 i = (r : EReal))
    ∧ (∀ i, ∃ r : ℝ, a2 i = (r : EReal)) ∧ (∀ i, ∃ r : ℝ, a3 i = (r : EReal)) ∧ (∀ i, ∃ r : ℝ, a4 i = (r : EReal)) ∧ (∀ i, ∃ r : ℝ, a5 i = (r : EReal)) := by
  have h0 := congrFun h ix0
  unfold fn fn_part1 at h0
  obtain ⟨h0, e5⟩ := both _ _ h0
  obtain ⟨h0, e4⟩ := both _ _ h0
  obtain ⟨h0, e3⟩ := both _ _ h0
  obtain ⟨h0, e2⟩ := both _ _ h0
  obtain ⟨e0, e1⟩ := both _ _ h0
  exact ⟨all_real _ _ _ e0, all_real _ _ _ e1, all_real _ _ _ e2, all_real _ _ _ e3, all_real _ _ _ e4, all_real _ _ _ e5⟩

end

open Cert.KernelIdeal Cert.KernelIdeal.Gen
variable (m : (ℓ : Loc nD τ sig) → Buf (Elt Ideal) ℓ)

theorem reals (H : Cert.Pre_KernelIdeal_finite m) (c : Dev nD) : Reals (tok m c) (met m c) := by
  obtain ⟨h0, h1, -⟩ := decode _ _ _ _ _ _ _ (H c)
  refine ⟨fun b i k hk => ?_, fun n k hk => ?_⟩
  · obtain ⟨r, hr⟩ := h0 (ix3 b i ⟨k.val - 1536, by have := k.isLt; omega⟩)
    refine ⟨r, Eq.trans ?_ hr⟩
    pointwise
    exact congrArg (fun k => tok m c (ix3 b i k)) (Fin.ext (by show k.val = 1536 + (k.val - 1536); omega))
  · obtain ⟨r, hr⟩ := h1 (ix2 n ⟨k.val - 2048, by have := k.isLt; omega⟩)
    refine ⟨r, Eq.trans ?_ hr⟩
    pointwise
    exact congrArg (fun k => met m c (ix2 n k)) (Fin.ext (by show k.val = 2048 + (k.val - 2048); omega))

/-- The weight of the second map, of real lambda vectors, is a real. -/
theorem lam_of_real (a b c d : S1x64.Idx → EReal) (ha : ∀ i, ∃ r : ℝ, a i = r) (hb : ∀ i, ∃ r : ℝ, b i = r) (hc : ∀ i, ∃ r : ℝ, c i = r)
    (hd : ∀ i, ∃ r : ℝ, d i = r) : ∃ r : ℝ, lam a b c d = r := by
  have hs : ∀ x y : S1x64.Idx → EReal, (∀ i, ∃ r : ℝ, x i = r) → (∀ i, ∃ r : ℝ, y i = r) → ∃ r : ℝ, ∑ k : Fin 64, x (ix2 0 k) * y (ix2 0 k) = r :=
    fun x y hx hy => sum_real _ _ fun k => by
      obtain ⟨p, hp⟩ := hx (ix2 0 k); obtain ⟨q, hq⟩ := hy (ix2 0 k)
      exact ⟨p * q, by rw [hp, hq, EReal.coe_mul]⟩
  obtain ⟨p, hp⟩ := hs a b ha hb
  obtain ⟨q, hq⟩ := hs c d hc hd
  obtain ⟨l, hl⟩ : ∃ l : ℝ, Ideal.ofBits FTy.f32 0x3E4CCCCD#32 = l := ⟨_, by simp [Ideal.ofBits, Ideal.ieee]; rfl⟩
  exact ⟨Real.exp p - Real.exp q + l, by unfold lam; rw [hp, hq, hl, Ideal.exp_coe, Ideal.exp_coe, ← EReal.coe_sub, ← EReal.coe_add]⟩

theorem lam_real (H : Cert.Pre_KernelIdeal_finite m) (c : Dev nD) : ∃ r : ℝ, lam (m ((c : Thread nD τ).loc main_arg2)) (m ((c : Thread nD τ).loc main_arg3))
    (m ((c : Thread nD τ).loc main_arg4)) (m ((c : Thread nD τ).loc main_arg5)) = r := by
  obtain ⟨-, -, h2, h3, h4, h5⟩ := decode _ _ _ _ _ _ _ (H c)
  exact lam_of_real _ _ _ _ h2 h3 h4 h5

end Cert.Proof.AttnFinite

end
-- ==== Proof.AttnClaim.lean ====
/-
  The attention call, the claims: frames, and the equation — both runs end with the same result.
-/
module

public import proofs.«01_k».proof.Defs
public import proofs.«01_k».proof.Proof.Gen.Kernel.Frame
public import proofs.«01_k».proof.Proof.Gen.KernelIdeal.Frame
public import proofs.«01_k».proof.Proof.AttnArray
public import proofs.«01_k».proof.Proof.AttnEq
public import proofs.«01_k».proof.Proof.AttnFinite
public import Idealize.ShloMosaic.Lib.Quiescent

@[expose] public section

set_option maxRecDepth 16384

noncomputable section

namespace Cert.Proof.AttnClaim

open Idealize.ShloMosaic Idealize.ShloMosaic.TcCoe Idealize.SL.Sem
open Cert.Proof.AttnState (G tok met)

theorem frame_k : Cert.quiescent_Kernel := fun m ρ _ => Cert.Kernel.Gen.frame m ρ
theorem frame_ki : Cert.quiescent_KernelIdeal := fun m ρ _ => Cert.KernelIdeal.Gen.frame m ρ
theorem frame_ki_finite : Cert.quiescent_KernelIdeal_pre_finite := fun m ρ _ => Cert.KernelIdeal.Gen.frame m ρ
/-- The reference's frame, read off its run. -/
theorem frame_r : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)
theorem frame_r_finite : Cert.quiescent_ReferenceIdeal_pre_finite := fun m ρ _ => frame_r m ρ trivial
theorem preserves : Cert.preserves_Kernel_KernelIdeal := trivial

/-- The kernel's result array is the reference's term of the same arguments. -/
theorem G_eq (m : (ℓ : Loc Cert.KernelIdeal.nD Cert.KernelIdeal.τ Cert.KernelIdeal.sig) → Buf (Elt Ideal) ℓ) (H : Cert.Pre_KernelIdeal_finite m)
    (c : Dev Cert.KernelIdeal.nD) :
    G m c = AttnRef.finT (AttnRef.oT (AttnRef.vT (AttnRef.catT (tok m c) (met m c)))
        (AttnRef.mapT (AttnRef.smT (AttnRef.scT (AttnRef.qT (tok m c)) (AttnRef.kT (AttnRef.catT (tok m c) (met m c)))))
          (AttnRef.lamT (m ((c : Thread Cert.KernelIdeal.nD Cert.KernelIdeal.τ).loc Cert.KernelIdeal.main_arg2))
            (m ((c : Thread Cert.KernelIdeal.nD Cert.KernelIdeal.τ).loc Cert.KernelIdeal.main_arg3))
            (m ((c : Thread Cert.KernelIdeal.nD Cert.KernelIdeal.τ).loc Cert.KernelIdeal.main_arg4))
            (m ((c : Thread Cert.KernelIdeal.nD Cert.KernelIdeal.τ).loc Cert.KernelIdeal.main_arg5)))))
        (m ((c : Thread Cert.KernelIdeal.nD Cert.KernelIdeal.τ).loc Cert.KernelIdeal.main_arg6)) := by
  obtain ⟨lr, hl⟩ := AttnFinite.lam_real m H c
  have key : ∀ (b : Fin 8) (i : Fin 8192) (h : Fin 4) (e : Fin 128), G m c (ix3 b i (AttnBlocks.ocol h e)) = _ := fun b i h e =>
    (AttnArray.G_at m c b i h e).trans (AttnEq.ref_at (tok m c) (met m c) (AttnFinite.reals m H c) _ _ _ _ _ lr hl b i h e).symm
  funext y
  have h2 : (y 2).val < 512 := (y 2).isLt
  have hy : y = ix3 (y 0) (y 1) (AttnBlocks.ocol ⟨(y 2).val / 128, by omega⟩ ⟨(y 2).val % 128, Nat.mod_lt _ (by norm_num)⟩) := by
    funext a
    match a with
    | ⟨0, _⟩ => rfl
    | ⟨1, _⟩ => rfl
    | ⟨2, _⟩ => exact Fin.ext (by show (y 2).val = 128 * ((y 2).val / 128) + (y 2).val % 128; omega)
  rw [hy]
  exact key _ _ _ _

/-- At the ideal instance, on finite arguments, the attention kernel and its reference end with equal results. -/
theorem algebraic : Cert.algebraic_KernelIdeal_ReferenceIdeal_pre_finite := by
  intro m ρ m' ρ' H hag
  refine ⟨fun c => G m c, AttnArray.run m ρ (AttnFinite.reals m H),
    (θ_run Cert.ReferenceIdeal.defs _ _).mono (fun _ h c => ⟨(h c).1.trans ?_, (h c).2⟩) (Cert.ReferenceIdeal.Value.run (F := Ideal) m' ρ')⟩
  rw [AttnRef.res_eq, (hag c).1, (hag c).2.1, (hag c).2.2.1, (hag c).2.2.2.1, (hag c).2.2.2.2.1, (hag c).2.2.2.2.2.1, (hag c).2.2.2.2.2.2]
  exact (G_eq m H c).symm

end Cert.Proof.AttnClaim

end
-- ==== Proof.FfnBlock.lean ====
/-
  The feed-forward call, one grid point: what the body leaves in the output block, as a function of the blocks it
  reads. The kernel walks the hidden width 2048 in four chunks of 512; the chunks' partial products added up are the
  one sum over the whole hidden width.
-/
module

public import proofs.«01_k».proof.Proof.Gen.FfnIdeal.Frame
public import Idealize.ShloMosaic.Lib.Pointwise
public import Idealize.ShloMosaic.Lib.Pipeline.Value

@[expose] public section

set_option maxRecDepth 16384

noncomputable section

namespace Cert.Proof.FfnBlock

open Cert.FfnIdeal Cert.FfnIdeal.Gen Idealize.ShloMosaic
open scoped BigOperators

/-- The gated unit: from the gate's and the up-projection's values, `g · logistic g · u`. -/
def gated (g u : EReal) : EReal := g * Ideal.logistic g * u

/-- One chunk's contribution as the kernel spells it: two products, the gate, the product down. -/
def chunk (x : FVec Ideal S768x1024 .bf16) (g u : FVec Ideal S1x1024x512 .bf16) (d : FVec Ideal S1x512x1024 .bf16) :
    FVec Ideal S768x1024 .f32 :=
  matmul dot_S768x512_S512x1024_S768x1024_1_0_0_1_n_n none
    (truncf .bf16 (mulf (mulf
        (matmul dot_S768x1024_S1024x512_S768x512_1_0_0_1_n_n none x (shapeCast S1024x512 g shapeCasts_S1x1024x512_S1024x512) (constant S768x512 .f32 0x00000000#32))
        (logistic (matmul dot_S768x1024_S1024x512_S768x512_1_0_0_1_n_n none x (shapeCast S1024x512 g shapeCasts_S1x1024x512_S1024x512) (constant S768x512 .f32 0x00000000#32))))
        (matmul dot_S768x1024_S1024x512_S768x512_1_0_0_1_n_n none x (shapeCast S1024x512 u shapeCasts_S1x1024x512_S1024x512) (constant S768x512 .f32 0x00000000#32))) bitsLt_bf16_f32)
    (shapeCast S512x1024 d shapeCasts_S1x512x1024_S512x1024) (constant S768x1024 .f32 0x00000000#32)

/-- A chunk at row `r`, column `e`: the sum over the chunk's 512 hidden positions. -/
theorem chunk_apply (x : FVec Ideal S768x1024 .bf16) (g u : FVec Ideal S1x1024x512 .bf16) (d : FVec Ideal S1x512x1024 .bf16)
    (r : Fin 768) (e : Fin 1024) :
    chunk x g u d (ix2 r e) = ∑ f : Fin 512, gated (∑ k : Fin 1024, x (ix2 r k) * g (ix3 0 k f)) (∑ k : Fin 1024, x (ix2 r k) * u (ix3 0 k f))
      * d (ix3 0 f e) := by
  pointwise [chunk, gated]

/-- The stored value is the four chunks' contributions added up. -/
theorem pay_eq (x : Vec Ideal S1x768x1024 .bf16) (g1 u1 : Vec Ideal S1x1024x512 .bf16) (d1 : Vec Ideal S1x512x1024 .bf16)
    (g2 u2 : Vec Ideal S1x1024x512 .bf16) (d2 : Vec Ideal S1x512x1024 .bf16)
    (g3 u3 : Vec Ideal S1x1024x512 .bf16) (d3 : Vec Ideal S1x512x1024 .bf16)
    (g4 u4 : Vec Ideal S1x1024x512 .bf16) (d4 : Vec Ideal S1x512x1024 .bf16) :
    k0_pay4 (k0_pay1 x) (k0_pay2 x g1 u1 d1) (k0_pay3 x g2 u2 d2) g3 u3 d3 g4 u4 d4
      = shapeCast S1x768x1024 (truncf .bf16 (addf (addf (addf (addf (broadcast S768x1024 (Scalar.ofBits .f32 0x00000000#32))
          (chunk (shapeCast S768x1024 x shapeCasts_S1x768x1024_S768x1024) g1 u1 d1)) (chunk (shapeCast S768x1024 x shapeCasts_S1x768x1024_S768x1024) g2 u2 d2))
          (chunk (shapeCast S768x1024 x shapeCasts_S1x768x1024_S768x1024) g3 u3 d3)) (chunk (shapeCast S768x1024 x shapeCasts_S1x768x1024_S768x1024) g4 u4 d4)) bitsLt_bf16_f32)
          shapeCasts_S768x1024_S1x768x1024 := rfl

/-- Hidden position `f` of the block: the gated value of row `r`. -/
def hid (x : S1x768x1024.Idx → EReal) (g u : S1x1024x2048.Idx → EReal) (r : Fin 768) (f : Fin 2048) : EReal :=
  gated (∑ k : Fin 1024, x (ix3 0 r k) * g (ix3 0 k f)) (∑ k : Fin 1024, x (ix3 0 r k) * u (ix3 0 k f))

theorem hz : (![0, 0, 0] : Fin 3 → Nat) = fun _ => 0 := funext fun a => by fin_cases a <;> rfl

/-- The output block at row `r`, column `e`: the gated hidden values times the down-projection, over the whole hidden width. -/
theorem out_apply (x : Vec Ideal S1x768x1024 .bf16) (g u : Vec Ideal S1x1024x2048 .bf16) (d : Vec Ideal S1x2048x1024 .bf16)
    (r : Fin 768) (e : Fin 1024) :
    out0_4 x g u d (ix3 0 r e) = ∑ f : Fin 2048, hid x g u r f * d (ix3 0 f e) := by
  unfold out0_4
  rw [View.canon_unit_zero hz, View.ld_unit_zero hz, pay_eq]
  rw [Fin.sum_univ_tiles 4 512 (by norm_num), Fin.sum_univ_four]
  pointwise [chunk_apply, hid]

end Cert.Proof.FfnBlock

end
-- ==== Proof.FfnArray.lean ====
/-
  The feed-forward call, the whole array: every grid point's block lies at expert `t / 11`, rows `768 · (t % 11) …`;
  the blocks tile the result, so the result array holds one function of the arguments.
-/
module

public import proofs.«01_k».proof.Proof.FfnBlock
public import proofs.«01_k».proof.Proof.Gen.FfnIdeal.Value

@[expose] public section

set_option maxRecDepth 16384

noncomputable section

namespace Cert.Proof.FfnArray

open Cert.FfnIdeal Cert.FfnIdeal.Gen Idealize.ShloMosaic Idealize.ShloMosaic.TcCoe Idealize.SL.Sem
open Idealize.ShloMosaic.Pipeline (Dat)
open Cert.Proof.FfnBlock (gated)
open scoped BigOperators

/-- One expert's feed-forward at token `r`, output column `e`: `Σ_f silu(x·g) · (x·u) · d`. -/
def ffnAt (x : S16x8448x1024.Idx → EReal) (g u : S16x1024x2048.Idx → EReal) (d : S16x2048x1024.Idx → EReal)
    (n : Fin 16) (r : Fin 8448) (e : Fin 1024) : EReal :=
  ∑ f : Fin 2048, gated (∑ k : Fin 1024, x (ix3 n r k) * g (ix3 n k f)) (∑ k : Fin 1024, x (ix3 n r k) * u (ix3 n k f)) * d (ix3 n f e)

variable (m : (ℓ : Loc nD τ sig) → Buf (Elt Ideal) ℓ) (ρ : Dev nD → PrngReg)

/-- The result array as one function of device `c`'s arguments. -/
def G (c : Dev nD) : S16x8448x1024.Idx → EReal := fun i =>
  ffnAt (m ((c : Thread nD τ).loc main_arg0)) (m ((c : Thread nD τ).loc main_arg1)) (m ((c : Thread nD τ).loc main_arg2))
    (m ((c : Thread nD τ).loc main_arg3)) (i 0) (i 1) (i 2)

/-! The windows' block indices in closed form, decided over the grid. -/

theorem idx0 : ∀ t : Fin cfg0.N, win0_0.index t 0 = t.val / 11 ∧ win0_0.index t 1 = t.val % 11 ∧ win0_0.index t 2 = 0 :=
  (by decide +kernel : ∀ t : Fin grid0.N, win0_0.index t 0 = t.val / 11 ∧ win0_0.index t 1 = t.val % 11 ∧ win0_0.index t 2 = 0)
theorem idx1 : ∀ t : Fin cfg0.N, win0_1.index t 0 = t.val / 11 ∧ win0_1.index t 1 = 0 ∧ win0_1.index t 2 = 0 :=
  (by decide +kernel : ∀ t : Fin grid0.N, win0_1.index t 0 = t.val / 11 ∧ win0_1.index t 1 = 0 ∧ win0_1.index t 2 = 0)
theorem idx2 : ∀ t : Fin cfg0.N, win0_2.index t 0 = t.val / 11 ∧ win0_2.index t 1 = 0 ∧ win0_2.index t 2 = 0 :=
  (by decide +kernel : ∀ t : Fin grid0.N, win0_2.index t 0 = t.val / 11 ∧ win0_2.index t 1 = 0 ∧ win0_2.index t 2 = 0)
theorem idx3 : ∀ t : Fin cfg0.N, win0_3.index t 0 = t.val / 11 ∧ win0_3.index t 1 = 0 ∧ win0_3.index t 2 = 0 :=
  (by decide +kernel : ∀ t : Fin grid0.N, win0_3.index t 0 = t.val / 11 ∧ win0_3.index t 1 = 0 ∧ win0_3.index t 2 = 0)
theorem idx4 : ∀ t : Fin cfg0.N, win0_4.index t 0 = t.val / 11 ∧ win0_4.index t 1 = t.val % 11 ∧ win0_4.index t 2 = 0 :=
  (by decide +kernel : ∀ t : Fin grid0.N, win0_4.index t 0 = t.val / 11 ∧ win0_4.index t 1 = t.val % 11 ∧ win0_4.index t 2 = 0)

theorem lt_N (t : Fin cfg0.N) : t.val < 176 := by have h : t.val < grid0.N := t.isLt; rw [N_0] at h; exact h

/-- The expert and the first row of point `t`'s block. -/
def ex (t : Fin cfg0.N) : Fin 16 := ⟨t.val / 11, by have := lt_N t; omega⟩
def row (t : Fin cfg0.N) (r : Fin 768) : Fin 8448 := ⟨t.val % 11 * 768 + r.val, by have := lt_N t; have := r.isLt; omega⟩

/-- The token block at point `t`: rows of expert `ex t`. -/
theorem blk0 (c : Dev nD) (t : Fin cfg0.N) (r : Fin 768) (k : Fin 1024) :
    iblk m c 0 t (ix3 0 r k) = m ((c : Thread nD τ).loc main_arg0) (ix3 (ex t) (row t r) k) := by
  show m ((c : Thread nD τ).loc main_arg0) ((win0_0.blk t).view.emb (ix3 0 r k)) = _
  refine congrArg _ (funext fun a => Fin.ext ?_)
  obtain ⟨e0, e1, e2⟩ := idx0 t
  match a with
  | ⟨0, _⟩ => show win0_0.index t 0 * 1 + 1 * 0 = t.val / 11; rw [e0]; omega
  | ⟨1, _⟩ => show win0_0.index t 1 * 768 + 1 * r.val = t.val % 11 * 768 + r.val; rw [e1]; omega
  | ⟨2, _⟩ => show win0_0.index t 2 * 1024 + 1 * k.val = k.val; rw [e2]; omega

/-- The gate's block at point `t`: expert `ex t`'s whole matrix. -/
theorem blk1 (c : Dev nD) (t : Fin cfg0.N) (k : Fin 1024) (f : Fin 2048) :
    iblk m c 1 t (ix3 0 k f) = m ((c : Thread nD τ).loc main_arg1) (ix3 (ex t) k f) := by
  show m ((c : Thread nD τ).loc main_arg1) ((win0_1.blk t).view.emb (ix3 0 k f)) = _
  refine congrArg _ (funext fun a => Fin.ext ?_)
  obtain ⟨e0, e1, e2⟩ := idx1 t
  match a with
  | ⟨0, _⟩ => show win0_1.index t 0 * 1 + 1 * 0 = t.val / 11; rw [e0]; omega
  | ⟨1, _⟩ => show win0_1.index t 1 * 1024 + 1 * k.val = k.val; rw [e1]; omega
  | ⟨2, _⟩ => show win0_1.index t 2 * 2048 + 1 * f.val = f.val; rw [e2]; omega

/-- The up-projection's block at point `t`. -/
theorem blk2 (c : Dev nD) (t : Fin cfg0.N) (k : Fin 1024) (f : Fin 2048) :
    iblk m c 2 t (ix3 0 k f) = m ((c : Thread nD τ).loc main_arg2) (ix3 (ex t) k f) := by
  show m ((c : Thread nD τ).loc main_arg2) ((win0_2.blk t).view.emb (ix3 0 k f)) = _
  refine congrArg _ (funext fun a => Fin.ext ?_)
  obtain ⟨e0, e1, e2⟩ := idx2 t
  match a with
  | ⟨0, _⟩ => show win0_2.index t 0 * 1 + 1 * 0 = t.val / 11; rw [e0]; omega
  | ⟨1, _⟩ => show win0_2.index t 1 * 1024 + 1 * k.val = k.val; rw [e1]; omega
  | ⟨2, _⟩ => show win0_2.index t 2 * 2048 + 1 * f.val = f.val; rw [e2]; omega

/-- The down-projection's block at point `t`. -/
theorem blk3 (c : Dev nD) (t : Fin cfg0.N) (f : Fin 2048) (e : Fin 1024) :
    iblk m c 3 t (ix3 0 f e) = m ((c : Thread nD τ).loc main_arg3) (ix3 (ex t) f e) := by
  show m ((c : Thread nD τ).loc main_arg3) ((win0_3.blk t).view.emb (ix3 0 f e)) = _
  refine congrArg _ (funext fun a => Fin.ext ?_)
  obtain ⟨e0, e1, e2⟩ := idx3 t
  match a with
  | ⟨0, _⟩ => show win0_3.index t 0 * 1 + 1 * 0 = t.val / 11; rw [e0]; omega
  | ⟨1, _⟩ => show win0_3.index t 1 * 2048 + 1 * f.val = f.val; rw [e1]; omega
  | ⟨2, _⟩ => show win0_3.index t 2 * 1024 + 1 * e.val = e.val; rw [e2]; omega

/-- Where the output block's index lies in the result array. -/
theorem emb4 (t : Fin cfg0.N) (r : Fin 768) (e : Fin 1024) :
    (win0_4.blk t).view.emb (ix3 0 r e) = ix3 (ex t) (row t r) e := by
  refine funext fun a => Fin.ext ?_
  obtain ⟨e0, e1, e2⟩ := idx4 t
  match a with
  | ⟨0, _⟩ => show win0_4.index t 0 * 1 + 1 * 0 = t.val / 11; rw [e0]; omega
  | ⟨1, _⟩ => show win0_4.index t 1 * 768 + 1 * r.val = t.val % 11 * 768 + r.val; rw [e1]; omega
  | ⟨2, _⟩ => show win0_4.index t 2 * 1024 + 1 * e.val = e.val; rw [e2]; omega

/-- What point `t` writes back is its block of `G`. -/
theorem flushed_eq (c : Dev nD) (t : Fin cfg0.N) :
    (dats m 0 c).flushed 4 t = (win0_4.blk t).view.read (Elt Ideal) (G m c) := by
  rw [Cert.FfnIdeal.Value.flushed4]
  have key : ∀ (r : Fin 768) (e : Fin 1024),
      out0_4 (iblk m c 0 t) (iblk m c 1 t) (iblk m c 2 t) (iblk m c 3 t) (ix3 0 r e) = G m c ((win0_4.blk t).view.emb (ix3 0 r e)) := by
    intro r e
    rw [emb4, FfnBlock.out_apply]
    show _ = ffnAt _ _ _ _ (ex t) (row t r) e
    unfold ffnAt FfnBlock.hid
    simp only [blk0, blk1, blk2, blk3]
  funext y
  show out0_4 (iblk m c 0 t) (iblk m c 1 t) (iblk m c 2 t) (iblk m c 3 t) y = G m c ((win0_4.blk t).view.emb y)
  rw [show y = ix3 0 (y 1) (y 2) from by
    have h : (y 0).val < 1 := (y 0).isLt
    funext a
    match a with
    | ⟨0, _⟩ => exact Fin.ext (by show (y 0).val = 0; omega)
    | ⟨1, _⟩ => rfl
    | ⟨2, _⟩ => rfl]
  exact key _ _

/-- The blocks tile the result: row `r` of expert `n` lies in the block of point `11 n + r / 768`. -/
theorem cover (i : S16x8448x1024.Idx) :
    ∃ t : Fin cfg0.N, (cfg0.win 4).flush t = true ∧ i ∈ ((cfg0.win 4).blk t).view.set := by
  have h0 : (i 0).val < 16 := (i 0).isLt
  have h1 : (i 1).val < 8448 := (i 1).isLt
  have h2 : (i 2).val < 1024 := (i 2).isLt
  have hN : cfg0.N = 176 := N_0
  refine ⟨⟨(i 0).val * 11 + (i 1).val / 768, by omega⟩, flush0_4 _, ?_⟩
  generalize ht : (⟨(i 0).val * 11 + (i 1).val / 768, _⟩ : Fin cfg0.N) = t
  have hv : t.val = (i 0).val * 11 + (i 1).val / 768 := by rw [← ht]
  obtain ⟨e0, e1, e2⟩ := idx4 t
  show i ∈ ((View.whole main_v0).slice (win0_4.rect t)).set
  rw [View.set_slice_whole, Rect.mem_set_unit]
  intro a
  match a with
  | ⟨0, _⟩ => show win0_4.index t 0 * 1 ≤ (i 0).val ∧ (i 0).val < win0_4.index t 0 * 1 + 1; rw [e0]; omega
  | ⟨1, _⟩ => show win0_4.index t 1 * 768 ≤ (i 1).val ∧ (i 1).val < win0_4.index t 1 * 768 + 768; rw [e1]; omega
  | ⟨2, _⟩ => show win0_4.index t 2 * 1024 ≤ (i 2).val ∧ (i 2).val < win0_4.index t 2 * 1024 + 1024; rw [e2]; omega

/-- So the result array ends holding `G`, -/
theorem final (c : Dev nD) : (dats m 0 c).arrAt 4 cfg0.N = G m c :=
  (dats m 0 c).arrAt_eq_of_cover 4 (G m c) (fun t _ => flushed_eq m c t) cover

/-- and every run ends with the result array at `G`, the arguments unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Cert.FfnIdeal.Value.run_blocks m ρ)

end Cert.Proof.FfnArray

end
-- ==== Proof.FfnClaim.lean ====
/-
  The feed-forward call, the claim: the reference's composed term read at an index is the function the kernel's result
  array holds, so both runs end with the same result.
-/
module

public import proofs.«01_k».proof.Defs
public import proofs.«01_k».proof.Proof.Gen.Ffn.Frame
public import proofs.«01_k».proof.Proof.FfnArray
public import proofs.«01_k».proof.Proof.Gen.FfnReferenceIdeal.Run
public import Idealize.ShloMosaic.Lib.Quiescent

@[expose] public section

set_option maxRecDepth 16384

noncomputable section

namespace Cert.Proof.FfnClaim

open Idealize.ShloMosaic Idealize.ShloMosaic.TcCoe Idealize.SL.Sem
open Cert.Proof.FfnArray (ffnAt)
open Cert.Proof.FfnBlock (gated)
open scoped BigOperators

section Reference
open Cert.FfnReferenceIdeal Cert.FfnReferenceIdeal.Gen

/-- The reference's term: two products, silu, the product down, over all experts at once. -/
def refTerm (x : FVec Ideal S16x8448x1024 .bf16) (g u : FVec Ideal S16x1024x2048 .bf16) (d : FVec Ideal S16x2048x1024 .bf16) :
    FVec Ideal S16x8448x1024 .bf16 :=
  truncf .bf16 (Host.dotGeneral dot_S16x8448x2048_S16x2048x1024_S16x8448x1024_2_1_1_2_0_0 none
    (mulf (mulf (Host.dotGeneral dot_S16x8448x1024_S16x1024x2048_S16x8448x2048_2_1_1_2_0_0 none (extf .f32 x bitsLt_bf16_f32) (extf .f32 g bitsLt_bf16_f32))
      (Host.divf (broadcastInDim S16x8448x2048 ![] bcast_S_S16x8448x2048 (constant S_ .f32 0x3F800000#32))
        (addf (broadcastInDim S16x8448x2048 ![] bcast_S_S16x8448x2048 (constant S_ .f32 0x3F800000#32))
          (Host.exp (Host.negf (Host.dotGeneral dot_S16x8448x1024_S16x1024x2048_S16x8448x2048_2_1_1_2_0_0 none (extf .f32 x bitsLt_bf16_f32) (extf .f32 g bitsLt_bf16_f32)))))))
      (Host.dotGeneral dot_S16x8448x1024_S16x1024x2048_S16x8448x2048_2_1_1_2_0_0 none (extf .f32 x bitsLt_bf16_f32) (extf .f32 u bitsLt_bf16_f32)))
    (extf .f32 d bitsLt_bf16_f32)) bitsLt_bf16_f32

/-- The reference's term at an index is the per-expert feed-forward. -/
theorem refTerm_apply (x : FVec Ideal S16x8448x1024 .bf16) (g u : FVec Ideal S16x1024x2048 .bf16) (d : FVec Ideal S16x2048x1024 .bf16)
    (n : Fin 16) (r : Fin 8448) (e : Fin 1024) : refTerm x g u d (ix3 n r e) = ffnAt x g u d n r e := by
  pointwise [refTerm, ffnAt, gated, Ideal.logistic]

end Reference

/-- The kernel's result array is the reference's term of the same arguments. -/
theorem G_eq (m : (ℓ : Loc Cert.FfnIdeal.nD Cert.FfnIdeal.τ Cert.FfnIdeal.sig) → Buf (Elt Ideal) ℓ) (c : Dev Cert.FfnIdeal.nD) :
    FfnArray.G m c = refTerm (m ((c : Thread Cert.FfnIdeal.nD Cert.FfnIdeal.τ).loc Cert.FfnIdeal.main_arg0))
      (m ((c : Thread Cert.FfnIdeal.nD Cert.FfnIdeal.τ).loc Cert.FfnIdeal.main_arg1))
      (m ((c : Thread Cert.FfnIdeal.nD Cert.FfnIdeal.τ).loc Cert.FfnIdeal.main_arg2))
      (m ((c : Thread Cert.FfnIdeal.nD Cert.FfnIdeal.τ).loc Cert.FfnIdeal.main_arg3)) := by
  funext i
  conv_rhs => rw [eq_ix3 i]
  exact (refTerm_apply _ _ _ _ _ _ _).symm

theorem frame_k : Cert.quiescent_Ffn := fun m ρ _ => Cert.Ffn.Gen.frame m ρ
theorem frame_ki : Cert.quiescent_FfnIdeal := fun m ρ _ => Cert.FfnIdeal.Gen.frame m ρ
/-- The reference's frame, read off its run. -/
theorem frame_r : Cert.quiescent_FfnReferenceIdeal := fun m ρ _ =>
  (θ_run Cert.FfnReferenceIdeal.defs _ _).mono (fun r h => ⟨fun c => (h c).2,
      Idealize.ShloMosaic.sem_eq_zero_of_no_sems (by decide) r.2⟩)
    (Cert.FfnReferenceIdeal.Value.run (F := Ideal) m ρ)
theorem preserves : Cert.preserves_Ffn_FfnIdeal := trivial

/-- At the ideal instance the feed-forward kernel and its reference end with equal results. -/
theorem algebraic : Cert.algebraic_FfnIdeal_FfnReferenceIdeal := by
  intro m ρ m' ρ' _ hag
  refine ⟨fun c => FfnArray.G m c, FfnArray.run m ρ, (θ_run Cert.FfnReferenceIdeal.defs _ _).mono (fun _ h c => ⟨(h c).1.trans ?_, (h c).2⟩)
    (Cert.FfnReferenceIdeal.Value.run (F := Ideal) m' ρ')⟩
  rw [(hag c).1, (hag c).2.1, (hag c).2.2.1, (hag c).2.2.2]
  exact (G_eq m c).symm

end Cert.Proof.FfnClaim

end
-- ==== Proof.InprojBlock.lean ====
/-
  The input projection, one grid point: what the body leaves in the output block, as a function of the blocks it reads.
  The body stores 24 pieces of 128 columns, of four kinds: a plain product, a scaled one, a rotated one, a rotated and
  scaled one. Each kind is read at an index once, and the 24 pieces are instances.
-/
module

public import proofs.«01_k».proof.Proof.Gen.InprojIdeal.Frame
public import Idealize.ShloMosaic.Lib.Pointwise
public import Idealize.ShloMosaic.Lib.Pipeline.Value

@[expose] public section

set_option maxRecDepth 16384

noncomputable section

namespace Cert.Proof.InprojBlock

open Cert.InprojIdeal Cert.InprojIdeal.Gen Idealize.ShloMosaic
open scoped BigOperators

/-- Entry `k` of a row's root-mean-square norm, times the gain. -/
def normed (x g : Fin 1024 → EReal) (k : Fin 1024) : EReal :=
  x k * Ideal.rsqrt (Ideal.div (∑ e : Fin 1024, x e * x e) (Ideal.ofBits FTy.f32 0x44800000#32) + Ideal.ofBits FTy.f32 0x358637BD#32) * g k

/-- A row times column `n` of the weight matrix. -/
def proj (v : Fin 1024 → EReal) (w : S1024x3072.Idx → EReal) (n : ℕ) : EReal :=
  ∑ k : Fin 1024, v k * w (ix2 k (Fin.ofNat 3072 n))

/-- The attentions' scale, 1/8. -/
def eighth : EReal := Ideal.ofBits FTy.f32 0x3E000000#32

/-- The column half a head away from column `n`, within its head of 128 columns. -/
def across (n : ℕ) : ℕ := n / 128 * 128 + (n % 128 + 64) % 128

/-- The rotation as the kernel spells it: with tables `C`, `S` over the head's 128 columns. -/
def mixed (P C S : ℕ → EReal) (n : ℕ) : EReal := P n * C (n % 128) + P (across n) * S (n % 128)

/-- The output at column `n`: the six groups of 512 columns. -/
def cell (P C S : ℕ → EReal) (n : ℕ) : EReal :=
  if n / 512 = 0 then P n * eighth else if n / 512 = 3 then mixed P C S n * eighth
  else if n / 512 = 4 then mixed P C S n else P n

/-! ## The four kinds of piece -/

/-- The product of the block with a group of 512 columns of the weights. -/
def prod (v : FVec Ideal S512x1024 .bf16) (w : FVec Ideal S1024x512 .bf16) : FVec Ideal S512x512 .f32 :=
  matmul dot_S512x1024_S1024x512_S512x512_1_0_0_1_n_n none v w (constant S512x512 .f32 0x00000000#32)

theorem prod_apply (v : FVec Ideal S512x1024 .bf16) (w : FVec Ideal S1024x512 .bf16) (r : Fin 512) (l : Fin 512) :
    prod v w (ix2 r l) = ∑ k : Fin 1024, v (ix2 r k) * w (ix2 k l) := by
  pointwise [prod]

section Kinds
variable (q : ℕ) (hs : S512x512.Slices ![0, q] S512x128)

def plain (y : FVec Ideal S512x512 .f32) : FVec Ideal S512x128 .bf16 :=
  truncf .bf16 (extractStridedSlice S512x128 ![0, q] y hs) bitsLt_bf16_f32
def scaled (y : FVec Ideal S512x512 .f32) : FVec Ideal S512x128 .bf16 :=
  truncf .bf16 (mulf (extractStridedSlice S512x128 ![0, q] y hs) (broadcast S512x128 (Scalar.ofBits .f32 0x3E000000#32))) bitsLt_bf16_f32
def turn (y : FVec Ideal S512x512 .f32) (c s : FVec Ideal S512x128 .f32) : FVec Ideal S512x128 .f32 :=
  addf (mulf (extractStridedSlice S512x128 ![0, q] y hs) c)
    (mulf (dynamicRotate 1 64#32 none (extractStridedSlice S512x128 ![0, q] y hs) rotates_S512x128_d1) s)
def turned (y : FVec Ideal S512x512 .f32) (c s : FVec Ideal S512x128 .f32) : FVec Ideal S512x128 .bf16 :=
  truncf .bf16 (turn q hs y c s) bitsLt_bf16_f32
def turnedScaled (y : FVec Ideal S512x512 .f32) (c s : FVec Ideal S512x128 .f32) : FVec Ideal S512x128 .bf16 :=
  truncf .bf16 (mulf (turn q hs y c s) (broadcast S512x128 (Scalar.ofBits .f32 0x3E000000#32))) bitsLt_bf16_f32

theorem slice_apply (y : FVec Ideal S512x512 .f32) (r : Fin 512) (l : Fin 128) (h : q + l.val < 512) :
    extractStridedSlice S512x128 ![0, q] y hs (ix2 r l) = y (ix2 r ⟨q + l.val, h⟩) :=
  extractStridedSlice_apply _ y hs _ _ fun a => match a with
    | ⟨0, _⟩ => (Nat.zero_add _).symm
    | ⟨1, _⟩ => rfl

theorem turn_apply (y : FVec Ideal S512x512 .f32) (c s : FVec Ideal S512x128 .f32) (r : Fin 512) (l : Fin 128) (hq : q + 128 ≤ 512) :
    turn q hs y c s (ix2 r l) = y (ix2 r ⟨q + l.val, by have := l.isLt; omega⟩) * c (ix2 r l)
      + y (ix2 r ⟨q + (l.val + 64) % 128, by omega⟩) * s (ix2 r l) := by
  show extractStridedSlice S512x128 ![0, q] y hs (ix2 r l) * c (ix2 r l)
    + dynamicRotate 1 64#32 none (extractStridedSlice S512x128 ![0, q] y hs) rotates_S512x128_d1 (ix2 r l) * s (ix2 r l) = _
  rw [slice_apply q hs y r l (by have := l.isLt; omega),
    show dynamicRotate 1 64#32 none (extractStridedSlice S512x128 ![0, q] y hs) rotates_S512x128_d1 (ix2 r l)
      = extractStridedSlice S512x128 ![0, q] y hs (ix2 r ⟨(l.val + 64) % 128, by omega⟩) from ?_,
    slice_apply q hs y r ⟨(l.val + 64) % 128, by omega⟩ (by show q + (l.val + 64) % 128 < 512; omega)]
  unfold dynamicRotate
  refine congrArg (extractStridedSlice S512x128 ![0, q] y hs) (funext fun b => ?_)
  match b with
  | ⟨0, _⟩ => rfl
  | ⟨1, _⟩ => exact Fin.ext (by show (l.val + 128 - 64 % 128) % 128 = (l.val + 64) % 128; have := l.isLt; omega)
end Kinds

/-! ## A piece is its part of `cell` -/

/-- What the block holds, row by row. -/
def block (v : FVec Ideal S512x1024 .bf16) (w : S1024x3072.Idx → EReal) (c s : FVec Ideal S512x128 .f32) : S512x3072.Idx → EReal := fun i =>
  cell (proj (fun k => v (ix2 (i 0) k)) w) (fun l => c (ix2 (i 0) (Fin.ofNat 128 l))) (fun l => s (ix2 (i 0) (Fin.ofNat 128 l))) (i 1).val

section Pieces
variable (v : FVec Ideal S512x1024 .bf16) (w : Vec Ideal S1024x3072 .bf16) (c s : FVec Ideal S512x128 .f32)
variable (o q d : ℕ) (hs : S512x512.Slices ![0, q] S512x128)
  (iw : ∀ a, ![0, o] a + S1024x512.size a ≤ S1024x3072.size a) (io : ∀ a, ![0, d] a + S512x128.size a ≤ S512x3072.size a)

/-- Column `l` of the 512-column group at `o` is column `o + l` of the whole product. -/
theorem prod_ld (r : Fin 512) (l : Fin 512) :
    prod v (View.ld w (Rect.unit (s := S1024x3072) ![0, o] S1024x512.size iw)) (ix2 r l) = proj (fun k => v (ix2 r k)) w (o + l.val) := by
  have ho : o + 512 ≤ 3072 := iw 1
  rw [prod_apply]
  refine Finset.sum_congr rfl fun k _ => congrArg (v (ix2 r k) * ·) ?_
  show w ((Rect.unit (s := S1024x3072) ![0, o] S1024x512.size iw).emb (ix2 k l)) = _
  refine congrArg w (funext fun a => Fin.ext ?_)
  match a with
  | ⟨0, _⟩ => show 0 + 1 * k.val = k.val; omega
  | ⟨1, _⟩ => show o + 1 * l.val = (o + l.val) % 3072; have := l.isLt; omega

/-- Where a piece's index lies in the block. -/
theorem emb_piece (r : Fin 512) (l : Fin 128) (h : d + l.val < 3072) :
    (Rect.unit (s := S512x3072) ![0, d] S512x128.size io).emb (ix2 r l) = ix2 r ⟨d + l.val, h⟩ := by
  refine funext fun a => Fin.ext ?_
  match a with
  | ⟨0, _⟩ => show 0 + 1 * r.val = r.val; omega
  | ⟨1, _⟩ => show d + 1 * l.val = d + l.val; omega

variable (p : FVec Ideal S512x128 .bf16)

/-- A piece is right when it is right at every row and column. -/
theorem piece_of (h : ∀ (r : Fin 512) (l : Fin 128), p (ix2 r l)
      = cell (proj (fun k => v (ix2 r k)) w) (fun l => c (ix2 r (Fin.ofNat 128 l))) (fun l => s (ix2 r (Fin.ofNat 128 l))) (d + l.val))
    (x : S512x128.Idx) : p x = block v w c s ((Rect.unit (s := S512x3072) ![0, d] S512x128.size io).emb x) := by
  have hd : d + 128 ≤ 3072 := io 1
  obtain ⟨r, l, rfl⟩ : ∃ (r : Fin 512) (l : Fin 128), x = ix2 r l := ⟨x 0, x 1, eq_ix2 x⟩
  rw [emb_piece d io r l (by have := l.isLt; omega)]
  exact h r l

variable (w' : Vec Ideal S1024x512 .bf16) (hw' : w' = View.ld w (Rect.unit (s := S1024x3072) ![0, o] S1024x512.size iw))
  (hd : d = o + q) (hq : q + 128 ≤ 512)
include hw' hd hq

theorem plain_piece (hk : o = 512 ∨ o = 1024 ∨ o = 2560) (x : S512x128.Idx) :
    plain q hs (prod v w') x = block v w c s ((Rect.unit (s := S512x3072) ![0, d] S512x128.size io).emb x) := by
  refine piece_of v w c s d io _ (fun r l => ?_) x
  have hl := l.isLt
  show extractStridedSlice S512x128 ![0, q] (prod v w') hs (ix2 r l) = _
  rw [slice_apply q hs _ r l (by omega), hw', prod_ld]
  unfold cell
  rw [if_neg (by omega), if_neg (by omega), if_neg (by omega)]
  exact congrArg _ (by show o + (q + l.val) = _; omega)

theorem scaled_piece (hk : o = 0) (x : S512x128.Idx) :
    scaled q hs (prod v w') x = block v w c s ((Rect.unit (s := S512x3072) ![0, d] S512x128.size io).emb x) := by
  refine piece_of v w c s d io _ (fun r l => ?_) x
  have hl := l.isLt
  show extractStridedSlice S512x128 ![0, q] (prod v w') hs (ix2 r l) * eighth = _
  rw [slice_apply q hs _ r l (by omega), hw', prod_ld]
  unfold cell
  rw [if_pos (by omega)]
  exact congrArg (fun n => proj _ w n * eighth) (by show o + (q + l.val) = _; omega)

theorem turn_mixed (hk : o % 128 = 0) (hk' : q % 128 = 0) (r : Fin 512) (l : Fin 128) :
    turn q hs (prod v w') c s (ix2 r l)
      = mixed (proj (fun k => v (ix2 r k)) w) (fun l => c (ix2 r (Fin.ofNat 128 l))) (fun l => s (ix2 r (Fin.ofNat 128 l))) (d + l.val) := by
  have hl := l.isLt
  rw [turn_apply q hs _ c s r l hq, hw', prod_ld, prod_ld]
  unfold mixed across
  have e1 : (d + l.val) % 128 = l.val := by omega
  have e2 : o + (q + l.val) = d + l.val := by omega
  have e3 : o + (q + (l.val + 64) % 128) = (d + l.val) / 128 * 128 + ((d + l.val) % 128 + 64) % 128 := by omega
  have e4 : (Fin.ofNat 128 l.val : Fin 128) = l := Fin.ext (Nat.mod_eq_of_lt hl)
  show proj _ w (o + (q + l.val)) * _ + proj _ w (o + (q + (l.val + 64) % 128)) * _ = _
  rw [e2, e3, e1]
  dsimp only
  rw [e4]

theorem turned_piece (hk : o = 2048) (hk' : q % 128 = 0) (x : S512x128.Idx) :
    turned q hs (prod v w') c s x = block v w c s ((Rect.unit (s := S512x3072) ![0, d] S512x128.size io).emb x) := by
  refine piece_of v w c s d io _ (fun r l => ?_) x
  have hl := l.isLt
  refine (turn_mixed v w c s o q d hs iw w' hw' hd hq (by omega) hk' r l).trans ?_
  unfold cell
  rw [if_neg (by omega), if_neg (by omega), if_pos (by omega)]

theorem turnedScaled_piece (hk : o = 1536) (hk' : q % 128 = 0) (x : S512x128.Idx) :
    turnedScaled q hs (prod v w') c s x = block v w c s ((Rect.unit (s := S512x3072) ![0, d] S512x128.size io).emb x) := by
  refine piece_of v w c s d io _ (fun r l => ?_) x
  have hl := l.isLt
  refine (congrArg (· * eighth) (turn_mixed v w c s o q d hs iw w' hw' hd hq (by omega) hk' r l)).trans ?_
  unfold cell
  rw [if_neg (by omega), if_pos (by omega)]

end Pieces

/-! ## The block -/

/-- The normed rows, as the body computes them. -/
theorem pay6_apply (x : Vec Ideal S512x1024 .f32) (g : Vec Ideal S1x1024 .f32) (r : Fin 512) (k : Fin 1024) :
    k0_pay6 (F := Ideal) x g (ix2 r k) = normed (fun e => x (ix2 r e)) (fun e => g (ix2 0 e)) k := by
  pointwise [k0_pay6, normed]

variable (x0 : Vec Ideal S512x1024 .f32) (x1 : Vec Ideal S1x1024 .f32) (x2 : Vec Ideal S1024x3072 .bf16) (x3 x4 : Vec Ideal S512x128 .f32)

theorem hz : (![0, 0] : Fin 2 → ℕ) = fun _ => 0 := by decide

theorem rows_eq : k0_pay36 x0 x1 x2 x3 x4 = k0_pay6 x0 x1 := by
  unfold k0_pay36; rw [View.ld_unit_zero hz, View.ld_unit_zero hz]
theorem cos_eq : k0_pay37 x0 x1 x2 x3 x4 = x3 := by
  unfold k0_pay37; rw [View.ld_unit_zero hz]; exact shapeCast_self _ _
theorem sin_eq : k0_pay38 x0 x1 x2 x3 x4 = x4 := by
  unfold k0_pay38; rw [View.ld_unit_zero hz]; exact shapeCast_self _ _

/-- The whole output block: every piece is its part of `block`, and the pieces tile the buffer. -/
theorem out_eq : out0_5 x0 x1 x2 x3 x4 = block (k0_pay6 x0 x1) x2 x3 x4 := by
  funext y
  unfold out0_5
  rw [rows_eq, cos_eq, sin_eq, View.ld_unit_zero hz, View.ld_unit_zero hz]
  refine View.canon_apply_of_pieces (Val := Elt Ideal) (e := .bf16) (block (k0_pay6 x0 x1) x2 x3 x4) _ ?_ y (cover0_5 _ _ _ _ _ _ _ _ _ _ _ _ _ _ _ _ _ _ _ _ _ _ _ _ y)
  simp only [List.forall_mem_cons, List.not_mem_nil, false_imp_iff, implies_true, and_true]
  refine ⟨?_, ?_, ?_, ?_, ?_, ?_, ?_, ?_, ?_, ?_, ?_, ?_, ?_, ?_, ?_, ?_, ?_, ?_, ?_, ?_, ?_, ?_, ?_, ?_⟩
  · exact plain_piece _ x2 x3 x4 2560 384 2944 slices_S512x512_o0_384_S512x128 _ _ _ rfl rfl (by decide) (by decide)
  · exact plain_piece _ x2 x3 x4 2560 256 2816 slices_S512x512_o0_256_S512x128 _ _ _ rfl rfl (by decide) (by decide)
  · exact plain_piece _ x2 x3 x4 2560 128 2688 slices_S512x512_o0_128_S512x128 _ _ _ rfl rfl (by decide) (by decide)
  · exact plain_piece _ x2 x3 x4 2560 0 2560 slices_S512x512_o0_0_S512x128 _ _ _ rfl rfl (by decide) (by decide)
  · exact turned_piece _ x2 x3 x4 2048 384 2432 slices_S512x512_o0_384_S512x128 _ _ _ rfl rfl (by decide) (by decide) (by decide)
  · exact turned_piece _ x2 x3 x4 2048 256 2304 slices_S512x512_o0_256_S512x128 _ _ _ rfl rfl (by decide) (by decide) (by decide)
  · exact turned_piece _ x2 x3 x4 2048 128 2176 slices_S512x512_o0_128_S512x128 _ _ _ rfl rfl (by decide) (by decide) (by decide)
  · exact turned_piece _ x2 x3 x4 2048 0 2048 slices_S512x512_o0_0_S512x128 _ _ _ rfl rfl (by decide) (by decide) (by decide)
  · exact turnedScaled_piece _ x2 x3 x4 1536 384 1920 slices_S512x512_o0_384_S512x128 _ _ _ rfl rfl (by decide) (by decide) (by decide)
  · exact turnedScaled_piece _ x2 x3 x4 1536 256 1792 slices_S512x512_o0_256_S512x128 _ _ _ rfl rfl (by decide) (by decide) (by decide)
  · exact turnedScaled_piece _ x2 x3 x4 1536 128 1664 slices_S512x512_o0_128_S512x128 _ _ _ rfl rfl (by decide) (by decide) (by decide)
  · exact turnedScaled_piece _ x2 x3 x4 1536 0 1536 slices_S512x512_o0_0_S512x128 _ _ _ rfl rfl (by decide) (by decide) (by decide)
  · exact plain_piece _ x2 x3 x4 1024 384 1408 slices_S512x512_o0_384_S512x128 _ _ _ rfl rfl (by decide) (by decide)
  · exact plain_piece _ x2 x3 x4 1024 256 1280 slices_S512x512_o0_256_S512x128 _ _ _ rfl rfl (by decide) (by decide)
  · exact plain_piece _ x2 x3 x4 1024 128 1152 slices_S512x512_o0_128_S512x128 _ _ _ rfl rfl (by decide) (by decide)
  · exact plain_piece _ x2 x3 x4 1024 0 1024 slices_S512x512_o0_0_S512x128 _ _ _ rfl rfl (by decide) (by decide)
  · exact plain_piece _ x2 x3 x4 512 384 896 slices_S512x512_o0_384_S512x128 _ _ _ rfl rfl (by decide) (by decide)
  · exact plain_piece _ x2 x3 x4 512 256 768 slices_S512x512_o0_256_S512x128 _ _ _ rfl rfl (by decide) (by decide)
  · exact plain_piece _ x2 x3 x4 512 128 640 slices_S512x512_o0_128_S512x128 _ _ _ rfl rfl (by decide) (by decide)
  · exact plain_piece _ x2 x3 x4 512 0 512 slices_S512x512_o0_0_S512x128 _ _ _ rfl rfl (by decide) (by decide)
  · exact scaled_piece _ x2 x3 x4 0 384 384 slices_S512x512_o0_384_S512x128 _ _ _ rfl rfl (by decide) (by decide)
  · exact scaled_piece _ x2 x3 x4 0 256 256 slices_S512x512_o0_256_S512x128 _ _ _ rfl rfl (by decide) (by decide)
  · exact scaled_piece _ x2 x3 x4 0 128 128 slices_S512x512_o0_128_S512x128 _ _ _ rfl rfl (by decide) (by decide)
  · exact scaled_piece _ x2 x3 x4 0 0 0 slices_S512x512_o0_0_S512x128 _ _ _ rfl rfl (by decide) (by decide)

/-- The block at row `r`, column `n`. -/
theorem out_apply (r : Fin 512) (n : Fin 3072) : out0_5 x0 x1 x2 x3 x4 (ix2 r n)
    = cell (proj (normed (fun e => x0 (ix2 r e)) (fun e => x1 (ix2 0 e))) x2)
        (fun l => x3 (ix2 r (Fin.ofNat 128 l))) (fun l => x4 (ix2 r (Fin.ofNat 128 l))) n.val := by
  rw [out_eq]
  show cell (proj (fun k => k0_pay6 x0 x1 (ix2 r k)) x2) _ _ _ = _
  rw [show (fun k => k0_pay6 x0 x1 (ix2 r k)) = normed (fun e => x0 (ix2 r e)) (fun e => x1 (ix2 0 e)) from funext fun k => pay6_apply x0 x1 r k]
  rfl

end Cert.Proof.InprojBlock

end
-- ==== Proof.InprojArray.lean ====
/-
  The input projection, the whole array: the rotary tables the program lays out first, every grid point's block (rows
  `512 · t …`, with the tables' rows `512 · (t % 16) …`), and the result array as one function of the arguments.
-/
module

public import proofs.«01_k».proof.Proof.InprojBlock
public import proofs.«01_k».proof.Proof.Gen.InprojIdeal.Value

@[expose] public section

set_option maxRecDepth 16384

noncomputable section

namespace Cert.Proof.InprojArray

open Cert.InprojIdeal Cert.InprojIdeal.Gen Idealize.ShloMosaic Idealize.ShloMosaic.TcCoe Idealize.SL.Sem
open Idealize.ShloMosaic.Pipeline (Dat)
open Cert.Proof.InprojBlock (normed proj cell)
open scoped BigOperators

variable (m : (ℓ : Loc nD τ sig) → Buf (Elt Ideal) ℓ) (ρ : Dev nD → PrngReg)

/-! ## The tables -/

/-- Four tables of 32 columns side by side. -/
def four (a b c d : S8192x32.Idx → EReal) : S8192x128.Idx → EReal :=
  concatenate S8192x128 1 [⟨S8192x32, a⟩, ⟨S8192x32, b⟩, ⟨S8192x32, c⟩, ⟨S8192x32, d⟩] concatenates_S8192x32_S8192x32_S8192x32_S8192x32_S8192x128_d1

/-- One table twice, then another twice, read at a column. -/
theorem four_apply (a b : S8192x32.Idx → EReal) (r : Fin 8192) (l : Fin 128) :
    four a a b b (ix2 r l) = if l.val < 64 then a (ix2 r (Fin.ofNat 32 l.val)) else b (ix2 r (Fin.ofNat 32 l.val)) := by
  have hl := l.isLt
  have e : ∀ (n : ℕ) (h : n < 32), n % 32 = l.val % 32 → (⟨n, h⟩ : Fin 32) = Fin.ofNat 32 l.val := fun n h he =>
    Fin.ext (by show n = l.val % 32; omega)
  pointwise [four]
  by_cases h1 : l.val < 32
  · rw [dif_pos h1]
    exact (congrArg (fun z => a (ix2 r z)) (e l.val h1 rfl)).trans (if_pos (show l.val < 64 by omega)).symm
  by_cases h2 : l.val - 32 < 32
  · rw [dif_neg h1, dif_pos h2]
    exact (congrArg (fun z => a (ix2 r z)) (e (l.val - 32) h2 (by omega))).trans (if_pos (show l.val < 64 by omega)).symm
  by_cases h3 : l.val - 32 - 32 < 32
  · rw [dif_neg h1, dif_neg h2, dif_pos h3]
    exact (congrArg (fun z => b (ix2 r z)) (e (l.val - 32 - 32) h3 (by omega))).trans (if_neg (show ¬l.val < 64 by omega)).symm
  · rw [dif_neg h1, dif_neg h2, dif_neg h3]
    exact (congrArg (fun z => b (ix2 r z)) (e (l.val - 32 - 32 - 32) (by omega) (by omega))).trans (if_neg (show ¬l.val < 64 by omega)).symm

theorem V_cos (c : Dev nD) : V m c main_v0 = four (m ((c : Thread nD τ).loc main_arg3)) (m ((c : Thread nD τ).loc main_arg3))
    (m ((c : Thread nD τ).loc main_arg3)) (m ((c : Thread nD τ).loc main_arg3)) := by
  show StableHlo.after hostOps0 _ _ = _
  after_results_simp <;> (try dsimp only [Matrix.cons_val]) <;> rfl

theorem V_sin (c : Dev nD) : V m c main_v3 = four (Host.negf (F := Ideal) (s := S8192x32) (φ := .f32) (m ((c : Thread nD τ).loc main_arg4)))
    (Host.negf (F := Ideal) (s := S8192x32) (φ := .f32) (m ((c : Thread nD τ).loc main_arg4)))
    (m ((c : Thread nD τ).loc main_arg4)) (m ((c : Thread nD τ).loc main_arg4)) := by
  show StableHlo.after hostOps0 _ _ = _
  after_results_simp <;> (try dsimp only [Matrix.cons_val]) <;> (try after_results_simp) <;> rfl

/-! ## The result as one function of the arguments -/

/-- Column `l` of position `p`'s cosine table, and of its sine table with the sign the first half takes. -/
def cosAt (cs : S8192x32.Idx → EReal) (p : Fin 8192) (l : ℕ) : EReal := cs (ix2 p (Fin.ofNat 32 l))
def sinAt (sn : S8192x32.Idx → EReal) (p : Fin 8192) (l : ℕ) : EReal :=
  if l < 64 then -sn (ix2 p (Fin.ofNat 32 l)) else sn (ix2 p (Fin.ofNat 32 l))

/-- The projection of row `r`, column `n`. -/
def inprojAt (x : S65536x1024.Idx → EReal) (g : S1x1024.Idx → EReal) (w : S1024x3072.Idx → EReal) (cs sn : S8192x32.Idx → EReal)
    (r : Fin 65536) (n : Fin 3072) : EReal :=
  cell (proj (normed (fun e => x (ix2 r e)) (fun e => g (ix2 0 e))) w)
    (fun l => cosAt cs (Fin.ofNat 8192 r.val) (l % 128)) (fun l => sinAt sn (Fin.ofNat 8192 r.val) (l % 128)) n.val

/-- The result array as one function of device `c`'s arguments. -/
def G (c : Dev nD) : S65536x3072.Idx → EReal := fun i =>
  inprojAt (m ((c : Thread nD τ).loc main_arg0)) (m ((c : Thread nD τ).loc main_arg1)) (m ((c : Thread nD τ).loc main_arg2))
    (m ((c : Thread nD τ).loc main_arg3)) (m ((c : Thread nD τ).loc main_arg4)) (i 0) (i 1)

/-! ## The windows' blocks -/

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = t.val % 16 ∧ win0_3.index t 1 = 0 :=
  (by decide +kernel : ∀ t : Fin grid0.N, win0_3.index t 0 = t.val % 16 ∧ win0_3.index t 1 = 0)
theorem idx4 : ∀ t : Fin cfg0.N, win0_4.index t 0 = t.val % 16 ∧ win0_4.index t 1 = 0 :=
  (by decide +kernel : ∀ t : Fin grid0.N, win0_4.index t 0 = t.val % 16 ∧ win0_4.index t 1 = 0)
theorem idx5 : ∀ t : Fin cfg0.N, win0_5.index t 0 = t.val ∧ win0_5.index t 1 = 0 :=
  (by decide +kernel : ∀ t : Fin grid0.N, win0_5.index t 0 = t.val ∧ win0_5.index t 1 = 0)

theorem lt_N (t : Fin cfg0.N) : t.val < 128 := by have h : t.val < grid0.N := t.isLt; rw [N_0] at h; exact h

/-- Row `r` of point `t`'s block, in the array and in the tables. -/
def row (t : Fin cfg0.N) (r : Fin 512) : Fin 65536 := ⟨t.val * 512 + r.val, by have := lt_N t; have := r.isLt; omega⟩
def pos (t : Fin cfg0.N) (r : Fin 512) : Fin 8192 := ⟨t.val % 16 * 512 + r.val, by have := r.isLt; omega⟩

/-- The table's row is the array's row counted within its image of 8192 rows. -/
theorem pos_eq (t : Fin cfg0.N) (r : Fin 512) : pos t r = Fin.ofNat 8192 (row t r).val :=
  Fin.ext (by show t.val % 16 * 512 + r.val = (t.val * 512 + r.val) % 8192; have := r.isLt; omega)

theorem blk0 (c : Dev nD) (t : Fin cfg0.N) (r : Fin 512) (k : Fin 1024) :
    iblk m c 0 t (ix2 r k) = m ((c : Thread nD τ).loc main_arg0) (ix2 (row t r) k) := by
  show V m c main_arg0 ((win0_0.blk t).view.emb (ix2 r k)) = _
  rw [V_main_arg0]
  refine congrArg _ (funext fun a => Fin.ext ?_)
  obtain ⟨e0, e1⟩ := idx0 t
  match a with
  | ⟨0, _⟩ => show win0_0.index t 0 * 512 + 1 * r.val = t.val * 512 + r.val; rw [e0]; omega
  | ⟨1, _⟩ => show win0_0.index t 1 * 1024 + 1 * k.val = k.val; rw [e1]; omega

theorem blk1 (c : Dev nD) (t : Fin cfg0.N) (k : Fin 1024) :
    iblk m c 1 t (ix2 0 k) = m ((c : Thread nD τ).loc main_arg1) (ix2 0 k) := by
  show V m c main_arg1 ((win0_1.blk t).view.emb (ix2 0 k)) = _
  rw [V_main_arg1]
  refine congrArg _ (funext fun a => Fin.ext ?_)
  obtain ⟨e0, e1⟩ := idx1 t
  match a with
  | ⟨0, _⟩ => show win0_1.index t 0 * 1 + 1 * 0 = 0; rw [e0]
  | ⟨1, _⟩ => show win0_1.index t 1 * 1024 + 1 * k.val = k.val; rw [e1]; omega

theorem blk2 (c : Dev nD) (t : Fin cfg0.N) : iblk m c 2 t = m ((c : Thread nD τ).loc main_arg2) := by
  funext y
  obtain ⟨k, n, rfl⟩ : ∃ (k : Fin 1024) (n : Fin 3072), y = ix2 k n := ⟨y 0, y 1, eq_ix2 y⟩
  show V m c main_arg2 ((win0_2.blk t).view.emb (ix2 k n)) = _
  rw [V_main_arg2]
  refine congrArg _ (funext fun a => Fin.ext ?_)
  obtain ⟨e0, e1⟩ := idx2 t
  match a with
  | ⟨0, _⟩ => show win0_2.index t 0 * 1024 + 1 * k.val = k.val; rw [e0]; omega
  | ⟨1, _⟩ => show win0_2.index t 1 * 3072 + 1 * n.val = n.val; rw [e1]; omega

theorem blk3 (c : Dev nD) (t : Fin cfg0.N) (r : Fin 512) (l : Fin 128) :
    iblk m c 3 t (ix2 r l) = cosAt (m ((c : Thread nD τ).loc main_arg3)) (pos t r) l.val := by
  show V m c main_v0 ((win0_3.blk t).view.emb (ix2 r l)) = _
  have he : (win0_3.blk t).view.emb (ix2 r l) = ix2 (pos t r) l := by
    refine funext fun a => Fin.ext ?_
    obtain ⟨e0, e1⟩ := idx3 t
    match a with
    | ⟨0, _⟩ => show win0_3.index t 0 * 512 + 1 * r.val = t.val % 16 * 512 + r.val; rw [e0]; omega
    | ⟨1, _⟩ => show win0_3.index t 1 * 128 + 1 * l.val = l.val; rw [e1]; omega
  rw [he, V_cos]
  refine (four_apply _ _ _ _).trans ?_
  rw [ite_self]; rfl

theorem blk4 (c : Dev nD) (t : Fin cfg0.N) (r : Fin 512) (l : Fin 128) :
    iblk m c 4 t (ix2 r l) = sinAt (m ((c : Thread nD τ).loc main_arg4)) (pos t r) l.val := by
  show V m c main_v3 ((win0_4.blk t).view.emb (ix2 r l)) = _
  have he : (win0_4.blk t).view.emb (ix2 r l) = ix2 (pos t r) l := by
    refine funext fun a => Fin.ext ?_
    obtain ⟨e0, e1⟩ := idx4 t
    match a with
    | ⟨0, _⟩ => show win0_4.index t 0 * 512 + 1 * r.val = t.val % 16 * 512 + r.val; rw [e0]; omega
    | ⟨1, _⟩ => show win0_4.index t 1 * 128 + 1 * l.val = l.val; rw [e1]; omega
  rw [he, V_sin]
  exact four_apply _ _ _ _

theorem emb5 (t : Fin cfg0.N) (r : Fin 512) (n : Fin 3072) : (win0_5.blk t).view.emb (ix2 r n) = ix2 (row t r) n := by
  refine funext fun a => Fin.ext ?_
  obtain ⟨e0, e1⟩ := idx5 t
  match a with
  | ⟨0, _⟩ => show win0_5.index t 0 * 512 + 1 * r.val = t.val * 512 + r.val; rw [e0]; omega
  | ⟨1, _⟩ => show win0_5.index t 1 * 3072 + 1 * n.val = n.val; rw [e1]; omega

/-- What point `t` writes back is its block of `G`. -/
theorem flushed_eq (c : Dev nD) (t : Fin cfg0.N) :
    (dats m 0 c).flushed 5 t = (win0_5.blk t).view.read (Elt Ideal) (G m c) := by
  rw [Cert.InprojIdeal.Value.flushed5]
  funext y
  show out0_5 (iblk m c 0 t) (iblk m c 1 t) (iblk m c 2 t) (iblk m c 3 t) (iblk m c 4 t) y = G m c ((win0_5.blk t).view.emb y)
  obtain ⟨r, n, rfl⟩ : ∃ (r : Fin 512) (n : Fin 3072), y = ix2 r n := ⟨y 0, y 1, eq_ix2 y⟩
  rw [emb5, InprojBlock.out_apply, blk2]
  show _ = inprojAt _ _ _ _ _ (row t r) n
  unfold inprojAt
  simp only [blk0, blk1, blk3, blk4, pos_eq]
  rfl

/-- The blocks tile the result: row `r` lies in the block of point `r / 512`. -/
theorem cover (i : S65536x3072.Idx) : ∃ t : Fin cfg0.N, (cfg0.win 5).flush t = true ∧ i ∈ ((cfg0.win 5).blk t).view.set := by
  have h0 : (i 0).val < 65536 := (i 0).isLt
  have h1 : (i 1).val < 3072 := (i 1).isLt
  have hN : cfg0.N = 128 := N_0
  refine ⟨⟨(i 0).val / 512, by omega⟩, flush0_5 _, ?_⟩
  generalize ht : (⟨(i 0).val / 512, _⟩ : Fin cfg0.N) = t
  have hv : t.val = (i 0).val / 512 := by rw [← ht]
  obtain ⟨e0, e1⟩ := idx5 t
  show i ∈ ((View.whole main_v4).slice (win0_5.rect t)).set
  rw [View.set_slice_whole, Rect.mem_set_unit]
  intro a
  match a with
  | ⟨0, _⟩ => show win0_5.index t 0 * 512 ≤ (i 0).val ∧ (i 0).val < win0_5.index t 0 * 512 + 512; rw [e0]; omega
  | ⟨1, _⟩ => show win0_5.index t 1 * 3072 ≤ (i 1).val ∧ (i 1).val < win0_5.index t 1 * 3072 + 3072; rw [e1]; omega

/-- So the result array ends holding `G`, -/
theorem final (c : Dev nD) : (dats m 0 c).arrAt 5 cfg0.N = G m c :=
  (dats m 0 c).arrAt_eq_of_cover 5 (G m c) (fun t _ => flushed_eq m c t) cover

/-- and every run ends with the result array at `G`, the arguments unchanged. -/
theorem run : θ_run defs (onTc (τ := τ) (main (F := Ideal))) ⟨m, fun _ => 0, ρ⟩ fun r => ∀ c : Dev nD,
      r.2.mem ((c : Thread nD τ).loc main_v4) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (Cert.InprojIdeal.Value.run_blocks m ρ)

end Cert.Proof.InprojArray

end
-- ==== Proof.InprojRef.lean ====
/-
  The input projection's reference, read at an index: the normed row's product with the weights, the rotary embedding of
  the two groups of 512 columns that take it, the scale on the queries, the five parts side by side. The kernel rotates
  by one full multiply with signed tables; the reference halves the head. The two agree entry by entry.
-/
module

public import proofs.«01_k».proof.Proof.InprojArray
public import proofs.«01_k».proof.Proof.Gen.InprojReferenceIdeal.Run

@[expose] public section

set_option maxRecDepth 16384

noncomputable section

namespace Cert.Proof.InprojRef

open Cert.InprojReferenceIdeal Cert.InprojReferenceIdeal.Gen Idealize.ShloMosaic
open Cert.Proof.InprojBlock (normed proj cell mixed across eighth)
open Cert.Proof.InprojArray (cosAt sinAt inprojAt)
open scoped BigOperators

/-! ## The rotary embedding -/

/-- A table of 8192 positions by 32, for every image, head and map. -/
def tab (s : FVec Ideal S8192x32 .f32) : FVec Ideal S8x8192x4x2x32 .f32 :=
  broadcastInDim S8x8192x4x2x32 ![0, 1, 2, 3, 4] bcast_S1x8192x1x1x32_S8x8192x4x2x32_0_1_2_3_4
    (broadcastInDim S1x8192x1x1x32 ![1, 4] bcast_S8192x32_S1x8192x1x1x32_1_4 s)
/-- The heads' first halves. -/
def half0 (y : FVec Ideal S65536x512 .f32) : FVec Ideal S8x8192x4x2x32 .f32 :=
  shapeCast _ (extractStridedSlice S8x8192x4x1x2x32 ![0, 0, 0, 0, 0, 0] (shapeCast _ y shapeCasts_S65536x512_S8x8192x4x2x2x32)
    slices_S8x8192x4x2x2x32_S8x8192x4x1x2x32_0_0_0_0_0_0) shapeCasts_S8x8192x4x1x2x32_S8x8192x4x2x32
/-- The heads' second halves. -/
def half1 (y : FVec Ideal S65536x512 .f32) : FVec Ideal S8x8192x4x2x32 .f32 :=
  shapeCast _ (extractStridedSlice S8x8192x4x1x2x32 ![0, 0, 0, 1, 0, 0] (shapeCast _ y shapeCasts_S65536x512_S8x8192x4x2x2x32)
    slices_S8x8192x4x2x2x32_S8x8192x4x1x2x32_0_0_0_1_0_0) shapeCasts_S8x8192x4x1x2x32_S8x8192x4x2x32
/-- Two halves put back as columns. -/
def stack (a b : FVec Ideal S8x8192x4x2x32 .f32) : FVec Ideal S65536x512 .f32 :=
  shapeCast _ (concatenate S8x8192x4x2x2x32 3
    [⟨S8x8192x4x1x2x32, broadcastInDim S8x8192x4x1x2x32 ![0, 1, 2, 4, 5] bcast_S8x8192x4x2x32_S8x8192x4x1x2x32_0_1_2_4_5 a⟩,
     ⟨S8x8192x4x1x2x32, broadcastInDim S8x8192x4x1x2x32 ![0, 1, 2, 4, 5] bcast_S8x8192x4x2x32_S8x8192x4x1x2x32_0_1_2_4_5 b⟩]
    concatenates_S8x8192x4x1x2x32_S8x8192x4x1x2x32_S8x8192x4x2x2x32_d3) shapeCasts_S8x8192x4x2x2x32_S65536x512

/-- The rotary embedding of 512 columns. -/
def rotary (y : FVec Ideal S65536x512 .f32) (cs sn : FVec Ideal S8192x32 .f32) : FVec Ideal S65536x512 .f32 :=
  stack (subf (mulf (half0 y) (tab cs)) (mulf (half1 y) (tab sn))) (addf (mulf (half1 y) (tab cs)) (mulf (half0 y) (tab sn)))

theorem tab_apply (s : FVec Ideal S8192x32 .f32) (b : Fin 8) (t : Fin 8192) (h : Fin 4) (p : Fin 2) (j : Fin 32) :
    tab s (ix5 b t h p j) = s (ix2 t j) := by
  pointwise [tab]

theorem half0_apply (y : FVec Ideal S65536x512 .f32) (b : Fin 8) (t : Fin 8192) (h : Fin 4) (p : Fin 2) (j : Fin 32)
    (r : Fin 65536) (n : Fin 512) (hr : r.val = b.val * 8192 + t.val) (hn : n.val = h.val * 128 + p.val * 32 + j.val) :
    half0 y (ix5 b t h p j) = y (ix2 r n) := by
  obtain ⟨r, hr'⟩ := r
  obtain ⟨n, hn'⟩ := n
  dsimp only at hr hn
  subst hr hn
  pointwise [half0]

theorem half1_apply (y : FVec Ideal S65536x512 .f32) (b : Fin 8) (t : Fin 8192) (h : Fin 4) (p : Fin 2) (j : Fin 32)
    (r : Fin 65536) (n : Fin 512) (hr : r.val = b.val * 8192 + t.val) (hn : n.val = h.val * 128 + 64 + p.val * 32 + j.val) :
    half1 y (ix5 b t h p j) = y (ix2 r n) := by
  obtain ⟨r, hr'⟩ := r
  obtain ⟨n, hn'⟩ := n
  dsimp only at hr hn
  subst hr hn
  pointwise [half1]

theorem stack_apply (a b : FVec Ideal S8x8192x4x2x32 .f32) (r : Fin 65536) (n : Fin 512) :
    stack a b (ix2 r n) = (if n.val % 128 < 64 then a else b)
      (ix5 (Fin.ofNat 8 (r.val / 8192)) (Fin.ofNat 8192 r.val) (Fin.ofNat 4 (n.val / 128)) (Fin.ofNat 2 (n.val / 32)) (Fin.ofNat 32 n.val)) := by
  have hr := r.isLt
  have hn := n.isLt
  have e : (ix5 ⟨r.val / 8192, by omega⟩ ⟨r.val % 8192, by omega⟩ ⟨n.val / 128, by omega⟩ ⟨n.val / 32 % 2, by omega⟩ ⟨n.val % 32, by omega⟩
      : S8x8192x4x2x32.Idx)
      = ix5 (Fin.ofNat 8 (r.val / 8192)) (Fin.ofNat 8192 r.val) (Fin.ofNat 4 (n.val / 128)) (Fin.ofNat 2 (n.val / 32)) (Fin.ofNat 32 n.val) := by
    rw [show (⟨r.val / 8192, by omega⟩ : Fin 8) = Fin.ofNat 8 (r.val / 8192) from Fin.ext (Nat.mod_eq_of_lt (show r.val / 8192 < 8 by omega)).symm,
      show (⟨n.val / 128, by omega⟩ : Fin 4) = Fin.ofNat 4 (n.val / 128) from Fin.ext (Nat.mod_eq_of_lt (show n.val / 128 < 4 by omega)).symm]
    rfl
  pointwise [stack]
  by_cases h : n.val / 64 % 2 < 1
  · rw [dif_pos h]
    exact (congrArg a e).trans (congrFun (if_pos (show n.val % 128 < 64 by omega)).symm _)
  · rw [dif_neg h]
    exact (congrArg b e).trans (congrFun (if_neg (show ¬n.val % 128 < 64 by omega)).symm _)

/-- The rotary embedding of 512 columns that are columns `o …` of the product is the kernel's rotation of them. -/
theorem rotary_apply (y : FVec Ideal S65536x512 .f32) (cs sn : FVec Ideal S8192x32 .f32) (P : ℕ → EReal) (o : ℕ) (ho : o % 128 = 0)
    (r : Fin 65536) (hy : ∀ n : Fin 512, y (ix2 r n) = P (o + n.val)) (n : Fin 512) :
    rotary y cs sn (ix2 r n)
      = mixed P (fun l => cosAt cs (Fin.ofNat 8192 r.val) (l % 128)) (fun l => sinAt sn (Fin.ofNat 8192 r.val) (l % 128)) (o + n.val) := by
  have hn := n.isLt
  have hr := r.isLt
  have h8 : (Fin.ofNat 8 (r.val / 8192)).val = r.val / 8192 := Nat.mod_eq_of_lt (by omega)
  have ht : (Fin.ofNat 8192 r.val).val = r.val % 8192 := rfl
  have h4 : (Fin.ofNat 4 (n.val / 128)).val = n.val / 128 := Nat.mod_eq_of_lt (by omega)
  have h2 : (Fin.ofNat 2 (n.val / 32)).val = n.val / 32 % 2 := rfl
  have h32 : (Fin.ofNat 32 n.val).val = n.val % 32 := rfl
  have hj : ∀ l : ℕ, l % 32 = n.val % 32 → (Fin.ofNat 32 l : Fin 32) = Fin.ofNat 32 n.val := fun l h => Fin.ext h
  unfold rotary
  rw [stack_apply]
  unfold mixed cosAt sinAt
  by_cases h : n.val % 128 < 64
  · rw [if_pos h]
    show half0 y _ * tab cs _ - half1 y _ * tab sn _ = _
    rw [half0_apply y _ _ _ _ _ r n (by omega) (by omega), half1_apply y _ _ _ _ _ r ⟨n.val + 64, by omega⟩ (by omega) (by show n.val + 64 = _; omega),
      tab_apply, tab_apply, hy, hy]
    dsimp only
    rw [if_pos (by omega), hj ((o + n.val) % 128 % 128) (by omega), mul_neg, ← sub_eq_add_neg, show across (o + n.val) = o + (n.val + 64) by unfold across; omega]
  · rw [if_neg h]
    show half1 y _ * tab cs _ + half0 y _ * tab sn _ = _
    rw [half1_apply y _ _ _ _ _ r n (by omega) (by omega), half0_apply y _ _ _ _ _ r ⟨n.val - 64, by omega⟩ (by omega) (by show n.val - 64 = _; omega),
      tab_apply, tab_apply, hy, hy]
    dsimp only
    rw [if_neg (by omega), hj ((o + n.val) % 128 % 128) (by omega), show across (o + n.val) = o + (n.val - 64) by unfold across; omega]

/-! ## The whole term -/

/-- The normed rows times the weights. -/
def product (x : FVec Ideal S65536x1024 .f32) (g : FVec Ideal S1x1024 .f32) (w : FVec Ideal S1024x3072 .bf16) : FVec Ideal S65536x3072 .f32 :=
  Host.dotGeneral dot_S65536x1024_S1024x3072_S65536x3072_1_0_0_1_n_n none
    (mulf (mulf x (broadcastInDim S65536x1024 ![0, 1] bcast_S65536x1_S65536x1024_0_1
      (Host.rsqrt (addf (Host.divf (broadcastInDim S65536x1 ![0] bcast_S65536_S65536x1_0
          (Host.reduceAdd (mulf x x) (constant S_ .f32 0x00000000#32) reducesTo_S65536x1024_S65536_d1 h_S_))
        (broadcastInDim S65536x1 ![] bcast_S_S65536x1 (constant S_ .f32 0x44800000#32)))
        (broadcastInDim S65536x1 ![] bcast_S_S65536x1 (constant S_ .f32 0x358637BD#32))))))
      (broadcastInDim S65536x1024 ![0, 1] bcast_S1x1024_S65536x1024_0_1 g))
    (extf .f32 w bitsLt_bf16_f32)

theorem product_apply (x : FVec Ideal S65536x1024 .f32) (g : FVec Ideal S1x1024 .f32) (w : FVec Ideal S1024x3072 .bf16)
    (r : Fin 65536) (n : Fin 3072) :
    product x g w (ix2 r n) = proj (normed (fun e => x (ix2 r e)) (fun e => g (ix2 0 e))) w n.val := by
  have e : (Fin.ofNat 3072 n.val : Fin 3072) = n := Fin.ext (Nat.mod_eq_of_lt n.isLt)
  unfold proj
  rw [e]
  pointwise [product, normed]

/-- 512 columns scaled by 1/8. -/
def scaled (y : FVec Ideal S65536x512 .f32) : FVec Ideal S65536x512 .f32 :=
  mulf y (broadcastInDim S65536x512 ![] bcast_S_S65536x512 (constant S_ .f32 0x3E000000#32))

theorem scaled_apply (y : FVec Ideal S65536x512 .f32) (r : Fin 65536) (n : Fin 512) : scaled y (ix2 r n) = y (ix2 r n) * eighth := by
  pointwise [scaled, eighth]

/-- The five parts side by side. -/
def parts (a : FVec Ideal S65536x512 .f32) (b : FVec Ideal S65536x1024 .f32) (c d e : FVec Ideal S65536x512 .f32) : FVec Ideal S65536x3072 .bf16 :=
  truncf .bf16 (concatenate S65536x3072 1 [⟨S65536x512, a⟩, ⟨S65536x1024, b⟩, ⟨S65536x512, c⟩, ⟨S65536x512, d⟩, ⟨S65536x512, e⟩]
    concatenates_S65536x512_S65536x1024_S65536x512_S65536x512_S65536x512_S65536x3072_d1) bitsLt_bf16_f32

/-- The reference's term. -/
def refTerm (x : FVec Ideal S65536x1024 .f32) (g : FVec Ideal S1x1024 .f32) (w : FVec Ideal S1024x3072 .bf16) (cs sn : FVec Ideal S8192x32 .f32) :
    FVec Ideal S65536x3072 .bf16 :=
  parts (scaled (extractStridedSlice S65536x512 ![0, 0] (product x g w) slices_S65536x3072_S65536x512_0_0))
    (extractStridedSlice S65536x1024 ![0, 512] (product x g w) slices_S65536x3072_S65536x1024_0_512)
    (scaled (rotary (extractStridedSlice S65536x512 ![0, 1536] (product x g w) slices_S65536x3072_S65536x512_0_1536) cs sn))
    (rotary (extractStridedSlice S65536x512 ![0, 2048] (product x g w) slices_S65536x3072_S65536x512_0_2048) cs sn)
    (extractStridedSlice S65536x512 ![0, 2560] (product x g w) slices_S65536x3072_S65536x512_0_2560)

theorem parts_apply (a : FVec Ideal S65536x512 .f32) (b : FVec Ideal S65536x1024 .f32) (c d e : FVec Ideal S65536x512 .f32)
    (r : Fin 65536) (n : Fin 3072) :
    parts a b c d e (ix2 r n) = if h : n.val < 512 then a (ix2 r ⟨n.val, h⟩)
      else if h : n.val - 512 < 1024 then b (ix2 r ⟨n.val - 512, h⟩)
      else if h : n.val - 512 - 1024 < 512 then c (ix2 r ⟨n.val - 512 - 1024, h⟩)
      else if h : n.val - 512 - 1024 - 512 < 512 then d (ix2 r ⟨n.val - 512 - 1024 - 512, h⟩)
      else e (ix2 r ⟨n.val - 512 - 1024 - 512 - 512, by have := n.isLt; omega⟩) := by
  pointwise [parts]

/-- Columns `o …` of the product. -/
theorem cut_apply (k o : ℕ) (y : FVec Ideal S65536x3072 .f32) (hs : S65536x3072.Slices ![0, o] ⟨2, ![65536, k]⟩) (P : ℕ → EReal) (r : Fin 65536)
    (hy : ∀ n : Fin 3072, y (ix2 r n) = P n.val) (l : Fin k) :
    extractStridedSlice ⟨2, ![65536, k]⟩ ![0, o] y hs (ix2 r l) = P (o + l.val) := by
  have ho : o + k ≤ 3072 := hs.2 1
  rw [← hy ⟨o + l.val, by have := l.isLt; omega⟩]
  exact extractStridedSlice_apply _ y hs _ _ fun a => match a with
    | ⟨0, _⟩ => (Nat.zero_add _).symm
    | ⟨1, _⟩ => rfl

/-- The reference's term at row `r`, column `n` is the kernel's function there. -/
theorem refTerm_apply (x : FVec Ideal S65536x1024 .f32) (g : FVec Ideal S1x1024 .f32) (w : FVec Ideal S1024x3072 .bf16)
    (cs sn : FVec Ideal S8192x32 .f32) (r : Fin 65536) (n : Fin 3072) : refTerm x g w cs sn (ix2 r n) = inprojAt x g w cs sn r n := by
  have hP := product_apply x g w r
  have hn := n.isLt
  unfold refTerm inprojAt cell
  rw [parts_apply]
  generalize proj (normed (fun e => x (ix2 r e)) (fun e => g (ix2 0 e))) w = P at hP ⊢
  have cut := fun o hs l => cut_apply 512 o (product x g w) hs P r hP l
  by_cases h0 : n.val < 512
  · rw [dif_pos h0, if_pos (by omega), scaled_apply]
    exact congrArg (· * eighth) ((cut 0 _ _).trans (congrArg P (Nat.zero_add _)))
  rw [dif_neg h0, if_neg (by omega)]
  by_cases h1 : n.val - 512 < 1024
  · rw [dif_pos h1, if_neg (by omega), if_neg (by omega)]
    exact (cut_apply 1024 512 (product x g w) _ P r hP _).trans (congrArg P (by show 512 + (n.val - 512) = n.val; omega))
  rw [dif_neg h1]
  by_cases h2 : n.val - 512 - 1024 < 512
  · rw [dif_pos h2, if_pos (by omega), scaled_apply, rotary_apply _ cs sn P 1536 (by decide) r (cut 1536 _)]
    exact congrArg (fun k => mixed P _ _ k * eighth) (by show 1536 + (n.val - 512 - 1024) = n.val; omega)
  rw [dif_neg h2, if_neg (by omega)]
  by_cases h3 : n.val - 512 - 1024 - 512 < 512
  · rw [dif_pos h3, if_pos (by omega), rotary_apply _ cs sn P 2048 (by decide) r (cut 2048 _)]
    exact congrArg (fun k => mixed P _ _ k) (by show 2048 + (n.val - 512 - 1024 - 512) = n.val; omega)
  rw [dif_neg h3, if_neg (by omega)]
  exact (cut 2560 _ _).trans (congrArg P (by show 2560 + (n.val - 512 - 1024 - 512 - 512) = n.val; omega))

end Cert.Proof.InprojRef

end
-- ==== Proof.InprojClaim.lean ====
/-
  The input projection, the claim: the kernel's result array is the reference's term, so both runs end with one result.
-/
module

public import proofs.«01_k».proof.Defs
public import proofs.«01_k».proof.Proof.Gen.Inproj.Frame
public import proofs.«01_k».proof.Proof.InprojRef
public import Idealize.ShloMosaic.Lib.Quiescent

@[expose] public section

set_option maxRecDepth 16384

noncomputable section

namespace Cert.Proof.InprojClaim

open Idealize.ShloMosaic Idealize.ShloMosaic.TcCoe Idealize.SL.Sem

/-- The kernel's result array is the reference's term of the same arguments. -/
theorem G_eq (m : (ℓ : Loc Cert.InprojIdeal.nD Cert.InprojIdeal.τ Cert.InprojIdeal.sig) → Buf (Elt Ideal) ℓ) (c : Dev Cert.InprojIdeal.nD) :
    InprojArray.G m c = InprojRef.refTerm (m ((c : Thread Cert.InprojIdeal.nD Cert.InprojIdeal.τ).loc Cert.InprojIdeal.main_arg0))
      (m ((c : Thread Cert.InprojIdeal.nD Cert.InprojIdeal.τ).loc Cert.InprojIdeal.main_arg1))
      (m ((c : Thread Cert.InprojIdeal.nD Cert.InprojIdeal.τ).loc Cert.InprojIdeal.main_arg2))
      (m ((c : Thread Cert.InprojIdeal.nD Cert.InprojIdeal.τ).loc Cert.InprojIdeal.main_arg3))
      (m ((c : Thread Cert.InprojIdeal.nD Cert.InprojIdeal.τ).loc Cert.InprojIdeal.main_arg4)) := by
  funext i
  conv_rhs => rw [eq_ix2 i]
  exact (InprojRef.refTerm_apply _ _ _ _ _ _ _).symm

/-- What the reference's run ends with is its term of its own arguments. -/
theorem res_eq (m : (ℓ : Loc Cert.InprojReferenceIdeal.nD Cert.InprojReferenceIdeal.τ Cert.InprojReferenceIdeal.sig) → Buf (Elt Ideal) ℓ)
    (c : Dev Cert.InprojReferenceIdeal.nD) :
    Cert.InprojReferenceIdeal.Value.res_main_v66 m c = InprojRef.refTerm (m ((c : Thread Cert.InprojReferenceIdeal.nD Cert.InprojReferenceIdeal.τ).loc Cert.InprojReferenceIdeal.main_arg0))
      (m ((c : Thread Cert.InprojReferenceIdeal.nD Cert.InprojReferenceIdeal.τ).loc Cert.InprojReferenceIdeal.main_arg1))
      (m ((c : Thread Cert.InprojReferenceIdeal.nD Cert.InprojReferenceIdeal.τ).loc Cert.InprojReferenceIdeal.main_arg2))
      (m ((c : Thread Cert.InprojReferenceIdeal.nD Cert.InprojReferenceIdeal.τ).loc Cert.InprojReferenceIdeal.main_arg3))
      (m ((c : Thread Cert.InprojReferenceIdeal.nD Cert.InprojReferenceIdeal.τ).loc Cert.InprojReferenceIdeal.main_arg4)) := rfl

theorem frame_k : Cert.quiescent_Inproj := fun m ρ _ => Cert.Inproj.Gen.frame m ρ
theorem frame_ki : Cert.quiescent_InprojIdeal := fun m ρ _ => Cert.InprojIdeal.Gen.frame m ρ
/-- The reference's frame, read off its run. -/
theorem frame_r : Cert.quiescent_InprojReferenceIdeal := fun m ρ _ =>
  (θ_run Cert.InprojReferenceIdeal.defs _ _).mono (fun r h => ⟨fun c => (h c).2,
      Idealize.ShloMosaic.sem_eq_zero_of_no_sems (by decide) r.2⟩)
    (Cert.InprojReferenceIdeal.Value.run (F := Ideal) m ρ)
theorem preserves : Cert.preserves_Inproj_InprojIdeal := trivial

/-- At the ideal instance the input projection and its reference end with equal results. -/
theorem algebraic : Cert.algebraic_InprojIdeal_InprojReferenceIdeal := by
  intro m ρ m' ρ' _ hag
  refine ⟨fun c => InprojArray.G m c, InprojArray.run m ρ, (θ_run Cert.InprojReferenceIdeal.defs _ _).mono (fun _ h c => ⟨(h c).1.trans ?_, (h c).2⟩)
    (Cert.InprojReferenceIdeal.Value.run (F := Ideal) m' ρ')⟩
  refine (res_eq m' c).trans ?_
  rw [(hag c).1, (hag c).2.1, (hag c).2.2.1, (hag c).2.2.2.1, (hag c).2.2.2.2]
  exact (G_eq m c).symm

end Cert.Proof.InprojClaim

end
-- ==== Proof.OutprojMath.lean ====
/-
  The mathematics of the output projection and the router. A normed row of real gains is real whatever the row holds: a
  row with an infinite entry has an infinite mean square, whose reciprocal root is zero. So the two halves of the router
  weights give the logits of their sum, the remainder of the split row being zero, and a softmax over the first 16 of 128
  rows, the others at `⊥`, is the softmax over 16.
-/
module

public import proofs.«01_k».proof.Proof.AttnMath
public import proofs.«01_k».proof.Proof.InprojBlock

@[expose] public section

noncomputable section

namespace Cert.Proof.OutprojMath

open Idealize.ShloMosaic
open Cert.Proof.InprojBlock (normed)
open Cert.Proof.AttnMath (coe_sum exp_sub wt weight total_pos)
open scoped BigOperators

/-- Row 512 + k of the projection's weights, and row k. -/
def lower (k : Fin 512) : Fin 1024 := ⟨k.val, by have := k.isLt; omega⟩
def upper (k : Fin 512) : Fin 1024 := ⟨512 + k.val, by have := k.isLt; omega⟩

/-- The residual row: the row plus the two attentions' projections. -/
def resid (x : Fin 1024 → EReal) (a d : Fin 512 → EReal) (w : Fin 1024 → Fin 1024 → EReal) (e : Fin 1024) : EReal :=
  x e + ∑ k : Fin 512, a k * w (lower k) e + ∑ k : Fin 512, d k * w (upper k) e

/-- A product over 1024 rows is the sum of the products over the two halves. -/
theorem halves (f : Fin 1024 → EReal) : ∑ k : Fin 1024, f k = ∑ k : Fin 512, f (lower k) + ∑ k : Fin 512, f (upper k) :=
  Fin.sum_univ_add (a := 512) (b := 512) f

theorem top_of_infinite (x : EReal) (h : ¬ ∃ r : ℝ, x = r) : x * x = ⊤ := by
  induction x using EReal.rec with
  | bot => exact EReal.bot_mul_bot
  | top => exact EReal.top_mul_top
  | coe r => exact absurd ⟨r, rfl⟩ h

theorem square_nonneg (x : EReal) : 0 ≤ x * x := by
  rcases le_total 0 x with h | h
  · exact EReal.mul_nonneg h h
  · exact EReal.mul_nonneg_iff.mpr (.inr ⟨h, h⟩)

/-- A normed row with real gains is real. -/
theorem normed_real (x g : Fin 1024 → EReal) (k : Fin 1024) (hg : ∃ r : ℝ, g k = r) : ∃ r : ℝ, normed x g k = r := by
  obtain ⟨q, hq⟩ := hg
  obtain ⟨c, hc0, hc⟩ : ∃ c : ℝ, 0 < c ∧ Ideal.ofBits FTy.f32 0x44800000#32 = c :=
    ⟨8388608 * (2 ^ 13)⁻¹, by positivity, by simp [Ideal.ofBits, Ideal.ieee]⟩
  obtain ⟨p, hp0, hp⟩ : ∃ p : ℝ, 0 < p ∧ Ideal.ofBits FTy.f32 0x358637BD#32 = p :=
    ⟨8796093 * (2 ^ 43)⁻¹, by positivity, by simp [Ideal.ofBits, Ideal.ieee]⟩
  unfold normed
  rw [hq, hc, hp, Ideal.div_coe hc0.ne']
  by_cases hx : ∀ e, ∃ r : ℝ, x e = r
  · choose r hr using hx
    have hs : ∑ e, x e * x e = ((∑ e, r e * r e : ℝ) : EReal) := by
      rw [coe_sum]
      exact Finset.sum_congr rfl fun e _ => by rw [hr e, EReal.coe_mul]
    have h0 : 0 ≤ ∑ e, r e * r e := Finset.sum_nonneg fun e _ => mul_self_nonneg (r e)
    have h1 : 0 < (∑ e, r e * r e) * (1 / c) + p := add_pos_of_nonneg_of_pos (by positivity) hp0
    rw [hs, ← EReal.coe_mul, ← EReal.coe_add, Ideal.rsqrt_coe, if_neg h1.not_gt, if_neg h1.ne', hr k, ← EReal.coe_mul, ← EReal.coe_mul]
    exact ⟨_, rfl⟩
  · obtain ⟨e, he⟩ := not_forall.mp hx
    have hs : ∑ e, x e * x e = ⊤ := by
      rw [← Finset.add_sum_erase _ _ (Finset.mem_univ e), top_of_infinite _ he]
      exact EReal.top_add_of_ne_bot (ne_of_gt (lt_of_lt_of_le EReal.bot_lt_zero (Finset.sum_nonneg fun i _ => square_nonneg (x i))))
    rw [hs, EReal.top_mul_coe_of_pos (by positivity), EReal.top_add_coe, Ideal.rsqrt_top, mul_zero, zero_mul]
    exact ⟨0, rfl⟩

/-- The logit of a row `h` against the sum of the two halves of a router row. -/
def score (h a b : Fin 1024 → EReal) : ℝ := (∑ k : Fin 1024, h k * (a k + b k)).toReal

section
variable (h a b : Fin 1024 → EReal) (hh : ∀ k, ∃ r : ℝ, h k = r) (ha : ∀ k, ∃ r : ℝ, a k = r) (hb : ∀ k, ∃ r : ℝ, b k = r)
include hh ha hb

/-- The reference's logit, -/
theorem ref_logit : ∑ k : Fin 1024, h k * (a k + b k) = (score h a b : EReal) := by
  choose p hp using hh
  choose q hq using ha
  choose r hr using hb
  have e : ∑ k : Fin 1024, h k * (a k + b k) = ((∑ k : Fin 1024, p k * (q k + r k) : ℝ) : EReal) := by
    rw [coe_sum]
    exact Finset.sum_congr rfl fun k _ => by rw [hp, hq, hr, EReal.coe_mul, EReal.coe_add]
  unfold score
  rw [e, EReal.toReal_coe]

/-- and the kernel's: the row split into itself and a remainder that is zero. -/
theorem split_logit : ∑ k : Fin 1024, a k * h k + ∑ k : Fin 1024, a k * (h k - h k) + ∑ k : Fin 1024, b k * h k = (score h a b : EReal) := by
  rw [← ref_logit h a b hh ha hb]
  choose p hp using hh
  choose q hq using ha
  choose r hr using hb
  have e : ∀ (u v : Fin 1024 → EReal) (s t : Fin 1024 → ℝ), (∀ k, u k = s k) → (∀ k, v k = t k) →
      ∑ k : Fin 1024, u k * v k = ((∑ k : Fin 1024, s k * t k : ℝ) : EReal) := fun u v s t hu hv => by
    rw [coe_sum]
    exact Finset.sum_congr rfl fun k _ => by rw [hu, hv, EReal.coe_mul]
  rw [e a h q p hq hp, e a (fun k => h k - h k) q (fun k => p k - p k) hq (fun k => by rw [hp, EReal.coe_sub]), e b h r p hr hp,
    e h (fun k => a k + b k) p (fun k => q k + r k) hp (fun k => by rw [hq, hr, EReal.coe_add]), ← EReal.coe_add, ← EReal.coe_add,
    ← Finset.sum_add_distrib, ← Finset.sum_add_distrib]
  exact congrArg _ (Finset.sum_congr rfl fun k _ => by ring)
end

/-- The maximum of finitely many extended reals none of which is `⊤` and one of which is real is real. -/
theorem fold_max_real {T : ℕ} (S : Fin T → EReal) (hS : ∀ k, S k ≠ ⊤) (k0 : Fin T) (r : ℝ) (h0 : S k0 = r) :
    ∃ M : ℝ, Finset.univ.fold max (⊥ : EReal) S = M := by
  have hne : (Finset.univ : Finset (Fin T)).Nonempty := ⟨k0, Finset.mem_univ _⟩
  obtain ⟨k, -, hk⟩ := Finset.exists_mem_eq_sup (Finset.univ : Finset (Fin T)) hne S
  have e : Finset.univ.fold max (⊥ : EReal) S = S k := (show Finset.univ.fold max (⊥ : EReal) S = Finset.univ.sup S from rfl).trans hk
  have hb : S k ≠ ⊥ := fun hb => by
    have hle : S k0 ≤ S k := (Finset.le_sup (Finset.mem_univ k0)).trans hk.le
    rw [hb, h0] at hle
    exact EReal.coe_ne_bot r (le_bot_iff.mp hle)
  exact ⟨(S k).toReal, e.trans (EReal.coe_toReal (hS k) hb).symm⟩

/-- A row's share of the tokens: the softmax weight among the 16 experts, zero on the other rows. -/
def share (s : ℕ → ℝ) (n : ℕ) : EReal := if n < 16 then (wt s 16 n : EReal) else 0

/-- The logits with the rows from 16 on at `⊥`. -/
def masked (s : ℕ → ℝ) (n : ℕ) : EReal := if n < 16 then (s n : EReal) else ⊥

theorem masked_exp (s : ℕ → ℝ) (M : ℝ) (n : ℕ) :
    Ideal.exp (masked s n - (M : EReal)) = if n < 16 then (Real.exp (s n - M) : EReal) else 0 := by
  unfold masked
  split
  · exact exp_sub _ _
  · rw [EReal.bot_sub, Ideal.exp_bot]

/-- The kernel's softmax over 128 rows, -/
theorem masked_softmax (s : ℕ → ℝ) (M : ℝ) (n : Fin 128) :
    Ideal.div (Ideal.exp (masked s n.val - (M : EReal))) (∑ k : Fin 128, Ideal.exp (masked s k.val - (M : EReal))) = share s n.val := by
  have hs : ∑ k : Fin 128, Ideal.exp (masked s k.val - (M : EReal)) = ((∑ k ∈ Finset.range 16, Real.exp (s k - M) : ℝ) : EReal) := by
    rw [← Finset.sum_range (fun k => Ideal.exp (masked s k - (M : EReal))), show (128 : ℕ) = 16 + 112 from rfl, Finset.sum_range_add, coe_sum]
    refine (congrArg₂ (· + ·) (Finset.sum_congr rfl fun k hk => ?_) (Finset.sum_eq_zero fun k _ => ?_)).trans (add_zero _)
    · rw [masked_exp, if_pos (Finset.mem_range.mp hk)]
    · rw [masked_exp, if_neg (by omega)]
  rw [hs, masked_exp]
  unfold share
  split
  · exact weight s 16 n.val (by norm_num) M
  · rw [Ideal.div_coe (total_pos s 16 (by norm_num) M).ne', zero_mul]

/-- and the reference's over 16. -/
theorem softmax (s : ℕ → ℝ) (M : ℝ) (n : Fin 16) :
    Ideal.div (Ideal.exp ((s n.val : EReal) - (M : EReal))) (∑ k : Fin 16, Ideal.exp ((s k.val : EReal) - (M : EReal))) = share s n.val := by
  rw [← Finset.sum_range (fun k => Ideal.exp ((s k : EReal) - (M : EReal)))]
  simp only [exp_sub]
  rw [← coe_sum, share, if_pos n.isLt]
  exact weight s 16 n.val (by norm_num) M

end Cert.Proof.OutprojMath

end
-- ==== Proof.OutprojBlock.lean ====
/-
  The output projection and router, one grid point: what the body leaves in its four output blocks, row by row.
-/
module

public import proofs.«01_k».proof.Proof.OutprojMath
public import proofs.«01_k».proof.Proof.Gen.OutprojIdeal.Frame
public import Idealize.ShloMosaic.Lib.Pointwise
public import Idealize.ShloMosaic.Lib.Pipeline.Value

@[expose] public section

set_option maxRecDepth 16384

noncomputable section

namespace Cert.Proof.OutprojBlock

open Cert.OutprojIdeal Cert.OutprojIdeal.Gen Idealize.ShloMosaic
open Cert.Proof.InprojBlock (normed)
open Cert.Proof.OutprojMath (resid lower upper score masked share normed_real split_logit masked_softmax)
open scoped BigOperators

section Rows
variable (v0 : FVec Ideal S512x1024 .f32) (v1 : FVec Ideal S512x512 .bf16) (v2 : FVec Ideal S512x1024 .bf16) (v5 : FVec Ideal S512x512 .bf16)
  (v6 : FVec Ideal S512x1024 .bf16) (v20 : FVec Ideal S1x1024 .f32) (w : FVec Ideal S128x1024 .bf16)

theorem pay4_apply (r : Fin 512) (e : Fin 1024) : k0_pay4 (F := Ideal) v0 v1 v2 v5 v6 (ix2 r e)
    = v0 (ix2 r e) + ∑ k : Fin 512, v1 (ix2 r k) * v2 (ix2 k e) + ∑ k : Fin 512, v5 (ix2 r k) * v6 (ix2 k e) := by
  pointwise [k0_pay4]

/-- The norm's tower over a block of rows. -/
def norm (y : FVec Ideal S512x1024 .f32) (g : FVec Ideal S1x1024 .f32) : FVec Ideal S512x1024 .f32 :=
  mulf (mulf y (broadcastTo S512x1024 (rsqrt (addf (divf (shapeCast S512x1 (multiReduction .add [1] S512 (mulf y y) 0x00000000#32
    reduces_S512x1024_S512 (.inl rfl) rfl) shapeCasts_S512_S512x1) (broadcast S512x1 (Scalar.ofBits .f32 0x44800000#32)))
    (broadcast S512x1 (Scalar.ofBits .f32 0x358637BD#32)))) broadcasts_S512x1_S512x1024)) (broadcastTo S512x1024 g broadcasts_S1x1024_S512x1024)

theorem norm_apply (y : FVec Ideal S512x1024 .f32) (g : FVec Ideal S1x1024 .f32) (r : Fin 512) (e : Fin 1024) :
    norm y g (ix2 r e) = normed (fun k => y (ix2 r k)) (fun k => g (ix2 0 k)) e := by
  pointwise [norm, normed]

theorem pay6_apply (r : Fin 512) (e : Fin 1024) : k0_pay6 (F := Ideal) v0 v1 v2 v5 v6 v20 (ix2 r e)
    = normed (fun k => k0_pay4 (F := Ideal) v0 v1 v2 v5 v6 (ix2 r k)) (fun k => v20 (ix2 0 k)) e :=
  norm_apply (k0_pay4 (F := Ideal) v0 v1 v2 v5 v6) v20 r e

theorem pay7_apply (r : Fin 512) (e : Fin 1024) : k0_pay7 (F := Ideal) v0 v1 v2 v5 v6 v20 (ix2 r e)
    = k0_pay6 (F := Ideal) v0 v1 v2 v5 v6 v20 (ix2 r e) - k0_pay6 (F := Ideal) v0 v1 v2 v5 v6 v20 (ix2 r e) := rfl

/-- Router weights times a block of rows. -/
def route (w : FVec Ideal S128x1024 .bf16) (h : FVec Ideal S512x1024 .bf16) : FVec Ideal S128x512 .f32 :=
  matmul dot_S128x1024_S512x1024_S128x512_1_1_0_0_n_n none w h (constant S128x512 .f32 0x00000000#32)

theorem route_apply (w : FVec Ideal S128x1024 .bf16) (h : FVec Ideal S512x1024 .bf16) (n : Fin 128) (r : Fin 512) :
    route w h (ix2 n r) = ∑ k : Fin 1024, w (ix2 n k) * h (ix2 r k) := by
  pointwise [route]
end Rows

/-- The rows from 16 on masked. -/
def maskT (z : FVec Ideal S128x512 .f32) : FVec Ideal S128x512 .f32 :=
  select (cmpi .slt (iota .tc S128x512 32 [0] iota_S128x512_d0_w32) (broadcast S128x512 16#32)) z
    (broadcast S128x512 (Named.named (F := Ideal) (φ := .f32) κ "mask" 0xF149F2CA#32))

theorem maskT_apply (z : FVec Ideal S128x512 .f32) (n : Fin 128) (r : Fin 512) :
    maskT z (ix2 n r) = if n.val < 16 then z (ix2 n r) else ⊥ := by
  have hm : Named.named (F := Ideal) (φ := .f32) κ "mask" 0xF149F2CA#32 = (⊥ : EReal) := IdealRules.named_const.ideal_named_scalar _ _ _ _ rfl
  have key : ∀ n : Fin 128, IntOp.cmpi .slt (BitVec.ofNat 32 n.val) 16#32 = if n.val < 16 then 1#1 else 0#1 := by decide
  pointwise [maskT]
  rw [hm, key n]
  unfold Scalar.select
  by_cases h : n.val < 16
  · rw [if_pos h, if_pos h, if_pos (show (1#1 : BitVec 1) = 1 from rfl)]
  · rw [if_neg h, if_neg h, if_neg (by decide)]

/-- The column maxima. -/
def maxT (z : FVec Ideal S128x512 .f32) : FVec Ideal S512 .f32 :=
  multiReduction .maximumf [0] S512 z 0xFF800000#32 reduces_S128x512_S512 (.inl rfl) rfl
/-- The shifted exponentials. -/
def expT (z : FVec Ideal S128x512 .f32) : FVec Ideal S128x512 .f32 :=
  exp (subf z (broadcastTo S128x512 (shapeCast S1x512 (maxT z) shapeCasts_S512_S1x512) broadcasts_S1x512_S128x512))
/-- The softmax down the columns. -/
def softT (z : FVec Ideal S128x512 .f32) : FVec Ideal S128x512 .f32 :=
  divf (expT z) (broadcastTo S128x512 (shapeCast S1x512 (multiReduction .add [0] S512 (expT z) 0x00000000#32 reduces_S128x512_S512 (.inl rfl) rfl)
    shapeCasts_S512_S1x512) broadcasts_S1x512_S128x512)

theorem expT_apply (z : FVec Ideal S128x512 .f32) (n : Fin 128) (r : Fin 512) :
    expT z (ix2 n r) = Ideal.exp (z (ix2 n r) - maxT z (ix1 r)) := by
  pointwise [expT]
theorem softT_apply (z : FVec Ideal S128x512 .f32) (n : Fin 128) (r : Fin 512) :
    softT z (ix2 n r) = Ideal.div (expT z (ix2 n r)) (∑ k : Fin 128, expT z (ix2 k r)) := by
  pointwise [softT]

/-- A column's maximum, of entries below `⊤` with one real, is real: for any sizes. -/
theorem colMax_real {n0 n1 : ℕ} (z : FVec Ideal ⟨2, ![n0, n1]⟩ .f32) (hR : (⟨2, ![n0, n1]⟩ : Shape).Reduces [0] ⟨1, ![n1]⟩) (h1) (h2)
    (r : Fin n1) (hz : ∀ k, z (ix2 k r) ≠ ⊤) (k0 : Fin n0) (q : ℝ) (h0 : z (ix2 k0 r) = q) :
    ∃ M : ℝ, multiReduction .maximumf [0] ⟨1, ![n1]⟩ z 0xFF800000#32 hR h1 h2 (ix1 r) = M := by
  have hN : Ideal.ofBits FTy.f32 0xFF800000#32 = (⊥ : EReal) := by simp [Ideal.ofBits, Ideal.ieee]
  obtain ⟨M, hM⟩ := OutprojMath.fold_max_real (fun k => z (ix2 k r)) hz k0 q h0
  refine ⟨M, Eq.trans ?_ hM⟩
  rw [multiReduction_maximumf_eq_fold, hR.fold_fiber_r2_a0]
  exact congrArg (fun b => Finset.fold max b (fun k => z (ix2 k r)) Finset.univ) hN

theorem pay1_eq (v23 v27 : FVec Ideal S512x1024 .bf16) (v29 : FVec Ideal S128x512 .f32) (v30 v33 : FVec Ideal S128x1024 .bf16) :
    k0_pay1 (F := Ideal) v23 v27 v29 v30 v33 = softT (maskT (addf (addf v29 (route v30 v27)) (route v33 v23))) := rfl

/-! ## The four output blocks -/

section Blocks
variable (x0 : FVec Ideal S512x1024 .f32) (x1 x2 : FVec Ideal S512x512 .bf16) (x3 : FVec Ideal S1024x1024 .bf16)
  (x4 : FVec Ideal S1x1024 .f32) (x5 x6 : FVec Ideal S128x1024 .bf16)

theorem hz : (![0, 0] : Fin 2 → ℕ) = fun _ => 0 := by decide

theorem whole (w : FVec Ideal S128x1024 .bf16) : View.ld (Val := Elt Ideal) (e' := .bf16) w r0_5 = w := by
  rw [View.ld_unit_zero hz]

/-- Row `r` of the residual, -/
def res (r : Fin 512) : Fin 1024 → EReal :=
  resid (fun e => x0 (ix2 r e)) (fun k => x1 (ix2 r k)) (fun k => x2 (ix2 r k)) (fun k e => x3 (ix2 k e))
/-- of its norm, -/
def nrm (r : Fin 512) : Fin 1024 → EReal := normed (res x0 x1 x2 x3 r) (fun k => x4 (ix2 0 k))
/-- and its logit at expert `n`. -/
def scr (r : Fin 512) (n : ℕ) : ℝ :=
  score (nrm x0 x1 x2 x3 x4 r) (fun k => x5 (ix2 (Fin.ofNat 128 n) k)) (fun k => x6 (ix2 (Fin.ofNat 128 n) k))

theorem res_apply (r : Fin 512) (e : Fin 1024) :
    k0_pay4 (F := Ideal) (View.ld x0 r0_0) (View.ld x1 r0_1) (View.ld x3 r0_2) (View.ld x2 r0_1) (View.ld x3 r0_3) (ix2 r e)
      = res x0 x1 x2 x3 r e := by
  rw [View.ld_unit_zero hz, View.ld_unit_zero hz, View.ld_unit_zero hz, pay4_apply]
  refine congrArg₂ (· + ·) (congrArg (x0 (ix2 r e) + ·) (Finset.sum_congr rfl fun k _ => congrArg (x1 (ix2 r k) * ·) ?_))
    (Finset.sum_congr rfl fun k _ => congrArg (x2 (ix2 r k) * ·) ?_)
  · refine congrArg x3 (funext fun a => Fin.ext ?_)
    match a with
    | ⟨0, _⟩ => show 0 + 1 * k.val = k.val; omega
    | ⟨1, _⟩ => show 0 + 1 * e.val = e.val; omega
  · refine congrArg x3 (funext fun a => Fin.ext ?_)
    match a with
    | ⟨0, _⟩ => show 512 + 1 * k.val = 512 + k.val; omega
    | ⟨1, _⟩ => show 0 + 1 * e.val = e.val; omega

theorem nrm_apply (r : Fin 512) (e : Fin 1024) : k0_pay9 (F := Ideal) x0 x1 x2 x3 x4 x5 x6 (ix2 r e) = nrm x0 x1 x2 x3 x4 r e := by
  unfold k0_pay9 nrm
  rw [pay6_apply, show View.ld (Val := Elt Ideal) (e' := .f32) x4 r0_4 = x4 from by rw [View.ld_unit_zero hz]]
  exact congrArg (fun y => normed y (fun k => x4 (ix2 0 k)) e) (funext fun k => res_apply x0 x1 x2 x3 r k)

theorem out7_apply (r : Fin 512) (e : Fin 1024) : out0_7 (F := Ideal) x0 x1 x2 x3 x4 x5 x6 (ix2 r e) = res x0 x1 x2 x3 r e := by
  unfold out0_7
  rw [View.canon_unit_zero hz]
  exact res_apply x0 x1 x2 x3 r e

theorem out8_apply (r : Fin 512) (e : Fin 1024) : out0_8 (F := Ideal) x0 x1 x2 x3 x4 x5 x6 (ix2 r e) = nrm x0 x1 x2 x3 x4 r e := by
  unfold out0_8
  rw [View.canon_unit_zero hz]
  exact nrm_apply x0 x1 x2 x3 x4 x5 x6 r e

/-- The gains and the first 16 rows of the two router weights are real. -/
def Reals : Prop := (∀ k, ∃ q : ℝ, x4 (ix2 0 k) = q)
  ∧ (∀ (n : Fin 128) (k : Fin 1024), n.val < 16 → ∃ q : ℝ, x5 (ix2 n k) = q) ∧ (∀ (n : Fin 128) (k : Fin 1024), n.val < 16 → ∃ q : ℝ, x6 (ix2 n k) = q)

/-- The three products added up, at a row below 16: the logit. -/
theorem logit_apply (H : Reals x4 x5 x6) (n : Fin 128) (r : Fin 512) (hn : n.val < 16) :
    addf (addf (k0_pay11 (F := Ideal) x0 x1 x2 x3 x4 x5 x6) (route x5 (k0_pay10 x0 x1 x2 x3 x4 x5 x6))) (route x6 (k0_pay9 x0 x1 x2 x3 x4 x5 x6)) (ix2 n r)
      = (scr x0 x1 x2 x3 x4 x5 x6 r n.val : EReal) := by
  have e11 : k0_pay11 (F := Ideal) x0 x1 x2 x3 x4 x5 x6 = route x5 (k0_pay9 x0 x1 x2 x3 x4 x5 x6) := by
    unfold k0_pay11
    rw [whole x5]
    rfl
  have e10 : ∀ k, k0_pay10 (F := Ideal) x0 x1 x2 x3 x4 x5 x6 (ix2 r k) = nrm x0 x1 x2 x3 x4 r k - nrm x0 x1 x2 x3 x4 r k := fun k => by
    rw [← nrm_apply x0 x1 x2 x3 x4 x5 x6 r k]
    rfl
  have en : Fin.ofNat 128 n.val = n := Fin.ext (Nat.mod_eq_of_lt n.isLt)
  show k0_pay11 (F := Ideal) x0 x1 x2 x3 x4 x5 x6 (ix2 n r) + route x5 (k0_pay10 x0 x1 x2 x3 x4 x5 x6) (ix2 n r)
    + route x6 (k0_pay9 x0 x1 x2 x3 x4 x5 x6) (ix2 n r) = _
  rw [e11, route_apply, route_apply, route_apply]
  simp only [e10, nrm_apply]
  unfold scr
  rw [en]
  exact split_logit _ _ _ (fun k => normed_real _ _ k (H.1 k)) (fun k => H.2.1 n k hn) (fun k => H.2.2 n k hn)

/-- The affinities. -/
theorem aff_apply (H : Reals x4 x5 x6) (n : Fin 128) (r : Fin 512) :
    k0_pay1 (F := Ideal) (k0_pay9 x0 x1 x2 x3 x4 x5 x6) (k0_pay10 x0 x1 x2 x3 x4 x5 x6) (k0_pay11 x0 x1 x2 x3 x4 x5 x6)
        (View.ld x5 r0_5) (View.ld x6 r0_5) (ix2 n r)
      = share (scr x0 x1 x2 x3 x4 x5 x6 r) n.val := by
  rw [whole x5, whole x6, pay1_eq]
  generalize hZ : maskT _ = Z
  have hm : ∀ k : Fin 128, Z (ix2 k r) = masked (scr x0 x1 x2 x3 x4 x5 x6 r) k.val := fun k => by
    rw [← hZ, maskT_apply]
    unfold masked
    by_cases hk : k.val < 16
    · rw [if_pos hk, if_pos hk, logit_apply x0 x1 x2 x3 x4 x5 x6 H k r hk]
    · rw [if_neg hk, if_neg hk]
  have ht : ∀ k : Fin 128, Z (ix2 k r) ≠ ⊤ := fun k => by
    rw [hm k]
    unfold masked
    split
    · exact EReal.coe_ne_top _
    · exact bot_ne_top
  obtain ⟨M, hM⟩ : ∃ M : ℝ, maxT Z (ix1 r) = M := by
    unfold maxT
    exact colMax_real Z _ _ _ r ht 0 (scr x0 x1 x2 x3 x4 x5 x6 r 0) ((hm 0).trans (if_pos (by decide)))
  rw [softT_apply]
  simp only [expT_apply, hM, hm]
  exact masked_softmax _ M n

theorem out9_apply (H : Reals x4 x5 x6) (n : Fin 16) (r : Fin 512) :
    out0_9 (F := Ideal) x0 x1 x2 x3 x4 x5 x6 (ix2 n r) = share (scr x0 x1 x2 x3 x4 x5 x6 r) n.val := by
  unfold out0_9
  rw [View.canon_unit_zero hz]
  refine Eq.trans ?_ (aff_apply x0 x1 x2 x3 x4 x5 x6 H ⟨n.val, by have := n.isLt; omega⟩ r)
  pointwise [k0_pay2]

theorem out10_apply (H : Reals x4 x5 x6) (r : Fin 512) (n : Fin 128) :
    out0_10 (F := Ideal) x0 x1 x2 x3 x4 x5 x6 (ix2 r n) = share (scr x0 x1 x2 x3 x4 x5 x6 r) n.val := by
  unfold out0_10
  rw [View.canon_unit_zero hz]
  refine Eq.trans ?_ (aff_apply x0 x1 x2 x3 x4 x5 x6 H n r)
  pointwise [k0_pay3]
end Blocks

end Cert.Proof.OutprojBlock

end
-- ==== Proof.OutprojArray.lean ====
/-
  The output projection and router, the whole arrays: point `t` works on rows `512 t …`, so its blocks tile the four
  results, and each ends as one function of the arguments.
-/
module

public import proofs.«01_k».proof.Proof.OutprojBlock
public import proofs.«01_k».proof.Proof.Gen.OutprojIdeal.Value

@[expose] public section

set_option maxRecDepth 16384

noncomputable section

namespace Cert.Proof.OutprojArray

open Cert.OutprojIdeal Cert.OutprojIdeal.Gen Idealize.ShloMosaic Idealize.ShloMosaic.TcCoe Idealize.SL.Sem
open Idealize.ShloMosaic.Pipeline (Dat)
open Cert.Proof.InprojBlock (normed)
open Cert.Proof.OutprojMath (resid score share)
open scoped BigOperators

section Rows
variable (x : S65536x1024.Idx → EReal) (a d : S65536x512.Idx → EReal) (w : S1024x1024.Idx → EReal) (g : S1x1024.Idx → EReal)
  (p q : S128x1024.Idx → EReal)

/-- Row `r` of the residual, of its norm, and its logits, of whole arrays. -/
def resRow (r : Fin 65536) : Fin 1024 → EReal :=
  resid (fun e => x (ix2 r e)) (fun k => a (ix2 r k)) (fun k => d (ix2 r k)) (fun k e => w (ix2 k e))
def nrmRow (r : Fin 65536) : Fin 1024 → EReal := normed (resRow x a d w r) (fun k => g (ix2 0 k))
def scrRow (r : Fin 65536) (n : ℕ) : ℝ :=
  score (nrmRow x a d w g r) (fun k => p (ix2 (Fin.ofNat 128 n) k)) (fun k => q (ix2 (Fin.ofNat 128 n) k))
end Rows

variable (m : (ℓ : Loc nD τ sig) → Buf (Elt Ideal) ℓ) (ρ : Dev nD → PrngReg)

/-- The four results as functions of device `c`'s arguments. -/
def G7 (c : Dev nD) : S65536x1024.Idx → EReal := fun i =>
  resRow (m ((c : Thread nD τ).loc main_arg0)) (m ((c : Thread nD τ).loc main_arg1)) (m ((c : Thread nD τ).loc main_arg2))
    (m ((c : Thread nD τ).loc main_arg3)) (i 0) (i 1)
def G8 (c : Dev nD) : S65536x1024.Idx → EReal := fun i =>
  nrmRow (m ((c : Thread nD τ).loc main_arg0)) (m ((c : Thread nD τ).loc main_arg1)) (m ((c : Thread nD τ).loc main_arg2))
    (m ((c : Thread nD τ).loc main_arg3)) (m ((c : Thread nD τ).loc main_arg4)) (i 0) (i 1)
def scr (c : Dev nD) (r : Fin 65536) : ℕ → ℝ :=
  scrRow (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) r
def G9 (c : Dev nD) : S16x65536.Idx → EReal := fun i => share (scr m c (i 1)) (i 0).val
def G10 (c : Dev nD) : S65536x128.Idx → EReal := fun i => share (scr m c (i 0)) (i 1).val

/-! The windows' block indices in closed form, decided over the grid. -/

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = 0 ∧ win0_4.index t 1 = 0 :=
  (by decide +kernel : ∀ t : Fin grid0.N, win0_4.index t 0 = 0 ∧ win0_4.index t 1 = 0)
theorem idx5 : ∀ t : Fin cfg0.N, win0_5.index t 0 = 0 ∧ win0_5.index t 1 = 0 :=
  (by decide +kernel : ∀ t : Fin grid0.N, win0_5.index t 0 = 0 ∧ win0_5.index t 1 = 0)
theorem idx6 : ∀ t : Fin cfg0.N, win0_6.index t 0 = 0 ∧ win0_6.index t 1 = 0 :=
  (by decide +kernel : ∀ t : Fin grid0.N, win0_6.index t 0 = 0 ∧ win0_6.index t 1 = 0)
theorem idx7 : ∀ t : Fin cfg0.N, win0_7.index t 0 = t.val ∧ win0_7.index t 1 = 0 :=
  (by decide +kernel : ∀ t : Fin grid0.N, win0_7.index t 0 = t.val ∧ win0_7.index t 1 = 0)
theorem idx8 : ∀ t : Fin cfg0.N, win0_8.index t 0 = t.val ∧ win0_8.index t 1 = 0 :=
  (by decide +kernel : ∀ t : Fin grid0.N, win0_8.index t 0 = t.val ∧ win0_8.index t 1 = 0)
theorem idx9 : ∀ t : Fin cfg0.N, win0_9.index t 0 = 0 ∧ win0_9.index t 1 = t.val :=
  (by decide +kernel : ∀ t : Fin grid0.N, win0_9.index t 0 = 0 ∧ win0_9.index t 1 = t.val)
theorem idx10 : ∀ t : Fin cfg0.N, win0_10.index t 0 = t.val ∧ win0_10.index t 1 = 0 :=
  (by decide +kernel : ∀ t : Fin grid0.N, win0_10.index t 0 = t.val ∧ win0_10.index t 1 = 0)

theorem lt_N (t : Fin cfg0.N) : t.val < 128 := by have h : t.val < grid0.N := t.isLt; rw [N_0] at h; exact h

/-- Row `r` of point `t`'s blocks. -/
def row (t : Fin cfg0.N) (r : Fin 512) : Fin 65536 := ⟨t.val * 512 + r.val, by have := lt_N t; have := r.isLt; omega⟩

theorem blk0 (c : Dev nD) (t : Fin cfg0.N) (r : Fin 512) (k : Fin 1024) :
    iblk m c 0 t (ix2 r k) = m ((c : Thread nD τ).loc main_arg0) (ix2 (row t r) k) := by
  show m ((c : Thread nD τ).loc main_arg0) ((win0_0.blk t).view.emb (ix2 r k)) = _
  refine congrArg _ (funext fun a => Fin.ext ?_)
  obtain ⟨e0, e1⟩ := idx0 t
  match a with
  | ⟨0, _⟩ => show win0_0.index t 0 * 512 + 1 * r.val = t.val * 512 + r.val; rw [e0]; omega
  | ⟨1, _⟩ => show win0_0.index t 1 * 1024 + 1 * k.val = k.val; rw [e1]; omega

theorem blk1 (c : Dev nD) (t : Fin cfg0.N) (r : Fin 512) (k : Fin 512) :
    iblk m c 1 t (ix2 r k) = m ((c : Thread nD τ).loc main_arg1) (ix2 (row t r) k) := by
  show m ((c : Thread nD τ).loc main_arg1) ((win0_1.blk t).view.emb (ix2 r k)) = _
  refine congrArg _ (funext fun a => Fin.ext ?_)
  obtain ⟨e0, e1⟩ := idx1 t
  match a with
  | ⟨0, _⟩ => show win0_1.index t 0 * 512 + 1 * r.val = t.val * 512 + r.val; rw [e0]; omega
  | ⟨1, _⟩ => show win0_1.index t 1 * 512 + 1 * k.val = k.val; rw [e1]; omega

theorem blk2 (c : Dev nD) (t : Fin cfg0.N) (r : Fin 512) (k : Fin 512) :
    iblk m c 2 t (ix2 r k) = m ((c : Thread nD τ).loc main_arg2) (ix2 (row t r) k) := by
  show m ((c : Thread nD τ).loc main_arg2) ((win0_2.blk t).view.emb (ix2 r k)) = _
  refine congrArg _ (funext fun a => Fin.ext ?_)
  obtain ⟨e0, e1⟩ := idx2 t
  match a with
  | ⟨0, _⟩ => show win0_2.index t 0 * 512 + 1 * r.val = t.val * 512 + r.val; rw [e0]; omega
  | ⟨1, _⟩ => show win0_2.index t 1 * 512 + 1 * k.val = k.val; rw [e1]; omega

theorem blk3 (c : Dev nD) (t : Fin cfg0.N) (r : Fin 1024) (k : Fin 1024) :
    iblk m c 3 t (ix2 r k) = m ((c : Thread nD τ).loc main_arg3) (ix2 r k) := by
  show m ((c : Thread nD τ).loc main_arg3) ((win0_3.blk t).view.emb (ix2 r k)) = _
  refine congrArg _ (funext fun a => Fin.ext ?_)
  obtain ⟨e0, e1⟩ := idx3 t
  match a with
  | ⟨0, _⟩ => show win0_3.index t 0 * 1024 + 1 * r.val = r.val; rw [e0]; omega
  | ⟨1, _⟩ => show win0_3.index t 1 * 1024 + 1 * k.val = k.val; rw [e1]; omega

theorem blk4 (c : Dev nD) (t : Fin cfg0.N) (k : Fin 1024) :
    iblk m c 4 t (ix2 0 k) = m ((c : Thread nD τ).loc main_arg4) (ix2 0 k) := by
  show m ((c : Thread nD τ).loc main_arg4) ((win0_4.blk t).view.emb (ix2 0 k)) = _
  refine congrArg _ (funext fun a => Fin.ext ?_)
  obtain ⟨e0, e1⟩ := idx4 t
  match a with
  | ⟨0, _⟩ => show win0_4.index t 0 * 1 + 1 * 0 = 0; rw [e0]
  | ⟨1, _⟩ => show win0_4.index t 1 * 1024 + 1 * k.val = k.val; rw [e1]; omega

theorem blk5 (c : Dev nD) (t : Fin cfg0.N) (r : Fin 128) (k : Fin 1024) :
    iblk m c 5 t (ix2 r k) = m ((c : Thread nD τ).loc main_arg5) (ix2 r k) := by
  show m ((c : Thread nD τ).loc main_arg5) ((win0_5.blk t).view.emb (ix2 r k)) = _
  refine congrArg _ (funext fun a => Fin.ext ?_)
  obtain ⟨e0, e1⟩ := idx5 t
  match a with
  | ⟨0, _⟩ => show win0_5.index t 0 * 128 + 1 * r.val = r.val; rw [e0]; omega
  | ⟨1, _⟩ => show win0_5.index t 1 * 1024 + 1 * k.val = k.val; rw [e1]; omega

theorem blk6 (c : Dev nD) (t : Fin cfg0.N) (r : Fin 128) (k : Fin 1024) :
    iblk m c 6 t (ix2 r k) = m ((c : Thread nD τ).loc main_arg6) (ix2 r k) := by
  show m ((c : Thread nD τ).loc main_arg6) ((win0_6.blk t).view.emb (ix2 r k)) = _
  refine congrArg _ (funext fun a => Fin.ext ?_)
  obtain ⟨e0, e1⟩ := idx6 t
  match a with
  | ⟨0, _⟩ => show win0_6.index t 0 * 128 + 1 * r.val = r.val; rw [e0]; omega
  | ⟨1, _⟩ => show win0_6.index t 1 * 1024 + 1 * k.val = k.val; rw [e1]; omega

/-! Where the output blocks' indices lie. -/

theorem emb7 (t : Fin cfg0.N) (r : Fin 512) (k : Fin 1024) : (win0_7.blk t).view.emb (ix2 r k) = ix2 (row t r) k := by
  refine funext fun a => Fin.ext ?_
  obtain ⟨e0, e1⟩ := idx7 t
  match a with
  | ⟨0, _⟩ => show win0_7.index t 0 * 512 + 1 * r.val = t.val * 512 + r.val; rw [e0]; omega
  | ⟨1, _⟩ => show win0_7.index t 1 * 1024 + 1 * k.val = k.val; rw [e1]; omega

theorem emb8 (t : Fin cfg0.N) (r : Fin 512) (k : Fin 1024) : (win0_8.blk t).view.emb (ix2 r k) = ix2 (row t r) k := by
  refine funext fun a => Fin.ext ?_
  obtain ⟨e0, e1⟩ := idx8 t
  match a with
  | ⟨0, _⟩ => show win0_8.index t 0 * 512 + 1 * r.val = t.val * 512 + r.val; rw [e0]; omega
  | ⟨1, _⟩ => show win0_8.index t 1 * 1024 + 1 * k.val = k.val; rw [e1]; omega

theorem emb9 (t : Fin cfg0.N) (n : Fin 16) (r : Fin 512) : (win0_9.blk t).view.emb (ix2 n r) = ix2 n (row t r) := by
  refine funext fun a => Fin.ext ?_
  obtain ⟨e0, e1⟩ := idx9 t
  match a with
  | ⟨0, _⟩ => show win0_9.index t 0 * 16 + 1 * n.val = n.val; rw [e0]; omega
  | ⟨1, _⟩ => show win0_9.index t 1 * 512 + 1 * r.val = t.val * 512 + r.val; rw [e1]; omega

theorem emb10 (t : Fin cfg0.N) (r : Fin 512) (n : Fin 128) : (win0_10.blk t).view.emb (ix2 r n) = ix2 (row t r) n := by
  refine funext fun a => Fin.ext ?_
  obtain ⟨e0, e1⟩ := idx10 t
  match a with
  | ⟨0, _⟩ => show win0_10.index t 0 * 512 + 1 * r.val = t.val * 512 + r.val; rw [e0]; omega
  | ⟨1, _⟩ => show win0_10.index t 1 * 128 + 1 * n.val = n.val; rw [e1]; omega

/-! A block's row is its row of the arrays. -/

theorem res_eq (c : Dev nD) (t : Fin cfg0.N) (r : Fin 512) :
    OutprojBlock.res (iblk m c 0 t) (iblk m c 1 t) (iblk m c 2 t) (iblk m c 3 t) r
      = resRow (m ((c : Thread nD τ).loc main_arg0)) (m ((c : Thread nD τ).loc main_arg1)) (m ((c : Thread nD τ).loc main_arg2))
          (m ((c : Thread nD τ).loc main_arg3)) (row t r) := by
  unfold OutprojBlock.res resRow
  simp only [blk0, blk1, blk2, blk3]

theorem nrm_eq (c : Dev nD) (t : Fin cfg0.N) (r : Fin 512) :
    OutprojBlock.nrm (iblk m c 0 t) (iblk m c 1 t) (iblk m c 2 t) (iblk m c 3 t) (iblk m c 4 t) r
      = nrmRow (m ((c : Thread nD τ).loc main_arg0)) (m ((c : Thread nD τ).loc main_arg1)) (m ((c : Thread nD τ).loc main_arg2))
          (m ((c : Thread nD τ).loc main_arg3)) (m ((c : Thread nD τ).loc main_arg4)) (row t r) := by
  unfold OutprojBlock.nrm nrmRow
  rw [res_eq]
  simp only [blk4]

theorem scr_eq (c : Dev nD) (t : Fin cfg0.N) (r : Fin 512) :
    OutprojBlock.scr (iblk m c 0 t) (iblk m c 1 t) (iblk m c 2 t) (iblk m c 3 t) (iblk m c 4 t) (iblk m c 5 t) (iblk m c 6 t) r
      = scr m c (row t r) := by
  funext n
  unfold OutprojBlock.scr scr scrRow
  rw [nrm_eq]
  simp only [blk5, blk6]

/-- What the router needs of device `c`'s arguments. -/
def Reals (c : Dev nD) : Prop :=
  OutprojBlock.Reals (m ((c : Thread nD τ).loc main_arg4)) (m ((c : Thread nD τ).loc main_arg5)) (m ((c : Thread nD τ).loc main_arg6))

theorem reals_blk (c : Dev nD) (t : Fin cfg0.N) (H : Reals m c) : OutprojBlock.Reals (iblk m c 4 t) (iblk m c 5 t) (iblk m c 6 t) := by
  obtain ⟨h4, h5, h6⟩ := H
  refine ⟨fun k => ?_, fun n k hn => ?_, fun n k hn => ?_⟩
  · rw [blk4]; exact h4 k
  · rw [blk5]; exact h5 n k hn
  · rw [blk6]; exact h6 n k hn

/-! What a point writes back is its block of the result. -/

theorem flushed7 (c : Dev nD) (t : Fin cfg0.N) : (dats m 0 c).flushed 7 t = (win0_7.blk t).view.read (Elt Ideal) (G7 m c) := by
  rw [Cert.OutprojIdeal.Value.flushed7]
  funext y
  obtain ⟨r, k, rfl⟩ : ∃ (r : Fin 512) (k : Fin 1024), y = ix2 r k := ⟨y 0, y 1, eq_ix2 y⟩
  show out0_7 (iblk m c 0 t) (iblk m c 1 t) (iblk m c 2 t) (iblk m c 3 t) (iblk m c 4 t) (iblk m c 5 t) (iblk m c 6 t) (ix2 r k)
    = G7 m c ((win0_7.blk t).view.emb (ix2 r k))
  rw [emb7, OutprojBlock.out7_apply, res_eq]
  rfl

theorem flushed8 (c : Dev nD) (t : Fin cfg0.N) : (dats m 0 c).flushed 8 t = (win0_8.blk t).view.read (Elt Ideal) (G8 m c) := by
  rw [Cert.OutprojIdeal.Value.flushed8]
  funext y
  obtain ⟨r, k, rfl⟩ : ∃ (r : Fin 512) (k : Fin 1024), y = ix2 r k := ⟨y 0, y 1, eq_ix2 y⟩
  show out0_8 (iblk m c 0 t) (iblk m c 1 t) (iblk m c 2 t) (iblk m c 3 t) (iblk m c 4 t) (iblk m c 5 t) (iblk m c 6 t) (ix2 r k)
    = G8 m c ((win0_8.blk t).view.emb (ix2 r k))
  rw [emb8, OutprojBlock.out8_apply, nrm_eq]
  rfl

theorem flushed9 (c : Dev nD) (H : Reals m c) (t : Fin cfg0.N) : (dats m 0 c).flushed 9 t = (win0_9.blk t).view.read (Elt Ideal) (G9 m c) := by
  rw [Cert.OutprojIdeal.Value.flushed9]
  funext y
  obtain ⟨n, r, rfl⟩ : ∃ (n : Fin 16) (r : Fin 512), y = ix2 n r := ⟨y 0, y 1, eq_ix2 y⟩
  show out0_9 (iblk m c 0 t) (iblk m c 1 t) (iblk m c 2 t) (iblk m c 3 t) (iblk m c 4 t) (iblk m c 5 t) (iblk m c 6 t) (ix2 n r)
    = G9 m c ((win0_9.blk t).view.emb (ix2 n r))
  rw [emb9, OutprojBlock.out9_apply _ _ _ _ _ _ _ (reals_blk m c t H), scr_eq]
  rfl

theorem flushed10 (c : Dev nD) (H : Reals m c) (t : Fin cfg0.N) : (dats m 0 c).flushed 10 t = (win0_10.blk t).view.read (Elt Ideal) (G10 m c) := by
  rw [Cert.OutprojIdeal.Value.flushed10]
  funext y
  obtain ⟨r, n, rfl⟩ : ∃ (r : Fin 512) (n : Fin 128), y = ix2 r n := ⟨y 0, y 1, eq_ix2 y⟩
  show out0_10 (iblk m c 0 t) (iblk m c 1 t) (iblk m c 2 t) (iblk m c 3 t) (iblk m c 4 t) (iblk m c 5 t) (iblk m c 6 t) (ix2 r n)
    = G10 m c ((win0_10.blk t).view.emb (ix2 r n))
  rw [emb10, OutprojBlock.out10_apply _ _ _ _ _ _ _ (reals_blk m c t H), scr_eq]
  rfl

/-! The blocks tile the results: row `r` lies in the block of point `r / 512`. -/

/-- The point working on row `n`. -/
def pt (n : ℕ) (h : n < 65536) : Fin cfg0.N := ⟨n / 512, by have hN : cfg0.N = 128 := N_0; omega⟩

theorem cover7 (i : S65536x1024.Idx) : ∃ t : Fin cfg0.N, (cfg0.win 7).flush t = true ∧ i ∈ ((cfg0.win 7).blk t).view.set := by
  have h0 : (i 0).val < 65536 := (i 0).isLt
  have h1 : (i 1).val < 1024 := (i 1).isLt
  refine ⟨pt (i 0).val h0, flush0_7 _, ?_⟩
  obtain ⟨e0, e1⟩ := idx7 (pt (i 0).val h0)
  have hv : (pt (i 0).val h0).val = (i 0).val / 512 := rfl
  show i ∈ ((View.whole main_v0_0).slice (win0_7.rect (pt (i 0).val h0))).set
  rw [View.set_slice_whole, Rect.mem_set_unit]
  intro a
  match a with
  | ⟨0, _⟩ => show win0_7.index _ 0 * 512 ≤ (i 0).val ∧ (i 0).val < win0_7.index _ 0 * 512 + 512; rw [e0]; omega
  | ⟨1, _⟩ => show win0_7.index _ 1 * 1024 ≤ (i 1).val ∧ (i 1).val < win0_7.index _ 1 * 1024 + 1024; rw [e1]; omega

theorem cover8 (i : S65536x1024.Idx) : ∃ t : Fin cfg0.N, (cfg0.win 8).flush t = true ∧ i ∈ ((cfg0.win 8).blk t).view.set := by
  have h0 : (i 0).val < 65536 := (i 0).isLt
  have h1 : (i 1).val < 1024 := (i 1).isLt
  refine ⟨pt (i 0).val h0, flush0_8 _, ?_⟩
  obtain ⟨e0, e1⟩ := idx8 (pt (i 0).val h0)
  have hv : (pt (i 0).val h0).val = (i 0).val / 512 := rfl
  show i ∈ ((View.whole main_v0_1).slice (win0_8.rect (pt (i 0).val h0))).set
  rw [View.set_slice_whole, Rect.mem_set_unit]
  intro a
  match a with
  | ⟨0, _⟩ => show win0_8.index _ 0 * 512 ≤ (i 0).val ∧ (i 0).val < win0_8.index _ 0 * 512 + 512; rw [e0]; omega
  | ⟨1, _⟩ => show win0_8.index _ 1 * 1024 ≤ (i 1).val ∧ (i 1).val < win0_8.index _ 1 * 1024 + 1024; rw [e1]; omega

theorem cover9 (i : S16x65536.Idx) : ∃ t : Fin cfg0.N, (cfg0.win 9).flush t = true ∧ i ∈ ((cfg0.win 9).blk t).view.set := by
  have h0 : (i 0).val < 16 := (i 0).isLt
  have h1 : (i 1).val < 65536 := (i 1).isLt
  refine ⟨pt (i 1).val h1, flush0_9 _, ?_⟩
  obtain ⟨e0, e1⟩ := idx9 (pt (i 1).val h1)
  have hv : (pt (i 1).val h1).val = (i 1).val / 512 := rfl
  show i ∈ ((View.whole main_v0_2).slice (win0_9.rect (pt (i 1).val h1))).set
  rw [View.set_slice_whole, Rect.mem_set_unit]
  intro a
  match a with
  | ⟨0, _⟩ => show win0_9.index _ 0 * 16 ≤ (i 0).val ∧ (i 0).val < win0_9.index _ 0 * 16 + 16; rw [e0]; omega
  | ⟨1, _⟩ => show win0_9.index _ 1 * 512 ≤ (i 1).val ∧ (i 1).val < win0_9.index _ 1 * 512 + 512; rw [e1]; omega

theorem cover10 (i : S65536x128.Idx) : ∃ t : Fin cfg0.N, (cfg0.win 10).flush t = true ∧ i ∈ ((cfg0.win 10).blk t).view.set := by
  have h0 : (i 0).val < 65536 := (i 0).isLt
  have h1 : (i 1).val < 128 := (i 1).isLt
  refine ⟨pt (i 0).val h0, flush0_10 _, ?_⟩
  obtain ⟨e0, e1⟩ := idx10 (pt (i 0).val h0)
  have hv : (pt (i 0).val h0).val = (i 0).val / 512 := rfl
  show i ∈ ((View.whole main_v0_3).slice (win0_10.rect (pt (i 0).val h0))).set
  rw [View.set_slice_whole, Rect.mem_set_unit]
  intro a
  match a with
  | ⟨0, _⟩ => show win0_10.index _ 0 * 512 ≤ (i 0).val ∧ (i 0).val < win0_10.index _ 0 * 512 + 512; rw [e0]; omega
  | ⟨1, _⟩ => show win0_10.index _ 1 * 128 ≤ (i 1).val ∧ (i 1).val < win0_10.index _ 1 * 128 + 128; rw [e1]; omega

theorem final7 (c : Dev nD) : (dats m 0 c).arrAt 7 cfg0.N = G7 m c :=
  (dats m 0 c).arrAt_eq_of_cover 7 (G7 m c) (fun t _ => flushed7 m c t) cover7
theorem final8 (c : Dev nD) : (dats m 0 c).arrAt 8 cfg0.N = G8 m c :=
  (dats m 0 c).arrAt_eq_of_cover 8 (G8 m c) (fun t _ => flushed8 m c t) cover8
theorem final9 (c : Dev nD) (H : Reals m c) : (dats m 0 c).arrAt 9 cfg0.N = G9 m c :=
  (dats m 0 c).arrAt_eq_of_cover 9 (G9 m c) (fun t _ => flushed9 m c H t) cover9
theorem final10 (c : Dev nD) (H : Reals m c) : (dats m 0 c).arrAt 10 cfg0.N = G10 m c :=
  (dats m 0 c).arrAt_eq_of_cover 10 (G10 m c) (fun t _ => flushed10 m c H t) cover10

/-- Every run ends with the four result arrays at their functions, the arguments unchanged. -/
theorem run (H : ∀ c, Reals m c) : θ_run defs (onTc (τ := τ) (main (F := Ideal))) ⟨m, fun _ => 0, ρ⟩ fun r => ∀ c : Dev nD,
      r.2.mem ((c : Thread nD τ).loc main_v0_0) = G7 m c
      ∧ r.2.mem ((c : Thread nD τ).loc main_v0_1) = G8 m c
      ∧ r.2.mem ((c : Thread nD τ).loc main_v0_2) = G9 m c
      ∧ r.2.mem ((c : Thread nD τ).loc main_v0_3) = G10 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (final7 m c), (h c).2.1.trans (final8 m c), (h c).2.2.1.trans (final9 m c (H c)),
    (h c).2.2.2.1.trans (final10 m c (H c)), (h c).2.2.2.2⟩) (Cert.OutprojIdeal.Value.run_blocks m ρ)

end Cert.Proof.OutprojArray

end
-- ==== Proof.OutprojRef.lean ====
/-
  The output projection and router's reference, read at an index: the residual with one product over both attentions, its
  norm, the softmax over the 16 experts, and the two layouts the affinities are returned in.
-/
module

public import proofs.«01_k».proof.Proof.OutprojArray
public import proofs.«01_k».proof.Proof.Gen.OutprojReferenceIdeal.Run

@[expose] public section

set_option maxRecDepth 16384

noncomputable section

namespace Cert.Proof.OutprojRef

open Cert.OutprojReferenceIdeal Cert.OutprojReferenceIdeal.Gen Idealize.ShloMosaic
open Cert.Proof.InprojBlock (normed)
open Cert.Proof.OutprojMath (resid score share lower upper)
open Cert.Proof.OutprojArray (resRow nrmRow scrRow)
open scoped BigOperators

/-- The two attentions side by side. -/
def catT (a d : FVec Ideal S65536x512 .bf16) : FVec Ideal S65536x1024 .f32 :=
  concatenate S65536x1024 1 [⟨S65536x512, extf .f32 a bitsLt_bf16_f32⟩, ⟨S65536x512, extf .f32 d bitsLt_bf16_f32⟩]
    concatenates_S65536x512_S65536x512_S65536x1024_d1

theorem catT_lower (a d : FVec Ideal S65536x512 .bf16) (r : Fin 65536) (k : Fin 512) : catT a d (ix2 r (lower k)) = a (ix2 r k) := by
  pointwise [catT]
  exact dif_pos k.isLt
theorem catT_upper (a d : FVec Ideal S65536x512 .bf16) (r : Fin 65536) (k : Fin 512) : catT a d (ix2 r (upper k)) = d (ix2 r k) := by
  pointwise [catT]
  refine (dif_neg (Nat.not_lt.mpr (Nat.le_add_right 512 k.val))).trans ?_
  exact congrArg (fun k => d (ix2 r k)) (Fin.ext (Nat.add_sub_cancel_left 512 k.val))

/-- The residual. -/
def resT (x : FVec Ideal S65536x1024 .f32) (a d : FVec Ideal S65536x512 .bf16) (w : FVec Ideal S1024x1024 .bf16) : FVec Ideal S65536x1024 .f32 :=
  addf x (Host.dotGeneral dot_S65536x1024_S1024x1024_S65536x1024_1_0_0_1_n_n none (catT a d) (extf .f32 w bitsLt_bf16_f32))

theorem resT_apply (x : FVec Ideal S65536x1024 .f32) (a d : FVec Ideal S65536x512 .bf16) (w : FVec Ideal S1024x1024 .bf16) (r : Fin 65536) (e : Fin 1024) :
    resT x a d w (ix2 r e) = resRow x a d w r e := by
  have h : resT x a d w (ix2 r e) = x (ix2 r e) + ∑ k : Fin 1024, catT a d (ix2 r k) * w (ix2 k e) := by
    pointwise [resT]
  rw [h, OutprojMath.halves]
  simp only [catT_lower, catT_upper]
  exact (add_assoc _ _ _).symm

/-- The norm. -/
def nrmT (y : FVec Ideal S65536x1024 .f32) (g : FVec Ideal S1x1024 .f32) : FVec Ideal S65536x1024 .f32 :=
  mulf (mulf y (broadcastInDim S65536x1024 ![0, 1] bcast_S65536x1_S65536x1024_0_1 (Host.rsqrt (addf (Host.divf
    (broadcastInDim S65536x1 ![0] bcast_S65536_S65536x1_0 (Host.reduceAdd (mulf y y) (constant S_ .f32 0x00000000#32) reducesTo_S65536x1024_S65536_d1 h_S_))
    (broadcastInDim S65536x1 ![] bcast_S_S65536x1 (constant S_ .f32 0x44800000#32))) (broadcastInDim S65536x1 ![] bcast_S_S65536x1 (constant S_ .f32 0x358637BD#32))))))
    (broadcastInDim S65536x1024 ![0, 1] bcast_S1x1024_S65536x1024_0_1 g)

theorem nrmT_apply (y : FVec Ideal S65536x1024 .f32) (g : FVec Ideal S1x1024 .f32) (r : Fin 65536) (e : Fin 1024) :
    nrmT y g (ix2 r e) = normed (fun k => y (ix2 r k)) (fun k => g (ix2 0 k)) e := by
  pointwise [nrmT, normed]

/-- The logits. -/
def logT (h : FVec Ideal S65536x1024 .f32) (p q : FVec Ideal S128x1024 .bf16) : FVec Ideal S65536x16 .f32 :=
  Host.dotGeneral dot_S65536x1024_S16x1024_S65536x16_1_1_0_0_n_n none h
    (extractStridedSlice S16x1024 ![0, 0] (addf (extf .f32 p bitsLt_bf16_f32) (extf .f32 q bitsLt_bf16_f32)) slices_S128x1024_S16x1024_0_0)

theorem logT_apply (h : FVec Ideal S65536x1024 .f32) (p q : FVec Ideal S128x1024 .bf16) (r : Fin 65536) (n : Fin 16) :
    logT h p q (ix2 r n) = ∑ k : Fin 1024, h (ix2 r k) * (p (ix2 (Fin.ofNat 128 n.val) k) + q (ix2 (Fin.ofNat 128 n.val) k)) := by
  have e : (Fin.ofNat 128 n.val) = (⟨n.val, by have := n.isLt; omega⟩ : Fin 128) := Fin.ext (Nat.mod_eq_of_lt (by have := n.isLt; omega))
  rw [e]
  pointwise [logT]

/-- The row maxima. -/
def maxT (z : FVec Ideal S65536x16 .f32) : FVec Ideal S65536 .f32 :=
  maximumf (broadcastInDim S65536 ![] bcast_S_S65536 (constant S_ .f32 0xFF800000#32))
    (Host.reduce FloatOps.maximumf z (constant S_ .f32 0xFF800000#32) reducesTo_S65536x16_S65536_d1 h_S_)
/-- The shifted exponentials. -/
def expT (z : FVec Ideal S65536x16 .f32) : FVec Ideal S65536x16 .f32 :=
  Host.exp (subf z (broadcastInDim S65536x16 ![0, 1] bcast_S65536x1_S65536x16_0_1 (broadcastInDim S65536x1 ![0] bcast_S65536_S65536x1_0 (maxT z))))
/-- The softmax. -/
def softT (z : FVec Ideal S65536x16 .f32) : FVec Ideal S65536x16 .f32 :=
  Host.divf (expT z) (broadcastInDim S65536x16 ![0, 1] bcast_S65536x1_S65536x16_0_1 (broadcastInDim S65536x1 ![0] bcast_S65536_S65536x1_0
    (Host.reduceAdd (expT z) (constant S_ .f32 0x00000000#32) reducesTo_S65536x16_S65536_d1 h_S_)))

theorem expT_apply (z : FVec Ideal S65536x16 .f32) (r : Fin 65536) (n : Fin 16) :
    expT z (ix2 r n) = Ideal.exp (z (ix2 r n) - maxT z (ix1 r)) := by
  pointwise [expT]
theorem softT_apply (z : FVec Ideal S65536x16 .f32) (r : Fin 65536) (n : Fin 16) :
    softT z (ix2 r n) = Ideal.div (expT z (ix2 r n)) (∑ k : Fin 16, expT z (ix2 r k)) := by
  pointwise [softT]

/-- The maximum along the last axis, from `⊥`, of a row of reals is a real: for any sizes. -/
theorem rowMax_real {n0 n1 : ℕ} {u : Shape} (z : FVec Ideal ⟨2, ![n0, n1]⟩ .f32) (init : FVec Ideal u .f32)
    (hR : (⟨2, ![n0, n1]⟩ : Shape).ReducesTo [1] ⟨1, ![n0]⟩) (hu : 0 < u.numel) (hi : init (Shape.Idx.first hu) = (⊥ : EReal)) (r : Fin n0)
    (b : FVec Ideal ⟨1, ![n0]⟩ .f32) (hb : b (ix1 r) = (⊥ : EReal)) (h1 : 0 < n1) (s : Fin n1 → ℝ) (hs : ∀ k, z (ix2 r k) = s k) :
    ∃ M : ℝ, maximumf b (Host.reduce FloatOps.maximumf z init hR hu) (ix1 r) = M := by
  obtain ⟨M, hM⟩ := AttnMath.fold_max_real h1 (fun k => z (ix2 r k)) s hs
  refine ⟨M, ?_⟩
  show max (b (ix1 r)) (Host.reduce max z init hR hu (ix1 r)) = _
  rw [hb, Host.reduce_eq_fold, hR.fold_fiber_r2_a1, hi]
  exact (max_eq_right bot_le).trans hM

theorem maxT_real (z : FVec Ideal S65536x16 .f32) (r : Fin 65536) (s : Fin 16 → ℝ) (hs : ∀ n, z (ix2 r n) = s n) : ∃ M : ℝ, maxT z (ix1 r) = M := by
  have hN : Ideal.ofBits FTy.f32 0xFF800000#32 = (⊥ : EReal) := by simp [Ideal.ofBits, Ideal.ieee]
  have hb : broadcastInDim S65536 ![] bcast_S_S65536 (constant (F := Ideal) S_ .f32 0xFF800000#32) (ix1 r) = (⊥ : EReal) := by
    pointwise
    exact hN
  unfold maxT
  exact rowMax_real z _ _ h_S_ hN r _ hb (by norm_num) s hs

/-- The affinities, expert by token, -/
def turnedT (y : FVec Ideal S65536x16 .f32) : FVec Ideal S16x65536 .f32 := transpose S16x65536 [1, 0] y transposes_S65536x16_S16x65536_1_0
/-- and padded to 128 columns. -/
def paddedT (y : FVec Ideal S65536x16 .f32) : FVec Ideal S65536x128 .f32 :=
  pad S65536x128 ![0, 0] ![0, 112] ![0, 0] y (sitofp .f32 (constantI S_ 32 0#32)) pads_S65536x16_S65536x128_000_01120 h_S_

section Affinities
variable (x : FVec Ideal S65536x1024 .f32) (a d : FVec Ideal S65536x512 .bf16) (w : FVec Ideal S1024x1024 .bf16) (g : FVec Ideal S1x1024 .f32)
  (p q : FVec Ideal S128x1024 .bf16)

/-- The affinities, token by expert. -/
def affT : FVec Ideal S65536x16 .f32 := softT (logT (nrmT (resT x a d w) g) p q)

theorem nrm_at (r : Fin 65536) (e : Fin 1024) : nrmT (resT x a d w) g (ix2 r e) = nrmRow x a d w g r e := by
  rw [nrmT_apply]
  simp only [resT_apply]
  rfl

variable (H : OutprojBlock.Reals g p q)
include H

theorem affT_apply (r : Fin 65536) (n : Fin 16) : affT x a d w g p q (ix2 r n) = share (scrRow x a d w g p q r) n.val := by
  have hl : ∀ n : Fin 16, logT (nrmT (resT x a d w) g) p q (ix2 r n) = (scrRow x a d w g p q r n.val : EReal) := fun n => by
    have hn : (Fin.ofNat 128 n.val).val < 16 := by
      show n.val % 128 < 16
      have := n.isLt
      omega
    rw [logT_apply]
    simp only [nrm_at]
    exact OutprojMath.ref_logit _ _ _ (fun k => OutprojMath.normed_real _ _ k (H.1 k)) (fun k => H.2.1 _ k hn) (fun k => H.2.2 _ k hn)
  obtain ⟨M, hM⟩ := maxT_real _ r _ hl
  unfold affT
  rw [softT_apply]
  simp only [expT_apply, hM, hl]
  exact OutprojMath.softmax _ M n

theorem turned_apply (n : Fin 16) (r : Fin 65536) :
    turnedT (affT x a d w g p q) (ix2 n r) = share (scrRow x a d w g p q r) n.val := by
  rw [← affT_apply x a d w g p q H r n]
  pointwise [turnedT]

theorem padded_apply (r : Fin 65536) (n : Fin 128) :
    paddedT (affT x a d w g p q) (ix2 r n)
      = share (scrRow x a d w g p q r) n.val := by
  pointwise [paddedT]
  by_cases h : n.val < 16
  · rw [dif_pos h]
    exact affT_apply x a d w g p q H r ⟨n.val, h⟩
  · rw [dif_neg h, share, if_neg h]
    exact (show (((0#32 : BitVec 32).toInt : ℝ) : EReal) = 0 by simp)
end Affinities

end Cert.Proof.OutprojRef

end
-- ==== Proof.OutprojClaim.lean ====
/-
  The output projection and router, the claim: on finite gains and router weights the kernel's four result arrays are the
  reference's terms.
-/
module

public import proofs.«01_k».proof.Defs
public import proofs.«01_k».proof.Proof.Gen.Outproj.Frame
public import proofs.«01_k».proof.Proof.Gen.Pre_router_finite
public import proofs.«01_k».proof.Proof.AttnFinite
public import proofs.«01_k».proof.Proof.OutprojRef
public import Idealize.ShloMosaic.Lib.Quiescent

@[expose] public section

set_option maxRecDepth 16384

noncomputable section

namespace Cert.Proof.OutprojClaim

open Idealize.ShloMosaic Idealize.ShloMosaic.TcCoe Idealize.SL.Sem
open Cert.Proof.AttnFinite (both real_of_lt)

/-! ## The precondition -/

section
open Cert.Pre_router_finite Cert.Pre_router_finite.Gen

/-- The predicate says the gains and the first sixteen rows of both router weights are real. -/
theorem decode (a0 : FVec Ideal S65536x1024 .f32) (a1 a2 : FVec Ideal S65536x512 .bf16) (a3 : FVec Ideal S1024x1024 .bf16) (a4 : FVec Ideal S1x1024 .f32)
    (a5 a6 : FVec Ideal S128x1024 .bf16) (h : fn (F := Ideal) a0 a1 a2 a3 a4 a5 a6 = fun _ => 1#1) :
    (∀ i, ∃ r : ℝ, a4 i = (r : EReal))
    ∧ (∀ i, ∃ r : ℝ, extractStridedSlice S16x1024 ![0, 0] a5 slices_S128x1024_S16x1024_0_0 i = (r : EReal))
    ∧ (∀ i, ∃ r : ℝ, extractStridedSlice S16x1024 ![0, 0] a6 slices_S128x1024_S16x1024_0_0 i = (r : EReal)) := by
  have h0 := congrFun h ix0
  unfold fn at h0
  obtain ⟨h0, e2⟩ := both _ _ h0
  obtain ⟨e0, e1⟩ := both _ _ h0
  exact ⟨AttnFinite.all_real _ _ _ e0, AttnFinite.all_real _ _ _ e1, AttnFinite.all_real _ _ _ e2⟩

/-- Row `n` below 16 of a router weight is its slice's row. -/
theorem slice_at (a : FVec Ideal S128x1024 .bf16) (n : Fin 128) (k : Fin 1024) (hn : n.val < 16) :
    extractStridedSlice S16x1024 ![0, 0] a slices_S128x1024_S16x1024_0_0 (ix2 ⟨n.val, hn⟩ k) = a (ix2 n k) := by
  pointwise
end

section
open Cert.OutprojIdeal Cert.OutprojIdeal.Gen

/-- The precondition as the run of the kernel uses it. -/
theorem reals (m : (ℓ : Loc nD τ sig) → Buf (Elt Ideal) ℓ) (H : Cert.Pre_OutprojIdeal_router_finite m) (c : Dev nD) : OutprojArray.Reals m c := by
  obtain ⟨h4, h5, h6⟩ := decode _ _ _ _ _ _ _ (H c)
  refine ⟨fun k => h4 (ix2 0 k), fun n k hn => ?_, fun n k hn => ?_⟩
  · obtain ⟨r, hr⟩ := h5 (ix2 ⟨n.val, hn⟩ k)
    exact ⟨r, (slice_at _ n k hn).symm.trans hr⟩
  · obtain ⟨r, hr⟩ := h6 (ix2 ⟨n.val, hn⟩ k)
    exact ⟨r, (slice_at _ n k hn).symm.trans hr⟩

/-! ## The results as the reference's terms -/

variable (m : (ℓ : Loc nD τ sig) → Buf (Elt Ideal) ℓ) (c : Dev nD)

/-- The residual stream is the reference's. -/
theorem G7_eq : OutprojArray.G7 m c = OutprojRef.resT (m ((c : Thread nD τ).loc main_arg0)) (m ((c : Thread nD τ).loc main_arg1))
    (m ((c : Thread nD τ).loc main_arg2)) (m ((c : Thread nD τ).loc main_arg3)) := by
  funext i
  obtain ⟨r, e, rfl⟩ : ∃ (r : Fin 65536) (e : Fin 1024), i = ix2 r e := ⟨i 0, i 1, eq_ix2 i⟩
  exact (OutprojRef.resT_apply _ _ _ _ r e).symm

/-- The normalised rows are the reference's. -/
theorem G8_eq : OutprojArray.G8 m c = OutprojRef.nrmT (OutprojRef.resT (m ((c : Thread nD τ).loc main_arg0)) (m ((c : Thread nD τ).loc main_arg1))
    (m ((c : Thread nD τ).loc main_arg2)) (m ((c : Thread nD τ).loc main_arg3))) (m ((c : Thread nD τ).loc main_arg4)) := by
  funext i
  obtain ⟨r, e, rfl⟩ : ∃ (r : Fin 65536) (e : Fin 1024), i = ix2 r e := ⟨i 0, i 1, eq_ix2 i⟩
  exact (OutprojRef.nrm_at _ _ _ _ _ r e).symm

/-- The affinities, an expert's in a row, are the reference's. -/
theorem G9_eq (H : OutprojArray.Reals m c) : OutprojArray.G9 m c = OutprojRef.turnedT (OutprojRef.affT (m ((c : Thread nD τ).loc main_arg0))
    (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6))) := by
  funext i
  obtain ⟨n, r, rfl⟩ : ∃ (n : Fin 16) (r : Fin 65536), i = ix2 n r := ⟨i 0, i 1, eq_ix2 i⟩
  exact (OutprojRef.turned_apply _ _ _ _ _ _ _ H n r).symm

/-- The affinities, a token's in a row, padded with zeros, are the reference's. -/
theorem G10_eq (H : OutprojArray.Reals m c) : OutprojArray.G10 m c = OutprojRef.paddedT (OutprojRef.affT (m ((c : Thread nD τ).loc main_arg0))
    (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6))) := by
  funext i
  obtain ⟨r, n, rfl⟩ : ∃ (r : Fin 65536) (n : Fin 128), i = ix2 r n := ⟨i 0, i 1, eq_ix2 i⟩
  exact (OutprojRef.padded_apply _ _ _ _ _ _ _ H r n).symm
end

section
open Cert.OutprojReferenceIdeal
variable (m : (ℓ : Loc nD τ sig) → Buf (Elt Ideal) ℓ) (c : Dev nD)

/-- What the reference's run ends with, by the same terms of its own arguments. -/
theorem res2_eq : Cert.OutprojReferenceIdeal.Value.res_main_v35 m c = OutprojRef.turnedT (OutprojRef.affT (m ((c : Thread nD τ).loc main_arg0))
    (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6))) := rfl
/-- The same of the padded affinities. -/
theorem res3_eq : Cert.OutprojReferenceIdeal.Value.res_main_v36 m c = OutprojRef.paddedT (OutprojRef.affT (m ((c : Thread nD τ).loc main_arg0))
    (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6))) := rfl

/-- The run of the reference, its four results as terms of its arguments. -/
theorem ref_run (ρ : Dev nD → PrngReg) :
    θ_run defs (onTc (τ := τ) (main (F := Ideal))) ⟨m, fun _ => 0, ρ⟩ fun r => ∀ c : Dev nD,
      r.2.mem ((c : Thread nD τ).loc main_v7) = OutprojRef.resT (m ((c : Thread nD τ).loc main_arg0)) (m ((c : Thread nD τ).loc main_arg1))
          (m ((c : Thread nD τ).loc main_arg2)) (m ((c : Thread nD τ).loc main_arg3))
      ∧ r.2.mem ((c : Thread nD τ).loc main_v34) = OutprojRef.nrmT (OutprojRef.resT (m ((c : Thread nD τ).loc main_arg0)) (m ((c : Thread nD τ).loc main_arg1))
          (m ((c : Thread nD τ).loc main_arg2)) (m ((c : Thread nD τ).loc main_arg3))) (m ((c : Thread nD τ).loc main_arg4))
      ∧ r.2.mem ((c : Thread nD τ).loc main_v35) = OutprojRef.turnedT (OutprojRef.affT (m ((c : Thread nD τ).loc main_arg0))
          (m ((c : Thread nD τ).loc main_arg1)) (m ((c : Thread nD τ).loc main_arg2)) (m ((c : Thread nD τ).loc main_arg3)) (m ((c : Thread nD τ).loc main_arg4))
          (m ((c : Thread nD τ).loc main_arg5)) (m ((c : Thread nD τ).loc main_arg6)))
      ∧ r.2.mem ((c : Thread nD τ).loc main_v36) = OutprojRef.paddedT (OutprojRef.affT (m ((c : Thread nD τ).loc main_arg0))
          (m ((c : Thread nD τ).loc main_arg1)) (m ((c : Thread nD τ).loc main_arg2)) (m ((c : Thread nD τ).loc main_arg3)) (m ((c : Thread nD τ).loc main_arg4))
          (m ((c : Thread nD τ).loc main_arg5)) (m ((c : Thread nD τ).loc main_arg6)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans rfl, (h c).2.1.trans rfl, (h c).2.2.1.trans (res2_eq m c), (h c).2.2.2.1.trans (res3_eq m c),
    (h c).2.2.2.2⟩) (Cert.OutprojReferenceIdeal.Value.run (F := Ideal) m ρ)
end

/-! ## The claims -/

/-- The kernel's frame. -/
theorem frame_k : Cert.quiescent_Outproj := fun m ρ _ => Cert.Outproj.Gen.frame m ρ
/-- The frame of its idealization. -/
theorem frame_ki : Cert.quiescent_OutprojIdeal := fun m ρ _ => Cert.OutprojIdeal.Gen.frame m ρ
/-- The same under the precondition. -/
theorem frame_ki_finite : Cert.quiescent_OutprojIdeal_pre_router_finite := fun m ρ _ => Cert.OutprojIdeal.Gen.frame m ρ
/-- The reference's frame, read off its run. -/
theorem frame_r : Cert.quiescent_OutprojReferenceIdeal := fun m ρ _ =>
  (θ_run Cert.OutprojReferenceIdeal.defs _ _).mono (fun r h => ⟨fun c => (h c).2.2.2.2,
      Idealize.ShloMosaic.sem_eq_zero_of_no_sems (by decide) r.2⟩)
    (Cert.OutprojReferenceIdeal.Value.run (F := Ideal) m ρ)
/-- The same under the precondition. -/
theorem frame_r_finite : Cert.quiescent_OutprojReferenceIdeal_pre_router_finite := fun m ρ _ => frame_r m ρ trivial
/-- The mask's value stands for `-∞`. -/
theorem preserves : Cert.preserves_Outproj_OutprojIdeal :=
  IdealRules.named_const.statement Cert.OutprojIdeal.κ "mask" .f32 0xF149F2CA#32 ⊥ rfl

/-- At the ideal instance, on finite gains and router weights, the output projection and its reference end with equal results. -/
theorem algebraic : Cert.algebraic_OutprojIdeal_OutprojReferenceIdeal_pre_router_finite := by
  intro m ρ m' ρ' H hag
  refine ⟨fun c => OutprojArray.G7 m c, fun c => OutprojArray.G8 m c, fun c => OutprojArray.G9 m c, fun c => OutprojArray.G10 m c,
    OutprojArray.run m ρ (reals m H), (θ_run Cert.OutprojReferenceIdeal.defs _ _).mono (fun _ h c => ?_) (ref_run m' ρ')⟩
  have e7 := (h c).1
  have e8 := (h c).2.1
  have e9 := (h c).2.2.1
  have e10 := (h c).2.2.2.1
  rw [(hag c).1, (hag c).2.1, (hag c).2.2.1, (hag c).2.2.2.1] at e7
  rw [(hag c).1, (hag c).2.1, (hag c).2.2.1, (hag c).2.2.2.1, (hag c).2.2.2.2.1] at e8
  rw [(hag c).1, (hag c).2.1, (hag c).2.2.1, (hag c).2.2.2.1, (hag c).2.2.2.2.1, (hag c).2.2.2.2.2.1, (hag c).2.2.2.2.2.2] at e9 e10
  exact ⟨e7.trans (G7_eq m c).symm, e8.trans (G8_eq m c).symm, e9.trans (G9_eq m c (reals m H c)).symm, e10.trans (G10_eq m c (reals m H c)).symm,
    (h c).2.2.2.2⟩

end Cert.Proof.OutprojClaim

end
-- ==== Proof.NaOff.lean ====
/-
  The neighbourhood attention's computed offsets in closed form, decided over the grid.
-/
module

public import proofs.«01_k».proof.Proof.Gen.NaIdeal.Frame
public import proofs.«01_k».proof.Proof.Gen.NaIdeal.Skeleton

@[expose] public section

namespace Cert.NaIdeal.Hand

open Cert.NaIdeal Cert.NaIdeal.Gen
open Idealize.ShloMosaic Idealize.ShloMosaic.TcCoe Idealize.ShloMosaic.Tactic

/-- Where row `r` of block `b` reads its keys in the scratch. -/
theorem off1_eq : ∀ (i : grid0.Coords) (r : Fin 8),
    k0_off1 i (BitVec.ofNat 32 r.val) = ![(min 120 (8 * (i 2).val + r.val - 4) + 8 - 8 * (i 2).val) * 64, 0] := by
  decide +kernel

/-- The bias slab row `r` of block `b` reads for the first of its two heads. -/
theorem off2_eq : ∀ (i : grid0.Coords) (r : Fin 8),
    k0_off2 i (BitVec.ofNat 32 r.val) = ![0, 8 * (i 2).val + r.val - min 120 (8 * (i 2).val + r.val - 4), 0, 0] := by
  decide +kernel

/-- The bias slab row `r` of block `b` reads for the second of its two heads. -/
theorem off3_eq : ∀ (i : grid0.Coords) (r : Fin 8),
    k0_off3 i (BitVec.ofNat 32 r.val) = ![1, 8 * (i 2).val + r.val - min 120 (8 * (i 2).val + r.val - 4), 0, 0] := by
  decide +kernel

instance fact0 : Fact (0 < 8) := ⟨by decide⟩
instance fact1 : Fact (1 < 8) := ⟨by decide⟩
instance fact2 : Fact (2 < 8) := ⟨by decide⟩
instance fact3 : Fact (3 < 8) := ⟨by decide⟩
instance fact4 : Fact (4 < 8) := ⟨by decide⟩
instance fact5 : Fact (5 < 8) := ⟨by decide⟩
instance fact6 : Fact (6 < 8) := ⟨by decide⟩
instance fact7 : Fact (7 < 8) := ⟨by decide⟩

instance closedOff1 (i : grid0.Coords) (r : ℕ) [h : Fact (r < 8)] : ClosedOff (k0_off1 i (BitVec.ofNat 32 r)) :=
  ⟨_, off1_eq i ⟨r, h.out⟩⟩
instance closedOff2 (i : grid0.Coords) (r : ℕ) [h : Fact (r < 8)] : ClosedOff (k0_off2 i (BitVec.ofNat 32 r)) :=
  ⟨_, off2_eq i ⟨r, h.out⟩⟩
instance closedOff3 (i : grid0.Coords) (r : ℕ) [h : Fact (r < 8)] : ClosedOff (k0_off3 i (BitVec.ofNat 32 r)) :=
  ⟨_, off3_eq i ⟨r, h.out⟩⟩

end Cert.NaIdeal.Hand
-- ==== Proof.NaRun.lean ====
/-
  One grid point of the neighbourhood attention's body, run: its stores into the output block as a list of pieces.
-/
module

public import proofs.«01_k».proof.Proof.Gen.NaIdeal.Frame
public import proofs.«01_k».proof.Proof.NaOff

@[expose] public section

set_option maxRecDepth 16384

noncomputable section

namespace Cert.NaIdeal.Hand

open Cert.NaIdeal Cert.NaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 6400000 in
/-- What one grid point of the neighbourhood attention leaves in its output block and in its two scratch buffers, as the
    stored pieces (last first), with the proof that the body, run on whole buffers holding `x0 … x10` (the inputs) and anything in
    the output's and the scratch buffers, ends with exactly those pieces written. -/
noncomputable def kernelRun (c : Dev nD) (i : grid0.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S1x512x128 .bf16) (harg8 : arg8.IsWhole) (arg9 : Memref sig .tc .vmem S1x512x128 .bf16) (harg9 : arg9.IsWhole) (arg10 : Memref sig .tc .vmem S16x128 .bf16) (harg10 : arg10.IsWhole) (arg11 : Memref sig .tc .vmem S16x128 .bf16) (harg11 : arg11.IsWhole) (arg12 : Memref sig .tc .vmem S2x8x64x512 .f32) (harg12 : arg12.IsWhole) (arg13 : Memref sig .tc .vmem S1x128x16 .f32) (harg13 : arg13.IsWhole) (arg14 : Memref sig .tc .vmem S1x512x128 .bf16) (harg14 : arg14.IsWhole) (arg15 : Memref sig .tc .vmem S1536x128 .bf16) (harg15 : arg15.IsWhole) (arg16 : Memref sig .tc .vmem S1536x128 .bf16) (harg16 : arg16.IsWhole)
    (x0 : Vec F S1x512x128 .bf16) (x1 : Vec F S1x512x128 .bf16) (x2 : Vec F S1x512x128 .bf16) (x3 : Vec F S1x512x128 .bf16) (x4 : Vec F S1x512x128 .bf16) (x5 : Vec F S1x512x128 .bf16) (x6 : Vec F S1x512x128 .bf16) (x7 : Vec F S16x128 .bf16) (x8 : Vec F S16x128 .bf16) (x9 : Vec F S2x8x64x512 .f32) (x10 : Vec F S1x128x16 .f32) :
    Σ' (L11 : List (View.Piece (Elt F) S1x512x128 .bf16)), Σ' (LS0 : List (View.Piece (Elt F) S1536x128 .bf16)), { LS1 : List (View.Piece (Elt F) S1536x128 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ (∃ f, arg14.view.loc (c : Thread nD τ) ↦[arg14.view.set]{fullShare} arg14.view.writes (Elt F) f L11) ∗ (∃ f, arg15.view.loc (c : Thread nD τ) ↦[arg15.view.set]{fullShare} arg15.view.writes (Elt F) f LS0) ∗ (∃ f, arg16.view.loc (c : Thread nD τ) ↦[arg16.view.set]{fullShare} arg16.view.writes (Elt F) f LS1)) -∗ K ⟨⟩))
          ⊢ wp frame (wpE (defs₀ (F := F)) Variants.none c none) E (cc0_na_attention i arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, fun E K => ?run⟩
  case run =>
    simp only [cc0_na_attention_eq_skeleton]; unfold cc0_na_attention_skel
    simp only [k0_part15_eq_skeleton, k0_part14_eq_skeleton, k0_part13_eq_skeleton, k0_part12_eq_skeleton, k0_part11_eq_skeleton, k0_part10_eq_skeleton, k0_part9_eq_skeleton, k0_part8_eq_skeleton, k0_part7_eq_skeleton, k0_part6_eq_skeleton, k0_part5_eq_skeleton, k0_part4_eq_skeleton, k0_part3_eq_skeleton, k0_part2_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]; · iexists _; iexact H11
    isplitl [HS0]; · iexists _; iexact HS0
    iexists _; iexact HS1

end Cert.NaIdeal.Hand

end
-- ==== Proof.NaFrame.lean ====
/-
  The neighbourhood attention's frame: the proof data of its one region, the body at every point, and the launch.
-/
module

public import proofs.«01_k».proof.Proof.NaRun
public import Idealize.ShloMosaic.Lib.Claim

@[expose] public section

set_option maxRecDepth 16384

noncomputable section

namespace Cert.NaIdeal.Hand

open Cert.NaIdeal Cert.NaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window 0's staging buffer at a point. -/
abbrev buf0 (t : Fin cfg0.N) : Memref sig .tc .vmem S1x512x128 .bf16 := win0_0.stage (cfg0.slots t 0)
abbrev whole0 (t : Fin cfg0.N) : (buf0 t).IsWhole := hstage0_0 ((cfg0.slots t 0).cast nbuf0_0)
/-- Window 1's staging buffer at a point. -/
abbrev buf1 (t : Fin cfg0.N) : Memref sig .tc .vmem S1x512x128 .bf16 := win0_1.stage (cfg0.slots t 1)
abbrev whole1 (t : Fin cfg0.N) : (buf1 t).IsWhole := hstage0_1 ((cfg0.slots t 1).cast nbuf0_1)
/-- Window 2's staging buffer at a point. -/
abbrev buf2 (t : Fin cfg0.N) : Memref sig .tc .vmem S1x512x128 .bf16 := win0_2.stage (cfg0.slots t 2)
abbrev whole2 (t : Fin cfg0.N) : (buf2 t).IsWhole := hstage0_2 ((cfg0.slots t 2).cast nbuf0_2)
/-- Window 3's staging buffer at a point. -/
abbrev buf3 (t : Fin cfg0.N) : Memref sig .tc .vmem S1x512x128 .bf16 := win0_3.stage (cfg0.slots t 3)
abbrev whole3 (t : Fin cfg0.N) : (buf3 t).IsWhole := hstage0_3 ((cfg0.slots t 3).cast nbuf0_3)
/-- Window 4's staging buffer at a point. -/
abbrev buf4 (t : Fin cfg0.N) : Memref sig .tc .vmem S1x512x128 .bf16 := win0_4.stage (cfg0.slots t 4)
abbrev whole4 (t : Fin cfg0.N) : (buf4 t).IsWhole := hstage0_4 ((cfg0.slots t 4).cast nbuf0_4)
/-- Window 5's staging buffer at a point. -/
abbrev buf5 (t : Fin cfg0.N) : Memref sig .tc .vmem S1x512x128 .bf16 := win0_5.stage (cfg0.slots t 5)
abbrev whole5 (t : Fin cfg0.N) : (buf5 t).IsWhole := hstage0_5 ((cfg0.slots t 5).cast nbuf0_5)
/-- Window 6's staging buffer at a point. -/
abbrev buf6 (t : Fin cfg0.N) : Memref sig .tc .vmem S1x512x128 .bf16 := win0_6.stage (cfg0.slots t 6)
abbrev whole6 (t : Fin cfg0.N) : (buf6 t).IsWhole := hstage0_6 ((cfg0.slots t 6).cast nbuf0_6)
/-- Window 7's staging buffer at a point. -/
abbrev buf7 (t : Fin cfg0.N) : Memref sig .tc .vmem S16x128 .bf16 := win0_7.stage (cfg0.slots t 7)
abbrev whole7 (t : Fin cfg0.N) : (buf7 t).IsWhole := hstage0_7 ((cfg0.slots t 7).cast nbuf0_7)
/-- Window 8's staging buffer at a point. -/
abbrev buf8 (t : Fin cfg0.N) : Memref sig .tc .vmem S16x128 .bf16 := win0_8.stage (cfg0.slots t 8)
abbrev whole8 (t : Fin cfg0.N) : (buf8 t).IsWhole := hstage0_8 ((cfg0.slots t 8).cast nbuf0_8)
/-- Window 9's staging buffer at a point. -/
abbrev buf9 (t : Fin cfg0.N) : Memref sig .tc .vmem S2x8x64x512 .f32 := win0_9.stage (cfg0.slots t 9)
abbrev whole9 (t : Fin cfg0.N) : (buf9 t).IsWhole := hstage0_9 ((cfg0.slots t 9).cast nbuf0_9)
/-- Window 10's staging buffer at a point. -/
abbrev buf10 (t : Fin cfg0.N) : Memref sig .tc .vmem S1x128x16 .f32 := win0_10.stage (cfg0.slots t 10)
abbrev whole10 (t : Fin cfg0.N) : (buf10 t).IsWhole := hstage0_10 ((cfg0.slots t 10).cast nbuf0_10)
/-- Window 11's staging buffer at a point. -/
abbrev buf11 (t : Fin cfg0.N) : Memref sig .tc .vmem S1x512x128 .bf16 := win0_11.stage (cfg0.slots t 11)
abbrev whole11 (t : Fin cfg0.N) : (buf11 t).IsWhole := hstage0_11 ((cfg0.slots t 11).cast nbuf0_11)

/-- The scratch holding three blocks of keys, and the one holding three blocks of values. -/
abbrev scr0 : Memref sig .tc .vmem S1536x128 .bf16 := Memref.whole cc0_scratch0
abbrev scr1 : Memref sig .tc .vmem S1536x128 .bf16 := Memref.whole cc0_scratch1

/-- What the body's run at point `t` stores, on the buffers the pipeline hands it. -/
abbrev runAt (c : Dev nD) (t : Fin cfg0.N) :=
  kernelRun (F := F) c (grid0.coords t) (buf0 t) (whole0 t) (buf1 t) (whole1 t) (buf2 t) (whole2 t) (buf3 t) (whole3 t) (buf4 t) (whole4 t) (buf5 t) (whole5 t) (buf6 t) (whole6 t) (buf7 t) (whole7 t) (buf8 t) (whole8 t) (buf9 t) (whole9 t) (buf10 t) (whole10 t) (buf11 t) (whole11 t) scr0 (Memref.isWhole_whole _) scr1 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t)

/-- The eight stores of a point cover the output block. -/
theorem coverOut (c : Dev nD) (t : Fin cfg0.N) (y : S1x512x128.Idx) : ∃ p ∈ (runAt m c t).1, y ∈ p.1.set :=
  View.cover_of_tiledL (runAt m c t).1 S1x64x128.size (by sl_kernel_rfl) y

/-- The proof data: the arrays as launched, each input's buffer left at its block, the output's at what the eight
    stores leave, and the two scratch buffers at anything between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => View.canon (runAt m c t).1
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = View.canon (runAt m c t).1 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d

/-- The invariant between points: the two scratch buffers at some contents, and the generator register. -/
theorem between_eq (c : Dev nD) :
    (Pipeline.ΦA spec0 c : sProp 𝕄)
      = iprop(iprop((∃ d, owns (c : Thread nD τ) scr0 fullShare d) ∗ (∃ d, owns (c : Thread nD τ) scr1 fullShare d)) ∗ (∃ r, prngReg c r)) := by
  unfold Pipeline.ΦA; rw [scopedRest0_eq]; simp only [scr0, scr1, owns_whole]; try rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d))
    ∗ (∃ d, owns (c : Thread nD τ) (buf4 t) fullShare ((dats m 0 c).before 4 t d))
    ∗ (∃ d, owns (c : Thread nD τ) (buf5 t) fullShare ((dats m 0 c).before 5 t d))
    ∗ (∃ d, owns (c : Thread nD τ) (buf6 t) fullShare ((dats m 0 c).before 6 t d))
    ∗ (∃ d, owns (c : Thread nD τ) (buf7 t) fullShare ((dats m 0 c).before 7 t d))
    ∗ (∃ d, owns (c : Thread nD τ) (buf8 t) fullShare ((dats m 0 c).before 8 t d))
    ∗ (∃ d, owns (c : Thread nD τ) (buf9 t) fullShare ((dats m 0 c).before 9 t d))
    ∗ (∃ d, owns (c : Thread nD τ) (buf10 t) fullShare ((dats m 0 c).before 10 t d))
    ∗ (∃ d, owns (c : Thread nD τ) (buf11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (buf0 t) fullShare ((dats m 0 c).after 0 t)
    ∗ owns (c : Thread nD τ) (buf1 t) fullShare ((dats m 0 c).after 1 t)
    ∗ owns (c : Thread nD τ) (buf2 t) fullShare ((dats m 0 c).after 2 t)
    ∗ owns (c : Thread nD τ) (buf3 t) fullShare ((dats m 0 c).after 3 t)
    ∗ owns (c : Thread nD τ) (buf4 t) fullShare ((dats m 0 c).after 4 t)
    ∗ owns (c : Thread nD τ) (buf5 t) fullShare ((dats m 0 c).after 5 t)
    ∗ owns (c : Thread nD τ) (buf6 t) fullShare ((dats m 0 c).after 6 t)
    ∗ owns (c : Thread nD τ) (buf7 t) fullShare ((dats m 0 c).after 7 t)
    ∗ owns (c : Thread nD τ) (buf8 t) fullShare ((dats m 0 c).after 8 t)
    ∗ owns (c : Thread nD τ) (buf9 t) fullShare ((dats m 0 c).after 9 t)
    ∗ owns (c : Thread nD τ) (buf10 t) fullShare ((dats m 0 c).after 10 t)
    ∗ owns (c : Thread nD τ) (buf11 t) fullShare ((dats m 0 c).after 11 t))

set_option maxHeartbeats 6400000 in
/-- The body at any point, from the run of its stores. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10]
  rw [show (dats m 0 c).owesAt () t.succ = (dats m 0 c).owesAt () t.castSucc from rfl,
    show (dats m 0 c).Φ t.succ = Pipeline.ΦA spec0 c from rfl, show (dats m 0 c).Φ t.castSucc = Pipeline.ΦA spec0 c from rfl,
    between_eq, after_0, after_1, after_2, after_3, after_4, after_5, after_6, after_7, after_8, after_9, after_10, after_11]
  iintro ⟨⟨⟨⟨%e0, HS0⟩, ⟨%e1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((runAt m c t).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [HS0]; · iexists _; iexact HS0
  isplitl [HS1]; · iexists _; iexact HS1
  iintro ⟨H0, H1, H2, H3, H4, H5, H6, H7, H8, H9, H10, ⟨%f11, H11⟩, ⟨%f0, HS0⟩, ⟨%f1, HS1⟩⟩
  isplitl [HS0 HS1 Hg]
  · isplitl [HS0 HS1]
    · isplitl [HS0]
      · iexists _; unfold owns; iexists _; isplitr
        swap; · iexact HS0
        ipureintro; rfl
      iexists _; unfold owns; iexists _; isplitr
      swap; · iexact HS1
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  unfold owns; iexists _; isplitr
  swap; · iexact H11
  ipureintro; exact View.read_writes_eq_canon _ _ _ (coverOut m c t)

/-- The body table's row at point `t` is the body on the point's buffers. -/
theorem body_row (t : Fin cfg0.N) :
    defs₀ (F := F) .tc cfg0.body (cfg0.bodyArgs t (cfg0.slots t)) = bodyAt0 t := by
  unfold defs₀; rw [Defs.onTc_tc]

/-- What the launch asks of the body, at every point. -/
theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

set_option backward.isDefEq.respectTransparency.types false in
/-- Every run ends, with each array at what the proof data says and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := fun _ => .rfl) (hout := fun _ => .rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: every run ends, the arguments are unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.NaIdeal.Hand

end
-- ==== Proof.NaRow.lean ====
/-
  One grid row of the neighbourhood attention, read at an index: two heads' queries stacked, their scores against the window and
  against the meta tokens, the weights and the average.
-/
module

public import proofs.«01_k».proof.Proof.Gen.NaIdeal.Skeleton
public import Idealize.ShloMosaic.Lib.Pointwise
public import Idealize.ShloMosaic.PureOps.Ideal

@[expose] public section

set_option maxRecDepth 16384

noncomputable section

namespace Cert.Proof.NaRow

open Cert.NaIdeal Cert.NaIdeal.Gen Idealize.ShloMosaic
open scoped BigOperators

/-- What the kernel writes of one grid row, from the meta keys and values, their bias, the row's queries, the window's keys and
    values and the two heads' bias tiles. -/
def rowOut {F : FTy → Type} [FloatOps F] (km vm : Vec F S16x128 .bf16) (mb : FVec F S128x16 .f32) (q : Vec F S1x64x128 .bf16) (kw vw : Vec F S512x128 .bf16)
    (b0 b1 : Vec F S1x1x64x512 .f32) : FVec F S1x64x128 .bf16 :=
  k0_pay20 vm vw (k0_pay17 km mb q) (k0_pay18 km mb q kw b0 b1) (k0_pay19 km mb q kw b0 b1)

/-- Row `w` of the head in the lower or in the upper lanes, among the stacked rows. -/
def stk (u : Fin 2) (w : Fin 64) : Fin 128 := ⟨64 * u.val + w.val, by have := u.isLt; have := w.isLt; omega⟩
/-- Lane `d` of one of the two heads. -/
def lane (u : Fin 2) (d : Fin 64) : Fin 128 := ⟨64 * u.val + d.val, by have := u.isLt; have := d.isLt; omega⟩

/-- The test of a lane against 64. -/
theorem lane_test : ∀ d : Fin 128, IntOp.cmpi .slt (BitVec.ofNat 32 d.val) 64#32 = if d.val / 64 = 0 then 1#1 else 0#1 := by decide

/-- A choice by that test, as a choice by the lane's half. -/
theorem choose_lane (d : Fin 128) (x y : EReal) : Scalar.select (IntOp.cmpi .slt (BitVec.ofNat 32 d.val) 64#32) x y = if d.val / 64 = 0 then x else y := by
  rw [lane_test]
  by_cases h : d.val / 64 = 0
  · rw [if_pos h, if_pos h]; rfl
  · rw [if_neg h, if_neg h]; rfl

theorem pick_lo (d : Fin 128) (x y : EReal) : Scalar.select (IntOp.cmpi .slt (BitVec.ofNat 32 d.val) 64#32) x y = if d.val / 64 = 0 then x else y :=
  choose_lane d x y
theorem pick_hi (d : Fin 128) (x y : EReal) : Scalar.select (IntOp.cmpi .slt (BitVec.ofNat 32 d.val) 64#32) x y = if d.val / 64 = 1 then y else x := by
  rw [choose_lane]
  have := d.isLt
  by_cases h : d.val / 64 = 0
  · rw [if_pos h, if_neg (by omega)]
  · rw [if_neg h, if_pos (by omega)]
theorem take_lo (x y : EReal) (l : Fin 64) : Scalar.select (IntOp.cmpi .slt (BitVec.ofNat 32 l.val) 64#32) x y = x := by
  have := l.isLt
  exact (choose_lane ⟨l.val, by omega⟩ x y).trans (if_pos (by show l.val / 64 = 0; omega))
theorem take_hi (x y : EReal) (l : Fin 64) : Scalar.select (IntOp.cmpi .slt (BitVec.ofNat 32 (64 + l.val)) 64#32) x y = y := by
  have := l.isLt
  exact (choose_lane ⟨64 + l.val, by omega⟩ x y).trans (if_neg (by show ¬ (64 + l.val) / 64 = 0; omega))

theorem pay15_apply (q : Vec Ideal S1x64x128 .bf16) (u : Fin 2) (w : Fin 64) (d : Fin 128) :
    k0_pay15 q (ix2 (stk u w) d) = if d.val / 64 = u.val then q (ix3 0 w d) else 0 := by
  have h0 : Ideal.ofBits FTy.bf16 0x0000#16 = (0 : EReal) := by simp [Ideal.ofBits, Ideal.ieee]
  fin_cases u
  · pointwise [k0_pay15, stk]
    exact pick_lo d _ _
  · pointwise [k0_pay15, stk]
    exact pick_hi d _ _

theorem pay16_apply (q : Vec Ideal S1x64x128 .bf16) (kw : Vec Ideal S512x128 .bf16) (b0 b1 : Vec Ideal S1x1x64x512 .f32) (u : Fin 2) (w : Fin 64) (n : Fin 512) :
    k0_pay16 q kw b0 b1 (ix2 (stk u w) n) = (∑ d : Fin 128, k0_pay15 q (ix2 (stk u w) d) * kw (ix2 n d)) + (if u = 0 then b0 else b1) (ix4 0 0 w n) := by
  fin_cases u
  · pointwise [k0_pay16, stk]
  · pointwise [k0_pay16, stk]

theorem pay17_apply (km : Vec Ideal S16x128 .bf16) (mb : FVec Ideal S128x16 .f32) (q : Vec Ideal S1x64x128 .bf16) (R : Fin 128) (j : Fin 16) :
    k0_pay17 km mb q (ix2 R j) = (∑ d : Fin 128, k0_pay15 q (ix2 R d) * km (ix2 j d)) + mb (ix2 R j) := by
  pointwise [k0_pay17]

theorem pay19_apply (km : Vec Ideal S16x128 .bf16) (mb : FVec Ideal S128x16 .f32) (q : Vec Ideal S1x64x128 .bf16) (kw : Vec Ideal S512x128 .bf16)
    (b0 b1 : Vec Ideal S1x1x64x512 .f32) (R : Fin 128) (n : Fin 512) :
    k0_pay19 km mb q kw b0 b1 (ix2 R n) = k0_pay16 q kw b0 b1 (ix2 R n) - k0_pay18 km mb q kw b0 b1 (ix2 R 0) := by
  pointwise [k0_pay19]

/-- The average at stacked row `R`, lane `l`. -/
def avg (vm : S16x128.Idx → EReal) (vw : S512x128.Idx → EReal) (sm : S128x16.Idx → EReal) (mx : S128x1.Idx → EReal) (d : S128x512.Idx → EReal)
    (R l : Fin 128) : EReal :=
  Ideal.div ((∑ n : Fin 512, Ideal.exp (d (ix2 R n)) * vw (ix2 n l)) + ∑ j : Fin 16, Ideal.exp (sm (ix2 R j) - mx (ix2 R 0)) * vm (ix2 j l))
    ((∑ n : Fin 512, Ideal.exp (d (ix2 R n))) + ∑ j : Fin 16, Ideal.exp (sm (ix2 R j) - mx (ix2 R 0)))

theorem pay20_apply (vm : Vec Ideal S16x128 .bf16) (vw : Vec Ideal S512x128 .bf16) (sm : FVec Ideal S128x16 .f32) (mx : FVec Ideal S128x1 .f32) (d : FVec Ideal S128x512 .f32)
    (u : Fin 2) (w : Fin 64) (l : Fin 64) :
    k0_pay20 vm vw sm mx d (ix3 0 w (lane u l)) = avg vm vw sm mx d (stk u w) (lane u l) := by
  fin_cases u
  · pointwise [k0_pay20, stk, lane, avg]
    exact take_lo _ _ l
  · pointwise [k0_pay20, stk, lane, avg]
    exact take_hi _ _ l

end Cert.Proof.NaRow

end
-- ==== Proof.NaPieces.lean ====
/-
  The eight stores of one grid point of the neighbourhood attention: each is one grid row's result.
-/
module

public import proofs.«01_k».proof.Proof.NaFrame
public import proofs.«01_k».proof.Proof.NaRow

@[expose] public section

set_option maxRecDepth 16384

noncomputable section

namespace Cert.NaIdeal.Hand

open Cert.NaIdeal Cert.NaIdeal.Gen Cert.Proof.NaRow
open Idealize.ShloMosaic Idealize.ShloMosaic.TcCoe Idealize.ShloMosaic.Tactic

variable {F : FTy → Type} [FloatOps F]
variable (m : (ℓ : Loc nD τ sig) → Buf (Elt F) ℓ) (c : Dev nD) (t : Fin cfg0.N)

/-- Row `k` of the point's output block. -/
theorem inbRow (k : Fin 8) : ∀ a, (![0, 64 * k.val, 0] : Fin 3 → Nat) a + S1x64x128.size a ≤ S1x512x128.size a := by
  revert k; decide

/-- The scratch as the three stored blocks. -/
def scratch (a b d : Vec F S1x512x128 .bf16) : List (View.Piece (Elt F) S1536x128 .bf16) :=
  [⟨Rect.unit ![1024, 0] S512x128.size inb_S1536x128_S512x128_1024_0, k0_pay4 d⟩,
   ⟨Rect.unit ![512, 0] S512x128.size inb_S1536x128_S512x128_512_0, k0_pay3 b⟩,
   ⟨Rect.unit ![0, 0] S512x128.size inb_S1536x128_S512x128_0_0, k0_pay2 a⟩]

/-- A whole block, loaded. -/
def all (w : View sig .tc .vmem S1x512x128 .bf16) (f : w.ty.Contents (Elt F)) : Vec F S1x512x128 .bf16 :=
  View.readAt (Elt F) w (Rect.unit ![0, 0, 0] S1x512x128.size inb_S1x512x128_S1x512x128_0_0_0).toLoadRect f

/-- What the store of row `k` holds. -/
def rowVal (k : Fin 8) : FVec F S1x64x128 .bf16 :=
  rowOut
    (View.readAt (Elt F) (buf7 t).view (Rect.unit ![0, 0] S16x128.size inb_S16x128_S16x128_0_0).toLoadRect ((whole7 t).unread (iblk m c 7 t)))
    (View.readAt (Elt F) (buf8 t).view (Rect.unit ![0, 0] S16x128.size inb_S16x128_S16x128_0_0).toLoadRect ((whole8 t).unread (iblk m c 8 t)))
    (k0_pay8 (View.readAt (Elt F) (buf10 t).view (Rect.unit ![0, 0, 0] S1x128x16.size inb_S1x128x16_S1x128x16_0_0_0).toLoadRect ((whole10 t).unread (iblk m c 10 t))))
    (View.readAt (Elt F) (buf0 t).view (Rect.unit (s := S1x512x128) ![0, 64 * k.val, 0] S1x64x128.size (inbRow k)).toLoadRect ((whole0 t).unread (iblk m c 0 t)))
    (View.readCov scr0.view (scratch (all (buf1 t).view ((whole1 t).unread (iblk m c 1 t))) (all (buf2 t).view ((whole2 t).unread (iblk m c 2 t))) (all (buf3 t).view ((whole3 t).unread (iblk m c 3 t))))
      (Rect.unit (s := S1536x128) (k0_off1 (grid0.coords t) (BitVec.ofNat 32 k.val)) S512x128.size (k0_off1_inb (grid0.coords t) k)).toLoadRect)
    (View.readCov scr1.view (scratch (all (buf4 t).view ((whole4 t).unread (iblk m c 4 t))) (all (buf5 t).view ((whole5 t).unread (iblk m c 5 t))) (all (buf6 t).view ((whole6 t).unread (iblk m c 6 t))))
      (Rect.unit (s := S1536x128) (k0_off1 (grid0.coords t) (BitVec.ofNat 32 k.val)) S512x128.size (k0_off1_inb (grid0.coords t) k)).toLoadRect)
    (View.readAt (Elt F) (buf9 t).view (Rect.unit (s := S2x8x64x512) (k0_off2 (grid0.coords t) (BitVec.ofNat 32 k.val)) S1x1x64x512.size (k0_off2_inb (grid0.coords t) k)).toLoadRect ((whole9 t).unread (iblk m c 9 t)))
    (View.readAt (Elt F) (buf9 t).view (Rect.unit (s := S2x8x64x512) (k0_off3 (grid0.coords t) (BitVec.ofNat 32 k.val)) S1x1x64x512.size (k0_off3_inb (grid0.coords t) k)).toLoadRect ((whole9 t).unread (iblk m c 9 t)))

/-- The store of row `k`. -/
def rowPiece (k : Fin 8) : View.Piece (Elt F) S1x512x128 .bf16 := ⟨Rect.unit (s := S1x512x128) ![0, 64 * k.val, 0] S1x64x128.size (inbRow k), rowVal m c t k⟩

/-- The point's stores are the eight rows'. -/
theorem pieces : (runAt m c t).1 = [rowPiece m c t 7, rowPiece m c t 6, rowPiece m c t 5, rowPiece m c t 4, rowPiece m c t 3, rowPiece m c t 2, rowPiece m c t 1, rowPiece m c t 0] := rfl

end Cert.NaIdeal.Hand

end
-- ==== Proof.NaMath.lean ====
/-
  A softmax average taken in two parts: dividing the weighted total by the total of the weights is averaging with the divided
  weights.
-/
module

public import proofs.«01_k».proof.Proof.AttnMath
public import Idealize.ShloMosaic.PureOps.Ideal

@[expose] public section

noncomputable section

namespace Cert.Proof.NaMath

open Idealize.ShloMosaic
open scoped BigOperators

/-- The greatest of a row, from `⊥`. -/
def top {T : ℕ} (s : Fin T → EReal) : EReal := Finset.univ.fold max (⊥ : EReal) s

theorem top_eq_sup {T : ℕ} (s : Fin T → EReal) : top s = Finset.univ.sup s := rfl

/-- The greatest of two rows laid end to end. -/
theorem top_append {a b : ℕ} (s : Fin (a + b) → EReal) :
    top s = max (top fun i => s (Fin.castAdd b i)) (top fun j => s (Fin.natAdd a j)) := by
  simp only [top_eq_sup]
  refine le_antisymm (Finset.sup_le fun i _ => ?_) (max_le (Finset.sup_le fun i _ => ?_) (Finset.sup_le fun j _ => ?_))
  · refine Fin.addCases (fun k => ?_) (fun k => ?_) i
    · exact le_max_of_le_left (Finset.le_sup (f := fun i => s (Fin.castAdd b i)) (Finset.mem_univ k))
    · exact le_max_of_le_right (Finset.le_sup (f := fun j => s (Fin.natAdd a j)) (Finset.mem_univ k))
  · exact Finset.le_sup (f := s) (Finset.mem_univ _)
  · exact Finset.le_sup (f := s) (Finset.mem_univ _)

/-- The greatest of a row that stays below `⊤` is below `⊤`. -/
theorem top_ne_top {T : ℕ} (s : Fin T → EReal) (h : ∀ i, s i ≠ ⊤) : top s ≠ ⊤ := by
  rw [top_eq_sup]
  refine ne_of_lt ((Finset.sup_lt_iff (bot_lt_top)).mpr fun i _ => lt_of_le_of_ne le_top (h i))

/-- The shift of a softmax over two rows, the second of reals, is a real. -/
theorem shift_real {a b : ℕ} (hb : 0 < b) (s : Fin a → EReal) (t : Fin b → EReal) (hs : ∀ i, s i ≠ ⊤) (ht : ∀ j, ∃ r : ℝ, t j = r) :
    ∃ M : ℝ, max (top s) (top t) = M := by
  choose r hr using ht
  obtain ⟨N, hN⟩ := AttnMath.fold_max_real hb t r hr
  have hN' : top t = N := hN
  have h1 : max (top s) (top t) ≠ ⊤ := by
    rcases max_choice (top s) (top t) with h | h <;> rw [h]
    · exact top_ne_top s hs
    · rw [hN']; exact EReal.coe_ne_top N
  have h2 : max (top s) (top t) ≠ ⊥ := by
    intro h
    have : (N : EReal) ≤ ⊥ := by rw [← h, ← hN']; exact le_max_right _ _
    exact EReal.coe_ne_bot N (le_bot_iff.mp this)
  exact ⟨_, (EReal.coe_toReal h1 h2).symm⟩

/-- An exponential of an entry below `⊤` less a real is a real at least 0. -/
theorem exp_nonneg (x : EReal) (hx : x ≠ ⊤) (M : ℝ) : ∃ r : ℝ, 0 ≤ r ∧ Ideal.exp (x - (M : EReal)) = r := by
  induction x using EReal.rec with
  | bot => exact ⟨0, le_refl 0, by rw [EReal.bot_sub, Ideal.exp_bot]; rfl⟩
  | coe y => exact ⟨_, (Real.exp_pos _).le, AttnMath.exp_sub y M⟩
  | top => exact absurd rfl hx

/-- The total of the weights is a real above 0. -/
theorem total_real {a b : ℕ} (hb : 0 < b) (s : Fin a → EReal) (t : Fin b → EReal) (hs : ∀ i, s i ≠ ⊤) (ht : ∀ j, ∃ r : ℝ, t j = r) (M : ℝ) :
    ∃ L : ℝ, 0 < L ∧ (∑ i, Ideal.exp (s i - (M : EReal))) + ∑ j, Ideal.exp (t j - (M : EReal)) = L := by
  choose e he0 he using fun i => exp_nonneg (s i) (hs i) M
  choose r hr using ht
  refine ⟨(∑ i, e i) + ∑ j, Real.exp (r j - M), ?_, ?_⟩
  · have h1 : 0 ≤ ∑ i, e i := Finset.sum_nonneg fun i _ => he0 i
    have h2 : 0 < ∑ j : Fin b, Real.exp (r j - M) := Finset.sum_pos (fun _ _ => Real.exp_pos _) ⟨⟨0, hb⟩, Finset.mem_univ _⟩
    exact add_pos_of_nonneg_of_pos h1 h2
  · rw [EReal.coe_add, AttnMath.coe_sum, AttnMath.coe_sum]
    congr 1
    · exact Finset.sum_congr rfl fun i _ => he i
    · exact Finset.sum_congr rfl fun j _ => by rw [hr j, AttnMath.exp_sub]

/-- A real factor at least 0 goes through a sum of any extended reals. -/
theorem sum_mul {ι : Type*} (S : Finset ι) (f : ι → EReal) (x : ℝ) (hx : 0 ≤ x) : (∑ i ∈ S, f i) * (x : EReal) = ∑ i ∈ S, f i * (x : EReal) := by
  classical
  induction S using Finset.induction_on with
  | empty => simp
  | insert i S hi ih =>
    rw [Finset.sum_insert hi, Finset.sum_insert hi, ← ih]
    exact EReal.right_distrib_of_nonneg_of_ne_top (EReal.coe_nonneg.mpr hx) (EReal.coe_ne_top x) _ _

/-- Dividing the weighted total is averaging with the divided weights. -/
theorem div_total {a b : ℕ} (e v : Fin a → EReal) (g w : Fin b → EReal) (L : ℝ) (hL : 0 < L) :
    Ideal.div ((∑ i, e i * v i) + ∑ j, g j * w j) (L : EReal) = (∑ i, Ideal.div (e i) (L : EReal) * v i) + ∑ j, Ideal.div (g j) (L : EReal) * w j := by
  simp only [Ideal.div_coe hL.ne']
  rw [EReal.right_distrib_of_nonneg_of_ne_top (EReal.coe_nonneg.mpr (by positivity)) (EReal.coe_ne_top _), sum_mul _ _ _ (by positivity),
    sum_mul _ _ _ (by positivity)]
  congr 1
  · exact Finset.sum_congr rfl fun i _ => mul_right_comm _ _ _
  · exact Finset.sum_congr rfl fun j _ => mul_right_comm _ _ _

/-- A softmax average over two rows as the kernel takes it. -/
def avg {a b : ℕ} (s : Fin a → EReal) (t : Fin b → EReal) (v : Fin a → EReal) (w : Fin b → EReal) : EReal :=
  Ideal.div ((∑ i, Ideal.exp (s i - max (top s) (top t)) * v i) + ∑ j, Ideal.exp (t j - max (top s) (top t)) * w j)
    ((∑ i, Ideal.exp (s i - max (top s) (top t))) + ∑ j, Ideal.exp (t j - max (top s) (top t)))

/-- The same with the weights divided first. -/
theorem avg_eq {a b : ℕ} (hb : 0 < b) (s : Fin a → EReal) (t : Fin b → EReal) (v : Fin a → EReal) (w : Fin b → EReal)
    (hs : ∀ i, s i ≠ ⊤) (ht : ∀ j, ∃ r : ℝ, t j = r) (M L : EReal) (hM : M = max (top s) (top t))
    (hL : L = (∑ i, Ideal.exp (s i - M)) + ∑ j, Ideal.exp (t j - M)) :
    avg s t v w = (∑ i, Ideal.div (Ideal.exp (s i - M)) L * v i) + ∑ j, Ideal.div (Ideal.exp (t j - M)) L * w j := by
  obtain ⟨N, hN⟩ := shift_real hb s t hs ht
  obtain ⟨K, hK, hK'⟩ := total_real hb s t hs ht N
  subst hL hM
  unfold avg
  rw [hN, hK']
  exact div_total _ _ _ _ K hK

end Cert.Proof.NaMath

end
-- ==== Proof.NaRow2.lean ====
/-
  One grid row of the neighbourhood attention as a softmax average over the window and the meta tokens.
-/
module

public import proofs.«01_k».proof.Proof.NaRow
public import proofs.«01_k».proof.Proof.NaMath

@[expose] public section

set_option maxRecDepth 16384

noncomputable section

namespace Cert.Proof.NaRow

open Cert.NaIdeal Cert.NaIdeal.Gen Idealize.ShloMosaic
open scoped BigOperators

theorem negInf : Ideal.ofBits FTy.f32 0xFF800000#32 = (⊥ : EReal) := by simp [Ideal.ofBits, Ideal.ieee]

theorem rowmaxW (S : FVec Ideal S128x512 .f32) (R : Fin 128) :
    shapeCast S128x1 (multiReduction .maximumf [1] S128 S 0xFF800000#32 reduces_S128x512_S128 (.inl rfl) rfl) shapeCasts_S128_S128x1 (ix2 R 0)
      = NaMath.top fun n => S (ix2 R n) := by
  pointwise []
  rw [negInf]
  rfl
theorem rowmaxM (S : FVec Ideal S128x16 .f32) (R : Fin 128) :
    shapeCast S128x1 (multiReduction .maximumf [1] S128 S 0xFF800000#32 reduces_S128x16_S128 (.inl rfl) rfl) shapeCasts_S128_S128x1 (ix2 R 0)
      = NaMath.top fun n => S (ix2 R n) := by
  pointwise []
  rw [negInf]
  rfl

theorem pay18_apply (km : Vec Ideal S16x128 .bf16) (mb : FVec Ideal S128x16 .f32) (q : Vec Ideal S1x64x128 .bf16) (kw : Vec Ideal S512x128 .bf16)
    (b0 b1 : Vec Ideal S1x1x64x512 .f32) (R : Fin 128) :
    k0_pay18 km mb q kw b0 b1 (ix2 R 0) = max (NaMath.top fun n => k0_pay16 q kw b0 b1 (ix2 R n)) (NaMath.top fun j => k0_pay17 km mb q (ix2 R j)) := by
  rw [← rowmaxW, ← rowmaxM]
  rfl

/-- A sum over the 128 lanes that is zero off one head's lanes. -/
theorem sum_lane (u : Fin 2) (x y : Fin 128 → EReal) :
    (∑ d : Fin 128, (if d.val / 64 = u.val then x d else 0) * y d) = ∑ e : Fin 64, x (lane u e) * y (lane u e) := by
  have h := Fin.sum_univ_add (a := 64) (b := 64) fun d : Fin 128 => (if d.val / 64 = u.val then x d else 0) * y d
  refine h.trans ?_
  have lo (e : Fin 64) : (Fin.castAdd 64 e : Fin 128).val / 64 = 0 := by rw [Fin.val_castAdd]; have := e.isLt; omega
  have hi (e : Fin 64) : (Fin.natAdd 64 e : Fin 128).val / 64 = 1 := by rw [Fin.val_natAdd]; have := e.isLt; omega
  simp only [lo, hi]
  match u with
  | 0 =>
    have e0 (e : Fin 64) : (Fin.castAdd 64 e : Fin 128) = lane 0 e := Fin.ext (by show e.val = 64 * 0 + e.val; omega)
    simp [e0]
  | 1 =>
    have e1 (e : Fin 64) : (Fin.natAdd 64 e : Fin 128) = lane 1 e := Fin.ext (by show 64 + e.val = 64 * 1 + e.val; omega)
    simp only [e1]
    simp

/-- The scores of a stacked row. -/
theorem score_w (q : Vec Ideal S1x64x128 .bf16) (kw : Vec Ideal S512x128 .bf16) (b0 b1 : Vec Ideal S1x1x64x512 .f32) (u : Fin 2) (w : Fin 64) (n : Fin 512) :
    k0_pay16 q kw b0 b1 (ix2 (stk u w) n)
      = (∑ d : Fin 64, q (ix3 0 w (lane u d)) * kw (ix2 n (lane u d))) + (if u = 0 then b0 else b1) (ix4 0 0 w n) := by
  rw [pay16_apply]
  simp only [pay15_apply]
  rw [sum_lane u (fun d => q (ix3 0 w d)) fun d => kw (ix2 n d)]
theorem score_m (km : Vec Ideal S16x128 .bf16) (mb : FVec Ideal S128x16 .f32) (q : Vec Ideal S1x64x128 .bf16) (u : Fin 2) (w : Fin 64) (j : Fin 16) :
    k0_pay17 km mb q (ix2 (stk u w) j) = (∑ d : Fin 64, q (ix3 0 w (lane u d)) * km (ix2 j (lane u d))) + mb (ix2 (stk u w) j) := by
  rw [pay17_apply]
  simp only [pay15_apply]
  rw [sum_lane u (fun d => q (ix3 0 w d)) fun d => km (ix2 j d)]

/-- The row's result: the softmax average. -/
theorem rowOut_apply (km vm : Vec Ideal S16x128 .bf16) (mb : FVec Ideal S128x16 .f32) (q : Vec Ideal S1x64x128 .bf16) (kw vw : Vec Ideal S512x128 .bf16)
    (b0 b1 : Vec Ideal S1x1x64x512 .f32) (u : Fin 2) (w l : Fin 64) :
    rowOut km vm mb q kw vw b0 b1 (ix3 0 w (lane u l))
      = NaMath.avg (fun n => k0_pay16 q kw b0 b1 (ix2 (stk u w) n)) (fun j => k0_pay17 km mb q (ix2 (stk u w) j))
          (fun n => vw (ix2 n (lane u l))) (fun j => vm (ix2 j (lane u l))) := by
  unfold rowOut
  rw [pay20_apply]
  unfold avg NaMath.avg
  simp only [pay19_apply, pay18_apply]

/-- The same with the scores as given. -/
theorem rowOut_eq (km vm : Vec Ideal S16x128 .bf16) (mb : FVec Ideal S128x16 .f32) (q : Vec Ideal S1x64x128 .bf16) (kw vw : Vec Ideal S512x128 .bf16)
    (b0 b1 : Vec Ideal S1x1x64x512 .f32) (u : Fin 2) (w l : Fin 64) (s : Fin 512 → EReal) (t : Fin 16 → EReal) (v : Fin 512 → EReal) (y : Fin 16 → EReal)
    (hs : ∀ n, (∑ d : Fin 64, q (ix3 0 w (lane u d)) * kw (ix2 n (lane u d))) + (if u = 0 then b0 else b1) (ix4 0 0 w n) = s n)
    (ht : ∀ j, (∑ d : Fin 64, q (ix3 0 w (lane u d)) * km (ix2 j (lane u d))) + mb (ix2 (stk u w) j) = t j)
    (hv : ∀ n, vw (ix2 n (lane u l)) = v n) (hy : ∀ j, vm (ix2 j (lane u l)) = y j) :
    rowOut km vm mb q kw vw b0 b1 (ix3 0 w (lane u l)) = NaMath.avg s t v y := by
  rw [rowOut_apply]
  congr 1
  · exact funext fun n => (score_w q kw b0 b1 u w n).trans (hs n)
  · exact funext fun j => (score_m km mb q u w j).trans (ht j)
  · exact funext hv
  · exact funext hy

end Cert.Proof.NaRow

end
-- ==== Proof.NaBlocks.lean ====
/-
  Where the neighbourhood attention's blocks lie in the arrays. Grid point `t` belongs to head pair `t / 128`, batch
  `t / 16 % 8` and row block `t % 16`.
-/
module

public import proofs.«01_k».proof.Proof.NaFrame
public import Idealize.ShloMosaic.Lib.Pointwise

@[expose] public section

set_option maxRecDepth 16384

noncomputable section

namespace Cert.Proof.NaBlocks

open Cert.NaIdeal Cert.NaIdeal.Gen Idealize.ShloMosaic Idealize.ShloMosaic.TcCoe Idealize.SL.Sem

variable (m : (ℓ : Loc nD τ sig) → Buf (Elt Ideal) ℓ)

theorem coords2 : ∀ t : Fin cfg0.N, (grid0.coords t 2).val = t.val % 16 :=
  (by decide +kernel : ∀ t : Fin grid0.N, (grid0.coords t 2).val = t.val % 16)
theorem idx0 : ∀ t : Fin cfg0.N, win0_0.index t 0 = t.val / 16 % 8 ∧ win0_0.index t 1 = t.val % 16 ∧ win0_0.index t 2 = t.val / 128 :=
  (by decide +kernel : ∀ t : Fin grid0.N, win0_0.index t 0 = t.val / 16 % 8 ∧ win0_0.index t 1 = t.val % 16 ∧ win0_0.index t 2 = t.val / 128)
theorem idx1 : ∀ t : Fin cfg0.N, win0_1.index t 0 = t.val / 16 % 8 ∧ win0_1.index t 1 = t.val % 16 - 1 ∧ win0_1.index t 2 = 4 + t.val / 128 :=
  (by decide +kernel : ∀ t : Fin grid0.N, win0_1.index t 0 = t.val / 16 % 8 ∧ win0_1.index t 1 = t.val % 16 - 1 ∧ win0_1.index t 2 = 4 + t.val / 128)
theorem idx2 : ∀ t : Fin cfg0.N, win0_2.index t 0 = t.val / 16 % 8 ∧ win0_2.index t 1 = t.val % 16 ∧ win0_2.index t 2 = 4 + t.val / 128 :=
  (by decide +kernel : ∀ t : Fin grid0.N, win0_2.index t 0 = t.val / 16 % 8 ∧ win0_2.index t 1 = t.val % 16 ∧ win0_2.index t 2 = 4 + t.val / 128)
theorem idx3 : ∀ t : Fin cfg0.N, win0_3.index t 0 = t.val / 16 % 8 ∧ win0_3.index t 1 = min (t.val % 16 + 1) 15 ∧ win0_3.index t 2 = 4 + t.val / 128 :=
  (by decide +kernel : ∀ t : Fin grid0.N, win0_3.index t 0 = t.val / 16 % 8 ∧ win0_3.index t 1 = min (t.val % 16 + 1) 15 ∧ win0_3.index t 2 = 4 + t.val / 128)
theorem idx4 : ∀ t : Fin cfg0.N, win0_4.index t 0 = t.val / 16 % 8 ∧ win0_4.index t 1 = t.val % 16 - 1 ∧ win0_4.index t 2 = 8 + t.val / 128 :=
  (by decide +kernel : ∀ t : Fin grid0.N, win0_4.index t 0 = t.val / 16 % 8 ∧ win0_4.index t 1 = t.val % 16 - 1 ∧ win0_4.index t 2 = 8 + t.val / 128)
theorem idx5 : ∀ t : Fin cfg0.N, win0_5.index t 0 = t.val / 16 % 8 ∧ win0_5.index t 1 = t.val % 16 ∧ win0_5.index t 2 = 8 + t.val / 128 :=
  (by decide +kernel : ∀ t : Fin grid0.N, win0_5.index t 0 = t.val / 16 % 8 ∧ win0_5.index t 1 = t.val % 16 ∧ win0_5.index t 2 = 8 + t.val / 128)
theorem idx6 : ∀ t : Fin cfg0.N, win0_6.index t 0 = t.val / 16 % 8 ∧ win0_6.index t 1 = min (t.val % 16 + 1) 15 ∧ win0_6.index t 2 = 8 + t.val / 128 :=
  (by decide +kernel : ∀ t : Fin grid0.N, win0_6.index t 0 = t.val / 16 % 8 ∧ win0_6.index t 1 = min (t.val % 16 + 1) 15 ∧ win0_6.index t 2 = 8 + t.val / 128)
theorem idx7 : ∀ t : Fin cfg0.N, win0_7.index t 0 = 0 ∧ win0_7.index t 1 = 4 + t.val / 128 :=
  (by decide +kernel : ∀ t : Fin grid0.N, win0_7.index t 0 = 0 ∧ win0_7.index t 1 = 4 + t.val / 128)
theorem idx8 : ∀ t : Fin cfg0.N, win0_8.index t 0 = 0 ∧ win0_8.index t 1 = 8 + t.val / 128 :=
  (by decide +kernel : ∀ t : Fin grid0.N, win0_8.index t 0 = 0 ∧ win0_8.index t 1 = 8 + t.val / 128)
theorem idx9 : ∀ t : Fin cfg0.N, win0_9.index t 0 = t.val / 128 ∧ win0_9.index t 1 = 0 ∧ win0_9.index t 2 = 0 ∧ win0_9.index t 3 = 0 :=
  (by decide +kernel : ∀ t : Fin grid0.N, win0_9.index t 0 = t.val / 128 ∧ win0_9.index t 1 = 0 ∧ win0_9.index t 2 = 0 ∧ win0_9.index t 3 = 0)
theorem idx10 : ∀ t : Fin cfg0.N, win0_10.index t 0 = t.val / 128 ∧ win0_10.index t 1 = 0 ∧ win0_10.index t 2 = 0 :=
  (by decide +kernel : ∀ t : Fin grid0.N, win0_10.index t 0 = t.val / 128 ∧ win0_10.index t 1 = 0 ∧ win0_10.index t 2 = 0)
theorem idx11 : ∀ t : Fin cfg0.N, win0_11.index t 0 = t.val / 16 % 8 ∧ win0_11.index t 1 = t.val % 16 ∧ win0_11.index t 2 = t.val / 128 :=
  (by decide +kernel : ∀ t : Fin grid0.N, win0_11.index t 0 = t.val / 16 % 8 ∧ win0_11.index t 1 = t.val % 16 ∧ win0_11.index t 2 = t.val / 128)

theorem lt_N (t : Fin cfg0.N) : t.val < 512 := by have h : t.val < grid0.N := t.isLt; rw [N_0] at h; exact h

/-- The batch, the pair of heads, a row of a block of rows, and a column of the pair past column `o`. -/
def bat (t : Fin cfg0.N) : Fin 8 := ⟨t.val / 16 % 8, by omega⟩
def pair (t : Fin cfg0.N) : Fin 4 := ⟨t.val / 128, by have := lt_N t; omega⟩
def trow (s : ℕ) (hs : s < 16) (r : Fin 512) : Fin 8192 := ⟨512 * s + r.val, by have := r.isLt; omega⟩
def pcol (o : ℕ) (ho : o ≤ 2560) (p : Fin 4) (d : Fin 128) : Fin 3072 := ⟨o + 128 * p.val + d.val, by have := p.isLt; have := d.isLt; omega⟩
def ocol (p : Fin 4) (d : Fin 128) : Fin 512 := ⟨128 * p.val + d.val, by have := p.isLt; have := d.isLt; omega⟩

theorem blk0 (c : Dev nD) (t : Fin cfg0.N) (r : Fin 512) (d : Fin 128) :
    iblk m c 0 t (ix3 0 r d) = m ((c : Thread nD τ).loc main_arg0) (ix3 (bat t) (trow (t.val % 16) (by omega) r) (pcol 0 (by norm_num) (pair t) d)) := by
  show m ((c : Thread nD τ).loc main_arg0) ((win0_0.blk t).view.emb (ix3 0 r d)) = _
  refine congrArg _ (funext fun a => Fin.ext ?_)
  obtain ⟨e0, e1, e2⟩ := idx0 t
  match a with
  | ⟨0, _⟩ => show win0_0.index t 0 * 1 + 1 * 0 = t.val / 16 % 8; rw [e0]; omega
  | ⟨1, _⟩ => show win0_0.index t 1 * 512 + 1 * r.val = 512 * (t.val % 16) + r.val; rw [e1]; omega
  | ⟨2, _⟩ => show win0_0.index t 2 * 128 + 1 * d.val = 0 + 128 * (t.val / 128) + d.val; rw [e2]; omega
theorem blk1 (c : Dev nD) (t : Fin cfg0.N) (r : Fin 512) (d : Fin 128) :
    iblk m c 1 t (ix3 0 r d) = m ((c : Thread nD τ).loc main_arg0) (ix3 (bat t) (trow (t.val % 16 - 1) (by omega) r) (pcol 512 (by norm_num) (pair t) d)) := by
  show m ((c : Thread nD τ).loc main_arg0) ((win0_1.blk t).view.emb (ix3 0 r d)) = _
  refine congrArg _ (funext fun a => Fin.ext ?_)
  obtain ⟨e0, e1, e2⟩ := idx1 t
  match a with
  | ⟨0, _⟩ => show win0_1.index t 0 * 1 + 1 * 0 = t.val / 16 % 8; rw [e0]; omega
  | ⟨1, _⟩ => show win0_1.index t 1 * 512 + 1 * r.val = 512 * (t.val % 16 - 1) + r.val; rw [e1]; omega
  | ⟨2, _⟩ => show win0_1.index t 2 * 128 + 1 * d.val = 512 + 128 * (t.val / 128) + d.val; rw [e2]; omega
theorem blk2 (c : Dev nD) (t : Fin cfg0.N) (r : Fin 512) (d : Fin 128) :
    iblk m c 2 t (ix3 0 r d) = m ((c : Thread nD τ).loc main_arg0) (ix3 (bat t) (trow (t.val % 16) (by omega) r) (pcol 512 (by norm_num) (pair t) d)) := by
  show m ((c : Thread nD τ).loc main_arg0) ((win0_2.blk t).view.emb (ix3 0 r d)) = _
  refine congrArg _ (funext fun a => Fin.ext ?_)
  obtain ⟨e0, e1, e2⟩ := idx2 t
  match a with
  | ⟨0, _⟩ => show win0_2.index t 0 * 1 + 1 * 0 = t.val / 16 % 8; rw [e0]; omega
  | ⟨1, _⟩ => show win0_2.index t 1 * 512 + 1 * r.val = 512 * (t.val % 16) + r.val; rw [e1]; omega
  | ⟨2, _⟩ => show win0_2.index t 2 * 128 + 1 * d.val = 512 + 128 * (t.val / 128) + d.val; rw [e2]; omega
theorem blk3 (c : Dev nD) (t : Fin cfg0.N) (r : Fin 512) (d : Fin 128) :
    iblk m c 3 t (ix3 0 r d) = m ((c : Thread nD τ).loc main_arg0) (ix3 (bat t) (trow (min (t.val % 16 + 1) 15) (by omega) r) (pcol 512 (by norm_num) (pair t) d)) := by
  show m ((c : Thread nD τ).loc main_arg0) ((win0_3.blk t).view.emb (ix3 0 r d)) = _
  refine congrArg _ (funext fun a => Fin.ext ?_)
  obtain ⟨e0, e1, e2⟩ := idx3 t
  match a with
  | ⟨0, _⟩ => show win0_3.index t 0 * 1 + 1 * 0 = t.val / 16 % 8; rw [e0]; omega
  | ⟨1, _⟩ => show win0_3.index t 1 * 512 + 1 * r.val = 512 * (min (t.val % 16 + 1) 15) + r.val; rw [e1]; omega
  | ⟨2, _⟩ => show win0_3.index t 2 * 128 + 1 * d.val = 512 + 128 * (t.val / 128) + d.val; rw [e2]; omega
theorem blk4 (c : Dev nD) (t : Fin cfg0.N) (r : Fin 512) (d : Fin 128) :
    iblk m c 4 t (ix3 0 r d) = m ((c : Thread nD τ).loc main_arg0) (ix3 (bat t) (trow (t.val % 16 - 1) (by omega) r) (pcol 1024 (by norm_num) (pair t) d)) := by
  show m ((c : Thread nD τ).loc main_arg0) ((win0_4.blk t).view.emb (ix3 0 r d)) = _
  refine congrArg _ (funext fun a => Fin.ext ?_)
  obtain ⟨e0, e1, e2⟩ := idx4 t
  match a with
  | ⟨0, _⟩ => show win0_4.index t 0 * 1 + 1 * 0 = t.val / 16 % 8; rw [e0]; omega
  | ⟨1, _⟩ => show win0_4.index t 1 * 512 + 1 * r.val = 512 * (t.val % 16 - 1) + r.val; rw [e1]; omega
  | ⟨2, _⟩ => show win0_4.index t 2 * 128 + 1 * d.val = 1024 + 128 * (t.val / 128) + d.val; rw [e2]; omega
theorem blk5 (c : Dev nD) (t : Fin cfg0.N) (r : Fin 512) (d : Fin 128) :
    iblk m c 5 t (ix3 0 r d) = m ((c : Thread nD τ).loc main_arg0) (ix3 (bat t) (trow (t.val % 16) (by omega) r) (pcol 1024 (by norm_num) (pair t) d)) := by
  show m ((c : Thread nD τ).loc main_arg0) ((win0_5.blk t).view.emb (ix3 0 r d)) = _
  refine congrArg _ (funext fun a => Fin.ext ?_)
  obtain ⟨e0, e1, e2⟩ := idx5 t
  match a with
  | ⟨0, _⟩ => show win0_5.index t 0 * 1 + 1 * 0 = t.val / 16 % 8; rw [e0]; omega
  | ⟨1, _⟩ => show win0_5.index t 1 * 512 + 1 * r.val = 512 * (t.val % 16) + r.val; rw [e1]; omega
  | ⟨2, _⟩ => show win0_5.index t 2 * 128 + 1 * d.val = 1024 + 128 * (t.val / 128) + d.val; rw [e2]; omega
theorem blk6 (c : Dev nD) (t : Fin cfg0.N) (r : Fin 512) (d : Fin 128) :
    iblk m c 6 t (ix3 0 r d) = m ((c : Thread nD τ).loc main_arg0) (ix3 (bat t) (trow (min (t.val % 16 + 1) 15) (by omega) r) (pcol 1024 (by norm_num) (pair t) d)) := by
  show m ((c : Thread nD τ).loc main_arg0) ((win0_6.blk t).view.emb (ix3 0 r d)) = _
  refine congrArg _ (funext fun a => Fin.ext ?_)
  obtain ⟨e0, e1, e2⟩ := idx6 t
  match a with
  | ⟨0, _⟩ => show win0_6.index t 0 * 1 + 1 * 0 = t.val / 16 % 8; rw [e0]; omega
  | ⟨1, _⟩ => show win0_6.index t 1 * 512 + 1 * r.val = 512 * (min (t.val % 16 + 1) 15) + r.val; rw [e1]; omega
  | ⟨2, _⟩ => show win0_6.index t 2 * 128 + 1 * d.val = 1024 + 128 * (t.val / 128) + d.val; rw [e2]; omega
theorem blk7 (c : Dev nD) (t : Fin cfg0.N) (j : Fin 16) (d : Fin 128) :
    iblk m c 7 t (ix2 j d) = m ((c : Thread nD τ).loc main_arg1) (ix2 j (pcol 512 (by norm_num) (pair t) d)) := by
  show m ((c : Thread nD τ).loc main_arg1) ((win0_7.blk t).view.emb (ix2 j d)) = _
  refine congrArg _ (funext fun a => Fin.ext ?_)
  obtain ⟨e0, e1⟩ := idx7 t
  match a with
  | ⟨0, _⟩ => show win0_7.index t 0 * 16 + 1 * j.val = j.val; rw [e0]; omega
  | ⟨1, _⟩ => show win0_7.index t 1 * 128 + 1 * d.val = 512 + 128 * (t.val / 128) + d.val; rw [e1]; omega
theorem blk8 (c : Dev nD) (t : Fin cfg0.N) (j : Fin 16) (d : Fin 128) :
    iblk m c 8 t (ix2 j d) = m ((c : Thread nD τ).loc main_arg1) (ix2 j (pcol 1024 (by norm_num) (pair t) d)) := by
  show m ((c : Thread nD τ).loc main_arg1) ((win0_8.blk t).view.emb (ix2 j d)) = _
  refine congrArg _ (funext fun a => Fin.ext ?_)
  obtain ⟨e0, e1⟩ := idx8 t
  match a with
  | ⟨0, _⟩ => show win0_8.index t 0 * 16 + 1 * j.val = j.val; rw [e0]; omega
  | ⟨1, _⟩ => show win0_8.index t 1 * 128 + 1 * d.val = 1024 + 128 * (t.val / 128) + d.val; rw [e1]; omega
theorem blk9 (c : Dev nD) (t : Fin cfg0.N) (u : Fin 2) (a : Fin 8) (w : Fin 64) (n : Fin 512) :
    iblk m c 9 t (ix4 u a w n) = m ((c : Thread nD τ).loc main_arg2) (ix4 (⟨2 * (pair t).val + u.val, by have := (pair t).isLt; have := u.isLt; omega⟩ : Fin 8) a w n) := by
  show m ((c : Thread nD τ).loc main_arg2) ((win0_9.blk t).view.emb (ix4 u a w n)) = _
  refine congrArg _ (funext fun x => Fin.ext ?_)
  obtain ⟨e0, e1, e2, e3⟩ := idx9 t
  match x with
  | ⟨0, _⟩ => show win0_9.index t 0 * 2 + 1 * u.val = 2 * (t.val / 128) + u.val; rw [e0]; omega
  | ⟨1, _⟩ => show win0_9.index t 1 * 8 + 1 * a.val = a.val; rw [e1]; omega
  | ⟨2, _⟩ => show win0_9.index t 2 * 64 + 1 * w.val = w.val; rw [e2]; omega
  | ⟨3, _⟩ => show win0_9.index t 3 * 512 + 1 * n.val = n.val; rw [e3]; omega
theorem blk10 (c : Dev nD) (t : Fin cfg0.N) (R : Fin 128) (j : Fin 16) :
    iblk m c 10 t (ix3 0 R j) = m ((c : Thread nD τ).loc main_arg3) (ix3 (pair t) R j) := by
  show m ((c : Thread nD τ).loc main_arg3) ((win0_10.blk t).view.emb (ix3 0 R j)) = _
  refine congrArg _ (funext fun a => Fin.ext ?_)
  obtain ⟨e0, e1, e2⟩ := idx10 t
  match a with
  | ⟨0, _⟩ => show win0_10.index t 0 * 1 + 1 * 0 = t.val / 128; rw [e0]; omega
  | ⟨1, _⟩ => show win0_10.index t 1 * 128 + 1 * R.val = R.val; rw [e1]; omega
  | ⟨2, _⟩ => show win0_10.index t 2 * 16 + 1 * j.val = j.val; rw [e2]; omega

/-- Where the point's output block lies. -/
theorem emb11 (t : Fin cfg0.N) (r : Fin 512) (d : Fin 128) :
    (win0_11.blk t).view.emb (ix3 0 r d) = ix3 (bat t) (trow (t.val % 16) (by omega) r) (ocol (pair t) d) := by
  obtain ⟨e0, e1, e2⟩ := idx11 t
  funext a
  refine Fin.ext ?_
  match a with
  | ⟨0, _⟩ => show win0_11.index t 0 * 1 + 1 * 0 = t.val / 16 % 8; rw [e0]; omega
  | ⟨1, _⟩ => show win0_11.index t 1 * 512 + 1 * r.val = 512 * (t.val % 16) + r.val; rw [e1]; omega
  | ⟨2, _⟩ => show win0_11.index t 2 * 128 + 1 * d.val = 128 * (t.val / 128) + d.val; rw [e2]; omega

end Cert.Proof.NaBlocks

end
-- ==== Proof.NaBlock.lean ====
/-
  One grid point of the neighbourhood attention: its output block at an index, as the row's result of the arguments.
-/
module

public import proofs.«01_k».proof.Proof.NaPieces
public import proofs.«01_k».proof.Proof.NaRow2
public import proofs.«01_k».proof.Proof.NaBlocks
public import proofs.«01_k».proof.Proof.NaOff
public import Idealize.ShloMosaic.Lib.WholeRead

@[expose] public section

set_option maxRecDepth 16384

noncomputable section

namespace Cert.Proof.NaBlock

open Cert.NaIdeal Cert.NaIdeal.Gen Cert.NaIdeal.Hand Idealize.ShloMosaic Idealize.ShloMosaic.TcCoe Idealize.SL.Sem
open Cert.Proof.NaBlocks Cert.Proof.NaRow
open scoped BigOperators

variable (m : (ℓ : Loc nD τ sig) → Buf (Elt Ideal) ℓ) (c : Dev nD) (t : Fin cfg0.N)

/-- Of a list of rows' stores, a row's own is what its rectangle holds. -/
theorem canon_rows (k : Fin 8) (x : S1x64x128.Idx) : ∀ K : List (Fin 8), k ∈ K →
    View.canon (K.map (rowPiece m c t)) ((rowPiece m c t k).1.emb x) = rowVal m c t k x
  | [], h => absurd h List.not_mem_nil
  | j :: K, h => by
    by_cases e : j = k
    · subst e
      exact View.canon_cons_emb (Val := Elt Ideal) (e := .bf16) (rowPiece m c t j).1 (rowVal m c t j) _ x
    · have hk : k ∈ K := (List.mem_cons.mp h).resolve_left fun h => e h.symm
      refine (View.canon_cons_of_not_mem (rowPiece m c t j) _ ?_).trans (canon_rows k x K hk)
      intro hm
      have h1 := (Rect.mem_set_unit (inb := inbRow j)).mp hm (1 : Fin 3)
      have hx : (x 1).val < 64 := (x 1).isLt
      have h2 : 64 * j.val ≤ 64 * k.val + 1 * (x 1).val ∧ 64 * k.val + 1 * (x 1).val < 64 * j.val + 64 := h1
      exact e (Fin.ext (by omega))

/-- The point's block at row `k`, token `w`. -/
theorem out_row (k : Fin 8) (w : Fin 64) (l : Fin 128) :
    View.canon (runAt m c t).1 (ix3 0 ⟨64 * k.val + w.val, by have := k.isLt; have := w.isLt; omega⟩ l) = rowVal m c t k (ix3 0 w l) := by
  have h := canon_rows m c t k (ix3 0 w l) [7, 6, 5, 4, 3, 2, 1, 0] (by revert k; decide)
  refine Eq.trans ?_ h
  rw [pieces]
  refine congrArg _ (funext fun a => Fin.ext ?_)
  match a with
  | ⟨0, _⟩ => rfl
  | ⟨1, _⟩ => show 64 * k.val + w.val = 64 * k.val + 1 * w.val; omega
  | ⟨2, _⟩ => show l.val = 0 + 1 * l.val; omega

theorem pay2_apply (a : Vec Ideal S1x512x128 .bf16) (n : Fin 512) (l : Fin 128) : k0_pay2 a (ix2 n l) = a (ix3 0 n l) := by
  pointwise [k0_pay2]
theorem pay3_apply (a : Vec Ideal S1x512x128 .bf16) (n : Fin 512) (l : Fin 128) : k0_pay3 a (ix2 n l) = a (ix3 0 n l) := by
  pointwise [k0_pay3]
theorem pay4_apply (a : Vec Ideal S1x512x128 .bf16) (n : Fin 512) (l : Fin 128) : k0_pay4 a (ix2 n l) = a (ix3 0 n l) := by
  pointwise [k0_pay4]
theorem pay8_apply (a : Vec Ideal S1x128x16 .f32) (R : Fin 128) (j : Fin 16) : k0_pay8 a (ix2 R j) = a (ix3 0 R j) := by
  pointwise [k0_pay8]

/-- The scratch at row `N`: one of the three blocks. -/
theorem scratch_lo (a b d : Vec Ideal S1x512x128 .bf16) (n : Fin 512) (l : Fin 128) :
    View.canon (scratch a b d) (ix2 ⟨n.val, by have := n.isLt; omega⟩ l) = a (ix3 0 n l) := by
  have hn := n.isLt
  have e : (ix2 ⟨n.val, by omega⟩ l : S1536x128.Idx) = (Rect.unit (s := S1536x128) ![0, 0] S512x128.size inb_S1536x128_S512x128_0_0).emb (ix2 n l) := by
    funext x; refine Fin.ext ?_
    match x with
    | ⟨0, _⟩ => show n.val = 0 + 1 * n.val; omega
    | ⟨1, _⟩ => show l.val = 0 + 1 * l.val; omega
  refine (View.canon_cons_of_not_mem _ _ fun hm => ?_).trans ((View.canon_cons_of_not_mem _ _ fun hm => ?_).trans ?_)
  · have h : 1024 ≤ n.val := ((Rect.mem_set_unit (inb := inb_S1536x128_S512x128_1024_0)).mp hm (0 : Fin 2)).1
    omega
  · have h : 512 ≤ n.val := ((Rect.mem_set_unit (inb := inb_S1536x128_S512x128_512_0)).mp hm (0 : Fin 2)).1
    omega
  · rw [e]
    exact (View.canon_cons_emb _ _ _ _).trans (pay2_apply a n l)
theorem scratch_mid (a b d : Vec Ideal S1x512x128 .bf16) (n : Fin 512) (l : Fin 128) :
    View.canon (scratch a b d) (ix2 ⟨512 + n.val, by have := n.isLt; omega⟩ l) = b (ix3 0 n l) := by
  have hn := n.isLt
  have e : (ix2 ⟨512 + n.val, by omega⟩ l : S1536x128.Idx) = (Rect.unit (s := S1536x128) ![512, 0] S512x128.size inb_S1536x128_S512x128_512_0).emb (ix2 n l) := by
    funext x; refine Fin.ext ?_
    match x with
    | ⟨0, _⟩ => show 512 + n.val = 512 + 1 * n.val; omega
    | ⟨1, _⟩ => show l.val = 0 + 1 * l.val; omega
  refine (View.canon_cons_of_not_mem _ _ fun hm => ?_).trans ?_
  · have h : 1024 ≤ 512 + n.val := ((Rect.mem_set_unit (inb := inb_S1536x128_S512x128_1024_0)).mp hm (0 : Fin 2)).1
    omega
  · rw [e]
    exact (View.canon_cons_emb _ _ _ _).trans (pay3_apply b n l)
theorem scratch_hi (a b d : Vec Ideal S1x512x128 .bf16) (n : Fin 512) (l : Fin 128) :
    View.canon (scratch a b d) (ix2 ⟨1024 + n.val, by have := n.isLt; omega⟩ l) = d (ix3 0 n l) := by
  have e : (ix2 ⟨1024 + n.val, by have := n.isLt; omega⟩ l : S1536x128.Idx) = (Rect.unit (s := S1536x128) ![1024, 0] S512x128.size inb_S1536x128_S512x128_1024_0).emb (ix2 n l) := by
    funext x; refine Fin.ext ?_
    match x with
    | ⟨0, _⟩ => show 1024 + n.val = 1024 + 1 * n.val; omega
    | ⟨1, _⟩ => show l.val = 0 + 1 * l.val; omega
  rw [e]
  exact (View.canon_cons_emb _ _ _ _).trans (pay4_apply d n l)

/-- The first row of the window of row `k` of the block, and token `n` of that window. -/
def first (k : Fin 8) : ℕ := min 120 (8 * (t.val % 16) + k.val - 4)
def wtok (k : Fin 8) (n : Fin 512) : Fin 8192 := ⟨64 * first t k + n.val, by have := n.isLt; unfold first; omega⟩

theorem off1_at (k : Fin 8) : k0_off1 (grid0.coords t) (BitVec.ofNat 32 k.val) = ![(first t k + 8 - 8 * (t.val % 16)) * 64, 0] := by
  rw [off1_eq, coords2]; rfl

/-- The window of row `k`, out of the scratch, when the three blocks are rows of one array, each at its place. -/
theorem win_at (f : Fin 8192 → Fin 128 → EReal) (a b d : Vec Ideal S1x512x128 .bf16)
    (ha : ∀ n l, a (ix3 0 n l) = f (trow (t.val % 16 - 1) (by omega) n) l) (hb : ∀ n l, b (ix3 0 n l) = f (trow (t.val % 16) (by omega) n) l)
    (hd : ∀ n l, d (ix3 0 n l) = f (trow (min (t.val % 16 + 1) 15) (by omega) n) l) (v : View sig .tc .vmem S1536x128 .bf16) (k : Fin 8) (n : Fin 512) (l : Fin 128) :
    View.readCov v (scratch a b d) (Rect.unit (s := S1536x128) (k0_off1 (grid0.coords t) (BitVec.ofNat 32 k.val)) S512x128.size (k0_off1_inb (grid0.coords t) k)).toLoadRect (ix2 n l)
      = f (wtok t k n) l := by
  have hn := n.isLt
  have hk := k.isLt
  have ht : t.val % 16 < 16 := Nat.mod_lt _ (by norm_num)
  have o0 : k0_off1 (grid0.coords t) (BitVec.ofNat 32 k.val) (0 : Fin 2) = (first t k + 8 - 8 * (t.val % 16)) * 64 := congrFun (off1_at t k) 0
  have o1 : k0_off1 (grid0.coords t) (BitVec.ofNat 32 k.val) (1 : Fin 2) = 0 := congrFun (off1_at t k) 1
  have hN : (first t k + 8 - 8 * (t.val % 16)) * 64 + n.val < 1536 := by unfold first; omega
  rw [View.readCov_eq_canon']
  have e : (Rect.unit (s := S1536x128) (k0_off1 (grid0.coords t) (BitVec.ofNat 32 k.val)) S512x128.size (k0_off1_inb (grid0.coords t) k)).toLoadRect.idx (ix2 n l)
      = (ix2 ⟨(first t k + 8 - 8 * (t.val % 16)) * 64 + n.val, hN⟩ l : S1536x128.Idx) := by
    funext x; refine Fin.ext ?_
    match x with
    | ⟨0, _⟩ => show k0_off1 (grid0.coords t) (BitVec.ofNat 32 k.val) (0 : Fin 2) + 1 * n.val = (first t k + 8 - 8 * (t.val % 16)) * 64 + n.val; rw [o0]; omega
    | ⟨1, _⟩ => show k0_off1 (grid0.coords t) (BitVec.ofNat 32 k.val) (1 : Fin 2) + 1 * l.val = l.val; rw [o1]; omega
  show View.canon (scratch a b d) ((Rect.unit (s := S1536x128) (k0_off1 (grid0.coords t) (BitVec.ofNat 32 k.val)) S512x128.size (k0_off1_inb (grid0.coords t) k)).toLoadRect.idx (ix2 n l)) = _
  rw [e]
  generalize hS : (first t k + 8 - 8 * (t.val % 16)) * 64 + n.val = N at hN
  have fin (i : Fin 8192) (hi : i.val = 64 * first t k + n.val) : f i l = f (wtok t k n) l := congrArg (fun i => f i l) (Fin.ext hi)
  have hf : first t k = min 120 (8 * (t.val % 16) + k.val - 4) := rfl
  by_cases h1 : N < 512
  · refine (scratch_lo a b d ⟨N, h1⟩ l).trans ((ha _ _).trans (fin _ ?_))
    show 512 * (t.val % 16 - 1) + N = _
    omega
  by_cases h2 : N < 1024
  · have e2 : (⟨N, hN⟩ : Fin 1536) = ⟨512 + (N - 512), by omega⟩ := Fin.ext (by show N = 512 + (N - 512); omega)
    rw [e2]
    refine (scratch_mid a b d ⟨N - 512, by omega⟩ l).trans ((hb _ _).trans (fin _ ?_))
    show 512 * (t.val % 16) + (N - 512) = _
    omega
  · have e2 : (⟨N, hN⟩ : Fin 1536) = ⟨1024 + (N - 1024), by omega⟩ := Fin.ext (by show N = 1024 + (N - 1024); omega)
    rw [e2]
    refine (scratch_hi a b d ⟨N - 1024, by omega⟩ l).trans ((hd _ _).trans (fin _ ?_))
    show 512 * (min (t.val % 16 + 1) 15) + (N - 1024) = _
    omega

/-- A whole block read back. -/
theorem all_at {mr : Memref sig .tc .vmem S1x512x128 .bf16} (h : mr.IsWhole) (X : S1x512x128.Idx → Elt Ideal .bf16) (n : Fin 512) (l : Fin 128) :
    Hand.all mr.view (h.unread X) (ix3 0 n l) = X (ix3 0 n l) := by
  unfold Hand.all
  rw [h.readAt_unread]
  refine congrArg X (funext fun a => Fin.ext ?_)
  match a with
  | ⟨0, _⟩ => rfl
  | ⟨1, _⟩ => show 0 + 1 * n.val = n.val; omega
  | ⟨2, _⟩ => show 0 + 1 * l.val = l.val; omega

end Cert.Proof.NaBlock

end
-- ==== Proof.NaRef.lean ====
/-
  The neighbourhood attention's reference, read at an index, stage by stage.
-/
module

public import proofs.«01_k».proof.Proof.Gen.NaReferenceIdeal.Run
public import proofs.«01_k».proof.Proof.NaMath
public import Idealize.ShloMosaic.Lib.Pointwise
public import Idealize.ShloMosaic.PureOps.Ideal

@[expose] public section

set_option maxRecDepth 16384

noncomputable section

namespace Cert.Proof.NaRef

open Cert.NaReferenceIdeal Cert.NaReferenceIdeal.Gen Idealize.ShloMosaic
open scoped BigOperators

/-- The first row of the window of grid row `i`. -/
def first (i : Fin 128) : ℕ := min 120 (i.val - 4)
theorem first_le (i : Fin 128) : first i ≤ 120 := min_le_left _ _
/-- Row `a` of the window of grid row `i`. -/
def wrow (i : Fin 128) (a : Fin 8) : Fin 128 := ⟨first i + a.val, by have := first_le i; have := a.isLt; omega⟩
/-- The place of grid row `i` within its window. -/
def place (i : Fin 128) : Fin 8 := ⟨i.val - first i, by have := i.isLt; unfold first; omega⟩

/-- The tokens on their grid: the queries by head, the keys and values side by side. -/
def qT (P : FVec Ideal S8x8192x3072 .bf16) : FVec Ideal S8x128x64x8x64 .f32 :=
  shapeCast _ (extractStridedSlice S8x8192x512 ![0, 0, 0] (extf .f32 P bitsLt_bf16_f32) slices_S8x8192x3072_S8x8192x512_0_0_0) shapeCasts_S8x8192x512_S8x128x64x8x64
def kvT (P : FVec Ideal S8x8192x3072 .bf16) : FVec Ideal S8x128x64x1024 .f32 :=
  shapeCast _ (extractStridedSlice S8x8192x1024 ![0, 0, 512] (extf .f32 P bitsLt_bf16_f32) slices_S8x8192x3072_S8x8192x1024_0_0_512) shapeCasts_S8x8192x1024_S8x128x64x1024

/-- The windows there are: eight rows from each of the first 121. -/
def atT (x : FVec Ideal S8x128x64x1024 .f32) : FVec Ideal S8x121x512x1024 .f32 :=
  concatenate S8x121x512x1024 2
    [⟨S8x121x64x1024, extractStridedSlice S8x121x64x1024 ![0, 0, 0, 0] x slices_S8x128x64x1024_S8x121x64x1024_0_0_0_0⟩, ⟨S8x121x64x1024, extractStridedSlice S8x121x64x1024 ![0, 1, 0, 0] x slices_S8x128x64x1024_S8x121x64x1024_0_1_0_0⟩,
     ⟨S8x121x64x1024, extractStridedSlice S8x121x64x1024 ![0, 2, 0, 0] x slices_S8x128x64x1024_S8x121x64x1024_0_2_0_0⟩, ⟨S8x121x64x1024, extractStridedSlice S8x121x64x1024 ![0, 3, 0, 0] x slices_S8x128x64x1024_S8x121x64x1024_0_3_0_0⟩,
     ⟨S8x121x64x1024, extractStridedSlice S8x121x64x1024 ![0, 4, 0, 0] x slices_S8x128x64x1024_S8x121x64x1024_0_4_0_0⟩, ⟨S8x121x64x1024, extractStridedSlice S8x121x64x1024 ![0, 5, 0, 0] x slices_S8x128x64x1024_S8x121x64x1024_0_5_0_0⟩,
     ⟨S8x121x64x1024, extractStridedSlice S8x121x64x1024 ![0, 6, 0, 0] x slices_S8x128x64x1024_S8x121x64x1024_0_6_0_0⟩, ⟨S8x121x64x1024, extractStridedSlice S8x121x64x1024 ![0, 7, 0, 0] x slices_S8x128x64x1024_S8x121x64x1024_0_7_0_0⟩]
    concatenates_S8x121x64x1024_S8x121x64x1024_S8x121x64x1024_S8x121x64x1024_S8x121x64x1024_S8x121x64x1024_S8x121x64x1024_S8x121x64x1024_S8x121x512x1024_d2
/-- Every grid row's window: the first one for the first rows, the last one for the last. -/
def padT (z : FVec Ideal S8x121x512x1024 .f32) : FVec Ideal S8x128x512x1024 .f32 :=
  concatenate S8x128x512x1024 1
    [⟨S8x4x512x1024, broadcastInDim S8x4x512x1024 ![0, 1, 2, 3] bcast_S8x1x512x1024_S8x4x512x1024_0_1_2_3 (extractStridedSlice S8x1x512x1024 ![0, 0, 0, 0] z slices_S8x121x512x1024_S8x1x512x1024_0_0_0_0)⟩,
     ⟨S8x121x512x1024, z⟩,
     ⟨S8x3x512x1024, broadcastInDim S8x3x512x1024 ![0, 1, 2, 3] bcast_S8x1x512x1024_S8x3x512x1024_0_1_2_3 (extractStridedSlice S8x1x512x1024 ![0, 120, 0, 0] z slices_S8x121x512x1024_S8x1x512x1024_0_120_0_0)⟩]
    concatenates_S8x4x512x1024_S8x121x512x1024_S8x3x512x1024_S8x128x512x1024_d1
/-- The windows' keys and values, by head. -/
def kT (P : FVec Ideal S8x8192x3072 .bf16) : FVec Ideal S8x128x512x8x64 .f32 :=
  shapeCast _ (extractStridedSlice S8x128x512x512 ![0, 0, 0, 0] (padT (atT (kvT P))) slices_S8x128x512x1024_S8x128x512x512_0_0_0_0) shapeCasts_S8x128x512x512_S8x128x512x8x64
def vT (P : FVec Ideal S8x8192x3072 .bf16) : FVec Ideal S8x128x512x8x64 .f32 :=
  shapeCast _ (extractStridedSlice S8x128x512x512 ![0, 0, 0, 512] (padT (atT (kvT P))) slices_S8x128x512x1024_S8x128x512x512_0_0_0_512) shapeCasts_S8x128x512x512_S8x128x512x8x64

/-- The bias tiles of every grid row. -/
def biasT (B : FVec Ideal S8x8x64x512 .f32) : FVec Ideal S8x128x64x512 .f32 :=
  concatenate S8x128x64x512 1
    [⟨S8x4x64x512, extractStridedSlice S8x4x64x512 ![0, 0, 0, 0] B slices_S8x8x64x512_S8x4x64x512_0_0_0_0⟩,
     ⟨S8x121x64x512, broadcastInDim S8x121x64x512 ![0, 1, 2, 3] bcast_S8x1x64x512_S8x121x64x512_0_1_2_3 (extractStridedSlice S8x1x64x512 ![0, 4, 0, 0] B slices_S8x8x64x512_S8x1x64x512_0_4_0_0)⟩,
     ⟨S8x3x64x512, extractStridedSlice S8x3x64x512 ![0, 5, 0, 0] B slices_S8x8x64x512_S8x3x64x512_0_5_0_0⟩]
    concatenates_S8x4x64x512_S8x121x64x512_S8x3x64x512_S8x128x64x512_d1

/-- The scores against the window and against the meta tokens. -/
def sT (q : FVec Ideal S8x128x64x8x64 .f32) (k : FVec Ideal S8x128x512x8x64 .f32) (b : FVec Ideal S8x128x64x512 .f32) : FVec Ideal S8x8x128x64x512 .f32 :=
  addf (Host.dotGeneral dot_S8x128x64x8x64_S8x128x512x8x64_S8x8x128x64x512_4_4_2_2_031_031 none q k)
    (broadcastInDim S8x8x128x64x512 ![0, 1, 2, 3, 4] bcast_S1x8x128x64x512_S8x8x128x64x512_0_1_2_3_4 (broadcastInDim S1x8x128x64x512 ![1, 2, 3, 4] bcast_S8x128x64x512_S1x8x128x64x512_1_2_3_4 b))
def mT (T : FVec Ideal S16x3072 .bf16) (q : FVec Ideal S8x128x64x8x64 .f32) (B : FVec Ideal S4x128x16 .f32) : FVec Ideal S8x8x128x64x16 .f32 :=
  addf (transpose S8x8x128x64x16 [2, 0, 3, 4, 1] (Host.dotGeneral dot_S16x8x64_S8x128x64x8x64_S8x16x8x128x64_2_4_0_012_1_3 none
      (shapeCast _ (extractStridedSlice S16x512 ![0, 512] (extf .f32 T bitsLt_bf16_f32) slices_S16x3072_S16x512_0_512) shapeCasts_S16x512_S16x8x64) q) transposes_S8x16x8x128x64_S8x8x128x64x16_2_0_3_4_1)
    (broadcastInDim S8x8x128x64x16 ![0, 1, 2, 3, 4] bcast_S1x8x1x64x16_S8x8x128x64x16_0_1_2_3_4 (broadcastInDim S1x8x1x64x16 ![1, 3, 4] bcast_S8x64x16_S1x8x1x64x16_1_3_4 (shapeCast _ B shapeCasts_S4x128x16_S8x64x16)))
def catT (s : FVec Ideal S8x8x128x64x512 .f32) (t : FVec Ideal S8x8x128x64x16 .f32) : FVec Ideal S8x8x128x64x528 .f32 :=
  concatenate S8x8x128x64x528 4 [⟨S8x8x128x64x512, s⟩, ⟨S8x8x128x64x16, t⟩] concatenates_S8x8x128x64x512_S8x8x128x64x16_S8x8x128x64x528_d4

/-- Their softmax. -/
def maxT (s : FVec Ideal S8x8x128x64x528 .f32) : FVec Ideal S8x8x128x64 .f32 :=
  maximumf (broadcastInDim S8x8x128x64 ![] bcast_S_S8x8x128x64 (constant S_ .f32 0xFF800000#32))
    (Host.reduce FloatOps.maximumf s (constant S_ .f32 0xFF800000#32) reducesTo_S8x8x128x64x528_S8x8x128x64_d4 h_S_)
def expT (s : FVec Ideal S8x8x128x64x528 .f32) : FVec Ideal S8x8x128x64x528 .f32 :=
  Host.exp (subf s (broadcastInDim S8x8x128x64x528 ![0, 1, 2, 3, 4] bcast_S8x8x128x64x1_S8x8x128x64x528_0_1_2_3_4
    (broadcastInDim S8x8x128x64x1 ![0, 1, 2, 3] bcast_S8x8x128x64_S8x8x128x64x1_0_1_2_3 (maxT s))))
def smT (s : FVec Ideal S8x8x128x64x528 .f32) : FVec Ideal S8x8x128x64x528 .f32 :=
  Host.divf (expT s) (broadcastInDim S8x8x128x64x528 ![0, 1, 2, 3, 4] bcast_S8x8x128x64x1_S8x8x128x64x528_0_1_2_3_4
    (broadcastInDim S8x8x128x64x1 ![0, 1, 2, 3] bcast_S8x8x128x64_S8x8x128x64x1_0_1_2_3
      (Host.reduceAdd (expT s) (constant S_ .f32 0x00000000#32) reducesTo_S8x8x128x64x528_S8x8x128x64_d4 h_S_)))

/-- The average of the values, in both parts. -/
def oT (v : FVec Ideal S8x128x512x8x64 .f32) (p : FVec Ideal S8x8x128x64x528 .f32) : FVec Ideal S8x128x64x8x64 .f32 :=
  transpose S8x128x64x8x64 [0, 1, 4, 2, 3] (Host.dotGeneral dot_S8x128x512x8x64_S8x8x128x64x512_S8x128x8x64x64_2_4_4_3_013_021 none v
    (extractStridedSlice S8x8x128x64x512 ![0, 0, 0, 0, 0] p slices_S8x8x128x64x528_S8x8x128x64x512_0_0_0_0_0)) transposes_S8x128x8x64x64_S8x128x64x8x64_0_1_4_2_3
def omT (T : FVec Ideal S16x3072 .bf16) (p : FVec Ideal S8x8x128x64x528 .f32) : FVec Ideal S8x128x64x8x64 .f32 :=
  transpose S8x128x64x8x64 [2, 3, 4, 0, 1] (Host.dotGeneral dot_S16x8x64_S8x8x128x64x16_S8x64x8x128x64_0_4_2_023_1_1 none
    (shapeCast _ (extractStridedSlice S16x512 ![0, 1024] (extf .f32 T bitsLt_bf16_f32) slices_S16x3072_S16x512_0_1024) shapeCasts_S16x512_S16x8x64)
    (extractStridedSlice S8x8x128x64x16 ![0, 0, 0, 0, 512] p slices_S8x8x128x64x528_S8x8x128x64x16_0_0_0_0_512)) transposes_S8x64x8x128x64_S8x128x64x8x64_2_3_4_0_1
def finT (x y : FVec Ideal S8x128x64x8x64 .f32) : FVec Ideal S8x8192x512 .bf16 := truncf .bf16 (shapeCast _ (addf x y) shapeCasts_S8x128x64x8x64_S8x8192x512) bitsLt_bf16_f32

/-- The scores of the arguments, and the reference's result. -/
def scT (P : FVec Ideal S8x8192x3072 .bf16) (T : FVec Ideal S16x3072 .bf16) (B : FVec Ideal S8x8x64x512 .f32) (Mb : FVec Ideal S4x128x16 .f32) : FVec Ideal S8x8x128x64x528 .f32 :=
  catT (sT (qT P) (kT P) (biasT B)) (mT T (qT P) Mb)
def resT (P : FVec Ideal S8x8192x3072 .bf16) (T : FVec Ideal S16x3072 .bf16) (B : FVec Ideal S8x8x64x512 .f32) (Mb : FVec Ideal S4x128x16 .f32) : FVec Ideal S8x8192x512 .bf16 :=
  finT (oT (vT P) (smT (scT P T B Mb))) (omT T (smT (scT P T B Mb)))

/-- The reference computes it. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v63) = resT (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Cert.NaReferenceIdeal.Value.run (F := Ideal) m ρ

end Cert.Proof.NaRef

end
-- ==== Proof.NaRefS.lean ====
/-
  The stages of the neighbourhood attention's reference read at an index.
-/
module

public import proofs.«01_k».proof.Proof.NaRef

@[expose] public section

set_option maxRecDepth 16384

noncomputable section

namespace Cert.Proof.NaRef

open Cert.NaReferenceIdeal Cert.NaReferenceIdeal.Gen Idealize.ShloMosaic
open scoped BigOperators

/-- Token `w` of grid row `i`, and lane `d` of head `h`, past `o`. -/
def tok (i : Fin 128) (w : Fin 64) : Fin 8192 := ⟨64 * i.val + w.val, by have := i.isLt; have := w.isLt; omega⟩
def col (o : ℕ) (ho : o ≤ 2560) (h : Fin 8) (d : Fin 64) : Fin 3072 := ⟨o + (64 * h.val + d.val), by have := h.isLt; have := d.isLt; omega⟩

theorem biasT_apply (B : FVec Ideal S8x8x64x512 .f32) (h : Fin 8) (i : Fin 128) (w : Fin 64) (n : Fin 512) :
    biasT B (ix4 h i w n) = B (ix4 h (place i) w n) := by
  have hi := i.isLt
  have e (k : Fin 8) (hk : k.val = (place i).val) : B (ix4 h k w n) = B (ix4 h (place i) w n) := by
    congr 2; exact Fin.ext hk
  pointwise [biasT]
  split_ifs <;> refine e _ ?_ <;> simp only [place, first] <;> omega
theorem sT_apply (q : FVec Ideal S8x128x64x8x64 .f32) (k : FVec Ideal S8x128x512x8x64 .f32) (B : FVec Ideal S8x128x64x512 .f32)
    (b : Fin 8) (h : Fin 8) (i : Fin 128) (w : Fin 64) (n : Fin 512) :
    sT q k B (ix5 b h i w n) = (∑ d : Fin 64, q (ix5 b i w h d) * k (ix5 b i n h d)) + B (ix4 h i w n) := by
  pointwise [sT]
theorem mT_apply (T : FVec Ideal S16x3072 .bf16) (q : FVec Ideal S8x128x64x8x64 .f32) (B : FVec Ideal S4x128x16 .f32)
    (b : Fin 8) (h : Fin 8) (i : Fin 128) (w : Fin 64) (j : Fin 16) :
    mT T q B (ix5 b h i w j) = (∑ d : Fin 64, T (ix2 j (col 512 (by norm_num) h d)) * q (ix5 b i w h d))
      + B (ix3 ⟨h.val / 2, by have := h.isLt; omega⟩ ⟨64 * (h.val % 2) + w.val, by have := w.isLt; omega⟩ j) := by
  pointwise [mT, col]
  simp only [Nat.mul_comm 64]
theorem expT_apply (s : FVec Ideal S8x8x128x64x528 .f32) (b : Fin 8) (h : Fin 8) (i : Fin 128) (w : Fin 64) (n : Fin 528) :
    expT s (ix5 b h i w n) = Ideal.exp (s (ix5 b h i w n) - maxT s (ix4 b h i w)) := by
  pointwise [expT]
theorem smT_apply (s : FVec Ideal S8x8x128x64x528 .f32) (b : Fin 8) (h : Fin 8) (i : Fin 128) (w : Fin 64) (n : Fin 528) :
    smT s (ix5 b h i w n) = Ideal.div (expT s (ix5 b h i w n)) (∑ k : Fin 528, expT s (ix5 b h i w k)) := by
  pointwise [smT]
theorem oT_apply (v : FVec Ideal S8x128x512x8x64 .f32) (p : FVec Ideal S8x8x128x64x528 .f32) (b : Fin 8) (i : Fin 128) (w : Fin 64) (h : Fin 8) (e : Fin 64) :
    oT v p (ix5 b i w h e) = ∑ n : Fin 512, v (ix5 b i n h e) * p (ix5 b h i w (Fin.castAdd 16 n)) := by
  pointwise [oT]
  rfl
theorem omT_apply (T : FVec Ideal S16x3072 .bf16) (p : FVec Ideal S8x8x128x64x528 .f32) (b : Fin 8) (i : Fin 128) (w : Fin 64) (h : Fin 8) (e : Fin 64) :
    omT T p (ix5 b i w h e) = ∑ j : Fin 16, T (ix2 j (col 1024 (by norm_num) h e)) * p (ix5 b h i w (Fin.natAdd 512 j)) := by
  pointwise [omT, col]
  simp only [Nat.mul_comm 64]
  rfl
theorem finT_apply (x y : FVec Ideal S8x128x64x8x64 .f32) (b : Fin 8) (i : Fin 128) (w : Fin 64) (h : Fin 8) (e : Fin 64) :
    finT x y (ix3 b (tok i w) ⟨64 * h.val + e.val, by have := h.isLt; have := e.isLt; omega⟩) = x (ix5 b i w h e) + y (ix5 b i w h e) := by
  pointwise [finT, tok]
theorem catT_lo (s : FVec Ideal S8x8x128x64x512 .f32) (t : FVec Ideal S8x8x128x64x16 .f32) (b : Fin 8) (h : Fin 8) (i : Fin 128) (w : Fin 64) (n : Fin 512) :
    catT s t (ix5 b h i w (Fin.castAdd 16 n)) = s (ix5 b h i w n) := by
  pointwise [catT]
  exact dif_pos n.isLt
theorem catT_hi (s : FVec Ideal S8x8x128x64x512 .f32) (t : FVec Ideal S8x8x128x64x16 .f32) (b : Fin 8) (h : Fin 8) (i : Fin 128) (w : Fin 64) (j : Fin 16) :
    catT s t (ix5 b h i w (Fin.natAdd 512 j)) = t (ix5 b h i w j) := by
  pointwise [catT]
  have hn : ¬ (Fin.natAdd 512 j).val < 512 := by rw [Fin.val_natAdd]; omega
  refine (dif_neg hn).trans ?_
  refine congrArg (fun k => t (ix5 b h i w k)) (Fin.ext ?_)
  show (Fin.natAdd 512 j).val - 512 = j.val
  rw [Fin.val_natAdd]; omega

/-- The maximum along the last axis, from `⊥`: for any sizes. -/
theorem hostMax {n0 n1 n2 n3 n4 : ℕ} {u : Shape} (x : FVec Ideal ⟨5, ![n0, n1, n2, n3, n4]⟩ .f32) (init : FVec Ideal u .f32)
    (hR : (⟨5, ![n0, n1, n2, n3, n4]⟩ : Shape).ReducesTo [4] ⟨4, ![n0, n1, n2, n3]⟩) (hu : 0 < u.numel) (hi : init (Shape.Idx.first hu) = (⊥ : EReal))
    (a : Fin n0) (b : Fin n1) (c : Fin n2) (d : Fin n3) (z : FVec Ideal ⟨4, ![n0, n1, n2, n3]⟩ .f32) (hz : z (ix4 a b c d) = (⊥ : EReal)) :
    maximumf z (Host.reduce FloatOps.maximumf x init hR hu) (ix4 a b c d) = NaMath.top fun k => x (ix5 a b c d k) := by
  show max (z (ix4 a b c d)) (Host.reduce max x init hR hu (ix4 a b c d)) = _
  rw [hz, Host.reduce_eq_fold, hR.fold_fiber_r5_a4, hi]
  exact max_eq_right bot_le

theorem maxT_apply (s : FVec Ideal S8x8x128x64x528 .f32) (b : Fin 8) (h : Fin 8) (i : Fin 128) (w : Fin 64) :
    maxT s (ix4 b h i w) = NaMath.top fun k => s (ix5 b h i w k) := by
  have hN : Ideal.ofBits FTy.f32 0xFF800000#32 = (⊥ : EReal) := by simp [Ideal.ofBits, Ideal.ieee]
  have hz : broadcastInDim S8x8x128x64 ![] bcast_S_S8x8x128x64 (constant (F := Ideal) S_ .f32 0xFF800000#32) (ix4 b h i w) = (⊥ : EReal) := by
    pointwise
    exact hN
  unfold maxT
  exact hostMax s _ _ h_S_ hN b h i w _ hz

end Cert.Proof.NaRef

end
-- ==== Proof.NaRefAt.lean ====
/-
  The windows of the neighbourhood attention's reference read at an index.
-/
module

public import proofs.«01_k».proof.Proof.NaRefS

@[expose] public section

set_option maxRecDepth 16384

noncomputable section

namespace Cert.Proof.NaRef

open Cert.NaReferenceIdeal Cert.NaReferenceIdeal.Gen Idealize.ShloMosaic
open scoped BigOperators

/-- Eight blocks, -/
def eightOf (y : Fin 8 → FVec Ideal S8x121x64x1024 .f32) : List ((s : Shape) × (s.Idx → Elt Ideal .f32)) :=
  [⟨S8x121x64x1024, y 0⟩, ⟨S8x121x64x1024, y 1⟩, ⟨S8x121x64x1024, y 2⟩, ⟨S8x121x64x1024, y 3⟩, ⟨S8x121x64x1024, y 4⟩, ⟨S8x121x64x1024, y 5⟩, ⟨S8x121x64x1024, y 6⟩, ⟨S8x121x64x1024, y 7⟩]

theorem eight_get (y : Fin 8 → FVec Ideal S8x121x64x1024 .f32) : ∀ a : Fin 8, (eightOf y)[a.val]'a.isLt = ⟨S8x121x64x1024, y a⟩
  | 0 => rfl | 1 => rfl | 2 => rfl | 3 => rfl | 4 => rfl | 5 => rfl | 6 => rfl | 7 => rfl

theorem eight_pre (y : Fin 8 → FVec Ideal S8x121x64x1024 .f32) : ∀ a : Fin 8,
    ((((eightOf y).take a.val).map (·.1)).map fun s => if h : s.rank = S8x121x512x1024.rank then s.size ((2 : Fin 4).cast h.symm) else 0).sum = 64 * a.val
  | 0 => rfl | 1 => rfl | 2 => rfl | 3 => rfl | 4 => rfl | 5 => rfl | 6 => rfl | 7 => rfl

/-- Eight blocks of 64 tokens side by side, read at token `n`: for any blocks. -/
theorem eight (y : Fin 8 → FVec Ideal S8x121x64x1024 .f32) (b : Fin 8) (f : Fin 121) (a : Fin 8) (w : Fin 64) (l : Fin 1024) :
    concatenate S8x121x512x1024 2 (eightOf y)
      concatenates_S8x121x64x1024_S8x121x64x1024_S8x121x64x1024_S8x121x64x1024_S8x121x64x1024_S8x121x64x1024_S8x121x64x1024_S8x121x64x1024_S8x121x512x1024_d2
      (ix4 b f ⟨64 * a.val + w.val, by have := a.isLt; have := w.isLt; omega⟩ l) = y a (ix4 b f w l) := by
  refine concatenate_apply_piece (t := S8x121x512x1024) (2 : Fin 4) (eightOf y) _ (ix4 b f (⟨64 * a.val + w.val, by have := a.isLt; have := w.isLt; omega⟩ : Fin 512) l) a.val a.isLt S8x121x64x1024 (y a) (eight_get y a) rfl (64 * a.val) (eight_pre y a) (ix4 b f w l) ?_ rfl
  intro c hc
  match c, hc with
  | ⟨0, _⟩, _ => rfl
  | ⟨1, _⟩, _ => rfl
  | ⟨2, _⟩, h => exact absurd rfl h
  | ⟨3, _⟩, _ => rfl

/-- The blocks of the windows. -/
def pieceT (x : FVec Ideal S8x128x64x1024 .f32) (a : Fin 8) : FVec Ideal S8x121x64x1024 .f32 :=
  match a with
  | 0 => extractStridedSlice S8x121x64x1024 ![0, 0, 0, 0] x slices_S8x128x64x1024_S8x121x64x1024_0_0_0_0
  | 1 => extractStridedSlice S8x121x64x1024 ![0, 1, 0, 0] x slices_S8x128x64x1024_S8x121x64x1024_0_1_0_0
  | 2 => extractStridedSlice S8x121x64x1024 ![0, 2, 0, 0] x slices_S8x128x64x1024_S8x121x64x1024_0_2_0_0
  | 3 => extractStridedSlice S8x121x64x1024 ![0, 3, 0, 0] x slices_S8x128x64x1024_S8x121x64x1024_0_3_0_0
  | 4 => extractStridedSlice S8x121x64x1024 ![0, 4, 0, 0] x slices_S8x128x64x1024_S8x121x64x1024_0_4_0_0
  | 5 => extractStridedSlice S8x121x64x1024 ![0, 5, 0, 0] x slices_S8x128x64x1024_S8x121x64x1024_0_5_0_0
  | 6 => extractStridedSlice S8x121x64x1024 ![0, 6, 0, 0] x slices_S8x128x64x1024_S8x121x64x1024_0_6_0_0
  | 7 => extractStridedSlice S8x121x64x1024 ![0, 7, 0, 0] x slices_S8x128x64x1024_S8x121x64x1024_0_7_0_0

theorem pieceT_apply (x : FVec Ideal S8x128x64x1024 .f32) (a : Fin 8) (b : Fin 8) (f : Fin 121) (w : Fin 64) (l : Fin 1024) :
    pieceT x a (ix4 b f w l) = x (ix4 b ⟨a.val + f.val, by have := a.isLt; have := f.isLt; omega⟩ w l) := by
  fin_cases a <;> refine congrArg x (funext fun c => Fin.ext ?_) <;>
    (match c with
    | ⟨0, _⟩ => exact Nat.zero_add _
    | ⟨1, _⟩ => rfl
    | ⟨2, _⟩ => exact Nat.zero_add _
    | ⟨3, _⟩ => exact Nat.zero_add _)

theorem atT_apply (x : FVec Ideal S8x128x64x1024 .f32) (b : Fin 8) (f : Fin 121) (n : Fin 512) (l : Fin 1024) :
    atT x (ix4 b f n l) = x (ix4 b ⟨n.val / 64 + f.val, by have := f.isLt; have := n.isLt; omega⟩ ⟨n.val % 64, by omega⟩ l) := by
  have hn := n.isLt
  have h := eight (pieceT x) b f ⟨n.val / 64, by omega⟩ ⟨n.val % 64, by omega⟩ l
  have e : (⟨64 * (n.val / 64) + n.val % 64, by omega⟩ : Fin 512) = n := Fin.ext (Nat.div_add_mod _ _)
  rw [pieceT_apply] at h
  simp only [e] at h
  exact h

end Cert.Proof.NaRef

end
-- ==== Proof.NaRefWin.lean ====
/-
  The stages of the neighbourhood attention's reference read at an index.
-/
module

public import proofs.«01_k».proof.Proof.NaRefAt

@[expose] public section

set_option maxRecDepth 16384

noncomputable section

namespace Cert.Proof.NaRef

open Cert.NaReferenceIdeal Cert.NaReferenceIdeal.Gen Idealize.ShloMosaic
open scoped BigOperators

theorem qT_apply (P : FVec Ideal S8x8192x3072 .bf16) (b : Fin 8) (i : Fin 128) (w : Fin 64) (h : Fin 8) (d : Fin 64) :
    qT P (ix5 b i w h d) = P (ix3 b (tok i w) (col 0 (by norm_num) h d)) := by
  pointwise [qT, tok, col]
  simp only [Nat.mul_comm 64]
theorem kvT_apply (P : FVec Ideal S8x8192x3072 .bf16) (b : Fin 8) (i : Fin 128) (w : Fin 64) (l : Fin 1024) :
    kvT P (ix4 b i w l) = P (ix3 b (tok i w) ⟨512 + l.val, by have := l.isLt; omega⟩) := by
  pointwise [kvT, tok]
  simp only [Nat.mul_comm 64]
theorem padT_apply (z : FVec Ideal S8x121x512x1024 .f32) (b : Fin 8) (i : Fin 128) (n : Fin 512) (l : Fin 1024) :
    padT z (ix4 b i n l) = z (ix4 b ⟨first i, by have := first_le i; omega⟩ n l) := by
  have hi := i.isLt
  have e (k : Fin 121) (hk : k.val = first i) : z (ix4 b k n l) = z (ix4 b ⟨first i, by have := first_le i; omega⟩ n l) := by
    congr 2; exact Fin.ext hk
  pointwise [padT]
  split_ifs <;> refine e _ ?_ <;> simp only [first] <;> omega

/-- Token `n` of the window of grid row `i`. -/
def wtok (i : Fin 128) (n : Fin 512) : Fin 8192 := ⟨64 * first i + n.val, by have := first_le i; have := n.isLt; omega⟩

theorem win_apply (P : FVec Ideal S8x8192x3072 .bf16) (b : Fin 8) (i : Fin 128) (n : Fin 512) (l : Fin 1024) :
    padT (atT (kvT P)) (ix4 b i n l) = P (ix3 b (wtok i n) ⟨512 + l.val, by have := l.isLt; omega⟩) := by
  rw [padT_apply, atT_apply, kvT_apply]
  congr 2
  refine Fin.ext ?_
  show 64 * (n.val / 64 + first i) + n.val % 64 = 64 * first i + n.val
  omega
theorem kT_apply (P : FVec Ideal S8x8192x3072 .bf16) (b : Fin 8) (i : Fin 128) (n : Fin 512) (h : Fin 8) (d : Fin 64) :
    kT P (ix5 b i n h d) = P (ix3 b (wtok i n) (col 512 (by norm_num) h d)) := by
  have e : kT P (ix5 b i n h d) = padT (atT (kvT P)) (ix4 b i n ⟨64 * h.val + d.val, by have := h.isLt; have := d.isLt; omega⟩) := by
    pointwise [kT]
    simp only [Nat.mul_comm 64]
  rw [e, win_apply]; rfl
theorem vT_apply (P : FVec Ideal S8x8192x3072 .bf16) (b : Fin 8) (i : Fin 128) (n : Fin 512) (h : Fin 8) (d : Fin 64) :
    vT P (ix5 b i n h d) = P (ix3 b (wtok i n) (col 1024 (by norm_num) h d)) := by
  have e : vT P (ix5 b i n h d) = padT (atT (kvT P)) (ix4 b i n ⟨512 + (64 * h.val + d.val), by have := h.isLt; have := d.isLt; omega⟩) := by
    pointwise [vT]
    simp only [Nat.mul_comm 64]
  rw [e, win_apply]
  congr 2
  refine Fin.ext ?_
  show 512 + (512 + (64 * h.val + d.val)) = 1024 + (64 * h.val + d.val)
  omega

end Cert.Proof.NaRef

end
-- ==== Proof.NaTarget.lean ====
/-
  The neighbourhood attention's result as a function of its arguments, and the reference as that function.
-/
module

public import proofs.«01_k».proof.Proof.NaRefWin

@[expose] public section

set_option maxRecDepth 16384

noncomputable section

namespace Cert.Proof.NaRef

open Cert.NaReferenceIdeal Cert.NaReferenceIdeal.Gen Idealize.ShloMosaic
open scoped BigOperators

variable (P : S8x8192x3072.Idx → EReal) (T : S16x3072.Idx → EReal) (B : S8x8x64x512.Idx → EReal) (Mb : S4x128x16.Idx → EReal)

/-- The score of token `w` of grid row `i` against token `n` of its window, and against meta token `j`. -/
def score (b : Fin 8) (i : Fin 128) (w : Fin 64) (h : Fin 8) (n : Fin 512) : EReal :=
  (∑ d : Fin 64, P (ix3 b (tok i w) (col 0 (by norm_num) h d)) * P (ix3 b (wtok i n) (col 512 (by norm_num) h d))) + B (ix4 h (place i) w n)
def scoreM (b : Fin 8) (i : Fin 128) (w : Fin 64) (h : Fin 8) (j : Fin 16) : EReal :=
  (∑ d : Fin 64, P (ix3 b (tok i w) (col 0 (by norm_num) h d)) * T (ix2 j (col 512 (by norm_num) h d)))
    + Mb (ix3 ⟨h.val / 2, by have := h.isLt; omega⟩ ⟨64 * (h.val % 2) + w.val, by have := w.isLt; omega⟩ j)

/-- The result: the softmax average of the window's and the meta tokens' values. -/
def naAt (b : Fin 8) (i : Fin 128) (w : Fin 64) (h : Fin 8) (e : Fin 64) : EReal :=
  NaMath.avg (score P B b i w h) (scoreM P T Mb b i w h) (fun n => P (ix3 b (wtok i n) (col 1024 (by norm_num) h e))) (fun j => T (ix2 j (col 1024 (by norm_num) h e)))

/-- What makes the scores tame: none is `⊤`, those against the meta tokens are reals. -/
structure Tame : Prop where
  loc : ∀ b i w h n, score P B b i w h n ≠ ⊤
  met : ∀ b i w h j, ∃ r : ℝ, scoreM P T Mb b i w h j = r

theorem scT_lo (b : Fin 8) (i : Fin 128) (w : Fin 64) (h : Fin 8) (n : Fin 512) :
    scT P T B Mb (ix5 b h i w (Fin.castAdd 16 n)) = score P B b i w h n := by
  unfold scT
  rw [catT_lo, sT_apply, biasT_apply]
  simp only [qT_apply, kT_apply]
  rfl
theorem scT_hi (b : Fin 8) (i : Fin 128) (w : Fin 64) (h : Fin 8) (j : Fin 16) :
    scT P T B Mb (ix5 b h i w (Fin.natAdd 512 j)) = scoreM P T Mb b i w h j := by
  unfold scT
  rw [catT_hi, mT_apply]
  simp only [qT_apply]
  unfold scoreM
  congr 1
  exact Finset.sum_congr rfl fun d _ => mul_comm _ _

/-- The reference's result at an index. -/
theorem resT_apply (H : Tame P T B Mb) (b : Fin 8) (i : Fin 128) (w : Fin 64) (h : Fin 8) (e : Fin 64) :
    resT P T B Mb (ix3 b (tok i w) ⟨64 * h.val + e.val, by have := h.isLt; have := e.isLt; omega⟩) = naAt P T B Mb b i w h e := by
  have hM : maxT (scT P T B Mb) (ix4 b h i w) = max (NaMath.top (score P B b i w h)) (NaMath.top (scoreM P T Mb b i w h)) := by
    rw [maxT_apply]
    refine (NaMath.top_append (a := 512) (b := 16) _).trans ?_
    simp only [scT_lo, scT_hi]
  have hL : (∑ k : Fin 528, expT (scT P T B Mb) (ix5 b h i w k))
      = (∑ n : Fin 512, Ideal.exp (score P B b i w h n - maxT (scT P T B Mb) (ix4 b h i w))) + ∑ j : Fin 16, Ideal.exp (scoreM P T Mb b i w h j - maxT (scT P T B Mb) (ix4 b h i w)) := by
    refine (Fin.sum_univ_add (a := 512) (b := 16) _).trans ?_
    simp only [expT_apply, scT_lo, scT_hi]
  unfold resT naAt
  rw [finT_apply, oT_apply, omT_apply]
  refine Eq.trans ?_ (NaMath.avg_eq (by norm_num) _ _ _ _ (H.loc b i w h) (H.met b i w h) _ _ hM hL).symm
  refine congrArg₂ (· + ·) (Finset.sum_congr rfl fun n _ => ?_) (Finset.sum_congr rfl fun j _ => ?_)
  · rw [vT_apply, smT_apply, expT_apply, scT_lo]
    exact mul_comm _ _
  · rw [smT_apply, expT_apply, scT_hi]
    exact mul_comm _ _

end Cert.Proof.NaRef

end
-- ==== Proof.NaPoint.lean ====
/-
  One row of one grid point of the neighbourhood attention, of the arguments.
-/
module

public import proofs.«01_k».proof.Proof.NaBlock
public import proofs.«01_k».proof.Proof.NaTarget

@[expose] public section

set_option maxRecDepth 16384

noncomputable section

namespace Cert.Proof.NaPoint

open Cert.NaIdeal Cert.NaIdeal.Gen Cert.NaIdeal.Hand Idealize.ShloMosaic Idealize.ShloMosaic.TcCoe Idealize.SL.Sem
open Cert.Proof.NaBlocks Cert.Proof.NaRow Cert.Proof.NaBlock
open Cert.Proof.NaRef (naAt score scoreM tok col place)
open scoped BigOperators

variable (m : (ℓ : Loc nD τ sig) → Buf (Elt Ideal) ℓ) (c : Dev nD) (t : Fin cfg0.N)

/-- The grid row of row `k` of the point's block, and the head of the pair's half `u`. -/
def grow (k : Fin 8) : Fin 128 := ⟨8 * (t.val % 16) + k.val, by have := k.isLt; omega⟩
def hd (u : Fin 2) : Fin 8 := ⟨2 * (pair t).val + u.val, by have := (pair t).isLt; have := u.isLt; omega⟩

theorem col_eq (o : ℕ) (ho : o ≤ 2560) (u : Fin 2) (d : Fin 64) : pcol o ho (pair t) (lane u d) = col o ho (hd t u) d :=
  Fin.ext (by show o + 128 * (pair t).val + (64 * u.val + d.val) = o + (64 * (2 * (pair t).val + u.val) + d.val); omega)
theorem wtok_eq (k : Fin 8) (n : Fin 512) : NaBlock.wtok t k n = NaRef.wtok (grow t k) n := rfl
theorem tok_eq (k : Fin 8) (w : Fin 64) : trow (t.val % 16) (by omega) ⟨64 * k.val + w.val, by have := k.isLt; have := w.isLt; omega⟩ = tok (grow t k) w :=
  Fin.ext (by show 512 * (t.val % 16) + (64 * k.val + w.val) = 64 * (8 * (t.val % 16) + k.val) + w.val; omega)

theorem q_at (k : Fin 8) (w : Fin 64) (u : Fin 2) (d : Fin 64) :
    View.readAt (Elt Ideal) (buf0 t).view (Rect.unit (s := S1x512x128) ![0, 64 * k.val, 0] S1x64x128.size (inbRow k)).toLoadRect ((whole0 t).unread (iblk m c 0 t)) (ix3 0 w (lane u d))
      = m ((c : Thread nD τ).loc main_arg0) (ix3 (bat t) (tok (grow t k) w) (col 0 (by norm_num) (hd t u) d)) := by
  rw [(whole0 t).readAt_unread, ← tok_eq, ← col_eq]
  refine Eq.trans ?_ (blk0 m c t _ _)
  refine congrArg (iblk m c 0 t) (funext fun a => Fin.ext ?_)
  match a with
  | ⟨0, _⟩ => rfl
  | ⟨1, _⟩ => show 64 * k.val + 1 * w.val = 64 * k.val + w.val; omega
  | ⟨2, _⟩ => show 0 + 1 * (lane u d).val = (lane u d).val; omega

theorem kw_at (k : Fin 8) (n : Fin 512) (u : Fin 2) (d : Fin 64) :
    View.readCov scr0.view (scratch (Hand.all (buf1 t).view ((whole1 t).unread (iblk m c 1 t))) (Hand.all (buf2 t).view ((whole2 t).unread (iblk m c 2 t))) (Hand.all (buf3 t).view ((whole3 t).unread (iblk m c 3 t))))
      (Rect.unit (s := S1536x128) (k0_off1 (grid0.coords t) (BitVec.ofNat 32 k.val)) S512x128.size (k0_off1_inb (grid0.coords t) k)).toLoadRect (ix2 n (lane u d))
      = m ((c : Thread nD τ).loc main_arg0) (ix3 (bat t) (NaRef.wtok (grow t k) n) (col 512 (by norm_num) (hd t u) d)) := by
  rw [← wtok_eq, ← col_eq]
  exact win_at t (fun r l => m ((c : Thread nD τ).loc main_arg0) (ix3 (bat t) r (pcol 512 (by norm_num) (pair t) l))) _ _ _
    (fun n l => (all_at (whole1 t) _ n l).trans (blk1 m c t n l)) (fun n l => (all_at (whole2 t) _ n l).trans (blk2 m c t n l))
    (fun n l => (all_at (whole3 t) _ n l).trans (blk3 m c t n l)) _ k n (lane u d)
theorem vw_at (k : Fin 8) (n : Fin 512) (u : Fin 2) (d : Fin 64) :
    View.readCov scr1.view (scratch (Hand.all (buf4 t).view ((whole4 t).unread (iblk m c 4 t))) (Hand.all (buf5 t).view ((whole5 t).unread (iblk m c 5 t))) (Hand.all (buf6 t).view ((whole6 t).unread (iblk m c 6 t))))
      (Rect.unit (s := S1536x128) (k0_off1 (grid0.coords t) (BitVec.ofNat 32 k.val)) S512x128.size (k0_off1_inb (grid0.coords t) k)).toLoadRect (ix2 n (lane u d))
      = m ((c : Thread nD τ).loc main_arg0) (ix3 (bat t) (NaRef.wtok (grow t k) n) (col 1024 (by norm_num) (hd t u) d)) := by
  rw [← wtok_eq, ← col_eq]
  exact win_at t (fun r l => m ((c : Thread nD τ).loc main_arg0) (ix3 (bat t) r (pcol 1024 (by norm_num) (pair t) l))) _ _ _
    (fun n l => (all_at (whole4 t) _ n l).trans (blk4 m c t n l)) (fun n l => (all_at (whole5 t) _ n l).trans (blk5 m c t n l))
    (fun n l => (all_at (whole6 t) _ n l).trans (blk6 m c t n l)) _ k n (lane u d)

theorem km_at (j : Fin 16) (u : Fin 2) (d : Fin 64) :
    View.readAt (Elt Ideal) (buf7 t).view (Rect.unit ![0, 0] S16x128.size inb_S16x128_S16x128_0_0).toLoadRect ((whole7 t).unread (iblk m c 7 t)) (ix2 j (lane u d))
      = m ((c : Thread nD τ).loc main_arg1) (ix2 j (col 512 (by norm_num) (hd t u) d)) := by
  rw [(whole7 t).readAt_unread, ← col_eq]
  refine Eq.trans ?_ (blk7 m c t _ _)
  refine congrArg (iblk m c 7 t) (funext fun a => Fin.ext ?_)
  match a with
  | ⟨0, _⟩ => show 0 + 1 * j.val = j.val; omega
  | ⟨1, _⟩ => show 0 + 1 * (lane u d).val = (lane u d).val; omega
theorem vm_at (j : Fin 16) (u : Fin 2) (d : Fin 64) :
    View.readAt (Elt Ideal) (buf8 t).view (Rect.unit ![0, 0] S16x128.size inb_S16x128_S16x128_0_0).toLoadRect ((whole8 t).unread (iblk m c 8 t)) (ix2 j (lane u d))
      = m ((c : Thread nD τ).loc main_arg1) (ix2 j (col 1024 (by norm_num) (hd t u) d)) := by
  rw [(whole8 t).readAt_unread, ← col_eq]
  refine Eq.trans ?_ (blk8 m c t _ _)
  refine congrArg (iblk m c 8 t) (funext fun a => Fin.ext ?_)
  match a with
  | ⟨0, _⟩ => show 0 + 1 * j.val = j.val; omega
  | ⟨1, _⟩ => show 0 + 1 * (lane u d).val = (lane u d).val; omega

theorem mb_at (u : Fin 2) (w : Fin 64) (j : Fin 16) :
    k0_pay8 (View.readAt (Elt Ideal) (buf10 t).view (Rect.unit ![0, 0, 0] S1x128x16.size inb_S1x128x16_S1x128x16_0_0_0).toLoadRect ((whole10 t).unread (iblk m c 10 t))) (ix2 (stk u w) j)
      = m ((c : Thread nD τ).loc main_arg3) (ix3 ⟨(hd t u).val / 2, by have := (hd t u).isLt; omega⟩ ⟨64 * ((hd t u).val % 2) + w.val, by have := w.isLt; omega⟩ j) := by
  have hu := u.isLt
  have e1 : (⟨(hd t u).val / 2, by have := (hd t u).isLt; omega⟩ : Fin 4) = pair t := Fin.ext (by show (2 * (pair t).val + u.val) / 2 = _; omega)
  have e2 : (⟨64 * ((hd t u).val % 2) + w.val, by have := w.isLt; omega⟩ : Fin 128) = stk u w :=
    Fin.ext (by show 64 * ((2 * (pair t).val + u.val) % 2) + w.val = 64 * u.val + w.val; omega)
  rw [e1, e2, pay8_apply, (whole10 t).readAt_unread]
  refine Eq.trans ?_ (blk10 m c t _ _)
  refine congrArg (iblk m c 10 t) (funext fun a => Fin.ext ?_)
  match a with
  | ⟨0, _⟩ => rfl
  | ⟨1, _⟩ => show 0 + 1 * (stk u w).val = (stk u w).val; omega
  | ⟨2, _⟩ => show 0 + 1 * j.val = j.val; omega

theorem place_val (k : Fin 8) : (place (grow t k)).val = 8 * (t.val % 16) + k.val - min 120 (8 * (t.val % 16) + k.val - 4) := rfl
theorem b0_at (k : Fin 8) (w : Fin 64) (n : Fin 512) :
    View.readAt (Elt Ideal) (buf9 t).view (Rect.unit (s := S2x8x64x512) (k0_off2 (grid0.coords t) (BitVec.ofNat 32 k.val)) S1x1x64x512.size (k0_off2_inb (grid0.coords t) k)).toLoadRect ((whole9 t).unread (iblk m c 9 t)) (ix4 0 0 w n)
      = m ((c : Thread nD τ).loc main_arg2) (ix4 (hd t 0) (place (grow t k)) w n) := by
  have o (x : Fin 4) : k0_off2 (grid0.coords t) (BitVec.ofNat 32 k.val) x = (![0, 8 * (t.val % 16) + k.val - min 120 (8 * (t.val % 16) + k.val - 4), 0, 0] : Fin 4 → ℕ) x := by
    rw [off2_eq, coords2]
  rw [(whole9 t).readAt_unread]
  refine Eq.trans ?_ (blk9 m c t 0 (place (grow t k)) w n)
  refine congrArg (iblk m c 9 t) (funext fun a => Fin.ext ?_)
  match a with
  | ⟨0, _⟩ => show k0_off2 (grid0.coords t) (BitVec.ofNat 32 k.val) (0 : Fin 4) + 1 * 0 = 0; rw [o]; rfl
  | ⟨1, _⟩ => show k0_off2 (grid0.coords t) (BitVec.ofNat 32 k.val) (1 : Fin 4) + 1 * 0 = (place (grow t k)).val; rw [o, place_val]; rfl
  | ⟨2, _⟩ => show k0_off2 (grid0.coords t) (BitVec.ofNat 32 k.val) (2 : Fin 4) + 1 * w.val = w.val; rw [o]; show 0 + 1 * w.val = w.val; omega
  | ⟨3, _⟩ => show k0_off2 (grid0.coords t) (BitVec.ofNat 32 k.val) (3 : Fin 4) + 1 * n.val = n.val; rw [o]; show 0 + 1 * n.val = n.val; omega
theorem b1_at (k : Fin 8) (w : Fin 64) (n : Fin 512) :
    View.readAt (Elt Ideal) (buf9 t).view (Rect.unit (s := S2x8x64x512) (k0_off3 (grid0.coords t) (BitVec.ofNat 32 k.val)) S1x1x64x512.size (k0_off3_inb (grid0.coords t) k)).toLoadRect ((whole9 t).unread (iblk m c 9 t)) (ix4 0 0 w n)
      = m ((c : Thread nD τ).loc main_arg2) (ix4 (hd t 1) (place (grow t k)) w n) := by
  have o (x : Fin 4) : k0_off3 (grid0.coords t) (BitVec.ofNat 32 k.val) x = (![1, 8 * (t.val % 16) + k.val - min 120 (8 * (t.val % 16) + k.val - 4), 0, 0] : Fin 4 → ℕ) x := by
    rw [off3_eq, coords2]
  rw [(whole9 t).readAt_unread]
  refine Eq.trans ?_ (blk9 m c t 1 (place (grow t k)) w n)
  refine congrArg (iblk m c 9 t) (funext fun a => Fin.ext ?_)
  match a with
  | ⟨0, _⟩ => show k0_off3 (grid0.coords t) (BitVec.ofNat 32 k.val) (0 : Fin 4) + 1 * 0 = 1; rw [o]; rfl
  | ⟨1, _⟩ => show k0_off3 (grid0.coords t) (BitVec.ofNat 32 k.val) (1 : Fin 4) + 1 * 0 = (place (grow t k)).val; rw [o, place_val]; rfl
  | ⟨2, _⟩ => show k0_off3 (grid0.coords t) (BitVec.ofNat 32 k.val) (2 : Fin 4) + 1 * w.val = w.val; rw [o]; show 0 + 1 * w.val = w.val; omega
  | ⟨3, _⟩ => show k0_off3 (grid0.coords t) (BitVec.ofNat 32 k.val) (3 : Fin 4) + 1 * n.val = n.val; rw [o]; show 0 + 1 * n.val = n.val; omega

/-- The row's result. -/
theorem row_eq (k : Fin 8) (w : Fin 64) (u : Fin 2) (l : Fin 64) :
    rowVal m c t k (ix3 0 w (lane u l))
      = naAt (m ((c : Thread nD τ).loc main_arg0)) (m ((c : Thread nD τ).loc main_arg1)) (m ((c : Thread nD τ).loc main_arg2)) (m ((c : Thread nD τ).loc main_arg3))
          (bat t) (grow t k) w (hd t u) l := by
  unfold rowVal naAt
  refine rowOut_eq _ _ _ _ _ _ _ _ u w l _ _ _ _ (fun n => ?_) (fun j => ?_) (fun n => vw_at m c t k n u l) (fun j => vm_at m c t j u l)
  · unfold score
    congr 1
    · exact Finset.sum_congr rfl fun d _ => by rw [q_at, kw_at]
    · match u with
      | 0 => exact b0_at m c t k w n
      | 1 => exact b1_at m c t k w n
  · unfold scoreM
    congr 1
    · exact Finset.sum_congr rfl fun d _ => by rw [q_at, km_at]
    · exact mb_at m c t u w j

end Cert.Proof.NaPoint

end
-- ==== Proof.NaArray.lean ====
/-
  The neighbourhood attention, the whole array: every point writes its block back, and the blocks tile the result.
-/
module

public import proofs.«01_k».proof.Proof.NaPoint

@[expose] public section

set_option maxRecDepth 16384

noncomputable section

namespace Cert.Proof.NaArray

open Cert.NaIdeal Cert.NaIdeal.Gen Cert.NaIdeal.Hand Idealize.ShloMosaic Idealize.ShloMosaic.TcCoe Idealize.SL.Sem
open Idealize.ShloMosaic.Pipeline (Dat)
open Cert.Proof.NaBlocks Cert.Proof.NaRow Cert.Proof.NaBlock Cert.Proof.NaPoint
open Cert.Proof.NaRef (naAt tok)

variable (m : (ℓ : Loc nD τ sig) → Buf (Elt Ideal) ℓ) (ρ : Dev nD → PrngReg)

/-- The result as one function of the arguments: of an index, its batch, grid row, token, head and lane. -/
def resOf (P : S8x8192x3072.Idx → EReal) (T : S16x3072.Idx → EReal) (B : S8x8x64x512.Idx → EReal) (Mb : S4x128x16.Idx → EReal) : S8x8192x512.Idx → EReal := fun y =>
  naAt P T B Mb (y 0) ⟨(y 1).val / 64, by have h : (y 1).val < 8192 := (y 1).isLt; omega⟩ ⟨(y 1).val % 64, Nat.mod_lt _ (by norm_num)⟩
    ⟨(y 2).val / 64, by have h : (y 2).val < 512 := (y 2).isLt; omega⟩ ⟨(y 2).val % 64, Nat.mod_lt _ (by norm_num)⟩

theorem resOf_at (P : S8x8192x3072.Idx → EReal) (T : S16x3072.Idx → EReal) (B : S8x8x64x512.Idx → EReal) (Mb : S4x128x16.Idx → EReal)
    (b : Fin 8) (i : Fin 128) (w : Fin 64) (h : Fin 8) (e : Fin 64) (r : Fin 8192) (q : Fin 512) (hr : r.val = 64 * i.val + w.val) (hq : q.val = 64 * h.val + e.val) :
    resOf P T B Mb (ix3 b r q) = naAt P T B Mb b i w h e := by
  have h1 : (⟨r.val / 64, by have := r.isLt; omega⟩ : Fin 128) = i := Fin.ext (by show r.val / 64 = i.val; have := w.isLt; omega)
  have h2 : (⟨r.val % 64, Nat.mod_lt _ (by norm_num)⟩ : Fin 64) = w := Fin.ext (by show r.val % 64 = w.val; have := w.isLt; omega)
  have h3 : (⟨q.val / 64, by have := q.isLt; omega⟩ : Fin 8) = h := Fin.ext (by show q.val / 64 = h.val; have := e.isLt; omega)
  have h4 : (⟨q.val % 64, Nat.mod_lt _ (by norm_num)⟩ : Fin 64) = e := Fin.ext (by show q.val % 64 = e.val; have := e.isLt; omega)
  show naAt P T B Mb b ⟨r.val / 64, _⟩ ⟨r.val % 64, _⟩ ⟨q.val / 64, _⟩ ⟨q.val % 64, _⟩ = _
  rw [h1, h2, h3, h4]

def G (c : Dev nD) : S8x8192x512.Idx → EReal :=
  resOf (m ((c : Thread nD τ).loc main_arg0)) (m ((c : Thread nD τ).loc main_arg1)) (m ((c : Thread nD τ).loc main_arg2)) (m ((c : Thread nD τ).loc main_arg3))

/-- What a point leaves at an index of its block is `G` there. -/
theorem out_at (c : Dev nD) (t : Fin cfg0.N) (k : Fin 8) (w : Fin 64) (u : Fin 2) (l : Fin 64) :
    View.canon (runAt m c t).1 (ix3 0 ⟨64 * k.val + w.val, by have := k.isLt; have := w.isLt; omega⟩ (lane u l))
      = G m c ((win0_11.blk t).view.emb (ix3 0 ⟨64 * k.val + w.val, by have := k.isLt; have := w.isLt; omega⟩ (lane u l))) := by
  rw [out_row, row_eq, emb11]
  refine (resOf_at _ _ _ _ _ _ _ _ _ _ _ ?_ ?_).symm
  · show 512 * (t.val % 16) + (64 * k.val + w.val) = 64 * (8 * (t.val % 16) + k.val) + w.val; omega
  · show 128 * (pair t).val + (64 * u.val + l.val) = 64 * (2 * (pair t).val + u.val) + l.val; omega

/-- What a point writes back is its block of `G`. -/
theorem flushed_eq (c : Dev nD) (t : Fin cfg0.N) : (dats m 0 c).flushed 11 t = (win0_11.blk t).view.read (Elt Ideal) (G m c) := by
  have key : ∀ (r : Fin 512) (q : Fin 128), View.canon (runAt m c t).1 (ix3 0 r q) = G m c ((win0_11.blk t).view.emb (ix3 0 r q)) := by
    intro r q
    have h := out_at m c t ⟨r.val / 64, by have := r.isLt; omega⟩ ⟨r.val % 64, Nat.mod_lt _ (by norm_num)⟩
      ⟨q.val / 64, by have := q.isLt; omega⟩ ⟨q.val % 64, Nat.mod_lt _ (by norm_num)⟩
    have hr : (⟨64 * (r.val / 64) + r.val % 64, by have := r.isLt; omega⟩ : Fin 512) = r := Fin.ext (by show 64 * (r.val / 64) + r.val % 64 = r.val; omega)
    have hq : lane ⟨q.val / 64, by have := q.isLt; omega⟩ ⟨q.val % 64, Nat.mod_lt _ (by norm_num)⟩ = q := Fin.ext (by show 64 * (q.val / 64) + q.val % 64 = q.val; omega)
    rw [hq] at h
    dsimp only at h
    rw [hr] at h
    exact h
  have e : (dats m 0 c).flushed 11 t = (cfg0.win 11).cut (grid0.coords t) (View.canon (runAt m c t).1) := by
    show (cfg0.win 11).cut (grid0.coords t) ((dats m 0 c).after 11 t) = _
    rw [after_11]
  rw [e]
  funext y
  show View.canon (runAt m c t).1 y = G m c ((win0_11.blk t).view.emb y)
  rw [show y = ix3 0 (y 1) (y 2) from by
    have h : (y 0).val < 1 := (y 0).isLt
    funext a
    match a with
    | ⟨0, _⟩ => exact Fin.ext (by show (y 0).val = 0; omega)
    | ⟨1, _⟩ => rfl
    | ⟨2, _⟩ => rfl]
  exact key _ _

/-- The blocks tile the result. -/
theorem cover (i : S8x8192x512.Idx) : ∃ t : Fin cfg0.N, (cfg0.win 11).flush t = true ∧ i ∈ ((cfg0.win 11).blk t).view.set := by
  have h0 : (i 0).val < 8 := (i 0).isLt
  have h1 : (i 1).val < 8192 := (i 1).isLt
  have h2 : (i 2).val < 512 := (i 2).isLt
  have hN : cfg0.N = 512 := N_0
  refine ⟨⟨(i 2).val / 128 * 128 + (i 0).val * 16 + (i 1).val / 512, by omega⟩, flush0_11 _, ?_⟩
  generalize ht : (⟨(i 2).val / 128 * 128 + (i 0).val * 16 + (i 1).val / 512, _⟩ : Fin cfg0.N) = t
  have hv : t.val = (i 2).val / 128 * 128 + (i 0).val * 16 + (i 1).val / 512 := by rw [← ht]
  obtain ⟨e0, e1, e2⟩ := idx11 t
  show i ∈ ((View.whole main_v0).slice (win0_11.rect t)).set
  rw [View.set_slice_whole, Rect.mem_set_unit]
  intro a
  match a with
  | ⟨0, _⟩ => show win0_11.index t 0 * 1 ≤ (i 0).val ∧ (i 0).val < win0_11.index t 0 * 1 + 1; rw [e0]; omega
  | ⟨1, _⟩ => show win0_11.index t 1 * 512 ≤ (i 1).val ∧ (i 1).val < win0_11.index t 1 * 512 + 512; rw [e1]; omega
  | ⟨2, _⟩ => show win0_11.index t 2 * 128 ≤ (i 2).val ∧ (i 2).val < win0_11.index t 2 * 128 + 128; rw [e2]; omega

/-- So the result array ends holding `G`, -/
theorem final (c : Dev nD) : (dats m 0 c).arrAt 11 cfg0.N = G m c :=
  (dats m 0 c).arrAt_eq_of_cover 11 (G m c) (fun t _ => flushed_eq m c t) cover

/-- and every run ends with the result array at `G`, the arguments unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h c).1 11).trans (final m c),
    ((h c).1 6).trans (((dats m 0 c).arrAt_in 6 rfl _).trans ((A_eq m c 6).trans (V_main_arg0 m c))),
    ((h c).1 8).trans (((dats m 0 c).arrAt_in 8 rfl _).trans ((A_eq m c 8).trans (V_main_arg1 m c))),
    ((h c).1 9).trans (((dats m 0 c).arrAt_in 9 rfl _).trans ((A_eq m c 9).trans (V_main_arg2 m c))),
    ((h c).1 10).trans (((dats m 0 c).arrAt_in 10 rfl _).trans ((A_eq m c 10).trans (V_main_arg3 m c)))⟩) (run_main m ρ)

end Cert.Proof.NaArray

end
-- ==== Proof.NaFinite.lean ====
/-
  What the neighbourhood attention's precondition says: queries, keys and meta scores are reals, no bias is `⊤`.
-/
module

public import proofs.«01_k».proof.Proof.AttnFinite
public import proofs.«01_k».proof.Proof.NaTarget
public import proofs.«01_k».proof.Proof.Gen.Pre_scores_finite

@[expose] public section

set_option maxRecDepth 16384

noncomputable section

namespace Cert.Proof.NaFinite

open Idealize.ShloMosaic Idealize.ShloMosaic.TcCoe
open Cert.Proof.AttnFinite (both real_of_lt)
open Cert.Proof.AttnScores (sum_real)
open Cert.Proof.NaRef (Tame score scoreM tok wtok col)
open Cert.Pre_scores_finite Cert.Pre_scores_finite.Gen
open scoped BigOperators

instance : Subsingleton S_.Idx := ⟨fun _ _ => funext fun a => a.elim0⟩

theorem all_real {s : Shape} {axes : List (Fin s.rank)} (x : FVec Ideal s .f32) (hb : S_.BroadcastsInDim s (![] : Fin 0 → Fin s.rank))
    (hr : s.ReducesTo axes S_)
    (h : Host.reduce IntOp.andi (cmpf .olt (Host.absf x) (broadcastInDim s ![] hb (constant S_ .f32 0x7F800000#32))) (constantI S_ 1 1#1) hr h_S_ ix0 = 1#1)
    (i : s.Idx) : ∃ r : ℝ, x i = r :=
  real_of_lt (x i) (Host.reduce_andi_all _ _ hr h_S_ ix0 h i)

/-- An extended real below `⊤`. -/
theorem lt_of_cmp (x : EReal) (h : Ideal.cmp .olt x (Ideal.ofBits .f32 0x7F800000#32) = 1#1) : x ≠ ⊤ := by
  have hT : Ideal.ofBits FTy.f32 0x7F800000#32 = (⊤ : EReal) := by simp [Ideal.ofBits, Ideal.ieee]
  rw [hT] at h
  rintro rfl
  simp [Ideal.cmp] at h

theorem all_lt {s : Shape} {axes : List (Fin s.rank)} (x : FVec Ideal s .f32) (hb : S_.BroadcastsInDim s (![] : Fin 0 → Fin s.rank))
    (hr : s.ReducesTo axes S_)
    (h : Host.reduce IntOp.andi (cmpf .olt x (broadcastInDim s ![] hb (constant S_ .f32 0x7F800000#32))) (constantI S_ 1 1#1) hr h_S_ ix0 = 1#1)
    (i : s.Idx) : x i ≠ (⊤ : EReal) :=
  lt_of_cmp (x i) (Host.reduce_andi_all _ _ hr h_S_ ix0 h i)

variable (a0 : FVec Ideal S8x8192x3072 .bf16) (a1 : FVec Ideal S16x3072 .bf16) (a2 : FVec Ideal S8x8x64x512 .f32) (a3 : FVec Ideal S4x128x16 .f32)

theorem decode (h : fn (F := Ideal) a0 a1 a2 a3 = fun _ => 1#1) :
    (∀ i, ∃ r : ℝ, extractStridedSlice S8x8192x1024 ![0, 0, 0] a0 slices_S8x8192x3072_S8x8192x1024_0_0_0 i = (r : EReal))
    ∧ (∀ i, ∃ r : ℝ, extractStridedSlice S16x512 ![0, 512] a1 slices_S16x3072_S16x512_0_512 i = (r : EReal))
    ∧ (∀ i, a2 i ≠ (⊤ : EReal)) ∧ (∀ i, ∃ r : ℝ, a3 i = (r : EReal)) := by
  have h0 := congrFun h ix0
  unfold fn fn_part1 at h0
  obtain ⟨h0, e3⟩ := both _ _ h0
  obtain ⟨h0, e2⟩ := both _ _ h0
  obtain ⟨e0, e1⟩ := both _ _ h0
  exact ⟨all_real _ _ _ e0, all_real _ _ _ e1, all_lt _ _ _ e2, all_real _ _ _ e3⟩

/-- Queries and keys of the tokens are reals, -/
theorem tok_real (h : fn (F := Ideal) a0 a1 a2 a3 = fun _ => 1#1) (b : Fin 8) (i : Fin 8192) (k : Fin 3072) (hk : k.val < 1024) :
    ∃ r : ℝ, a0 (ix3 b i k) = (r : EReal) := by
  obtain ⟨r, hr⟩ := (decode _ _ _ _ h).1 (ix3 b i ⟨k.val, hk⟩)
  refine ⟨r, Eq.trans ?_ hr⟩
  refine congrArg a0 (funext fun a => Fin.ext ?_)
  match a with
  | ⟨0, _⟩ => show b.val = 0 + b.val; omega
  | ⟨1, _⟩ => show i.val = 0 + i.val; omega
  | ⟨2, _⟩ => show k.val = 0 + k.val; omega

/-- and the meta tokens' keys. -/
theorem met_real (h : fn (F := Ideal) a0 a1 a2 a3 = fun _ => 1#1) (n : Fin 16) (k : Fin 3072) (hk : 512 ≤ k.val) (hk' : k.val < 1024) :
    ∃ r : ℝ, a1 (ix2 n k) = (r : EReal) := by
  obtain ⟨r, hr⟩ := (decode _ _ _ _ h).2.1 (ix2 n ⟨k.val - 512, by omega⟩)
  refine ⟨r, Eq.trans ?_ hr⟩
  refine congrArg a1 (funext fun a => Fin.ext ?_)
  match a with
  | ⟨0, _⟩ => show n.val = 0 + n.val; omega
  | ⟨1, _⟩ => show k.val = 512 + (k.val - 512); omega

theorem prod_real {x y : EReal} (hx : ∃ r : ℝ, x = r) (hy : ∃ r : ℝ, y = r) : ∃ r : ℝ, x * y = r := by
  obtain ⟨p, rfl⟩ := hx; obtain ⟨q, rfl⟩ := hy; exact ⟨p * q, (EReal.coe_mul p q).symm⟩

theorem tame (h : fn (F := Ideal) a0 a1 a2 a3 = fun _ => 1#1) : Tame a0 a1 a2 a3 := by
  have hcol (o : ℕ) (ho : o ≤ 2560) (g : Fin 8) (d : Fin 64) : (col o ho g d).val = o + (64 * g.val + d.val) := rfl
  refine ⟨fun b i w g n => ?_, fun b i w g j => ?_⟩
  · obtain ⟨r, hr⟩ := sum_real Finset.univ (fun d : Fin 64 => a0 (ix3 b (tok i w) (col 0 (by norm_num) g d)) * a0 (ix3 b (wtok i n) (col 512 (by norm_num) g d)))
      fun d => prod_real (tok_real _ _ _ _ h _ _ _ (by rw [hcol]; have := g.isLt; have := d.isLt; omega)) (tok_real _ _ _ _ h _ _ _ (by rw [hcol]; have := g.isLt; have := d.isLt; omega))
    unfold score
    rw [hr]
    have hb := (decode _ _ _ _ h).2.2.1 (ix4 g (NaRef.place i) w n)
    generalize a2 (ix4 g (NaRef.place i) w n) = x at hb
    induction x using EReal.rec with
    | bot => simp
    | top => exact absurd rfl hb
    | coe p => rw [← EReal.coe_add]; exact EReal.coe_ne_top _
  · obtain ⟨r, hr⟩ := sum_real Finset.univ (fun d : Fin 64 => a0 (ix3 b (tok i w) (col 0 (by norm_num) g d)) * a1 (ix2 j (col 512 (by norm_num) g d)))
      fun d => prod_real (tok_real _ _ _ _ h _ _ _ (by rw [hcol]; have := g.isLt; have := d.isLt; omega)) (met_real _ _ _ _ h _ _ (by rw [hcol]; omega) (by rw [hcol]; have := g.isLt; have := d.isLt; omega))
    obtain ⟨q, hq⟩ := (decode _ _ _ _ h).2.2.2 (ix3 ⟨g.val / 2, by have := g.isLt; omega⟩ ⟨64 * (g.val % 2) + w.val, by have := w.isLt; omega⟩ j)
    exact ⟨r + q, by unfold scoreM; rw [hr]; refine (congrArg (fun z => (r : EReal) + z) hq).trans (EReal.coe_add r q).symm⟩

end Cert.Proof.NaFinite

end
-- ==== Proof.NaClaim.lean ====
/-
  The neighbourhood attention, the claims: its frames, and that it and its reference end with one result.
-/
module

public import proofs.«01_k».proof.Defs
public import proofs.«01_k».proof.Proof.Gen.Na.Launch
public import proofs.«01_k».proof.Proof.NaArray
public import proofs.«01_k».proof.Proof.NaFinite
public import Idealize.ShloMosaic.Lib.Quiescent

@[expose] public section

set_option maxRecDepth 16384

noncomputable section

namespace Cert.Proof.NaClaim

open Idealize.ShloMosaic Idealize.ShloMosaic.TcCoe Idealize.SL.Sem

/-- The kernel's program and its ideal one run the same body, -/
theorem body_eq : Cert.Na.defs₀ (F := Bits) = Cert.NaIdeal.defs₀ (F := Bits) := by
  refine congrArg (Defs.onTc) ?_
  funext l a
  match l, a with
  | 0, (t, s) => rfl
theorem defs_eq : Cert.Na.defs (F := Bits) = Cert.NaIdeal.defs (F := Bits) := congrArg (Pipeline.defs (Cert.NaIdeal.pcfgs (F := Bits))) body_eq

/-- so the one's frame, proved at every instance, is the other's. -/
theorem frame_k : Cert.quiescent_Na (hNa := Cert.Na.Gen.facts) := fun m g _ => by
  rw [defs_eq]; exact Cert.NaIdeal.Hand.frame (F := Bits) m g
theorem frame_ki : Cert.quiescent_NaIdeal (hNaIdeal := Cert.NaIdeal.Gen.facts) := fun m g _ => Cert.NaIdeal.Hand.frame (F := Ideal) m g
theorem frame_ki_finite : Cert.quiescent_NaIdeal_pre_scores_finite (hNaIdeal := Cert.NaIdeal.Gen.facts) := fun m g _ => Cert.NaIdeal.Hand.frame (F := Ideal) m g
/-- The reference's frame, read off its run. -/
theorem frame_r : Cert.quiescent_NaReferenceIdeal := fun m ρ _ =>
  (θ_run Cert.NaReferenceIdeal.defs _ _).mono (fun r h => ⟨fun c => (h c).2, Idealize.ShloMosaic.sem_eq_zero_of_no_sems (by decide) r.2⟩)
    (NaRef.run m ρ)
theorem frame_r_finite : Cert.quiescent_NaReferenceIdeal_pre_scores_finite := fun m ρ _ => frame_r m ρ trivial
theorem preserves : Cert.preserves_Na_NaIdeal := trivial

/-- The reference's result is the kernel's, of the same tame arguments. -/
theorem res_eq (P : Cert.NaReferenceIdeal.S8x8192x3072.Idx → EReal) (T : Cert.NaReferenceIdeal.S16x3072.Idx → EReal)
    (B : Cert.NaReferenceIdeal.S8x8x64x512.Idx → EReal) (Mb : Cert.NaReferenceIdeal.S4x128x16.Idx → EReal) (H : NaRef.Tame P T B Mb) :
    NaRef.resT P T B Mb = NaArray.resOf P T B Mb := by
  funext y
  obtain ⟨b, r, q, rfl⟩ : ∃ (b : Fin 8) (r : Fin 8192) (q : Fin 512), y = ix3 b r q := ⟨y 0, y 1, y 2, eq_ix3 y⟩
  have h := NaRef.resT_apply P T B Mb H b ⟨r.val / 64, by have := r.isLt; omega⟩ ⟨r.val % 64, Nat.mod_lt _ (by norm_num)⟩
    ⟨q.val / 64, by have := q.isLt; omega⟩ ⟨q.val % 64, Nat.mod_lt _ (by norm_num)⟩
  have hr : NaRef.tok ⟨r.val / 64, by have := r.isLt; omega⟩ ⟨r.val % 64, Nat.mod_lt _ (by norm_num)⟩ = r :=
    Fin.ext (by show 64 * (r.val / 64) + r.val % 64 = r.val; omega)
  have hq : (⟨64 * (q.val / 64) + q.val % 64, by have := q.isLt; omega⟩ : Fin 512) = q := Fin.ext (by show 64 * (q.val / 64) + q.val % 64 = q.val; omega)
  rw [hr] at h
  dsimp only at h
  rw [hq] at h
  exact h

/-- At the ideal instance the neighbourhood attention and its reference end with equal results. -/
theorem algebraic : Cert.algebraic_NaIdeal_NaReferenceIdeal_pre_scores_finite (hNaIdeal := Cert.NaIdeal.Gen.facts) := by
  intro m ρ m' ρ' H hag
  refine ⟨fun c => NaArray.G m c, NaArray.run m ρ, (θ_run Cert.NaReferenceIdeal.defs _ _).mono (fun _ h c => ⟨(h c).1.trans ?_, (h c).2⟩) (NaRef.run m' ρ')⟩
  rw [(hag c).1, (hag c).2.1, (hag c).2.2.1, (hag c).2.2.2]
  exact res_eq _ _ _ _ (NaFinite.tame _ _ _ _ (H c))

end Cert.Proof.NaClaim

end
-- ==== Proof.lean ====
module

public import proofs.«01_k».proof.Proof.Gen.KernelIdeal.Value
public import proofs.«01_k».proof.Proof.Gen.FfnIdeal.Value
public import proofs.«01_k».proof.Proof.Gen.InprojIdeal.Value
public import proofs.«01_k».proof.Proof.Gen.OutprojIdeal.Value
public import proofs.«01_k».proof.Proof.Gen.ReferenceIdeal.Run
public import proofs.«01_k».proof.Proof.Gen.FfnReferenceIdeal.Run
public import proofs.«01_k».proof.Proof.Gen.InprojReferenceIdeal.Run
public import proofs.«01_k».proof.Proof.Gen.OutprojReferenceIdeal.Run
public import proofs.«01_k».proof.Proof.Gen.NaReferenceIdeal.Run
public import proofs.«01_k».proof.Proof.Gen.Na.Launch
public import proofs.«01_k».proof.Proof.Gen.NaIdeal.Launch
public import proofs.«01_k».proof.Proof.Gen.NaIdeal.Skeleton
public import proofs.«01_k».proof.Proof.Gen.NaIdeal.Frame
public import proofs.«01_k».proof.Proof.Gen.Na.Frame
public import proofs.«01_k».proof.Proof.Gen.Na.Skeleton
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnReferenceIdeal
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojReferenceIdeal
public import proofs.«01_k».proof.Proof.Gen.Outproj
public import proofs.«01_k».proof.Proof.Gen.Outproj.Skeleton
public import proofs.«01_k».proof.Proof.Gen.Outproj.Launch
public import proofs.«01_k».proof.Proof.Gen.Outproj.Points
public import proofs.«01_k».proof.Proof.Gen.Outproj.Frame
public import proofs.«01_k».proof.Proof.Gen.OutprojIdeal
public import proofs.«01_k».proof.Proof.Gen.OutprojIdeal.Skeleton
public import proofs.«01_k».proof.Proof.Gen.OutprojIdeal.Launch
public import proofs.«01_k».proof.Proof.Gen.OutprojIdeal.Points
public import proofs.«01_k».proof.Proof.Gen.OutprojIdeal.Frame
public import proofs.«01_k».proof.Proof.Gen.OutprojReferenceIdeal
public import proofs.«01_k».proof.Proof.Gen.Pre_finite
public import proofs.«01_k».proof.Proof.Gen.Pre_router_finite
public import proofs.«01_k».proof.Proof.Gen.Pre_scores_finite
public import proofs.«01_k».proof.Proof.AttnClaim
public import proofs.«01_k».proof.Proof.FfnClaim
public import proofs.«01_k».proof.Proof.InprojClaim
public import proofs.«01_k».proof.Proof.OutprojClaim
public import proofs.«01_k».proof.Proof.NaClaim
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Ffn.Gen.facts, Cert.FfnIdeal.Gen.facts, Cert.FfnReferenceIdeal.Gen.facts, Cert.Inproj.Gen.facts, Cert.InprojIdeal.Gen.facts, Cert.InprojReferenceIdeal.Gen.facts, Cert.Outproj.Gen.facts, Cert.OutprojIdeal.Gen.facts, Cert.OutprojReferenceIdeal.Gen.facts, Cert.Na.Gen.facts, Cert.NaIdeal.Gen.facts, Cert.NaReferenceIdeal.Gen.facts, Cert.Pre_finite.Gen.facts, Cert.Pre_router_finite.Gen.facts, Cert.Pre_scores_finite.Gen.facts,
  AttnClaim.frame_k, AttnClaim.frame_ki, AttnClaim.frame_ki_finite, AttnClaim.frame_r, AttnClaim.frame_r_finite,
  FfnClaim.frame_k, FfnClaim.frame_ki, FfnClaim.frame_r,
  InprojClaim.frame_k, InprojClaim.frame_ki, InprojClaim.frame_r,
  OutprojClaim.frame_k, OutprojClaim.frame_ki, OutprojClaim.frame_ki_finite, OutprojClaim.frame_r,
  OutprojClaim.frame_r_finite,
  NaClaim.frame_k, NaClaim.frame_ki, NaClaim.frame_ki_finite, NaClaim.frame_r, NaClaim.frame_r_finite,
  AttnClaim.preserves, AttnClaim.algebraic, FfnClaim.preserves, FfnClaim.algebraic,
  InprojClaim.preserves, InprojClaim.algebraic, OutprojClaim.preserves, OutprojClaim.algebraic,
  NaClaim.preserves, NaClaim.algebraic⟩

end Cert.Proof

end
